-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_TailS (m : (ℓ : Loc Cert.TailS.nD Cert.TailS.τ Cert.TailS.sig) → Buf (Elt Bits) ℓ) : Prop :=
  True

def Pre_TailSIdeal (m : (ℓ : Loc Cert.TailSIdeal.nD Cert.TailSIdeal.τ Cert.TailSIdeal.sig) → Buf (Elt Ideal) ℓ) : Prop :=
  True

def Pre_TailSRefIdeal (m : (ℓ : Loc Cert.TailSRefIdeal.nD Cert.TailSRefIdeal.τ Cert.TailSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_MixerS (m : (ℓ : Loc Cert.MixerS.nD Cert.MixerS.τ Cert.MixerS.sig) → Buf (Elt Bits) ℓ) : Prop :=
  True

def Pre_MixerSIdeal (m : (ℓ : Loc Cert.MixerSIdeal.nD Cert.MixerSIdeal.τ Cert.MixerSIdeal.sig) → Buf (Elt Ideal) ℓ) : Prop :=
  True

def Pre_MixerSRefIdeal (m : (ℓ : Loc Cert.MixerSRefIdeal.nD Cert.MixerSRefIdeal.τ Cert.MixerSRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_TailS [hTailS : Cert.TailS.Facts] : Prop :=
  ∀ (m : (ℓ : Loc Cert.TailS.nD Cert.TailS.τ Cert.TailS.sig) → Buf (Elt Bits) ℓ) (g : Dev Cert.TailS.nD → PrngReg), Pre_TailS m →
    θ_run (Cert.TailS.defs (F := Bits)) (onTc (τ := Cert.TailS.τ) (Cert.TailS.main (F := Bits))) ⟨m, fun _ => 0, g⟩ (fun r => (∀ c : Dev Cert.TailS.nD,
      r.2.mem ((c.tc : Thread Cert.TailS.nD Cert.TailS.τ).loc Cert.TailS.main_arg0) = m ((c.tc : Thread Cert.TailS.nD Cert.TailS.τ).loc Cert.TailS.main_arg0)
      ∧ r.2.mem ((c.tc : Thread Cert.TailS.nD Cert.TailS.τ).loc Cert.TailS.main_arg1) = m ((c.tc : Thread Cert.TailS.nD Cert.TailS.τ).loc Cert.TailS.main_arg1)
      ∧ r.2.mem ((c.tc : Thread Cert.TailS.nD Cert.TailS.τ).loc Cert.TailS.main_arg2) = m ((c.tc : Thread Cert.TailS.nD Cert.TailS.τ).loc Cert.TailS.main_arg2)
      ∧ r.2.mem ((c.tc : Thread Cert.TailS.nD Cert.TailS.τ).loc Cert.TailS.main_arg3) = m ((c.tc : Thread Cert.TailS.nD Cert.TailS.τ).loc Cert.TailS.main_arg3)
      ∧ r.2.mem ((c.tc : Thread Cert.TailS.nD Cert.TailS.τ).loc Cert.TailS.main_arg4) = m ((c.tc : Thread Cert.TailS.nD Cert.TailS.τ).loc Cert.TailS.main_arg4)
      ∧ r.2.mem ((c.tc : Thread Cert.TailS.nD Cert.TailS.τ).loc Cert.TailS.main_arg5) = m ((c.tc : Thread Cert.TailS.nD Cert.TailS.τ).loc Cert.TailS.main_arg5)
      ∧ r.2.mem ((c.tc : Thread Cert.TailS.nD Cert.TailS.τ).loc Cert.TailS.main_arg6) = m ((c.tc : Thread Cert.TailS.nD Cert.TailS.τ).loc Cert.TailS.main_arg6)
      ∧ r.2.mem ((c.tc : Thread Cert.TailS.nD Cert.TailS.τ).loc Cert.TailS.main_arg7) = m ((c.tc : Thread Cert.TailS.nD Cert.TailS.τ).loc Cert.TailS.main_arg7)
      ∧ r.2.mem ((c.tc : Thread Cert.TailS.nD Cert.TailS.τ).loc Cert.TailS.main_arg8) = m ((c.tc : Thread Cert.TailS.nD Cert.TailS.τ).loc Cert.TailS.main_arg8))
      ∧ r.2.sem = fun _ => 0)

def quiescent_TailSIdeal [hTailSIdeal : Cert.TailSIdeal.Facts] : Prop :=
  ∀ (m : (ℓ : Loc Cert.TailSIdeal.nD Cert.TailSIdeal.τ Cert.TailSIdeal.sig) → Buf (Elt Ideal) ℓ) (g : Dev Cert.TailSIdeal.nD → PrngReg), Pre_TailSIdeal m →
    θ_run (Cert.TailSIdeal.defs (F := Ideal)) (onTc (τ := Cert.TailSIdeal.τ) (Cert.TailSIdeal.main (F := Ideal))) ⟨m, fun _ => 0, g⟩ (fun r => (∀ c : Dev Cert.TailSIdeal.nD,
      r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
      ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
      ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
      ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
      ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
      ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
      ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
      ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
      ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8))
      ∧ r.2.sem = fun _ => 0)

def quiescent_TailSRefIdeal [hTailSRefIdeal : Cert.TailSRefIdeal.Facts] : Prop :=
  ∀ (m : (ℓ : Loc Cert.TailSRefIdeal.nD Cert.TailSRefIdeal.τ Cert.TailSRefIdeal.sig) → Buf (Elt Ideal) ℓ) (g : Dev Cert.TailSRefIdeal.nD → PrngReg), Pre_TailSRefIdeal m →
    θ_run (Cert.TailSRefIdeal.defs (F := Ideal)) (onTc (τ := Cert.TailSRefIdeal.τ) (Cert.TailSRefIdeal.main (F := Ideal))) ⟨m, fun _ => 0, g⟩ (fun r => (∀ c : Dev Cert.TailSRefIdeal.nD,
      r.2.mem ((c.tc : Thread Cert.TailSRefIdeal.nD Cert.TailSRefIdeal.τ).loc Cert.TailSRefIdeal.main_arg0) = m ((c.tc : Thread Cert.TailSRefIdeal.nD Cert.TailSRefIdeal.τ).loc Cert.TailSRefIdeal.main_arg0)
      ∧ r.2.mem ((c.tc : Thread Cert.TailSRefIdeal.nD Cert.TailSRefIdeal.τ).loc Cert.TailSRefIdeal.main_arg1) = m ((c.tc : Thread Cert.TailSRefIdeal.nD Cert.TailSRefIdeal.τ).loc Cert.TailSRefIdeal.main_arg1)
      ∧ r.2.mem ((c.tc : Thread Cert.TailSRefIdeal.nD Cert.TailSRefIdeal.τ).loc Cert.TailSRefIdeal.main_arg2) = m ((c.tc : Thread Cert.TailSRefIdeal.nD Cert.TailSRefIdeal.τ).loc Cert.TailSRefIdeal.main_arg2)
      ∧ r.2.mem ((c.tc : Thread Cert.TailSRefIdeal.nD Cert.TailSRefIdeal.τ).loc Cert.TailSRefIdeal.main_arg3) = m ((c.tc : Thread Cert.TailSRefIdeal.nD Cert.TailSRefIdeal.τ).loc Cert.TailSRefIdeal.main_arg3)
      ∧ r.2.mem ((c.tc : Thread Cert.TailSRefIdeal.nD Cert.TailSRefIdeal.τ).loc Cert.TailSRefIdeal.main_arg4) = m ((c.tc : Thread Cert.TailSRefIdeal.nD Cert.TailSRefIdeal.τ).loc Cert.TailSRefIdeal.main_arg4)
      ∧ r.2.mem ((c.tc : Thread Cert.TailSRefIdeal.nD Cert.TailSRefIdeal.τ).loc Cert.TailSRefIdeal.main_arg5) = m ((c.tc : Thread Cert.TailSRefIdeal.nD Cert.TailSRefIdeal.τ).loc Cert.TailSRefIdeal.main_arg5)
      ∧ r.2.mem ((c.tc : Thread Cert.TailSRefIdeal.nD Cert.TailSRefIdeal.τ).loc Cert.TailSRefIdeal.main_arg6) = m ((c.tc : Thread Cert.TailSRefIdeal.nD Cert.TailSRefIdeal.τ).loc Cert.TailSRefIdeal.main_arg6)
      ∧ r.2.mem ((c.tc : Thread Cert.TailSRefIdeal.nD Cert.TailSRefIdeal.τ).loc Cert.TailSRefIdeal.main_arg7) = m ((c.tc : Thread Cert.TailSRefIdeal.nD Cert.TailSRefIdeal.τ).loc Cert.TailSRefIdeal.main_arg7)
      ∧ r.2.mem ((c.tc : Thread Cert.TailSRefIdeal.nD Cert.TailSRefIdeal.τ).loc Cert.TailSRefIdeal.main_arg8) = m ((c.tc : Thread Cert.TailSRefIdeal.nD Cert.TailSRefIdeal.τ).loc Cert.TailSRefIdeal.main_arg8))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9))
      ∧ r.2.sem = fun _ => 0)

def quiescent_MixerS [hMixerS : Cert.MixerS.Facts] : Prop :=
  ∀ (m : (ℓ : Loc Cert.MixerS.nD Cert.MixerS.τ Cert.MixerS.sig) → Buf (Elt Bits) ℓ) (g : Dev Cert.MixerS.nD → PrngReg), Pre_MixerS m →
    θ_run (Cert.MixerS.defs (F := Bits)) (onTc (τ := Cert.MixerS.τ) (Cert.MixerS.main (F := Bits))) ⟨m, fun _ => 0, g⟩ (fun r => (∀ c : Dev Cert.MixerS.nD,
      r.2.mem ((c.tc : Thread Cert.MixerS.nD Cert.MixerS.τ).loc Cert.MixerS.main_arg0) = m ((c.tc : Thread Cert.MixerS.nD Cert.MixerS.τ).loc Cert.MixerS.main_arg0)
      ∧ r.2.mem ((c.tc : Thread Cert.MixerS.nD Cert.MixerS.τ).loc Cert.MixerS.main_arg1) = m ((c.tc : Thread Cert.MixerS.nD Cert.MixerS.τ).loc Cert.MixerS.main_arg1)
      ∧ r.2.mem ((c.tc : Thread Cert.MixerS.nD Cert.MixerS.τ).loc Cert.MixerS.main_arg2) = m ((c.tc : Thread Cert.MixerS.nD Cert.MixerS.τ).loc Cert.MixerS.main_arg2)
      ∧ r.2.mem ((c.tc : Thread Cert.MixerS.nD Cert.MixerS.τ).loc Cert.MixerS.main_arg3) = m ((c.tc : Thread Cert.MixerS.nD Cert.MixerS.τ).loc Cert.MixerS.main_arg3)
      ∧ r.2.mem ((c.tc : Thread Cert.MixerS.nD Cert.MixerS.τ).loc Cert.MixerS.main_arg4) = m ((c.tc : Thread Cert.MixerS.nD Cert.MixerS.τ).loc Cert.MixerS.main_arg4)
      ∧ r.2.mem ((c.tc : Thread Cert.MixerS.nD Cert.MixerS.τ).loc Cert.MixerS.main_arg5) = m ((c.tc : Thread Cert.MixerS.nD Cert.MixerS.τ).loc Cert.MixerS.main_arg5))
      ∧ r.2.sem = fun _ => 0)

def quiescent_MixerSIdeal [hMixerSIdeal : Cert.MixerSIdeal.Facts] : Prop :=
  ∀ (m : (ℓ : Loc Cert.MixerSIdeal.nD Cert.MixerSIdeal.τ Cert.MixerSIdeal.sig) → Buf (Elt Ideal) ℓ) (g : Dev Cert.MixerSIdeal.nD → PrngReg), Pre_MixerSIdeal m →
    θ_run (Cert.MixerSIdeal.defs (F := Ideal)) (onTc (τ := Cert.MixerSIdeal.τ) (Cert.MixerSIdeal.main (F := Ideal))) ⟨m, fun _ => 0, g⟩ (fun r => (∀ c : Dev Cert.MixerSIdeal.nD,
      r.2.mem ((c.tc : Thread Cert.MixerSIdeal.nD Cert.MixerSIdeal.τ).loc Cert.MixerSIdeal.main_arg0) = m ((c.tc : Thread Cert.MixerSIdeal.nD Cert.MixerSIdeal.τ).loc Cert.MixerSIdeal.main_arg0)
      ∧ r.2.mem ((c.tc : Thread Cert.MixerSIdeal.nD Cert.MixerSIdeal.τ).loc Cert.MixerSIdeal.main_arg1) = m ((c.tc : Thread Cert.MixerSIdeal.nD Cert.MixerSIdeal.τ).loc Cert.MixerSIdeal.main_arg1)
      ∧ r.2.mem ((c.tc : Thread Cert.MixerSIdeal.nD Cert.MixerSIdeal.τ).loc Cert.MixerSIdeal.main_arg2) = m ((c.tc : Thread Cert.MixerSIdeal.nD Cert.MixerSIdeal.τ).loc Cert.MixerSIdeal.main_arg2)
      ∧ r.2.mem ((c.tc : Thread Cert.MixerSIdeal.nD Cert.MixerSIdeal.τ).loc Cert.MixerSIdeal.main_arg3) = m ((c.tc : Thread Cert.MixerSIdeal.nD Cert.MixerSIdeal.τ).loc Cert.MixerSIdeal.main_arg3)
      ∧ r.2.mem ((c.tc : Thread Cert.MixerSIdeal.nD Cert.MixerSIdeal.τ).loc Cert.MixerSIdeal.main_arg4) = m ((c.tc : Thread Cert.MixerSIdeal.nD Cert.MixerSIdeal.τ).loc Cert.MixerSIdeal.main_arg4)
      ∧ r.2.mem ((c.tc : Thread Cert.MixerSIdeal.nD Cert.MixerSIdeal.τ).loc Cert.MixerSIdeal.main_arg5) = m ((c.tc : Thread Cert.MixerSIdeal.nD Cert.MixerSIdeal.τ).loc Cert.MixerSIdeal.main_arg5))
      ∧ r.2.sem = fun _ => 0)

def quiescent_MixerSRefIdeal [hMixerSRefIdeal : Cert.MixerSRefIdeal.Facts] : Prop :=
  ∀ (m : (ℓ : Loc Cert.MixerSRefIdeal.nD Cert.MixerSRefIdeal.τ Cert.MixerSRefIdeal.sig) → Buf (Elt Ideal) ℓ) (g : Dev Cert.MixerSRefIdeal.nD → PrngReg), Pre_MixerSRefIdeal m →
    θ_run (Cert.MixerSRefIdeal.defs (F := Ideal)) (onTc (τ := Cert.MixerSRefIdeal.τ) (Cert.MixerSRefIdeal.main (F := Ideal))) ⟨m, fun _ => 0, g⟩ (fun r => (∀ c : Dev Cert.MixerSRefIdeal.nD,
      r.2.mem ((c.tc : Thread Cert.MixerSRefIdeal.nD Cert.MixerSRefIdeal.τ).loc Cert.MixerSRefIdeal.main_arg0) = m ((c.tc : Thread Cert.MixerSRefIdeal.nD Cert.MixerSRefIdeal.τ).loc Cert.MixerSRefIdeal.main_arg0)
      ∧ r.2.mem ((c.tc : Thread Cert.MixerSRefIdeal.nD Cert.MixerSRefIdeal.τ).loc Cert.MixerSRefIdeal.main_arg1) = m ((c.tc : Thread Cert.MixerSRefIdeal.nD Cert.MixerSRefIdeal.τ).loc Cert.MixerSRefIdeal.main_arg1)
      ∧ r.2.mem ((c.tc : Thread Cert.MixerSRefIdeal.nD Cert.MixerSRefIdeal.τ).loc Cert.MixerSRefIdeal.main_arg2) = m ((c.tc : Thread Cert.MixerSRefIdeal.nD Cert.MixerSRefIdeal.τ).loc Cert.MixerSRefIdeal.main_arg2)
      ∧ r.2.mem ((c.tc : Thread Cert.MixerSRefIdeal.nD Cert.MixerSRefIdeal.τ).loc Cert.MixerSRefIdeal.main_arg3) = m ((c.tc : Thread Cert.MixerSRefIdeal.nD Cert.MixerSRefIdeal.τ).loc Cert.MixerSRefIdeal.main_arg3)
      ∧ r.2.mem ((c.tc : Thread Cert.MixerSRefIdeal.nD Cert.MixerSRefIdeal.τ).loc Cert.MixerSRefIdeal.main_arg4) = m ((c.tc : Thread Cert.MixerSRefIdeal.nD Cert.MixerSRefIdeal.τ).loc Cert.MixerSRefIdeal.main_arg4)
      ∧ r.2.mem ((c.tc : Thread Cert.MixerSRefIdeal.nD Cert.MixerSRefIdeal.τ).loc Cert.MixerSRefIdeal.main_arg5) = m ((c.tc : Thread Cert.MixerSRefIdeal.nD Cert.MixerSRefIdeal.τ).loc Cert.MixerSRefIdeal.main_arg5))
      ∧ r.2.sem = fun _ => 0)

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)) →
    ∃ (v0 : (c : Dev Cert.TailIdeal.nD) → Buf (Elt Ideal) ((c.tc : Thread Cert.TailIdeal.nD Cert.TailIdeal.τ).loc Cert.TailIdeal.main_v14)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v14) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v60) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)) (v2 : (c : Dev Cert.ProjIdeal.nD) → Buf (Elt Ideal) ((c.tc : Thread Cert.ProjIdeal.nD Cert.ProjIdeal.τ).loc Cert.ProjIdeal.main_v8_2)) (v3 : (c : Dev Cert.ProjIdeal.nD) → Buf (Elt Ideal) ((c.tc : Thread Cert.ProjIdeal.nD Cert.ProjIdeal.τ).loc Cert.ProjIdeal.main_v8_3)) (v4 : (c : Dev Cert.ProjIdeal.nD) → Buf (Elt Ideal) ((c.tc : Thread Cert.ProjIdeal.nD Cert.ProjIdeal.τ).loc Cert.ProjIdeal.main_v8_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_v8_2) = v2 c
          ∧ r.2.mem ((c.tc : Thread Cert.ProjIdeal.nD Cert.ProjIdeal.τ).loc Cert.ProjIdeal.main_v8_3) = v3 c
          ∧ r.2.mem ((c.tc : Thread Cert.ProjIdeal.nD Cert.ProjIdeal.τ).loc Cert.ProjIdeal.main_v8_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_v14) = v1 c
          ∧ r.2.mem ((c.tc : Thread Cert.ProjRefIdeal.nD Cert.ProjRefIdeal.τ).loc Cert.ProjRefIdeal.main_v34) = v2 c
          ∧ r.2.mem ((c.tc : Thread Cert.ProjRefIdeal.nD Cert.ProjRefIdeal.τ).loc Cert.ProjRefIdeal.main_v36) = v3 c
          ∧ r.2.mem ((c.tc : Thread Cert.ProjRefIdeal.nD Cert.ProjRefIdeal.τ).loc Cert.ProjRefIdeal.main_v39) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_TailS_TailSIdeal : Prop :=
  True

def algebraic_TailSIdeal_TailSRefIdeal [hTailSIdeal : Cert.TailSIdeal.Facts] [hTailSRefIdeal : Cert.TailSRefIdeal.Facts] : Prop :=
  ∀ (m : (ℓ : Loc Cert.TailSIdeal.nD Cert.TailSIdeal.τ Cert.TailSIdeal.sig) → Buf (Elt Ideal) ℓ) (g : Dev Cert.TailSIdeal.nD → PrngReg)
    (m' : (ℓ : Loc Cert.TailSRefIdeal.nD Cert.TailSRefIdeal.τ Cert.TailSRefIdeal.sig) → Buf (Elt Ideal) ℓ) (g' : Dev Cert.TailSRefIdeal.nD → PrngReg), Pre_TailSIdeal m →
    (∀ c : Dev Cert.TailSIdeal.nD,
      m' ((c.tc : Thread Cert.TailSRefIdeal.nD Cert.TailSRefIdeal.τ).loc Cert.TailSRefIdeal.main_arg0) = m ((c.tc : Thread Cert.TailSIdeal.nD Cert.TailSIdeal.τ).loc Cert.TailSIdeal.main_arg0)
      ∧ m' ((c.tc : Thread Cert.TailSRefIdeal.nD Cert.TailSRefIdeal.τ).loc Cert.TailSRefIdeal.main_arg1) = m ((c.tc : Thread Cert.TailSIdeal.nD Cert.TailSIdeal.τ).loc Cert.TailSIdeal.main_arg1)
      ∧ m' ((c.tc : Thread Cert.TailSRefIdeal.nD Cert.TailSRefIdeal.τ).loc Cert.TailSRefIdeal.main_arg2) = m ((c.tc : Thread Cert.TailSIdeal.nD Cert.TailSIdeal.τ).loc Cert.TailSIdeal.main_arg2)
      ∧ m' ((c.tc : Thread Cert.TailSRefIdeal.nD Cert.TailSRefIdeal.τ).loc Cert.TailSRefIdeal.main_arg3) = m ((c.tc : Thread Cert.TailSIdeal.nD Cert.TailSIdeal.τ).loc Cert.TailSIdeal.main_arg3)
      ∧ m' ((c.tc : Thread Cert.TailSRefIdeal.nD Cert.TailSRefIdeal.τ).loc Cert.TailSRefIdeal.main_arg4) = m ((c.tc : Thread Cert.TailSIdeal.nD Cert.TailSIdeal.τ).loc Cert.TailSIdeal.main_arg4)
      ∧ m' ((c.tc : Thread Cert.TailSRefIdeal.nD Cert.TailSRefIdeal.τ).loc Cert.TailSRefIdeal.main_arg5) = m ((c.tc : Thread Cert.TailSIdeal.nD Cert.TailSIdeal.τ).loc Cert.TailSIdeal.main_arg5)
      ∧ m' ((c.tc : Thread Cert.TailSRefIdeal.nD Cert.TailSRefIdeal.τ).loc Cert.TailSRefIdeal.main_arg6) = m ((c.tc : Thread Cert.TailSIdeal.nD Cert.TailSIdeal.τ).loc Cert.TailSIdeal.main_arg6)
      ∧ m' ((c.tc : Thread Cert.TailSRefIdeal.nD Cert.TailSRefIdeal.τ).loc Cert.TailSRefIdeal.main_arg7) = m ((c.tc : Thread Cert.TailSIdeal.nD Cert.TailSIdeal.τ).loc Cert.TailSIdeal.main_arg7)
      ∧ m' ((c.tc : Thread Cert.TailSRefIdeal.nD Cert.TailSRefIdeal.τ).loc Cert.TailSRefIdeal.main_arg8) = m ((c.tc : Thread Cert.TailSIdeal.nD Cert.TailSIdeal.τ).loc Cert.TailSIdeal.main_arg8)) →
    ∃ (v0 : (c : Dev Cert.TailSIdeal.nD) → Buf (Elt Ideal) ((c.tc : Thread Cert.TailSIdeal.nD Cert.TailSIdeal.τ).loc Cert.TailSIdeal.main_v14)),
      θ_run (Cert.TailSIdeal.defs (F := Ideal)) (onTc (τ := Cert.TailSIdeal.τ) (Cert.TailSIdeal.main (F := Ideal))) ⟨m, fun _ => 0, g⟩ (fun r => ∀ c : Dev Cert.TailSIdeal.nD,
          r.2.mem ((c.tc : Thread Cert.TailSIdeal.nD Cert.TailSIdeal.τ).loc Cert.TailSIdeal.main_v14) = v0 c
          ∧ r.2.mem ((c.tc : Thread Cert.TailSIdeal.nD Cert.TailSIdeal.τ).loc Cert.TailSIdeal.main_arg0) = m ((c.tc : Thread Cert.TailSIdeal.nD Cert.TailSIdeal.τ).loc Cert.TailSIdeal.main_arg0)
          ∧ r.2.mem ((c.tc : Thread Cert.TailSIdeal.nD Cert.TailSIdeal.τ).loc Cert.TailSIdeal.main_arg1) = m ((c.tc : Thread Cert.TailSIdeal.nD Cert.TailSIdeal.τ).loc Cert.TailSIdeal.main_arg1)
          ∧ r.2.mem ((c.tc : Thread Cert.TailSIdeal.nD Cert.TailSIdeal.τ).loc Cert.TailSIdeal.main_arg2) = m ((c.tc : Thread Cert.TailSIdeal.nD Cert.TailSIdeal.τ).loc Cert.TailSIdeal.main_arg2)
          ∧ r.2.mem ((c.tc : Thread Cert.TailSIdeal.nD Cert.TailSIdeal.τ).loc Cert.TailSIdeal.main_arg3) = m ((c.tc : Thread Cert.TailSIdeal.nD Cert.TailSIdeal.τ).loc Cert.TailSIdeal.main_arg3)
          ∧ r.2.mem ((c.tc : Thread Cert.TailSIdeal.nD Cert.TailSIdeal.τ).loc Cert.TailSIdeal.main_arg4) = m ((c.tc : Thread Cert.TailSIdeal.nD Cert.TailSIdeal.τ).loc Cert.TailSIdeal.main_arg4)
          ∧ r.2.mem ((c.tc : Thread Cert.TailSIdeal.nD Cert.TailSIdeal.τ).loc Cert.TailSIdeal.main_arg5) = m ((c.tc : Thread Cert.TailSIdeal.nD Cert.TailSIdeal.τ).loc Cert.TailSIdeal.main_arg5)
          ∧ r.2.mem ((c.tc : Thread Cert.TailSIdeal.nD Cert.TailSIdeal.τ).loc Cert.TailSIdeal.main_arg6) = m ((c.tc : Thread Cert.TailSIdeal.nD Cert.TailSIdeal.τ).loc Cert.TailSIdeal.main_arg6)
          ∧ r.2.mem ((c.tc : Thread Cert.TailSIdeal.nD Cert.TailSIdeal.τ).loc Cert.TailSIdeal.main_arg7) = m ((c.tc : Thread Cert.TailSIdeal.nD Cert.TailSIdeal.τ).loc Cert.TailSIdeal.main_arg7)
          ∧ r.2.mem ((c.tc : Thread Cert.TailSIdeal.nD Cert.TailSIdeal.τ).loc Cert.TailSIdeal.main_arg8) = m ((c.tc : Thread Cert.TailSIdeal.nD Cert.TailSIdeal.τ).loc Cert.TailSIdeal.main_arg8))
      ∧ θ_run (Cert.TailSRefIdeal.defs (F := Ideal)) (onTc (τ := Cert.TailSRefIdeal.τ) (Cert.TailSRefIdeal.main (F := Ideal))) ⟨m', fun _ => 0, g'⟩ (fun r => ∀ c : Dev Cert.TailSRefIdeal.nD,
          r.2.mem ((c.tc : Thread Cert.TailSRefIdeal.nD Cert.TailSRefIdeal.τ).loc Cert.TailSRefIdeal.main_v59) = v0 c
          ∧ r.2.mem ((c.tc : Thread Cert.TailSRefIdeal.nD Cert.TailSRefIdeal.τ).loc Cert.TailSRefIdeal.main_arg0) = m' ((c.tc : Thread Cert.TailSRefIdeal.nD Cert.TailSRefIdeal.τ).loc Cert.TailSRefIdeal.main_arg0)
          ∧ r.2.mem ((c.tc : Thread Cert.TailSRefIdeal.nD Cert.TailSRefIdeal.τ).loc Cert.TailSRefIdeal.main_arg1) = m' ((c.tc : Thread Cert.TailSRefIdeal.nD Cert.TailSRefIdeal.τ).loc Cert.TailSRefIdeal.main_arg1)
          ∧ r.2.mem ((c.tc : Thread Cert.TailSRefIdeal.nD Cert.TailSRefIdeal.τ).loc Cert.TailSRefIdeal.main_arg2) = m' ((c.tc : Thread Cert.TailSRefIdeal.nD Cert.TailSRefIdeal.τ).loc Cert.TailSRefIdeal.main_arg2)
          ∧ r.2.mem ((c.tc : Thread Cert.TailSRefIdeal.nD Cert.TailSRefIdeal.τ).loc Cert.TailSRefIdeal.main_arg3) = m' ((c.tc : Thread Cert.TailSRefIdeal.nD Cert.TailSRefIdeal.τ).loc Cert.TailSRefIdeal.main_arg3)
          ∧ r.2.mem ((c.tc : Thread Cert.TailSRefIdeal.nD Cert.TailSRefIdeal.τ).loc Cert.TailSRefIdeal.main_arg4) = m' ((c.tc : Thread Cert.TailSRefIdeal.nD Cert.TailSRefIdeal.τ).loc Cert.TailSRefIdeal.main_arg4)
          ∧ r.2.mem ((c.tc : Thread Cert.TailSRefIdeal.nD Cert.TailSRefIdeal.τ).loc Cert.TailSRefIdeal.main_arg5) = m' ((c.tc : Thread Cert.TailSRefIdeal.nD Cert.TailSRefIdeal.τ).loc Cert.TailSRefIdeal.main_arg5)
          ∧ r.2.mem ((c.tc : Thread Cert.TailSRefIdeal.nD Cert.TailSRefIdeal.τ).loc Cert.TailSRefIdeal.main_arg6) = m' ((c.tc : Thread Cert.TailSRefIdeal.nD Cert.TailSRefIdeal.τ).loc Cert.TailSRefIdeal.main_arg6)
          ∧ r.2.mem ((c.tc : Thread Cert.TailSRefIdeal.nD Cert.TailSRefIdeal.τ).loc Cert.TailSRefIdeal.main_arg7) = m' ((c.tc : Thread Cert.TailSRefIdeal.nD Cert.TailSRefIdeal.τ).loc Cert.TailSRefIdeal.main_arg7)
          ∧ r.2.mem ((c.tc : Thread Cert.TailSRefIdeal.nD Cert.TailSRefIdeal.τ).loc Cert.TailSRefIdeal.main_arg8) = m' ((c.tc : Thread Cert.TailSRefIdeal.nD Cert.TailSRefIdeal.τ).loc Cert.TailSRefIdeal.main_arg8))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)) →
    ∃ (v0 : (c : Dev Cert.ProjSIdeal.nD) → Buf (Elt Ideal) ((c.tc : Thread Cert.ProjSIdeal.nD Cert.ProjSIdeal.τ).loc Cert.ProjSIdeal.main_v8_0)) (v1 : (c : Dev Cert.ProjSIdeal.nD) → Buf (Elt Ideal) ((c.tc : Thread Cert.ProjSIdeal.nD Cert.ProjSIdeal.τ).loc Cert.ProjSIdeal.main_v8_1)) (v2 : (c : Dev Cert.ProjSIdeal.nD) → Buf (Elt Ideal) ((c.tc : Thread Cert.ProjSIdeal.nD Cert.ProjSIdeal.τ).loc Cert.ProjSIdeal.main_v8_2)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v8_0) = v0 c
          ∧ r.2.mem ((c.tc : Thread Cert.ProjSIdeal.nD Cert.ProjSIdeal.τ).loc Cert.ProjSIdeal.main_v8_1) = v1 c
          ∧ r.2.mem ((c.tc : Thread Cert.ProjSIdeal.nD Cert.ProjSIdeal.τ).loc Cert.ProjSIdeal.main_v8_2) = v2 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v13) = v0 c
          ∧ r.2.mem ((c.tc : Thread Cert.ProjSRefIdeal.nD Cert.ProjSRefIdeal.τ).loc Cert.ProjSRefIdeal.main_v14) = v1 c
          ∧ r.2.mem ((c.tc : Thread Cert.ProjSRefIdeal.nD Cert.ProjSRefIdeal.τ).loc Cert.ProjSRefIdeal.main_v33) = v2 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v9)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v9) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v41) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)) →
    ∃ (v0 : (c : Dev Cert.MixerIdeal.nD) → Buf (Elt Ideal) ((c.tc : Thread Cert.MixerIdeal.nD Cert.MixerIdeal.τ).loc Cert.MixerIdeal.main_v20_0)) (v1 : (c : Dev Cert.MixerIdeal.nD) → Buf (Elt Ideal) ((c.tc : Thread Cert.MixerIdeal.nD Cert.MixerIdeal.τ).loc Cert.MixerIdeal.main_v20_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v20_0) = v0 c
          ∧ r.2.mem ((c.tc : Thread Cert.MixerIdeal.nD Cert.MixerIdeal.τ).loc Cert.MixerIdeal.main_v20_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v181) = v0 c
          ∧ r.2.mem ((c.tc : Thread Cert.MixerRefIdeal.nD Cert.MixerRefIdeal.τ).loc Cert.MixerRefIdeal.main_v123) = v1 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9))

def preserves_MixerS_MixerSIdeal : Prop :=
  True

def algebraic_MixerSIdeal_MixerSRefIdeal [hMixerSIdeal : Cert.MixerSIdeal.Facts] [hMixerSRefIdeal : Cert.MixerSRefIdeal.Facts] : Prop :=
  ∀ (m : (ℓ : Loc Cert.MixerSIdeal.nD Cert.MixerSIdeal.τ Cert.MixerSIdeal.sig) → Buf (Elt Ideal) ℓ) (g : Dev Cert.MixerSIdeal.nD → PrngReg)
    (m' : (ℓ : Loc Cert.MixerSRefIdeal.nD Cert.MixerSRefIdeal.τ Cert.MixerSRefIdeal.sig) → Buf (Elt Ideal) ℓ) (g' : Dev Cert.MixerSRefIdeal.nD → PrngReg), Pre_MixerSIdeal m →
    (∀ c : Dev Cert.MixerSIdeal.nD,
      m' ((c.tc : Thread Cert.MixerSRefIdeal.nD Cert.MixerSRefIdeal.τ).loc Cert.MixerSRefIdeal.main_arg0) = m ((c.tc : Thread Cert.MixerSIdeal.nD Cert.MixerSIdeal.τ).loc Cert.MixerSIdeal.main_arg0)
      ∧ m' ((c.tc : Thread Cert.MixerSRefIdeal.nD Cert.MixerSRefIdeal.τ).loc Cert.MixerSRefIdeal.main_arg1) = m ((c.tc : Thread Cert.MixerSIdeal.nD Cert.MixerSIdeal.τ).loc Cert.MixerSIdeal.main_arg1)
      ∧ m' ((c.tc : Thread Cert.MixerSRefIdeal.nD Cert.MixerSRefIdeal.τ).loc Cert.MixerSRefIdeal.main_arg2) = m ((c.tc : Thread Cert.MixerSIdeal.nD Cert.MixerSIdeal.τ).loc Cert.MixerSIdeal.main_arg2)
      ∧ m' ((c.tc : Thread Cert.MixerSRefIdeal.nD Cert.MixerSRefIdeal.τ).loc Cert.MixerSRefIdeal.main_arg3) = m ((c.tc : Thread Cert.MixerSIdeal.nD Cert.MixerSIdeal.τ).loc Cert.MixerSIdeal.main_arg3)
      ∧ m' ((c.tc : Thread Cert.MixerSRefIdeal.nD Cert.MixerSRefIdeal.τ).loc Cert.MixerSRefIdeal.main_arg4) = m ((c.tc : Thread Cert.MixerSIdeal.nD Cert.MixerSIdeal.τ).loc Cert.MixerSIdeal.main_arg4)
      ∧ m' ((c.tc : Thread Cert.MixerSRefIdeal.nD Cert.MixerSRefIdeal.τ).loc Cert.MixerSRefIdeal.main_arg5) = m ((c.tc : Thread Cert.MixerSIdeal.nD Cert.MixerSIdeal.τ).loc Cert.MixerSIdeal.main_arg5)) →
    ∃ (v0 : (c : Dev Cert.MixerSIdeal.nD) → Buf (Elt Ideal) ((c.tc : Thread Cert.MixerSIdeal.nD Cert.MixerSIdeal.τ).loc Cert.MixerSIdeal.main_v11_1)),
      θ_run (Cert.MixerSIdeal.defs (F := Ideal)) (onTc (τ := Cert.MixerSIdeal.τ) (Cert.MixerSIdeal.main (F := Ideal))) ⟨m, fun _ => 0, g⟩ (fun r => ∀ c : Dev Cert.MixerSIdeal.nD,
          r.2.mem ((c.tc : Thread Cert.MixerSIdeal.nD Cert.MixerSIdeal.τ).loc Cert.MixerSIdeal.main_v11_1) = v0 c
          ∧ r.2.mem ((c.tc : Thread Cert.MixerSIdeal.nD Cert.MixerSIdeal.τ).loc Cert.MixerSIdeal.main_arg0) = m ((c.tc : Thread Cert.MixerSIdeal.nD Cert.MixerSIdeal.τ).loc Cert.MixerSIdeal.main_arg0)
          ∧ r.2.mem ((c.tc : Thread Cert.MixerSIdeal.nD Cert.MixerSIdeal.τ).loc Cert.MixerSIdeal.main_arg1) = m ((c.tc : Thread Cert.MixerSIdeal.nD Cert.MixerSIdeal.τ).loc Cert.MixerSIdeal.main_arg1)
          ∧ r.2.mem ((c.tc : Thread Cert.MixerSIdeal.nD Cert.MixerSIdeal.τ).loc Cert.MixerSIdeal.main_arg2) = m ((c.tc : Thread Cert.MixerSIdeal.nD Cert.MixerSIdeal.τ).loc Cert.MixerSIdeal.main_arg2)
          ∧ r.2.mem ((c.tc : Thread Cert.MixerSIdeal.nD Cert.MixerSIdeal.τ).loc Cert.MixerSIdeal.main_arg3) = m ((c.tc : Thread Cert.MixerSIdeal.nD Cert.MixerSIdeal.τ).loc Cert.MixerSIdeal.main_arg3)
          ∧ r.2.mem ((c.tc : Thread Cert.MixerSIdeal.nD Cert.MixerSIdeal.τ).loc Cert.MixerSIdeal.main_arg4) = m ((c.tc : Thread Cert.MixerSIdeal.nD Cert.MixerSIdeal.τ).loc Cert.MixerSIdeal.main_arg4)
          ∧ r.2.mem ((c.tc : Thread Cert.MixerSIdeal.nD Cert.MixerSIdeal.τ).loc Cert.MixerSIdeal.main_arg5) = m ((c.tc : Thread Cert.MixerSIdeal.nD Cert.MixerSIdeal.τ).loc Cert.MixerSIdeal.main_arg5))
      ∧ θ_run (Cert.MixerSRefIdeal.defs (F := Ideal)) (onTc (τ := Cert.MixerSRefIdeal.τ) (Cert.MixerSRefIdeal.main (F := Ideal))) ⟨m', fun _ => 0, g'⟩ (fun r => ∀ c : Dev Cert.MixerSRefIdeal.nD,
          r.2.mem ((c.tc : Thread Cert.MixerSRefIdeal.nD Cert.MixerSRefIdeal.τ).loc Cert.MixerSRefIdeal.main_v17) = v0 c
          ∧ r.2.mem ((c.tc : Thread Cert.MixerSRefIdeal.nD Cert.MixerSRefIdeal.τ).loc Cert.MixerSRefIdeal.main_arg0) = m' ((c.tc : Thread Cert.MixerSRefIdeal.nD Cert.MixerSRefIdeal.τ).loc Cert.MixerSRefIdeal.main_arg0)
          ∧ r.2.mem ((c.tc : Thread Cert.MixerSRefIdeal.nD Cert.MixerSRefIdeal.τ).loc Cert.MixerSRefIdeal.main_arg1) = m' ((c.tc : Thread Cert.MixerSRefIdeal.nD Cert.MixerSRefIdeal.τ).loc Cert.MixerSRefIdeal.main_arg1)
          ∧ r.2.mem ((c.tc : Thread Cert.MixerSRefIdeal.nD Cert.MixerSRefIdeal.τ).loc Cert.MixerSRefIdeal.main_arg2) = m' ((c.tc : Thread Cert.MixerSRefIdeal.nD Cert.MixerSRefIdeal.τ).loc Cert.MixerSRefIdeal.main_arg2)
          ∧ r.2.mem ((c.tc : Thread Cert.MixerSRefIdeal.nD Cert.MixerSRefIdeal.τ).loc Cert.MixerSRefIdeal.main_arg3) = m' ((c.tc : Thread Cert.MixerSRefIdeal.nD Cert.MixerSRefIdeal.τ).loc Cert.MixerSRefIdeal.main_arg3)
          ∧ r.2.mem ((c.tc : Thread Cert.MixerSRefIdeal.nD Cert.MixerSRefIdeal.τ).loc Cert.MixerSRefIdeal.main_arg4) = m' ((c.tc : Thread Cert.MixerSRefIdeal.nD Cert.MixerSRefIdeal.τ).loc Cert.MixerSRefIdeal.main_arg4)
          ∧ r.2.mem ((c.tc : Thread Cert.MixerSRefIdeal.nD Cert.MixerSRefIdeal.τ).loc Cert.MixerSRefIdeal.main_arg5) = m' ((c.tc : Thread Cert.MixerSRefIdeal.nD Cert.MixerSRefIdeal.τ).loc Cert.MixerSRefIdeal.main_arg5))

def Claim : Prop :=
  ∃ (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hTailS : Cert.TailS.Facts) (hTailSIdeal : Cert.TailSIdeal.Facts) (hTailSRefIdeal : Cert.TailSRefIdeal.Facts) (hProjS : Cert.ProjS.Facts) (hProjSIdeal : Cert.ProjSIdeal.Facts) (hProjSRefIdeal : Cert.ProjSRefIdeal.Facts) (hFfnS : Cert.FfnS.Facts) (hFfnSIdeal : Cert.FfnSIdeal.Facts) (hFfnSRefIdeal : Cert.FfnSRefIdeal.Facts) (hMixer : Cert.Mixer.Facts) (hMixerIdeal : Cert.MixerIdeal.Facts) (hMixerRefIdeal : Cert.MixerRefIdeal.Facts) (hMixerS : Cert.MixerS.Facts) (hMixerSIdeal : Cert.MixerSIdeal.Facts) (hMixerSRefIdeal : Cert.MixerSRefIdeal.Facts),
    quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_TailS (hTailS := hTailS)
    ∧ quiescent_TailSIdeal (hTailSIdeal := hTailSIdeal)
    ∧ quiescent_TailSRefIdeal (hTailSRefIdeal := hTailSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_Mixer (hMixer := hMixer)
    ∧ quiescent_MixerIdeal (hMixerIdeal := hMixerIdeal)
    ∧ quiescent_MixerRefIdeal (hMixerRefIdeal := hMixerRefIdeal)
    ∧ quiescent_MixerS (hMixerS := hMixerS)
    ∧ quiescent_MixerSIdeal (hMixerSIdeal := hMixerSIdeal)
    ∧ quiescent_MixerSRefIdeal (hMixerSRefIdeal := hMixerSRefIdeal)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_TailS_TailSIdeal
    ∧ algebraic_TailSIdeal_TailSRefIdeal (hTailSIdeal := hTailSIdeal) (hTailSRefIdeal := hTailSRefIdeal)
    ∧ preserves_ProjS_ProjSIdeal
    ∧ algebraic_ProjSIdeal_ProjSRefIdeal (hProjSIdeal := hProjSIdeal) (hProjSRefIdeal := hProjSRefIdeal)
    ∧ preserves_FfnS_FfnSIdeal
    ∧ algebraic_FfnSIdeal_FfnSRefIdeal (hFfnSIdeal := hFfnSIdeal) (hFfnSRefIdeal := hFfnSRefIdeal)
    ∧ preserves_Mixer_MixerIdeal
    ∧ algebraic_MixerIdeal_MixerRefIdeal (hMixerIdeal := hMixerIdeal) (hMixerRefIdeal := hMixerRefIdeal)
    ∧ preserves_MixerS_MixerSIdeal
    ∧ algebraic_MixerSIdeal_MixerSRefIdeal (hMixerSIdeal := hMixerSIdeal) (hMixerSRefIdeal := hMixerSRefIdeal)
-- ==== Tail.lean ====
abbrev S16384x1024 : Shape := ⟨2, ![16384, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S512x1024 : Shape := ⟨2, ![512, 1024]⟩
abbrev S1x1024x2816 : Shape := ⟨3, ![1, 1024, 2816]⟩
abbrev S1x2816x1024 : Shape := ⟨3, ![1, 2816, 1024]⟩
abbrev S512x2816 : Shape := ⟨2, ![512, 2816]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S2816x1024 : Shape := ⟨2, ![2816, 1024]⟩

abbrev nBuf : Space → Nat
  | .hbm => 24
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024x2816, .bf16⟩
  | .local _ .vmem, ⟨9, _⟩ => ⟨S1x1024x2816, .bf16⟩
  | .local _ .vmem, ⟨10, _⟩ => ⟨S1x2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TailRefIdeal.lean ====
abbrev S16384x1024 : Shape := ⟨2, ![16384, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16384x2816 : Shape := ⟨2, ![16384, 2816]⟩

abbrev nBuf : Space → Nat
  | .hbm => 87
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S16384x1024, .f32⟩
  | .hbm, ⟨10, _⟩ => ⟨S1024x1024, .f32⟩
  | .hbm, ⟨11, _⟩ => ⟨S16384x1024, .f32⟩
  | .hbm, ⟨12, _⟩ => ⟨S1x1024, .f32⟩
  | .hbm, ⟨13, _⟩ => ⟨S1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S1x1024x2816, .f32⟩
  | .hbm, ⟨50, _⟩ => ⟨S1024x2816, .f32⟩
  | .hbm, ⟨51, _⟩ => ⟨S1x1024x2816, .f32⟩
  | .hbm, ⟨52, _⟩ => ⟨S1024x2816, .f32⟩
  | .hbm, ⟨53, _⟩ => ⟨S1x2816x1024, .f32⟩
  | .hbm, ⟨54, _⟩ => ⟨S2816x1024, .f32⟩
  | .hbm, ⟨55, _⟩ => ⟨S16384x2816, .f32⟩
  | .hbm, ⟨56, _⟩ => ⟨S16384x2816, .f32⟩
  | .hbm, ⟨57, _⟩ => ⟨S16384x2816, .f32⟩
  | .hbm, ⟨58, _⟩ => ⟨S_, .f32⟩
  | .hbm, ⟨59, _⟩ => ⟨S16384x2816, .f32⟩
  | .hbm, ⟨60, _⟩ => ⟨S16384x2816, .f32⟩
  | .hbm, ⟨61, _⟩ => ⟨S_, .f32⟩
  | .hbm, ⟨62, _⟩ => ⟨S16384x2816, .f32⟩
  | .hbm, ⟨63, _⟩ => ⟨S16384x2816, .f32⟩
  | .hbm, ⟨64, _⟩ => ⟨S16384x2816, .f32⟩
  | .hbm, ⟨65, _⟩ => ⟨S16384x2816, .f32⟩
  | .hbm, ⟨66, _⟩ => ⟨S16384x2816, .f32⟩
  | .hbm, ⟨67, _⟩ => ⟨S16384x1024, .f32⟩
  | .hbm, ⟨68, _⟩ => ⟨S1x1024, .f32⟩
  | .hbm, ⟨69, _⟩ => ⟨S1024, .f32⟩
  | .hbm, ⟨70, _⟩ => ⟨S16384x1024, .f32⟩
  | .hbm, ⟨71, _⟩ => ⟨S_, .f32⟩
  | .hbm, ⟨72, _⟩ => ⟨S16384, .f32⟩
  | .hbm, ⟨73, _⟩ => ⟨S16384x1, .f32⟩
  | .hbm, ⟨74, _⟩ => ⟨S_, .f32⟩
  | .hbm, ⟨75, _⟩ => ⟨S16384x1, .f32⟩
  | .hbm, ⟨76, _⟩ => ⟨S16384x1, .f32⟩
  | .hbm, ⟨77, _⟩ => ⟨S_, .f32⟩
  | .hbm, ⟨78, _⟩ => ⟨S16384x1, .f32⟩
  | .hbm, ⟨79, _⟩ => ⟨S16384x1, .f32⟩
  | .hbm, ⟨80, _⟩ => ⟨S16384x1, .f32⟩
  | .hbm, ⟨81, _⟩ => ⟨S16384x1024, .f32⟩
  | .hbm, ⟨82, _⟩ => ⟨S16384x1024, .f32⟩
  | .hbm, ⟨83, _⟩ => ⟨S1x1024, .f32⟩
  | .hbm, ⟨84, _⟩ => ⟨S16384x1024, .f32⟩
  | .hbm, ⟨85, _⟩ => ⟨S16384x1024, .f32⟩
  | .hbm, ⟨86, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_5 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_cst_7 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S2x1024 : Shape := ⟨2, ![2, 1024]⟩
abbrev S1024x1024 : Shape := ⟨2, ![1024, 1024]⟩
abbrev S1x1024x1024 : Shape := ⟨3, ![1, 1024, 1024]⟩
abbrev S1x1024 : Shape := ⟨2, ![1, 1024]⟩
abbrev S1024x16384 : Shape := ⟨2, ![1024, 16384]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 19
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S16384x1024, .f32⟩
  | .hbm, ⟨15, _⟩ => ⟨S16384x1024, .f32⟩
  | .hbm, ⟨16, _⟩ => ⟨S16384x1024, .bf16⟩
  | .hbm, ⟨17, _⟩ => ⟨S1024x16384, .bf16⟩
  | .hbm, ⟨18, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1024x512, .bf16⟩
  | .local _ .vmem, ⟨14, _⟩ => ⟨S1024x512, .bf16⟩
  | .local _ .vmem, ⟨15, _⟩ => ⟨S512x1024, .bf16⟩
  | .local _ .vmem, ⟨16, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjRefIdeal.lean ====
abbrev S16384x1024 : Shape := ⟨2, ![16384, 1024]⟩
abbrev S1024 : Shape := ⟨1, ![1024]⟩
abbrev S2x1024 : Shape := ⟨2, ![2, 1024]⟩
abbrev S1024x1024 : Shape := ⟨2, ![1024, 1024]⟩
abbrev S1x1024x1024 : Shape := ⟨3, ![1, 1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩

abbrev nBuf : Space → Nat
  | .hbm => 54
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S1024, .f32⟩
  | .hbm, ⟨26, _⟩ => ⟨S16384x1024, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S16384x1, .f32⟩
  | .hbm, ⟨37, _⟩ => ⟨S16384x1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S1024x1024, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x1024, .bf16⟩
  | .hbm, ⟨48, _⟩ => ⟨S1024x16384, .f32⟩
  | .hbm, ⟨49, _⟩ => ⟨S1024x16384, .bf16⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== TailS.lean ====
abbrev S128x1024 : Shape := ⟨2, ![128, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S128x2816 : Shape := ⟨2, ![128, 2816]⟩
abbrev S128 : Shape := ⟨1, ![128]⟩
abbrev S128x1 : Shape := ⟨2, ![128, 1]⟩
abbrev S1x1024x1408 : Shape := ⟨3, ![1, 1024, 1408]⟩
abbrev S1024x1408 : Shape := ⟨2, ![1024, 1408]⟩
abbrev S128x1408 : Shape := ⟨2, ![128, 1408]⟩
abbrev S2816x1024 : Shape := ⟨2, ![2816, 1024]⟩

abbrev nBuf : Space → Nat
  | .hbm => 24
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S2x1024x2816, .bf16⟩
  | .hbm, ⟨10, _⟩ => ⟨S2x1024x2816, .bf16⟩
  | .hbm, ⟨11, _⟩ => ⟨S2x2816x1024, .bf16⟩
  | .hbm, ⟨12, _⟩ => ⟨S1024x1024, .f32⟩
  | .hbm, ⟨13, _⟩ => ⟨S1024x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024x2816, .bf16⟩
  | .local _ .vmem, ⟨7, _⟩ => ⟨S1x1024x2816, .bf16⟩
  | .local _ .vmem, ⟨8, _⟩ => ⟨S1x2816x1024, .bf16⟩
  | .local _ .vmem, ⟨9, _⟩ => ⟨S128x1024, .f32⟩
  | .local _ .vmem, ⟨10, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== TailSRefIdeal.lean ====
abbrev S128x1024 : Shape := ⟨2, ![128, 1024]⟩
abbrev S1x1024x1024 : Shape := ⟨3, ![1, 1024, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S128x2816 : Shape := ⟨2, ![128, 2816]⟩

abbrev nBuf : Space → Nat
  | .hbm => 86
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1024x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x2816, .f32⟩
  | .hbm, ⟨7, _⟩ => ⟨S2x1024x2816, .f32⟩
  | .hbm, ⟨8, _⟩ => ⟨S2x2816x1024, .f32⟩
  | .hbm, ⟨9, _⟩ => ⟨S1024x1024, .f32⟩
  | .hbm, ⟨10, _⟩ => ⟨S128x1024, .f32⟩
  | .hbm, ⟨11, _⟩ => ⟨S1x1024, .f32⟩
  | .hbm, ⟨12, _⟩ => ⟨S1024, .f32⟩
  | .hbm, ⟨13, _⟩ => ⟨S128x1024, .f32⟩
  | .hbm, ⟨14, _⟩ => ⟨S_, .f32⟩
  | .hbm, ⟨15, _⟩ => ⟨S128, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S_, .f32⟩
  | .hbm, ⟨21, _⟩ => ⟨S128x1, .f32⟩
  | .hbm, ⟨22, _⟩ => ⟨S128x1, .f32⟩
  | .hbm, ⟨23, _⟩ => ⟨S128x1, .f32⟩
  | .hbm, ⟨24, _⟩ => ⟨S128x1024, .f32⟩
  | .hbm, ⟨25, _⟩ => ⟨S128x1024, .f32⟩
  | .hbm, ⟨26, _⟩ => ⟨S1x1024, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S1x1024, .f32⟩
  | .hbm, ⟨31, _⟩ => ⟨S1024, .f32⟩
  | .hbm, ⟨32, _⟩ => ⟨S128x1024, .f32⟩
  | .hbm, ⟨33, _⟩ => ⟨S_, .f32⟩
  | .hbm, ⟨34, _⟩ => ⟨S128, .f32⟩
  | .hbm, ⟨35, _⟩ => ⟨S128x1, .f32⟩
  | .hbm, ⟨36, _⟩ => ⟨S_, .f32⟩
  | .hbm, ⟨37, _⟩ => ⟨S128x1, .f32⟩
  | .hbm, ⟨38, _⟩ => ⟨S128x1, .f32⟩
  | .hbm, ⟨39, _⟩ => ⟨S_, .f32⟩
  | .hbm, ⟨40, _⟩ => ⟨S128x1, .f32⟩
  | .hbm, ⟨41, _⟩ => ⟨S128x1, .f32⟩
  | .hbm, ⟨42, _⟩ => ⟨S128x1, .f32⟩
  | .hbm, ⟨43, _⟩ => ⟨S128x1024, .f32⟩
  | .hbm, ⟨44, _⟩ => ⟨S128x1024, .f32⟩
  | .hbm, ⟨45, _⟩ => ⟨S1x1024, .f32⟩
  | .hbm, ⟨46, _⟩ => ⟨S128x1024, .f32⟩
  | .hbm, ⟨47, _⟩ => ⟨S128x1024, .f32⟩
  | .hbm, ⟨48, _⟩ => ⟨S1x1024x2816, .f32⟩
  | .hbm, ⟨49, _⟩ => ⟨S1024x2816, .f32⟩
  | .hbm, ⟨50, _⟩ => ⟨S1x1024x2816, .f32⟩
  | .hbm, ⟨51, _⟩ => ⟨S1024x2816, .f32⟩
  | .hbm, ⟨52, _⟩ => ⟨S1x2816x1024, .f32⟩
  | .hbm, ⟨53, _⟩ => ⟨S2816x1024, .f32⟩
  | .hbm, ⟨54, _⟩ => ⟨S128x2816, .f32⟩
  | .hbm, ⟨55, _⟩ => ⟨S128x2816, .f32⟩
  | .hbm, ⟨56, _⟩ => ⟨S128x2816, .f32⟩
  | .hbm, ⟨57, _⟩ => ⟨S_, .f32⟩
  | .hbm, ⟨58, _⟩ => ⟨S128x2816, .f32⟩
  | .hbm, ⟨59, _⟩ => ⟨S128x2816, .f32⟩
  | .hbm, ⟨60, _⟩ => ⟨S_, .f32⟩
  | .hbm, ⟨61, _⟩ => ⟨S128x2816, .f32⟩
  | .hbm, ⟨62, _⟩ => ⟨S128x2816, .f32⟩
  | .hbm, ⟨63, _⟩ => ⟨S128x2816, .f32⟩
  | .hbm, ⟨64, _⟩ => ⟨S128x2816, .f32⟩
  | .hbm, ⟨65, _⟩ => ⟨S128x2816, .f32⟩
  | .hbm, ⟨66, _⟩ => ⟨S128x1024, .f32⟩
  | .hbm, ⟨67, _⟩ => ⟨S1x1024, .f32⟩
  | .hbm, ⟨68, _⟩ => ⟨S1024, .f32⟩
  | .hbm, ⟨69, _⟩ => ⟨S128x1024, .f32⟩
  | .hbm, ⟨70, _⟩ => ⟨S_, .f32⟩
  | .hbm, ⟨71, _⟩ => ⟨S128, .f32⟩
  | .hbm, ⟨72, _⟩ => ⟨S128x1, .f32⟩
  | .hbm, ⟨73, _⟩ => ⟨S_, .f32⟩
  | .hbm, ⟨74, _⟩ => ⟨S128x1, .f32⟩
  | .hbm, ⟨75, _⟩ => ⟨S128x1, .f32⟩
  | .hbm, ⟨76, _⟩ => ⟨S_, .f32⟩
  | .hbm, ⟨77, _⟩ => ⟨S128x1, .f32⟩
  | .hbm, ⟨78, _⟩ => ⟨S128x1, .f32⟩
  | .hbm, ⟨79, _⟩ => ⟨S128x1, .f32⟩
  | .hbm, ⟨80, _⟩ => ⟨S128x1024, .f32⟩
  | .hbm, ⟨81, _⟩ => ⟨S128x1024, .f32⟩
  | .hbm, ⟨82, _⟩ => ⟨S1x1024, .f32⟩
  | .hbm, ⟨83, _⟩ => ⟨S128x1024, .f32⟩
  | .hbm, ⟨84, _⟩ => ⟨S128x1024, .f32⟩
  | .hbm, ⟨85, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_5 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_cst_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]
-- ==== ProjS.lean ====
abbrev S128x1024 : Shape := ⟨2, ![128, 1024]⟩
abbrev S1024 : Shape := ⟨1, ![1024]⟩
abbrev S2x1024 : Shape := ⟨2, ![2, 1024]⟩
abbrev S1024x1024 : Shape := ⟨2, ![1024, 1024]⟩
abbrev S1x1024x1024 : Shape := ⟨3, ![1, 1024, 1024]⟩
abbrev S1x1024 : Shape := ⟨2, ![1, 1024]⟩
abbrev S128 : Shape := ⟨1, ![128]⟩
abbrev S128x1 : Shape := ⟨2, ![128, 1]⟩

abbrev nBuf : Space → Nat
  | .hbm => 17
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S2x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S128x1024, .f32⟩
  | .hbm, ⟨15, _⟩ => ⟨S128x1024, .f32⟩
  | .hbm, ⟨16, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ProjSRefIdeal.lean ====
abbrev S128x1024 : Shape := ⟨2, ![128, 1024]⟩
abbrev S1024 : Shape := ⟨1, ![1024]⟩
abbrev S2x1024 : Shape := ⟨2, ![2, 1024]⟩
abbrev S1024x1024 : Shape := ⟨2, ![1024, 1024]⟩
abbrev S1x1024x1024 : Shape := ⟨3, ![1, 1024, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024, .f32⟩
  | .hbm, ⟨2, _⟩ => ⟨S2x1024, .f32⟩
  | .hbm, ⟨3, _⟩ => ⟨S1024x1024, .f32⟩
  | .hbm, ⟨4, _⟩ => ⟨S1024x1024, .f32⟩
  | .hbm, ⟨5, _⟩ => ⟨S1x1024x1024, .f32⟩
  | .hbm, ⟨6, _⟩ => ⟨S128x1024, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S_, .f32⟩
  | .hbm, ⟨11, _⟩ => ⟨S128x1, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x1024, .f32⟩
  | .hbm, ⟨18, _⟩ => ⟨S128x1024, .f32⟩
  | .hbm, ⟨19, _⟩ => ⟨S1x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S1x1024, .f32⟩
  | .hbm, ⟨25, _⟩ => ⟨S1024, .f32⟩
  | .hbm, ⟨26, _⟩ => ⟨S128x1024, .f32⟩
  | .hbm, ⟨27, _⟩ => ⟨S_, .f32⟩
  | .hbm, ⟨28, _⟩ => ⟨S128, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x1024, .f32⟩
  | .hbm, ⟨38, _⟩ => ⟨S128x1024, .f32⟩
  | .hbm, ⟨39, _⟩ => ⟨S1x1024, .f32⟩
  | .hbm, ⟨40, _⟩ => ⟨S128x1024, .f32⟩
  | .hbm, ⟨41, _⟩ => ⟨S128x1024, .f32⟩
  | .hbm, ⟨42, _⟩ => ⟨S1024x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== FfnS.lean ====
abbrev S128x1024 : Shape := ⟨2, ![128, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S128x2816 : Shape := ⟨2, ![128, 2816]⟩
abbrev S128 : Shape := ⟨1, ![128]⟩
abbrev S128x1 : Shape := ⟨2, ![128, 1]⟩
abbrev S1x1024x1408 : Shape := ⟨3, ![1, 1024, 1408]⟩
abbrev S1024x1408 : Shape := ⟨2, ![1024, 1408]⟩
abbrev S128x1408 : Shape := ⟨2, ![128, 1408]⟩
abbrev S2816x1024 : Shape := ⟨2, ![2816, 1024]⟩

abbrev nBuf : Space → Nat
  | .hbm => 16
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1024, .f32⟩
  | .hbm, ⟨14, _⟩ => ⟨S1x1024, .f32⟩
  | .hbm, ⟨15, _⟩ => ⟨S128x1024, .f32⟩
  | .local _ .vmem, ⟨0, _⟩ => ⟨S128x1024, .f32⟩
  | .local _ .vmem, ⟨1, _⟩ => ⟨S1x1024, .f32⟩
  | .local _ .vmem, ⟨2, _⟩ => ⟨S1x1024, .f32⟩
  | .local _ .vmem, ⟨3, _⟩ => ⟨S1x1024x2816, .bf16⟩
  | .local _ .vmem, ⟨4, _⟩ => ⟨S1x1024x2816, .bf16⟩
  | .local _ .vmem, ⟨5, _⟩ => ⟨S1x2816x1024, .bf16⟩
  | .local _ .vmem, ⟨6, _⟩ => ⟨S128x1024, .f32⟩
  | .local _ .vmem, ⟨7, _⟩ => ⟨S128x2816, .bf16⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== FfnSRefIdeal.lean ====
abbrev S128x1024 : Shape := ⟨2, ![128, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S128x2816 : Shape := ⟨2, ![128, 2816]⟩

abbrev nBuf : Space → Nat
  | .hbm => 62
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S2x1024, .f32⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S1x1024, .f32⟩
  | .hbm, ⟨7, _⟩ => ⟨S1024, .f32⟩
  | .hbm, ⟨8, _⟩ => ⟨S128x1024, .f32⟩
  | .hbm, ⟨9, _⟩ => ⟨S_, .f32⟩
  | .hbm, ⟨10, _⟩ => ⟨S128, .f32⟩
  | .hbm, ⟨11, _⟩ => ⟨S128x1, .f32⟩
  | .hbm, ⟨12, _⟩ => ⟨S_, .f32⟩
  | .hbm, ⟨13, _⟩ => ⟨S128x1, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1, .f32⟩
  | .hbm, ⟨19, _⟩ => ⟨S128x1024, .f32⟩
  | .hbm, ⟨20, _⟩ => ⟨S128x1024, .f32⟩
  | .hbm, ⟨21, _⟩ => ⟨S1x1024, .f32⟩
  | .hbm, ⟨22, _⟩ => ⟨S128x1024, .f32⟩
  | .hbm, ⟨23, _⟩ => ⟨S128x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S128x2816, .f32⟩
  | .hbm, ⟨31, _⟩ => ⟨S128x2816, .f32⟩
  | .hbm, ⟨32, _⟩ => ⟨S128x2816, .f32⟩
  | .hbm, ⟨33, _⟩ => ⟨S_, .f32⟩
  | .hbm, ⟨34, _⟩ => ⟨S128x2816, .f32⟩
  | .hbm, ⟨35, _⟩ => ⟨S128x2816, .f32⟩
  | .hbm, ⟨36, _⟩ => ⟨S_, .f32⟩
  | .hbm, ⟨37, _⟩ => ⟨S128x2816, .f32⟩
  | .hbm, ⟨38, _⟩ => ⟨S128x2816, .f32⟩
  | .hbm, ⟨39, _⟩ => ⟨S128x2816, .f32⟩
  | .hbm, ⟨40, _⟩ => ⟨S128x2816, .f32⟩
  | .hbm, ⟨41, _⟩ => ⟨S128x2816, .f32⟩
  | .hbm, ⟨42, _⟩ => ⟨S128x1024, .f32⟩
  | .hbm, ⟨43, _⟩ => ⟨S1x1024, .f32⟩
  | .hbm, ⟨44, _⟩ => ⟨S1024, .f32⟩
  | .hbm, ⟨45, _⟩ => ⟨S128x1024, .f32⟩
  | .hbm, ⟨46, _⟩ => ⟨S_, .f32⟩
  | .hbm, ⟨47, _⟩ => ⟨S128, .f32⟩
  | .hbm, ⟨48, _⟩ => ⟨S128x1, .f32⟩
  | .hbm, ⟨49, _⟩ => ⟨S_, .f32⟩
  | .hbm, ⟨50, _⟩ => ⟨S128x1, .f32⟩
  | .hbm, ⟨51, _⟩ => ⟨S128x1, .f32⟩
  | .hbm, ⟨52, _⟩ => ⟨S_, .f32⟩
  | .hbm, ⟨53, _⟩ => ⟨S128x1, .f32⟩
  | .hbm, ⟨54, _⟩ => ⟨S128x1, .f32⟩
  | .hbm, ⟨55, _⟩ => ⟨S128x1, .f32⟩
  | .hbm, ⟨56, _⟩ => ⟨S128x1024, .f32⟩
  | .hbm, ⟨57, _⟩ => ⟨S128x1024, .f32⟩
  | .hbm, ⟨58, _⟩ => ⟨S1x1024, .f32⟩
  | .hbm, ⟨59, _⟩ => ⟨S128x1024, .f32⟩
  | .hbm, ⟨60, _⟩ => ⟨S128x1024, .f32⟩
  | .hbm, ⟨61, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== Mixer.lean ====
abbrev S8x2048x1024 : Shape := ⟨3, ![8, 2048, 1024]⟩
abbrev S1x4x256x256 : Shape := ⟨4, ![1, 4, 256, 256]⟩
abbrev S1x1024 : Shape := ⟨2, ![1, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S_ : Shape := ⟨0, ![]⟩
abbrev S8x15x1024 : Shape := ⟨3, ![8, 15, 1024]⟩
abbrev S4x256x256 : Shape := ⟨3, ![4, 256, 256]⟩
abbrev S1024 : Shape := ⟨1, ![1024]⟩
abbrev S1x512x1024 : Shape := ⟨3, ![1, 512, 1024]⟩
abbrev S1x15x1024 : Shape := ⟨3, ![1, 15, 1024]⟩
abbrev S1x1024x2816 : Shape := ⟨3, ![1, 1024, 2816]⟩
abbrev S1x2816x1024 : Shape := ⟨3, ![1, 2816, 1024]⟩
abbrev S528x1024 : Shape := ⟨2, ![528, 1024]⟩
abbrev S512x1024 : Shape := ⟨2, ![512, 1024]⟩
abbrev S512x2816 : Shape := ⟨2, ![512, 2816]⟩
abbrev S2x512x1024 : Shape := ⟨3, ![2, 512, 1024]⟩
abbrev S512x1 : Shape := ⟨2, ![512, 1]⟩
abbrev S15x1024 : Shape := ⟨2, ![15, 1024]⟩
abbrev S512 : Shape := ⟨1, ![512]⟩
abbrev S1x1024x768 : Shape := ⟨3, ![1, 1024, 768]⟩
abbrev S1024x768 : Shape := ⟨2, ![1024, 768]⟩
abbrev S512x768 : Shape := ⟨2, ![512, 768]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩
abbrev S1x1024x512 : Shape := ⟨3, ![1, 1024, 512]⟩
abbrev S1024x512 : Shape := ⟨2, ![1024, 512]⟩
abbrev S512x512 : Shape := ⟨2, ![512, 512]⟩
abbrev S2816x1024 : Shape := ⟨2, ![2816, 1024]⟩
abbrev S16x1024 : Shape := ⟨2, ![16, 1024]⟩

abbrev nBuf : Space → Nat
  | .hbm => 33
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S1x4x256x256, .f32⟩
  | .hbm, ⟨2, _⟩ => ⟨S1x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024x2816, .f32⟩
  | .hbm, ⟨8, _⟩ => ⟨S2x1024x2816, .f32⟩
  | .hbm, ⟨9, _⟩ => ⟨S2x2816x1024, .f32⟩
  | .hbm, ⟨10, _⟩ => ⟨S2x1024x2816, .bf16⟩
  | .hbm, ⟨11, _⟩ => ⟨S2x1024x2816, .bf16⟩
  | .hbm, ⟨12, _⟩ => ⟨S2x2816x1024, .bf16⟩
  | .hbm, ⟨13, _⟩ => ⟨S_, .f32⟩
  | .hbm, ⟨14, _⟩ => ⟨S8x15x1024, .f32⟩
  | .hbm, ⟨15, _⟩ => ⟨S4x256x256, .f32⟩
  | .hbm, ⟨16, _⟩ => ⟨S4x256x256, .bf16⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S8x2048x1024, .f32⟩
  | .hbm, ⟨32, _⟩ => ⟨S8x15x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x15x1024, .f32⟩
  | .local _ .vmem, ⟨3, _⟩ => ⟨S1x15x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x2816, .bf16⟩
  | .local _ .vmem, ⟨11, _⟩ => ⟨S1x1024x2816, .bf16⟩
  | .local _ .vmem, ⟨12, _⟩ => ⟨S1x2816x1024, .bf16⟩
  | .local _ .vmem, ⟨13, _⟩ => ⟨S1x512x1024, .f32⟩
  | .local _ .vmem, ⟨14, _⟩ => ⟨S1x512x1024, .f32⟩
  | .local _ .vmem, ⟨15, _⟩ => ⟨S1x15x1024, .f32⟩
  | .local _ .vmem, ⟨16, _⟩ => ⟨S1x15x1024, .f32⟩
  | .local _ .vmem, ⟨17, _⟩ => ⟨S528x1024, .f32⟩
  | .local _ .vmem, ⟨18, _⟩ => ⟨S512x1024, .f32⟩
  | .local _ .vmem, ⟨19, _⟩ => ⟨S512x2816, .bf16⟩
  | .local _ .vmem, ⟨20, _⟩ => ⟨S2x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![33], ![false]⟩

def k0_off1 (i : grid0.Coords) : Fin 3 → Nat :=
  let arg0 : BitVec 32 := BitVec.ofNat 32 (i 0).val
  let c1_i32_8 : BitVec 32 := 1#32
  let v23 : BitVec 32 := Scalar.addi arg0 c1_i32_8
  let c2_i32 : BitVec 32 := 2#32
  let c0_i32_9 : BitVec 32 := 0#32
  let v24 : BitVec 1 := Scalar.cmpi .eq c2_i32 c0_i32_9
  let c1_i32_10 : BitVec 32 := 1#32
  let v25 : BitVec 32 := Scalar.select v24 c1_i32_10 c2_i32
  let v26 : BitVec 32 := Scalar.remsi v23 v25
  let c0_i32_12 : BitVec 32 := 0#32
  let v28 : BitVec 1 := Scalar.cmpi .slt v26 c0_i32_12
  let c0_i32_13 : BitVec 32 := 0#32
  let v29 : BitVec 1 := Scalar.cmpi .slt v25 c0_i32_13
  let v30 : BitVec 1 := Scalar.xori v28 v29
  let c0_i32_11 : BitVec 32 := 0#32
  let v27 : BitVec 1 := Scalar.cmpi .ne v26 c0_i32_11
  let v31 : BitVec 1 := Scalar.andi v30 v27
  let v32 : BitVec 32 := Scalar.addi v26 v25
  let v33 : BitVec 32 := Scalar.select v31 v32 v26
  let v34 : Index := Scalar.indexCast v33
  let c0 : Index := 0#32
  let c0_14 : Index := 0#32
  ![v34.toNat, 0, 0]
def k0_off2 (i : grid0.Coords) : Fin 3 → Nat :=
  let arg0 : BitVec 32 := BitVec.ofNat 32 (i 0).val
  let c2_i32_168 : BitVec 32 := 2#32
  let c0_i32_169 : BitVec 32 := 0#32
  let v306 : BitVec 1 := Scalar.cmpi .eq c2_i32_168 c0_i32_169
  let c1_i32_170 : BitVec 32 := 1#32
  let v307 : BitVec 32 := Scalar.select v306 c1_i32_170 c2_i32_168
  let v308 : BitVec 32 := Scalar.remsi arg0 v307
  let c0_i32_172 : BitVec 32 := 0#32
  let v310 : BitVec 1 := Scalar.cmpi .slt v308 c0_i32_172
  let c0_i32_173 : BitVec 32 := 0#32
  let v311 : BitVec 1 := Scalar.cmpi .slt v307 c0_i32_173
  let v312 : BitVec 1 := Scalar.xori v310 v311
  let c0_i32_171 : BitVec 32 := 0#32
  let v309 : BitVec 1 := Scalar.cmpi .ne v308 c0_i32_171
  let v313 : BitVec 1 := Scalar.andi v312 v309
  let v314 : BitVec 32 := Scalar.addi v308 v307
  let v315 : BitVec 32 := Scalar.select v313 v314 v308
  let v316 : Index := Scalar.indexCast v315
  let c0_174 : Index := 0#32
  let c0_175 : Index := 0#32
  ![v316.toNat, 0, 0]
def k0_cond3 (i : grid0.Coords) : BitVec 1 :=
  let arg0 : BitVec 32 := BitVec.ofNat 32 (i 0).val
  let c32_i32 : BitVec 32 := 32#32
  let v0 : BitVec 1 := Scalar.cmpi .slt arg0 c32_i32
  let c31_i32 : BitVec 32 := 31#32
  let v1 : BitVec 32 := Scalar.minsi arg0 c31_i32
  let c4_i32 : BitVec 32 := 4#32
  let c0_i32 : BitVec 32 := 0#32
  let v2 : BitVec 1 := Scalar.cmpi .eq c4_i32 c0_i32
  let c1_i32 : BitVec 32 := 1#32
  let v3 : BitVec 32 := Scalar.select v2 c1_i32 c4_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c3_i32 : BitVec 32 := 3#32
  let v320 : BitVec 1 := Scalar.cmpi .eq v11 c3_i32
  let v321 : BitVec 1 := Scalar.andi v0 v320
  let v322 : BitVec 32 := Scalar.extui v321
  let c0_i32_176 : BitVec 32 := 0#32
  let v323 : BitVec 1 := Scalar.cmpi .ne v322 c0_i32_176
  v323

def cc0_transform_0 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_12 (i : grid0.Coords) : Fin 3 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  let c0_i32_12 : BitVec 32 := 0#32
  ![v17.toNat, c0_i32_10.toNat, c0_i32_11.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x15x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x15x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixerRefIdeal.lean ====
abbrev S8x2048x1024 : Shape := ⟨3, ![8, 2048, 1024]⟩
abbrev S1x4x256x256 : Shape := ⟨4, ![1, 4, 256, 256]⟩
abbrev S1x1024 : Shape := ⟨2, ![1, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S_ : Shape := ⟨0, ![]⟩
abbrev S8x15x1024 : Shape := ⟨3, ![8, 15, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S4x256x256 : Shape := ⟨3, ![4, 256, 256]⟩
abbrev S8x2063x1024 : Shape := ⟨3, ![8, 2063, 1024]⟩
abbrev S2048 : Shape := ⟨1, ![2048]⟩
abbrev S8x2048x256 : Shape := ⟨3, ![8, 2048, 256]⟩
abbrev S1x2048x1 : Shape := ⟨3, ![1, 2048, 1]⟩
abbrev S8x2048x1x256 : Shape := ⟨4, ![8, 2048, 1, 256]⟩
abbrev S8x2048x4x256 : Shape := ⟨4, ![8, 2048, 4, 256]⟩
abbrev S4x256x8x2048 : Shape := ⟨4, ![4, 256, 8, 2048]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x2048x2816 : Shape := ⟨3, ![8, 2048, 2816]⟩

abbrev nBuf : Space → Nat
  | .hbm => 222
  | .vmem => 0
  | .smem => 0
  | _ => 0

abbrev hbmTy0_0 (i : Nat) : BufTy := match i % 128 with
  | 0 => ⟨S8x2048x1024, .f32⟩
  | 1 => ⟨S1x4x256x256, .f32⟩
  | 2 => ⟨S1x1024, .f32⟩
  | 3 => ⟨S2x1024, .f32⟩
  | 4 => ⟨S2x1024, .f32⟩
  | 5 => ⟨S2x1024, .f32⟩
  | 6 => ⟨S2x1024, .f32⟩
  | 7 => ⟨S2x1024x2816, .f32⟩
  | 8 => ⟨S2x1024x2816, .f32⟩
  | 9 => ⟨S2x2816x1024, .f32⟩
  | 10 => ⟨S_, .f32⟩
  | 11 => ⟨S8x15x1024, .f32⟩
  | 12 => ⟨S1x1024, .f32⟩
  | 13 => ⟨S1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x1024, .f32⟩
  | 26 => ⟨S8x2048x1024, .f32⟩
  | 27 => ⟨S1x1x1024, .f32⟩
  | 28 => ⟨S8x2048x1024, .f32⟩
  | 29 => ⟨S8x2048x1024, .f32⟩
  | 30 => ⟨S4x256x256, .f32⟩
  | 31 => ⟨S1024, .f32⟩
  | 32 => ⟨S8x2063x1024, .f32⟩
  | 33 => ⟨S2048, .i32⟩
  | 34 => ⟨S_, .i32⟩
  | 35 => ⟨S2048, .i32⟩
  | 36 => ⟨S2048, .i32⟩
  | 37 => ⟨S8x2048x256, .f32⟩
  | 38 => ⟨S8x2048x256, .f32⟩
  | 39 => ⟨S8x2048x256, .f32⟩
  | 40 => ⟨S_, .i32⟩
  | 41 => ⟨S2048, .i32⟩
  | 42 => ⟨S2048, .i32⟩
  | 43 => ⟨S_, .i32⟩
  | 44 => ⟨S2048, .i32⟩
  | 45 => ⟨S2048, .i32⟩
  | 46 => ⟨S2048, .f32⟩
  | 47 => ⟨S1x2048x1, .f32⟩
  | 48 => ⟨S8x2048x256, .f32⟩
  | 49 => ⟨S8x2048x256, .f32⟩
  | 50 => ⟨S8x2048x256, .f32⟩
  | 51 => ⟨S8x2048x256, .f32⟩
  | 52 => ⟨S8x2048x256, .f32⟩
  | 53 => ⟨S8x2048x256, .f32⟩
  | 54 => ⟨S8x2048x256, .f32⟩
  | 55 => ⟨S8x2048x256, .f32⟩
  | 56 => ⟨S8x2048x256, .f32⟩
  | 57 => ⟨S_, .i32⟩
  | 58 => ⟨S2048, .i32⟩
  | 59 => ⟨S2048, .i32⟩
  | 60 => ⟨S_, .i32⟩
  | 61 => ⟨S2048, .i32⟩
  | 62 => ⟨S2048, .i32⟩
  | 63 => ⟨S2048, .f32⟩
  | 64 => ⟨S1x2048x1, .f32⟩
  | 65 => ⟨S8x2048x256, .f32⟩
  | 66 => ⟨S8x2048x256, .f32⟩
  | 67 => ⟨S8x2048x256, .f32⟩
  | 68 => ⟨S8x2048x256, .f32⟩
  | 69 => ⟨S8x2048x256, .f32⟩
  | 70 => ⟨S8x2048x256, .f32⟩
  | 71 => ⟨S8x2048x256, .f32⟩
  | 72 => ⟨S8x2048x256, .f32⟩
  | 73 => ⟨S8x2048x256, .f32⟩
  | 74 => ⟨S8x2048x256, .f32⟩
  | 75 => ⟨S8x2048x256, .f32⟩
  | 76 => ⟨S8x2048x256, .f32⟩
  | 77 => ⟨S8x2048x256, .f32⟩
  | 78 => ⟨S8x2048x256, .f32⟩
  | 79 => ⟨S8x2048x256, .f32⟩
  | 80 => ⟨S8x2048x256, .f32⟩
  | 81 => ⟨S8x2048x256, .f32⟩
  | 82 => ⟨S_, .i32⟩
  | 83 => ⟨S2048, .i32⟩
  | 84 => ⟨S2048, .i32⟩
  | 85 => ⟨S_, .i32⟩
  | 86 => ⟨S2048, .i32⟩
  | 87 => ⟨S2048, .i32⟩
  | 88 => ⟨S2048, .f32⟩
  | 89 => ⟨S1x2048x1, .f32⟩
  | 90 => ⟨S8x2048x256, .f32⟩
  | 91 => ⟨S8x2048x256, .f32⟩
  | 92 => ⟨S8x2048x256, .f32⟩
  | 93 => ⟨S8x2048x256, .f32⟩
  | 94 => ⟨S8x2048x256, .f32⟩
  | 95 => ⟨S8x2048x256, .f32⟩
  | 96 => ⟨S8x2048x256, .f32⟩
  | 97 => ⟨S8x2048x256, .f32⟩
  | 98 => ⟨S8x2048x256, .f32⟩
  | 99 => ⟨S8x2048x256, .f32⟩
  | 100 => ⟨S8x2048x256, .f32⟩
  | 101 => ⟨S8x2048x256, .f32⟩
  | 102 => ⟨S8x2048x256, .f32⟩
  | 103 => ⟨S8x2048x256, .f32⟩
  | 104 => ⟨S8x2048x256, .f32⟩
  | 105 => ⟨S8x2048x256, .f32⟩
  | 106 => ⟨S8x2048x256, .f32⟩
  | 107 => ⟨S8x2048x256, .f32⟩
  | 108 => ⟨S8x2048x256, .f32⟩
  | 109 => ⟨S8x2048x256, .f32⟩
  | 110 => ⟨S8x2048x256, .f32⟩
  | 111 => ⟨S8x2048x256, .f32⟩
  | 112 => ⟨S8x2048x256, .f32⟩
  | 113 => ⟨S8x2048x256, .f32⟩
  | 114 => ⟨S8x2048x256, .f32⟩
  | 115 => ⟨S8x2048x256, .f32⟩
  | 116 => ⟨S8x2048x256, .f32⟩
  | 117 => ⟨S8x2048x256, .f32⟩
  | 118 => ⟨S8x2048x256, .f32⟩
  | 119 => ⟨S8x2048x256, .f32⟩
  | 120 => ⟨S8x2048x256, .f32⟩
  | 121 => ⟨S8x2048x256, .f32⟩
  | 122 => ⟨S8x2048x256, .f32⟩
  | 123 => ⟨S_, .i32⟩
  | 124 => ⟨S2048, .i32⟩
  | 125 => ⟨S2048, .i32⟩
  | 126 => ⟨S_, .i32⟩
  | 127 => ⟨S2048, .i32⟩
  | _ => ⟨S8x2048x1024, .f32⟩

abbrev hbmTy0_1 (i : Nat) : BufTy := match i % 128 with
  | 0 => ⟨S2048, .i32⟩
  | 1 => ⟨S2048, .f32⟩
  | 2 => ⟨S1x2048x1, .f32⟩
  | 3 => ⟨S8x2048x256, .f32⟩
  | 4 => ⟨S8x2048x256, .f32⟩
  | 5 => ⟨S8x2048x1x256, .f32⟩
  | 6 => ⟨S8x2048x1x256, .f32⟩
  | 7 => ⟨S8x2048x1x256, .f32⟩
  | 8 => ⟨S8x2048x1x256, .f32⟩
  | 9 => ⟨S8x2048x4x256, .f32⟩
  | 10 => ⟨S8x2048x4x256, .f32⟩
  | 11 => ⟨S8x2048x4x256, .f32⟩
  | 12 => ⟨S4x256x8x2048, .f32⟩
  | 13 => ⟨S8x2048x4x256, .f32⟩
  | 14 => ⟨S8x2048x1024, .f32⟩
  | 15 => ⟨S1x1x1024, .f32⟩
  | 16 => ⟨S8x2048x1024, .f32⟩
  | 17 => ⟨S8x2048x1024, .f32⟩
  | 18 => ⟨S8x15x1024, .f32⟩
  | 19 => ⟨S1x1024, .f32⟩
  | 20 => ⟨S1024, .f32⟩
  | 21 => ⟨S8x2048x1024, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S_, .f32⟩
  | 29 => ⟨S8x2048x1, .f32⟩
  | 30 => ⟨S8x2048x1, .f32⟩
  | 31 => ⟨S8x2048x1, .f32⟩
  | 32 => ⟨S8x2048x1024, .f32⟩
  | 33 => ⟨S8x2048x1024, .f32⟩
  | 34 => ⟨S1x1x1024, .f32⟩
  | 35 => ⟨S8x2048x1024, .f32⟩
  | 36 => ⟨S8x2048x1024, .f32⟩
  | 37 => ⟨S8x2048x1024, .f32⟩
  | 38 => ⟨S1x1024, .f32⟩
  | 39 => ⟨S1024, .f32⟩
  | 40 => ⟨S8x2048x1024, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S_, .f32⟩
  | 48 => ⟨S8x2048x1, .f32⟩
  | 49 => ⟨S8x2048x1, .f32⟩
  | 50 => ⟨S8x2048x1, .f32⟩
  | 51 => ⟨S8x2048x1024, .f32⟩
  | 52 => ⟨S8x2048x1024, .f32⟩
  | 53 => ⟨S1x1x1024, .f32⟩
  | 54 => ⟨S8x2048x1024, .f32⟩
  | 55 => ⟨S8x2048x1024, .f32⟩
  | 56 => ⟨S1x1024x2816, .f32⟩
  | 57 => ⟨S1024x2816, .f32⟩
  | 58 => ⟨S1x1024x2816, .f32⟩
  | 59 => ⟨S1024x2816, .f32⟩
  | 60 => ⟨S1x2816x1024, .f32⟩
  | 61 => ⟨S2816x1024, .f32⟩
  | 62 => ⟨S8x2048x2816, .f32⟩
  | 63 => ⟨S8x2048x2816, .f32⟩
  | 64 => ⟨S8x2048x2816, .f32⟩
  | 65 => ⟨S_, .f32⟩
  | 66 => ⟨S8x2048x2816, .f32⟩
  | 67 => ⟨S8x2048x2816, .f32⟩
  | 68 => ⟨S_, .f32⟩
  | 69 => ⟨S8x2048x2816, .f32⟩
  | 70 => ⟨S8x2048x2816, .f32⟩
  | 71 => ⟨S8x2048x2816, .f32⟩
  | 72 => ⟨S8x2048x2816, .f32⟩
  | 73 => ⟨S8x2048x2816, .f32⟩
  | 74 => ⟨S8x2048x1024, .f32⟩
  | 75 => ⟨S1x1024, .f32⟩
  | 76 => ⟨S1024, .f32⟩
  | 77 => ⟨S8x2048x1024, .f32⟩
  | 78 => ⟨S_, .f32⟩
  | 79 => ⟨S8x2048, .f32⟩
  | 80 => ⟨S8x2048x1, .f32⟩
  | 81 => ⟨S_, .f32⟩
  | 82 => ⟨S8x2048x1, .f32⟩
  | 83 => ⟨S8x2048x1, .f32⟩
  | 84 => ⟨S_, .f32⟩
  | 85 => ⟨S8x2048x1, .f32⟩
  | 86 => ⟨S8x2048x1, .f32⟩
  | 87 => ⟨S8x2048x1, .f32⟩
  | 88 => ⟨S8x2048x1024, .f32⟩
  | 89 => ⟨S8x2048x1024, .f32⟩
  | 90 => ⟨S1x1x1024, .f32⟩
  | 91 => ⟨S8x2048x1024, .f32⟩
  | 92 => ⟨S8x2048x1024, .f32⟩
  | 93 => ⟨S8x2048x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_5 : Ref sig .tc := ⟨.hbm, 57, rfl⟩
abbrev main_v40 : Ref sig .tc := ⟨.hbm, 58, rfl⟩
abbrev main_v41 : Ref sig .tc := ⟨.hbm, 59, rfl⟩
abbrev main_c_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_c_7 : Ref sig .tc := ⟨.hbm, 82, rfl⟩
abbrev main_v63 : Ref sig .tc := ⟨.hbm, 83, rfl⟩
abbrev main_v64 : Ref sig .tc := ⟨.hbm, 84, rfl⟩
abbrev main_c_8 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_c_9 : Ref sig .tc := ⟨.hbm, 123, rfl⟩
abbrev main_v102 : Ref sig .tc := ⟨.hbm, 124, rfl⟩
abbrev main_v103 : Ref sig .tc := ⟨.hbm, 125, rfl⟩
abbrev main_c_10 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_cst_11 : Ref sig .tc := ⟨.hbm, 150, rfl⟩
abbrev main_v127 : Ref sig .tc := ⟨.hbm, 151, rfl⟩
abbrev main_v128 : Ref sig .tc := ⟨.hbm, 152, rfl⟩
abbrev main_cst_12 : Ref sig .tc := ⟨.hbm, 153, rfl⟩
abbrev main_v129 : Ref sig .tc := ⟨.hbm, 154, rfl⟩
abbrev main_v130 : Ref sig .tc := ⟨.hbm, 155, rfl⟩
abbrev main_cst_13 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_cst_14 : Ref sig .tc := ⟨.hbm, 169, rfl⟩
abbrev main_v143 : Ref sig .tc := ⟨.hbm, 170, rfl⟩
abbrev main_v144 : Ref sig .tc := ⟨.hbm, 171, rfl⟩
abbrev main_cst_15 : Ref sig .tc := ⟨.hbm, 172, rfl⟩
abbrev main_v145 : Ref sig .tc := ⟨.hbm, 173, rfl⟩
abbrev main_v146 : Ref sig .tc := ⟨.hbm, 174, rfl⟩
abbrev main_cst_16 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_call0_v0 : Ref sig .tc := ⟨.hbm, 191, rfl⟩
abbrev main_call0_v1 : Ref sig .tc := ⟨.hbm, 192, rfl⟩
abbrev main_call0_cst : Ref sig .tc := ⟨.hbm, 193, rfl⟩
abbrev main_call0_v2 : Ref sig .tc := ⟨.hbm, 194, rfl⟩
abbrev main_call0_v3 : Ref sig .tc := ⟨.hbm, 195, rfl⟩
abbrev main_call0_cst_0 : Ref sig .tc := ⟨.hbm, 196, rfl⟩
abbrev main_call0_v4 : Ref sig .tc := ⟨.hbm, 197, rfl⟩
abbrev main_call0_v5 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_cst_17 : Ref sig .tc := ⟨.hbm, 206, rfl⟩
abbrev main_v169 : Ref sig .tc := ⟨.hbm, 207, rfl⟩
abbrev main_v170 : Ref sig .tc := ⟨.hbm, 208, rfl⟩
abbrev main_cst_18 : Ref sig .tc := ⟨.hbm, 209, rfl⟩
abbrev main_v171 : Ref sig .tc := ⟨.hbm, 210, rfl⟩
abbrev main_v172 : Ref sig .tc := ⟨.hbm, 211, rfl⟩
abbrev main_cst_19 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩

abbrev nD : Nat := 1
abbrev τ : Topo := Topo.v7x

variable {F : FTy → Type} [FloatOps F]
-- ==== MixerS.lean ====
abbrev S32x4x1024 : Shape := ⟨3, ![32, 4, 1024]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S2x1024 : Shape := ⟨2, ![2, 1024]⟩
abbrev S32x15x1024 : Shape := ⟨3, ![32, 15, 1024]⟩
abbrev S4x256x256 : Shape := ⟨3, ![4, 256, 256]⟩
abbrev S1024 : Shape := ⟨1, ![1024]⟩
abbrev S8x4x1024 : Shape := ⟨3, ![8, 4, 1024]⟩
abbrev S8x15x1024 : Shape := ⟨3, ![8, 15, 1024]⟩
abbrev S8x20x1024 : Shape := ⟨3, ![8, 20, 1024]⟩
abbrev S4x1 : Shape := ⟨2, ![4, 1]⟩
abbrev S1x20x1024 : Shape := ⟨3, ![1, 20, 1024]⟩
abbrev S20x1024 : Shape := ⟨2, ![20, 1024]⟩
abbrev S1x15x1024 : Shape := ⟨3, ![1, 15, 1024]⟩
abbrev S15x1024 : Shape := ⟨2, ![15, 1024]⟩
abbrev S1x4x1024 : Shape := ⟨3, ![1, 4, 1024]⟩
abbrev S4x1024 : Shape := ⟨2, ![4, 1024]⟩
abbrev S4 : Shape := ⟨1, ![4]⟩
abbrev S4x256 : Shape := ⟨2, ![4, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 19
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S1x32x15x1024, .f32⟩
  | .hbm, ⟨2, _⟩ => ⟨S1x4x256x256, .f32⟩
  | .hbm, ⟨3, _⟩ => ⟨S1x1024, .f32⟩
  | .hbm, ⟨4, _⟩ => ⟨S2x1024, .f32⟩
  | .hbm, ⟨5, _⟩ => ⟨S2x1024, .f32⟩
  | .hbm, ⟨6, _⟩ => ⟨S32x15x1024, .f32⟩
  | .hbm, ⟨7, _⟩ => ⟨S4x256x256, .f32⟩
  | .hbm, ⟨8, _⟩ => ⟨S4x256x256, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S32x4x1024, .f32⟩
  | .hbm, ⟨18, _⟩ => ⟨S32x15x1024, .f32⟩
  | .local _ .vmem, ⟨0, _⟩ => ⟨S8x4x1024, .f32⟩
  | .local _ .vmem, ⟨1, _⟩ => ⟨S8x4x1024, .f32⟩
  | .local _ .vmem, ⟨2, _⟩ => ⟨S8x15x1024, .f32⟩
  | .local _ .vmem, ⟨3, _⟩ => ⟨S8x15x1024, .f32⟩
  | .local _ .vmem, ⟨4, _⟩ => ⟨S4x256x256, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S8x4x1024, .f32⟩
  | .local _ .vmem, ⟨9, _⟩ => ⟨S8x4x1024, .f32⟩
  | .local _ .vmem, ⟨10, _⟩ => ⟨S8x15x1024, .f32⟩
  | .local _ .vmem, ⟨11, _⟩ => ⟨S8x15x1024, .f32⟩
  | .local _ .vmem, ⟨12, _⟩ => ⟨S8x20x1024, .f32⟩
  | .local _ .vmem, ⟨13, _⟩ => ⟨S8x4x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let v_true : BitVec 1 := 1#1
  let arg1 : BitVec 32 := BitVec.ofNat 32 (i 1).val
  let c0_i32_193 : BitVec 32 := 0#32
  let v252 : BitVec 1 := Scalar.cmpi .eq arg1 c0_i32_193
  let v253 : BitVec 1 := Scalar.andi v_true v252
  let v254 : BitVec 32 := Scalar.extui v253
  let c0_i32_195 : BitVec 32 := 0#32
  let v255 : BitVec 1 := Scalar.cmpi .ne v254 c0_i32_195
  v255

def k0_cond4 (i : grid0.Coords) : BitVec 1 :=
  let true_416 : BitVec 1 := 1#1
  let arg1 : BitVec 32 := BitVec.ofNat 32 (i 1).val
  let c0_i32_415 : BitVec 32 := 0#32
  let v503 : BitVec 1 := Scalar.cmpi .eq arg1 c0_i32_415
  let v504 : BitVec 1 := Scalar.andi true_416 v503
  let v505 : BitVec 32 := Scalar.extui v504
  let c0_i32_418 : BitVec 32 := 0#32
  let v506 : BitVec 1 := Scalar.cmpi .ne v505 c0_i32_418
  v506

def k0_cond6 (i : grid0.Coords) : BitVec 1 :=
  let true_639 : BitVec 1 := 1#1
  let arg1 : BitVec 32 := BitVec.ofNat 32 (i 1).val
  let c0_i32_638 : BitVec 32 := 0#32
  let v754 : BitVec 1 := Scalar.cmpi .eq arg1 c0_i32_638
  let v755 : BitVec 1 := Scalar.andi true_639 v754
  let v756 : BitVec 32 := Scalar.extui v755
  let c0_i32_641 : BitVec 32 := 0#32
  let v757 : BitVec 1 := Scalar.cmpi .ne v756 c0_i32_641
  v757

def k0_cond8 (i : grid0.Coords) : BitVec 1 :=
  let true_861 : BitVec 1 := 1#1
  let arg1 : BitVec 32 := BitVec.ofNat 32 (i 1).val
  let c0_i32_860 : BitVec 32 := 0#32
  let v1005 : BitVec 1 := Scalar.cmpi .eq arg1 c0_i32_860
  let v1006 : BitVec 1 := Scalar.andi true_861 v1005
  let v1007 : BitVec 32 := Scalar.extui v1006
  let c0_i32_863 : BitVec 32 := 0#32
  let v1008 : BitVec 1 := Scalar.cmpi .ne v1007 c0_i32_863
  v1008

def k0_cond10 (i : grid0.Coords) : BitVec 1 :=
  let true_1084 : BitVec 1 := 1#1
  let arg1 : BitVec 32 := BitVec.ofNat 32 (i 1).val
  let c0_i32_1083 : BitVec 32 := 0#32
  let v1256 : BitVec 1 := Scalar.cmpi .eq arg1 c0_i32_1083
  let v1257 : BitVec 1 := Scalar.andi true_1084 v1256
  let v1258 : BitVec 32 := Scalar.extui v1257
  let c0_i32_1086 : BitVec 32 := 0#32
  let v1259 : BitVec 1 := Scalar.cmpi .ne v1258 c0_i32_1086
  v1259

def k0_cond12 (i : grid0.Coords) : BitVec 1 :=
  let true_1306 : BitVec 1 := 1#1
  let arg1 : BitVec 32 := BitVec.ofNat 32 (i 1).val
  let c0_i32_1305 : BitVec 32 := 0#32
  let v1507 : BitVec 1 := Scalar.cmpi .eq arg1 c0_i32_1305
  let v1508 : BitVec 1 := Scalar.andi true_1306 v1507
  let v1509 : BitVec 32 := Scalar.extui v1508
  let c0_i32_1308 : BitVec 32 := 0#32
  let v1510 : BitVec 1 := Scalar.cmpi .ne v1509 c0_i32_1308
  v1510

def k0_cond14 (i : grid0.Coords) : BitVec 1 :=
  let true_1528 : BitVec 1 := 1#1
  let arg1 : BitVec 32 := BitVec.ofNat 32 (i 1).val
  let c0_i32_1527 : BitVec 32 := 0#32
  let v1758 : BitVec 1 := Scalar.cmpi .eq arg1 c0_i32_1527
  let v1759 : BitVec 1 := Scalar.andi true_1528 v1758
  let v1760 : BitVec 32 := Scalar.extui v1759
  let c0_i32_1530 : BitVec 32 := 0#32
  let v1761 : BitVec 1 := Scalar.cmpi .ne v1760 c0_i32_1530
  v1761

def k0_cond16 (i : grid0.Coords) : BitVec 1 :=
  let true_1750 : BitVec 1 := 1#1
  let arg1 : BitVec 32 := BitVec.ofNat 32 (i 1).val
  let c0_i32_1749 : BitVec 32 := 0#32
  let v2009 : BitVec 1 := Scalar.cmpi .eq arg1 c0_i32_1749
  let v2010 : BitVec 1 := Scalar.andi true_1750 v2009
  let v2011 : BitVec 32 := Scalar.extui v2010
  let c0_i32_1752 : BitVec 32 := 0#32
  let v2012 : BitVec 1 := Scalar.cmpi .ne v2011 c0_i32_1752
  v2012

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x15x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S8x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x15x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixerSRefIdeal.lean ====
abbrev S32x4x1024 : Shape := ⟨3, ![32, 4, 1024]⟩
abbrev S1x32x15x1024 : Shape := ⟨4, ![1, 32, 15, 1024]⟩
abbrev S1x4x256x256 : Shape := ⟨4, ![1, 4, 256, 256]⟩
abbrev S1x1024 : Shape := ⟨2, ![1, 1024]⟩
abbrev S2x1024 : Shape := ⟨2, ![2, 1024]⟩
abbrev S32x15x1024 : Shape := ⟨3, ![32, 15, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x19x1024 : Shape := ⟨3, ![32, 19, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1x32x15x1024, .f32⟩
  | .hbm, ⟨2, _⟩ => ⟨S1x4x256x256, .f32⟩
  | .hbm, ⟨3, _⟩ => ⟨S1x1024, .f32⟩
  | .hbm, ⟨4, _⟩ => ⟨S2x1024, .f32⟩
  | .hbm, ⟨5, _⟩ => ⟨S2x1024, .f32⟩
  | .hbm, ⟨6, _⟩ => ⟨S32x15x1024, .f32⟩
  | .hbm, ⟨7, _⟩ => ⟨S1x1024, .f32⟩
  | .hbm, ⟨8, _⟩ => ⟨S1024, .f32⟩
  | .hbm, ⟨9, _⟩ => ⟨S32x4x1024, .f32⟩
  | .hbm, ⟨10, _⟩ => ⟨S_, .f32⟩
  | .hbm, ⟨11, _⟩ => ⟨S32x4, .f32⟩
  | .hbm, ⟨12, _⟩ => ⟨S32x4x1, .f32⟩
  | .hbm, ⟨13, _⟩ => ⟨S_, .f32⟩
  | .hbm, ⟨14, _⟩ => ⟨S32x4x1, .f32⟩
  | .hbm, ⟨15, _⟩ => ⟨S32x4x1, .f32⟩
  | .hbm, ⟨16, _⟩ => ⟨S_, .f32⟩
  | .hbm, ⟨17, _⟩ => ⟨S32x4x1, .f32⟩
  | .hbm, ⟨18, _⟩ => ⟨S32x4x1, .f32⟩
  | .hbm, ⟨19, _⟩ => ⟨S32x4x1, .f32⟩
  | .hbm, ⟨20, _⟩ => ⟨S32x4x1024, .f32⟩
  | .hbm, ⟨21, _⟩ => ⟨S32x4x1024, .f32⟩
  | .hbm, ⟨22, _⟩ => ⟨S1x1x1024, .f32⟩
  | .hbm, ⟨23, _⟩ => ⟨S32x4x1024, .f32⟩
  | .hbm, ⟨24, _⟩ => ⟨S32x4x1024, .f32⟩
  | .hbm, ⟨25, _⟩ => ⟨S32x19x1024, .f32⟩
  | .hbm, ⟨26, _⟩ => ⟨S32x15x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.RowMath.lean ====
/-
  The mathematics of one row of the layer, over the extended reals: the root-mean-square norm and the gated feed-forward
  block. Both the kernel's blocks and the reference's arrays are read as these functions of their rows.
-/
module

public import Idealize.ShloMosaic.Lib.Pointwise
public import Idealize.ShloMosaic.Lib.Pipeline.Value

@[expose] public section

noncomputable section

namespace Cert.Rows

open Idealize.ShloMosaic

/-- The reciprocal root of the mean square of a row of 1024 entries. -/
def rms (y : Fin 1024 → EReal) : EReal :=
  Ideal.rsqrt (Ideal.div (∑ k, y k * y k) (Ideal.ofBits .f32 0x44800000#32) + Ideal.ofBits .f32 0x358637BD#32)

/-- A row scaled by its reciprocal root mean square and by a gain per column. -/
def rmsn (y g : Fin 1024 → EReal) (c : Fin 1024) : EReal := y c * rms y * g c

/-- A row times a matrix, one column. -/
def dot {n p : ℕ} (h : Fin n → EReal) (w : Fin n → Fin p → EReal) (j : Fin p) : EReal := ∑ k, h k * w k j

/-- The gated activation of one column: the gate's product times its logistic, times the other product. -/
def act (h : Fin 1024 → EReal) (wg wu : Fin 1024 → Fin 2816 → EReal) (j : Fin 2816) : EReal :=
  dot h wg j * Ideal.logistic (dot h wg j) * dot h wu j

/-- The feed-forward block of one row, with its norms and its residual. -/
def ffn (x gpre gpost : Fin 1024 → EReal) (wg wu : Fin 1024 → Fin 2816 → EReal) (wd : Fin 2816 → Fin 1024 → EReal)
    (c : Fin 1024) : EReal :=
  x c + rmsn (dot (act (rmsn x gpre) wg wu) wd) gpost c

/-- A residual row plus the normed product of another row with a square matrix. -/
def outproj (x o : Fin 1024 → EReal) (w : Fin 1024 → Fin 1024 → EReal) (g : Fin 1024 → EReal) (c : Fin 1024) : EReal :=
  x c + rmsn (dot o w) g c

/-- One projection of a normed row. -/
def proj (x g : Fin 1024 → EReal) (w : Fin 1024 → Fin 1024 → EReal) (j : Fin 1024) : EReal := dot (rmsn x g) w j

/-- The query of a row: its projection times the scale of the logits and times a second factor. -/
def query (x g : Fin 1024 → EReal) (w : Fin 1024 → Fin 1024 → EReal) (e : EReal) (j : Fin 1024) : EReal :=
  dot (rmsn x g) w j * Ideal.ofBits .f32 0x3E000000#32 * e

/-- Two stores of 1408 columns each, over a buffer of 2816: what the buffer holds at one index. -/
theorem canon_halves {n : ℕ} {e : EltTy} (p q : (⟨2, ![n, 1408]⟩ : Shape).Idx → Elt Ideal e)
    (h0 : ∀ a, (![0, 0] : Fin 2 → ℕ) a + (⟨2, ![n, 1408]⟩ : Shape).size a ≤ (⟨2, ![n, 2816]⟩ : Shape).size a)
    (h1 : ∀ a, (![0, 1408] : Fin 2 → ℕ) a + (⟨2, ![n, 1408]⟩ : Shape).size a ≤ (⟨2, ![n, 2816]⟩ : Shape).size a)
    (r : Fin n) (j : Fin 2816) :
    View.canon [(⟨Rect.unit (s := ⟨2, ![n, 2816]⟩) ![0, 1408] (⟨2, ![n, 1408]⟩ : Shape).size h1, q⟩ : View.Piece (Elt Ideal) _ e),
        ⟨Rect.unit (s := ⟨2, ![n, 2816]⟩) ![0, 0] (⟨2, ![n, 1408]⟩ : Shape).size h0, p⟩] (ix2 r j)
      = if h : j.val < 1408 then p (ix2 r ⟨j.val, h⟩) else q (ix2 r ⟨j.val - 1408, by omega⟩) := by
  split
  · rename_i h
    rw [View.canon_cons_of_not_mem _ _ (by
      show _ ∉ (Rect.unit (s := ⟨2, ![n, 2816]⟩) ![0, 1408] (⟨2, ![n, 1408]⟩ : Shape).size h1).set
      rw [Rect.mem_set_unit]
      intro hm
      have := (hm 1).1
      change 1408 ≤ j.val at this
      omega)]
    have e : (ix2 r j : (⟨2, ![n, 2816]⟩ : Shape).Idx)
        = (Rect.unit (s := ⟨2, ![n, 2816]⟩) ![0, 0] (⟨2, ![n, 1408]⟩ : Shape).size h0).emb (ix2 r ⟨j.val, h⟩) := by
      funext a
      apply Fin.ext
      match a with
      | ⟨0, _⟩ => show r.val = 0 + 1 * r.val; omega
      | ⟨1, _⟩ => show j.val = 0 + 1 * j.val; omega
    rw [e, View.canon_cons_emb]
  · rename_i h
    have e : (ix2 r j : (⟨2, ![n, 2816]⟩ : Shape).Idx)
        = (Rect.unit (s := ⟨2, ![n, 2816]⟩) ![0, 1408] (⟨2, ![n, 1408]⟩ : Shape).size h1).emb (ix2 r ⟨j.val - 1408, by omega⟩) := by
      funext a
      apply Fin.ext
      match a with
      | ⟨0, _⟩ => show r.val = 0 + 1 * r.val; omega
      | ⟨1, _⟩ => show j.val = 1408 + 1 * (j.val - 1408); omega
    rw [e, View.canon_cons_emb]

end Cert.Rows

end
-- ==== Proof.TailBlock.lean ====
/-
  One grid point of the layer's last call, element by element over the extended reals: the block its store leaves is the
  feed-forward block (RowMath.lean) of the row's attention residual.
-/
module

public import proofs.«01_k».proof.Proof.RowMath
public import proofs.«01_k».proof.Proof.Gen.TailIdeal.Skeleton

@[expose] public section

set_option maxRecDepth 16384

noncomputable section

namespace Cert.TailBlock
open Idealize.ShloMosaic Idealize.SL.Sem Cert.TailIdeal Cert.TailIdeal.Gen Idealize.ShloMosaic.TcCoe Cert.Rows
open Idealize.ShloMosaic.Pipeline (Dat Cfg Window)

/-- The first residual of a block row: the row plus its normed attention projection. -/
theorem pay2_apply (v0 : Vec Ideal S512x1024 .f32) (v1 : Vec Ideal S512x1024 .bf16) (v2 : Vec Ideal S1024x1024 .bf16)
    (v5 : Vec Ideal S1x1024 .f32) (r : Fin 512) (c : Fin 1024) :
    k0_pay2 v0 v1 v2 v5 (ix2 r c)
      = outproj (fun k => v0 (ix2 r k)) (fun k => v1 (ix2 r k)) (fun k j => v2 (ix2 k j)) (fun k => v5 (ix2 0 k)) c := by
  pointwise [k0_pay2, dot_S512x1024_S1024x1024_S512x1024_1_0_0_1_n_n]
  rfl

/-- The normed row the feed-forward block reads. -/
theorem pay3_apply (v0 : Vec Ideal S512x1024 .f32) (v1 : Vec Ideal S512x1024 .bf16) (v2 : Vec Ideal S1024x1024 .bf16)
    (v5 v20 : Vec Ideal S1x1024 .f32) (r : Fin 512) (c : Fin 1024) :
    k0_pay3 v0 v1 v2 v5 v20 (ix2 r c) = rmsn (fun k => k0_pay2 v0 v1 v2 v5 (ix2 r k)) (fun k => v20 (ix2 0 k)) c := by
  unfold k0_pay3
  generalize k0_pay2 v0 v1 v2 v5 = y
  pointwise
  rfl

/-- The gate's product, left half. -/
theorem pay4_apply (v0 : Vec Ideal S512x1024 .f32) (v1 : Vec Ideal S512x1024 .bf16) (v2 : Vec Ideal S1024x1024 .bf16)
    (v5 v20 : Vec Ideal S1x1024 .f32) (v35 : Vec Ideal S1x1024x1408 .bf16) (r : Fin 512) (j : Fin 1408) :
    k0_pay4 v0 v1 v2 v5 v20 v35 (ix2 r j) = dot (fun k => k0_pay3 v0 v1 v2 v5 v20 (ix2 r k)) (fun k j => v35 (ix3 0 k j)) j := by
  unfold k0_pay4
  generalize k0_pay3 v0 v1 v2 v5 v20 = y
  pointwise [dot_S512x1024_S1024x1408_S512x1408_1_0_0_1_n_n]
  rfl

/-- The gated activations, left half. -/
theorem pay5_apply (v34 : FVec Ideal S512x1024 .bf16) (v37 : FVec Ideal S512x1408 .f32) (v38 : Vec Ideal S1x1024x1408 .bf16) (r : Fin 512) (j : Fin 1408) :
   k0_pay5 v34 v37 v38 (ix2 r j) = v37 (ix2 r j) * Ideal.logistic (v37 (ix2 r j)) * dot (fun k => v34 (ix2 r k)) (fun k j => v38 (ix3 0 k j)) j := by
  pointwise [k0_pay5, dot_S512x1024_S1024x1408_S512x1408_1_0_0_1_n_n]
  rfl

/-- The gated activations, right half. -/
theorem pay6_apply (v34 : FVec Ideal S512x1024 .bf16) (v48 v51 : Vec Ideal S1x1024x1408 .bf16) (r : Fin 512) (j : Fin 1408) :
   k0_pay6 v34 v48 v51 (ix2 r j) = dot (fun k => v34 (ix2 r k)) (fun k j => v48 (ix3 0 k j)) j * Ideal.logistic (dot (fun k => v34 (ix2 r k)) (fun k j => v48 (ix3 0 k j)) j) * dot (fun k => v34 (ix2 r k)) (fun k j => v51 (ix3 0 k j)) j := by
  pointwise [k0_pay6, dot_S512x1024_S1024x1408_S512x1408_1_0_0_1_n_n]
  rfl

/-- The down projection of the kept activations. -/
theorem pay7_apply (v61 : Vec Ideal S512x2816 .bf16) (v62 : Vec Ideal S1x2816x1024 .bf16) (r : Fin 512) (c : Fin 1024) :
    k0_pay7 v61 v62 (ix2 r c) = dot (fun j => v61 (ix2 r j)) (fun j c => v62 (ix3 0 j c)) c := by
  pointwise [k0_pay7, dot_S512x2816_S2816x1024_S512x1024_1_0_0_1_n_n]
  rfl

/-- What the block's store leaves at one index, from the row it adds to and the product it norms. -/
theorem pay1_apply (v19 : FVec Ideal S512x1024 .f32) (v61 : Vec Ideal S512x2816 .bf16) (v62 : Vec Ideal S1x2816x1024 .bf16)
    (v65 : Vec Ideal S1x1024 .f32) (r : Fin 512) (c : Fin 1024) :
    k0_pay1 v19 (k0_pay7 v61 v62) (k0_pay8 v65) (k0_pay9 v61 v62) (FloatOps.ofBits FTy.f32 1149239296#32) (ix2 r c)
      = v19 (ix2 r c) + rmsn (fun k => k0_pay7 v61 v62 (ix2 r k)) (fun k => v65 (ix2 0 k)) c := by
  unfold k0_pay1 k0_pay8 k0_pay9
  generalize k0_pay7 v61 v62 = y
  pointwise
  rfl

/-- The activations the block keeps: the two stores of 1408 columns, read back whole. -/
def acts (h : FVec Ideal S512x1024 .bf16) (g0 : FVec Ideal S512x1408 .f32) (x6 x7 : Vec Ideal S1x1024x2816 .bf16) : Vec Ideal S512x2816 .bf16 :=
  (View.whole cc0_scratch0).readCov
    [⟨Rect.unit ![0, 1408] ![512, 1408] inb_S512x2816_S512x1408_0_1408,
        k0_pay6 h (View.ld x6 (Rect.unit ![0, 0, 1408] ![1, 1024, 1408] inb_S1x1024x2816_S1x1024x1408_0_0_1408))
          (View.ld x7 (Rect.unit ![0, 0, 1408] ![1, 1024, 1408] inb_S1x1024x2816_S1x1024x1408_0_0_1408))⟩,
      ⟨Rect.unit ![0, 0] ![512, 1408] inb_S512x2816_S512x1408_0_0,
        k0_pay5 h g0 (View.ld x7 (Rect.unit ![0, 0, 0] ![1, 1024, 1408] inb_S1x1024x2816_S1x1024x1408_0_0_0))⟩]
    (Rect.unit ![0, 0] ![512, 2816] inb_S512x2816_S512x2816_0_0).toLoadRect

/-- The left half of a matrix of 2816 columns. -/
def left (x : Vec Ideal S1x1024x2816 .bf16) : Vec Ideal S1x1024x1408 .bf16 :=
  fun i => x (ix3 0 (i 1) ⟨(i 2).val, (i 2).isLt.trans (by decide)⟩)

/-- The right half of a matrix of 2816 columns. -/
def right (x : Vec Ideal S1x1024x2816 .bf16) : Vec Ideal S1x1024x1408 .bf16 :=
  fun i => x (ix3 0 (i 1) ⟨(i 2).val + 1408, by have : (i 2).val < 1408 := (i 2).isLt; omega⟩)

/-- The load of columns 0 to 1407 is the left half. -/
theorem ld_left (x : Vec Ideal S1x1024x2816 .bf16) :
    View.ld x (Rect.unit ![0, 0, 0] ![1, 1024, 1408] inb_S1x1024x2816_S1x1024x1408_0_0_0) = left x := by
  funext i
  refine congrArg x (funext fun a => Fin.ext ?_)
  match a with
  | ⟨0, _⟩ => have h : (i 0).val < 1 := (i 0).isLt
              show 0 + 1 * (i 0).val = 0; omega
  | ⟨1, _⟩ => show 0 + 1 * (i 1).val = (i 1).val; omega
  | ⟨2, _⟩ => show 0 + 1 * (i 2).val = (i 2).val; omega

/-- The load of columns 1408 to 2815 is the right half. -/
theorem ld_right (x : Vec Ideal S1x1024x2816 .bf16) :
    View.ld x (Rect.unit ![0, 0, 1408] ![1, 1024, 1408] inb_S1x1024x2816_S1x1024x1408_0_0_1408) = right x := by
  funext i
  refine congrArg x (funext fun a => Fin.ext ?_)
  match a with
  | ⟨0, _⟩ => have h : (i 0).val < 1 := (i 0).isLt
              show 0 + 1 * (i 0).val = 0; omega
  | ⟨1, _⟩ => show 0 + 1 * (i 1).val = (i 1).val; omega
  | ⟨2, _⟩ => show 1408 + 1 * (i 2).val = (i 2).val + 1408; omega

/-- Each kept activation is the gated activation of its column. -/
theorem acts_apply (h : FVec Ideal S512x1024 .bf16) (g0 : FVec Ideal S512x1408 .f32) (x6 x7 : Vec Ideal S1x1024x2816 .bf16)
    (r : Fin 512)
    (hg : ∀ j : Fin 1408, g0 (ix2 r j) = dot (fun k => h (ix2 r k)) (fun k (j : Fin 2816) => x6 (ix3 0 k j)) ⟨j.val, by omega⟩)
    (j : Fin 2816) :
    acts h g0 x6 x7 (ix2 r j)
      = act (fun k => h (ix2 r k)) (fun k j => x6 (ix3 0 k j)) (fun k j => x7 (ix3 0 k j)) j := by
  have e : (Rect.unit (s := S512x2816) ![0, 0] ![512, 2816] inb_S512x2816_S512x2816_0_0).toLoadRect.idx (ix2 r j) = (ix2 r j : S512x2816.Idx) := by
    funext a
    apply Fin.ext
    match a with
    | ⟨0, _⟩ => show 0 + 1 * r.val = r.val; omega
    | ⟨1, _⟩ => show 0 + 1 * j.val = j.val; omega
  unfold acts
  rw [View.readCov_eq_canon']
  dsimp only
  rw [e]
  refine (canon_halves (n := 512) (e := .bf16) _ _ _ _ r j).trans ?_
  split
  · rename_i hj
    rw [pay5_apply, hg, ld_left]
    rfl
  · rename_i hj
    rw [pay6_apply, ld_right, ld_right]
    have ej : (⟨j.val - 1408 + 1408, by omega⟩ : Fin 2816) = j := Fin.ext (by show j.val - 1408 + 1408 = j.val; omega)
    exact congrArg (act (fun k => h (ix2 r k)) (fun k j => x6 (ix3 0 k j)) (fun k j => x7 (ix3 0 k j))) ej

/-- One element of what the block's store leaves, from the normed row the feed-forward block reads. -/
theorem store_apply (v19 : FVec Ideal S512x1024 .f32) (h : FVec Ideal S512x1024 .bf16) (g0 : FVec Ideal S512x1408 .f32)
    (x5 : Vec Ideal S1x1024 .f32) (x6 x7 : Vec Ideal S1x1024x2816 .bf16) (x8 : Vec Ideal S1x2816x1024 .bf16) (r : Fin 512)
    (hg : ∀ j : Fin 1408, g0 (ix2 r j) = dot (fun k => h (ix2 r k)) (fun k (j : Fin 2816) => x6 (ix3 0 k j)) ⟨j.val, by omega⟩)
    (c : Fin 1024) :
    k0_pay1 v19 (k0_pay7 (acts h g0 x6 x7) x8) (k0_pay8 x5) (k0_pay9 (acts h g0 x6 x7) x8) (FloatOps.ofBits FTy.f32 1149239296#32) (ix2 r c)
      = v19 (ix2 r c) + rmsn (dot (act (fun k => h (ix2 r k)) (fun k j => x6 (ix3 0 k j)) (fun k j => x7 (ix3 0 k j)))
          (fun k j => x8 (ix3 0 k j))) (fun k => x5 (ix2 0 k)) c := by
  have e := fun k => pay7_apply (acts h g0 x6 x7) x8 r k
  have e' := fun j => acts_apply h g0 x6 x7 r hg j
  rw [pay1_apply]
  simp only [e, e']

/-- One element of what the block's store leaves: the feed-forward block of the row's first residual. -/
theorem block_apply (x0 : Vec Ideal S512x1024 .f32) (x1 : Vec Ideal S512x1024 .bf16) (x2 : Vec Ideal S1024x1024 .bf16)
    (x3 x4 x5 : Vec Ideal S1x1024 .f32) (x6 x7 : Vec Ideal S1x1024x2816 .bf16) (x8 : Vec Ideal S1x2816x1024 .bf16)
    (r : Fin 512) (c : Fin 1024) :
    k0_pay1 (k0_pay2 x0 x1 x2 x3)
        (k0_pay7 (acts (k0_pay3 x0 x1 x2 x3 x4) (k0_pay4 x0 x1 x2 x3 x4 (View.ld x6 (Rect.unit ![0, 0, 0] ![1, 1024, 1408] inb_S1x1024x2816_S1x1024x1408_0_0_0))) x6 x7) x8)
        (k0_pay8 x5)
        (k0_pay9 (acts (k0_pay3 x0 x1 x2 x3 x4) (k0_pay4 x0 x1 x2 x3 x4 (View.ld x6 (Rect.unit ![0, 0, 0] ![1, 1024, 1408] inb_S1x1024x2816_S1x1024x1408_0_0_0))) x6 x7) x8)
        (FloatOps.ofBits FTy.f32 1149239296#32) (ix2 r c)
      = ffn (outproj (fun k => x0 (ix2 r k)) (fun k => x1 (ix2 r k)) (fun k j => x2 (ix2 k j)) (fun k => x3 (ix2 0 k)))
          (fun k => x4 (ix2 0 k)) (fun k => x5 (ix2 0 k)) (fun k j => x6 (ix3 0 k j)) (fun k j => x7 (ix3 0 k j))
          (fun k j => x8 (ix3 0 k j)) c := by
  have e2 := fun k => pay2_apply x0 x1 x2 x3 r k
  have e3 := fun k => pay3_apply x0 x1 x2 x3 x4 r k
  rw [store_apply _ _ _ _ _ _ _ r (fun j => by rw [pay4_apply, ld_left]; rfl) c]
  simp only [e2, e3]
  rfl

end Cert.TailBlock

end
-- ==== Proof.TailValue.lean ====
/-
  The result array of the layer's last call after its run, element by element over the extended reals: each row is the
  feed-forward block (RowMath.lean) of the row's attention residual, with the weights as launched.
-/
module

public import proofs.«01_k».proof.Proof.TailBlock
public import proofs.«01_k».proof.Proof.Gen.TailIdeal.Value

@[expose] public section

set_option maxRecDepth 16384

noncomputable section

namespace Cert.TailValue

open Idealize.ShloMosaic Idealize.SL.Sem Cert.TailIdeal Cert.TailIdeal.Gen Idealize.ShloMosaic.TcCoe Cert.Rows Cert.TailBlock
open Idealize.ShloMosaic.Pipeline (Dat Cfg Window)

variable (m : (ℓ : Loc nD τ sig) → Buf (Elt Ideal) ℓ) (ρ : Dev nD → PrngReg)

/-- A zero offset of two axes. -/
theorem hz : (![0, 0] : Fin 2 → Nat) = fun _ => 0 := funext fun a => by fin_cases a <;> rfl
/-- A zero offset of three axes. -/
theorem hz3 : (![0, 0, 0] : Fin 3 → Nat) = fun _ => 0 := funext fun a => by fin_cases a <;> rfl

set_option maxHeartbeats 2000000 in
/-- What the output's staging buffer holds after point `t`, one element. -/
theorem outs_apply (c : Dev nD) (t : Fin cfg0.N) (r : Fin 512) (k : Fin 1024) :
    outsAt0 m c t (ix2 r k)
      = ffn (outproj (fun k => (iblk m c 0 t : Vec Ideal S512x1024 .f32) (ix2 r k))
            (fun k => (iblk m c 1 t : Vec Ideal S512x1024 .bf16) (ix2 r k))
            (fun k j => (iblk m c 2 t : Vec Ideal S1024x1024 .bf16) (ix2 k j))
            (fun k => (iblk m c 3 t : Vec Ideal S1x1024 .f32) (ix2 0 k)))
          (fun k => (iblk m c 4 t : Vec Ideal S1x1024 .f32) (ix2 0 k)) (fun k => (iblk m c 5 t : Vec Ideal S1x1024 .f32) (ix2 0 k))
          (fun k j => (iblk m c 6 t : Vec Ideal S1x1024x2816 .bf16) (ix3 0 k j))
          (fun k j => (iblk m c 7 t : Vec Ideal S1x1024x2816 .bf16) (ix3 0 k j))
          (fun k j => (iblk m c 8 t : Vec Ideal S1x2816x1024 .bf16) (ix3 0 k j)) k := by
  unfold outsAt0 out0_A_9
  rw [View.read_writes_eq_canon _ _ _ (cover0_A_9 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (S := S512x1024) hz]
  simp only [View.ld_unit_zero (S := S512x1024) hz, View.ld_unit_zero (S := S1024x1024) hz, View.ld_unit_zero (S := S1x1024) hz, View.ld_unit_zero (S := S1x2816x1024) hz3]
  exact block_apply _ _ _ _ _ _ _ _ _ r k

/-! ## The blocks as parts of the arguments -/

/-- The row of the array that block `t` holds as its row `r`. -/
def row (t : Fin cfg0.N) (r : Fin 512) : Fin 16384 :=
  ⟨t.val * 512 + r.val, by have : cfg0.N = 32 := N_0; have := t.isLt; omega⟩

/-- The second of two stacked gains, as a row. -/
theorem gain_apply (x : FVec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k)
      = x (ix2 1 k) := by
  pointwise

/-- The square matrix, rounded and with its leading axis dropped. -/
theorem square_apply (x : FVec Ideal S1x1024x1024 .f32) (k j : Fin 1024) :
    truncf .bf16 (shapeCast S1024x1024 x shapeCasts_S1x1024x1024_S1024x1024) bitsLt_bf16_f32 (ix2 k j) = x (ix3 0 k j) := by
  pointwise

/-- The square matrix the region finds. -/
theorem V_w_o (c : Dev nD) (k j : Fin 1024) :
    (V m c main_v4 : Vec Ideal S1024x1024 .bf16) (ix2 k j) = (m ((c : Thread nD τ).loc main_arg2) : FVec Ideal S1x1024x1024 .f32) (ix3 0 k j) := by
  have e : @Eq (FVec Ideal S1024x1024 .bf16) (V m c main_v4) (truncf .bf16 (shapeCast S1024x1024 (m ((c : Thread nD τ).loc main_arg2) : FVec Ideal S1x1024x1024 .f32) shapeCasts_S1x1024x1024_S1024x1024) bitsLt_bf16_f32) := by
    unfold V
    after_results <;> rfl
  rw [e]
  exact square_apply _ k j

/-- A gain row the region finds. -/
theorem V_gmix (c : Dev nD) (k : Fin 1024) :
    (V m c main_v13 : Vec Ideal S1x1024 .f32) (ix2 0 k) = (m ((c : Thread nD τ).loc main_arg3) : FVec Ideal S2x1024 .f32) (ix2 1 k) := by
  have e : @Eq (FVec Ideal S1x1024 .f32) (V m c main_v13) (shapeCast S1x1024 (shapeCast S1024 (extractStridedSlice S1x1024 ![1, 0] (m ((c : Thread nD τ).loc main_arg3) : FVec Ideal S2x1024 .f32) slices_S2x1024_S1x1024_1_0) shapeCasts_S1x1024_S1024) shapeCasts_S1024_S1x1024) := by
    unfold V
    after_results <;> rfl
  rw [e]
  exact gain_apply _ k

/-- A gain row the region finds. -/
theorem V_gpre (c : Dev nD) (k : Fin 1024) :
    (V m c main_v7 : Vec Ideal S1x1024 .f32) (ix2 0 k) = (m ((c : Thread nD τ).loc main_arg4) : FVec Ideal S2x1024 .f32) (ix2 1 k) := by
  have e : @Eq (FVec Ideal S1x1024 .f32) (V m c main_v7) (shapeCast S1x1024 (shapeCast S1024 (extractStridedSlice S1x1024 ![1, 0] (m ((c : Thread nD τ).loc main_arg4) : FVec Ideal S2x1024 .f32) slices_S2x1024_S1x1024_1_0) shapeCasts_S1x1024_S1024) shapeCasts_S1024_S1x1024) := by
    unfold V
    after_results <;> rfl
  rw [e]
  exact gain_apply _ k

/-- A gain row the region finds. -/
theorem V_gpost (c : Dev nD) (k : Fin 1024) :
    (V m c main_v10 : Vec Ideal S1x1024 .f32) (ix2 0 k) = (m ((c : Thread nD τ).loc main_arg5) : FVec Ideal S2x1024 .f32) (ix2 1 k) := by
  have e : @Eq (FVec Ideal S1x1024 .f32) (V m c main_v10) (shapeCast S1x1024 (shapeCast S1024 (extractStridedSlice S1x1024 ![1, 0] (m ((c : Thread nD τ).loc main_arg5) : FVec Ideal S2x1024 .f32) slices_S2x1024_S1x1024_1_0) shapeCasts_S1x1024_S1024) shapeCasts_S1024_S1x1024) := by
    unfold V
    after_results <;> rfl
  rw [e]
  exact gain_apply _ k

/-- A stacked weight the region finds, rounded. -/
theorem V_gate (c : Dev nD) (k : Fin 1024) (j : Fin 2816) :
    (V m c main_v0 : Vec Ideal S2x1024x2816 .bf16) (ix3 1 k j) = (m ((c : Thread nD τ).loc main_arg6) : FVec Ideal S2x1024x2816 .f32) (ix3 1 k j) := by
  have e : @Eq (FVec Ideal S2x1024x2816 .bf16) (V m c main_v0) (truncf .bf16 (m ((c : Thread nD τ).loc main_arg6) : FVec Ideal S2x1024x2816 .f32) bitsLt_bf16_f32) := by
    unfold V
    after_results <;> rfl
  rw [e]
  exact rfl

/-- A stacked weight the region finds, rounded. -/
theorem V_up (c : Dev nD) (k : Fin 1024) (j : Fin 2816) :
    (V m c main_v1 : Vec Ideal S2x1024x2816 .bf16) (ix3 1 k j) = (m ((c : Thread nD τ).loc main_arg7) : FVec Ideal S2x1024x2816 .f32) (ix3 1 k j) := by
  have e : @Eq (FVec Ideal S2x1024x2816 .bf16) (V m c main_v1) (truncf .bf16 (m ((c : Thread nD τ).loc main_arg7) : FVec Ideal S2x1024x2816 .f32) bitsLt_bf16_f32) := by
    unfold V
    after_results <;> rfl
  rw [e]
  exact rfl

/-- A stacked weight the region finds, rounded. -/
theorem V_down (c : Dev nD) (k : Fin 2816) (j : Fin 1024) :
    (V m c main_v2 : Vec Ideal S2x2816x1024 .bf16) (ix3 1 k j) = (m ((c : Thread nD τ).loc main_arg8) : FVec Ideal S2x2816x1024 .f32) (ix3 1 k j) := by
  have e : @Eq (FVec Ideal S2x2816x1024 .bf16) (V m c main_v2) (truncf .bf16 (m ((c : Thread nD τ).loc main_arg8) : FVec Ideal S2x2816x1024 .f32) bitsLt_bf16_f32) := by
    unfold V
    after_results <;> rfl
  rw [e]
  exact rfl

/-- The block index of window 0 at each grid point. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block index of window 1 at each grid point. -/
theorem index1 : ∀ t : Fin cfg0.N, win0_1.index t 0 = t.val ∧ win0_1.index t 1 = 0 :=
  (by decide +kernel : ∀ t : Fin grid0.N, win0_1.index t 0 = t.val ∧ win0_1.index t 1 = 0)

/-- The block index of window 2 at each grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The block index of window 3 at each grid point. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block index of window 4 at each grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block index of window 5 at each grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- The block index of window 6 at each grid point. -/
theorem index6 : ∀ t : Fin cfg0.N, win0_6.index t 0 = 1 ∧ win0_6.index t 1 = 0 ∧ win0_6.index t 2 = 0 :=
  (by decide +kernel : ∀ t : Fin grid0.N, win0_6.index t 0 = 1 ∧ win0_6.index t 1 = 0 ∧ win0_6.index t 2 = 0)

/-- The block index of window 7 at each grid point. -/
theorem index7 : ∀ t : Fin cfg0.N, win0_7.index t 0 = 1 ∧ win0_7.index t 1 = 0 ∧ win0_7.index t 2 = 0 :=
  (by decide +kernel : ∀ t : Fin grid0.N, win0_7.index t 0 = 1 ∧ win0_7.index t 1 = 0 ∧ win0_7.index t 2 = 0)

/-- The block index of window 8 at each grid point. -/
theorem index8 : ∀ t : Fin cfg0.N, win0_8.index t 0 = 1 ∧ win0_8.index t 1 = 0 ∧ win0_8.index t 2 = 0 :=
  (by decide +kernel : ∀ t : Fin grid0.N, win0_8.index t 0 = 1 ∧ win0_8.index t 1 = 0 ∧ win0_8.index t 2 = 0)

/-- The block index of window 9 at each grid point. -/
theorem index9 : ∀ t : Fin cfg0.N, win0_9.index t 0 = t.val ∧ win0_9.index t 1 = 0 :=
  (by decide +kernel : ∀ t : Fin grid0.N, win0_9.index t 0 = t.val ∧ win0_9.index t 1 = 0)

/-- Block row `r` is the array's row. -/
theorem blk0 (c : Dev nD) (t : Fin cfg0.N) (r : Fin 512) (k : Fin 1024) :
    (iblk m c 0 t : Vec Ideal S512x1024 .f32) (ix2 r k) = (m ((c : Thread nD τ).loc main_arg0) : FVec Ideal S16384x1024 .f32) (ix2 (row t r) k) := by
  refine Eq.trans ?_ (congrFun (V_main_arg0 m c) _)
  unfold iblk
  rw [View.read_apply]
  show V m c main_arg0 _ = _
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

/-- Block row `r` is the array's row. -/
theorem blk1 (c : Dev nD) (t : Fin cfg0.N) (r : Fin 512) (k : Fin 1024) :
    (iblk m c 1 t : Vec Ideal S512x1024 .bf16) (ix2 r k) = (m ((c : Thread nD τ).loc main_arg1) : FVec Ideal S16384x1024 .bf16) (ix2 (row t r) k) := by
  refine Eq.trans ?_ (congrFun (V_main_arg1 m c) _)
  unfold iblk
  rw [View.read_apply]
  show V m c main_arg1 _ = _
  refine congrArg (V m c main_arg1) (funext fun a => Fin.ext ?_)
  match a with
  | ⟨0, _⟩ => show win0_1.index t 0 * 512 + 1 * r.val = t.val * 512 + r.val; rw [(index1 t).1]; omega
  | ⟨1, _⟩ => show win0_1.index t 1 * 1024 + 1 * k.val = k.val; rw [(index1 t).2]; omega

/-- The square matrix's block. -/
theorem blk2 (c : Dev nD) (t : Fin cfg0.N) (k j : Fin 1024) :
    (iblk m c 2 t : Vec Ideal S1024x1024 .bf16) (ix2 k j) = (m ((c : Thread nD τ).loc main_arg2) : FVec Ideal S1x1024x1024 .f32) (ix3 0 k j) := by
  refine Eq.trans ?_ (V_w_o m c k j)
  unfold iblk
  rw [View.read_apply]
  show V m c main_v4 _ = _
  refine congrArg (V m c main_v4) (funext fun a => Fin.ext ?_)
  match a with
  | ⟨0, _⟩ => show win0_2.index t 0 * 1024 + 1 * k.val = k.val; rw [(index2 t).1]; omega
  | ⟨1, _⟩ => show win0_2.index t 1 * 1024 + 1 * j.val = j.val; rw [(index2 t).2]; omega

/-- A gain row's block. -/
theorem blk3 (c : Dev nD) (t : Fin cfg0.N) (k : Fin 1024) :
    (iblk m c 3 t : Vec Ideal S1x1024 .f32) (ix2 0 k) = (m ((c : Thread nD τ).loc main_arg3) : FVec Ideal S2x1024 .f32) (ix2 1 k) := by
  refine Eq.trans ?_ (V_gmix m c k)
  unfold iblk
  rw [View.read_apply]
  show V m c main_v13 _ = _
  refine congrArg (V m c main_v13) (funext fun a => Fin.ext ?_)
  match a with
  | ⟨0, _⟩ => show win0_3.index t 0 * 1 + 1 * 0 = 0; rw [(index3 t).1]
  | ⟨1, _⟩ => show win0_3.index t 1 * 1024 + 1 * k.val = k.val; rw [(index3 t).2]; omega

/-- A gain row's block. -/
theorem blk4 (c : Dev nD) (t : Fin cfg0.N) (k : Fin 1024) :
    (iblk m c 4 t : Vec Ideal S1x1024 .f32) (ix2 0 k) = (m ((c : Thread nD τ).loc main_arg4) : FVec Ideal S2x1024 .f32) (ix2 1 k) := by
  refine Eq.trans ?_ (V_gpre m c k)
  unfold iblk
  rw [View.read_apply]
  show V m c main_v7 _ = _
  refine congrArg (V m c main_v7) (funext fun a => Fin.ext ?_)
  match a with
  | ⟨0, _⟩ => show win0_4.index t 0 * 1 + 1 * 0 = 0; rw [(index4 t).1]
  | ⟨1, _⟩ => show win0_4.index t 1 * 1024 + 1 * k.val = k.val; rw [(index4 t).2]; omega

/-- A gain row's block. -/
theorem blk5 (c : Dev nD) (t : Fin cfg0.N) (k : Fin 1024) :
    (iblk m c 5 t : Vec Ideal S1x1024 .f32) (ix2 0 k) = (m ((c : Thread nD τ).loc main_arg5) : FVec Ideal S2x1024 .f32) (ix2 1 k) := by
  refine Eq.trans ?_ (V_gpost m c k)
  unfold iblk
  rw [View.read_apply]
  show V m c main_v10 _ = _
  refine congrArg (V m c main_v10) (funext fun a => Fin.ext ?_)
  match a with
  | ⟨0, _⟩ => show win0_5.index t 0 * 1 + 1 * 0 = 0; rw [(index5 t).1]
  | ⟨1, _⟩ => show win0_5.index t 1 * 1024 + 1 * k.val = k.val; rw [(index5 t).2]; omega

/-- A stacked weight's block: its second layer. -/
theorem blk6 (c : Dev nD) (t : Fin cfg0.N) (k : Fin 1024) (j : Fin 2816) :
    (iblk m c 6 t : Vec Ideal S1x1024x2816 .bf16) (ix3 0 k j) = (m ((c : Thread nD τ).loc main_arg6) : FVec Ideal S2x1024x2816 .f32) (ix3 1 k j) := by
  refine Eq.trans ?_ (V_gate m c k j)
  unfold iblk
  rw [View.read_apply]
  show V m c main_v0 _ = _
  refine congrArg (V m c main_v0) (funext fun a => Fin.ext ?_)
  match a with
  | ⟨0, _⟩ => show win0_6.index t 0 * 1 + 1 * 0 = 1; rw [(index6 t).1]
  | ⟨1, _⟩ => show win0_6.index t 1 * 1024 + 1 * k.val = k.val; rw [(index6 t).2.1]; omega
  | ⟨2, _⟩ => show win0_6.index t 2 * 2816 + 1 * j.val = j.val; rw [(index6 t).2.2]; omega

/-- A stacked weight's block: its second layer. -/
theorem blk7 (c : Dev nD) (t : Fin cfg0.N) (k : Fin 1024) (j : Fin 2816) :
    (iblk m c 7 t : Vec Ideal S1x1024x2816 .bf16) (ix3 0 k j) = (m ((c : Thread nD τ).loc main_arg7) : FVec Ideal S2x1024x2816 .f32) (ix3 1 k j) := by
  refine Eq.trans ?_ (V_up m c k j)
  unfold iblk
  rw [View.read_apply]
  show V m c main_v1 _ = _
  refine congrArg (V m c main_v1) (funext fun a => Fin.ext ?_)
  match a with
  | ⟨0, _⟩ => show win0_7.index t 0 * 1 + 1 * 0 = 1; rw [(index7 t).1]
  | ⟨1, _⟩ => show win0_7.index t 1 * 1024 + 1 * k.val = k.val; rw [(index7 t).2.1]; omega
  | ⟨2, _⟩ => show win0_7.index t 2 * 2816 + 1 * j.val = j.val; rw [(index7 t).2.2]; omega

/-- A stacked weight's block: its second layer. -/
theorem blk8 (c : Dev nD) (t : Fin cfg0.N) (k : Fin 2816) (j : Fin 1024) :
    (iblk m c 8 t : Vec Ideal S1x2816x1024 .bf16) (ix3 0 k j) = (m ((c : Thread nD τ).loc main_arg8) : FVec Ideal S2x2816x1024 .f32) (ix3 1 k j) := by
  refine Eq.trans ?_ (V_down m c k j)
  unfold iblk
  rw [View.read_apply]
  show V m c main_v2 _ = _
  refine congrArg (V m c main_v2) (funext fun a => Fin.ext ?_)
  match a with
  | ⟨0, _⟩ => show win0_8.index t 0 * 1 + 1 * 0 = 1; rw [(index8 t).1]
  | ⟨1, _⟩ => show win0_8.index t 1 * 2816 + 1 * k.val = k.val; rw [(index8 t).2.1]; omega
  | ⟨2, _⟩ => show win0_8.index t 2 * 1024 + 1 * j.val = j.val; rw [(index8 t).2.2]; omega

/-! ## The result array -/

/-- One element of the result, from the arguments as launched. -/
def result (x0 : FVec Ideal S16384x1024 .f32) (x1 : FVec Ideal S16384x1024 .bf16) (x2 : FVec Ideal S1x1024x1024 .f32)
    (x3 x4 x5 : FVec Ideal S2x1024 .f32) (x6 x7 : FVec Ideal S2x1024x2816 .f32) (x8 : FVec Ideal S2x2816x1024 .f32) :
    FVec Ideal S16384x1024 .f32 := fun i =>
  ffn (outproj (fun k => x0 (ix2 (i 0) k)) (fun k => x1 (ix2 (i 0) k)) (fun k j => x2 (ix3 0 k j)) (fun k => x3 (ix2 1 k)))
    (fun k => x4 (ix2 1 k)) (fun k => x5 (ix2 1 k)) (fun k j => x6 (ix3 1 k j)) (fun k j => x7 (ix3 1 k j))
    (fun k j => x8 (ix3 1 k j)) (i 1)

/-- `result` of the arguments of device `c` as launched. -/
abbrev resultOf (c : Dev nD) : FVec Ideal S16384x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` leaves is `result` on the rows of its block. -/
theorem outs_result (c : Dev nD) (t : Fin cfg0.N) (r : Fin 512) (k : Fin 1024) :
    outsAt0 m c t (ix2 r k) = resultOf m c (ix2 (row t r) k) := by
  rw [outs_apply]
  simp only [blk0, blk1, blk2, blk3, blk4, blk5, blk6, blk7, blk8]
  rfl

/-- What point `t` writes back is its block of `result`. -/
theorem flushed_eq (c : Dev nD) (t : Fin cfg0.N) (_hf : (cfg0.win 9).flush t = true) :
    (dats m 0 c).flushed 9 t = ((cfg0.win 9).blk t).view.read (Elt Ideal) (resultOf m c) := by
  rw [Cert.TailIdeal.Value.flushed9]
  funext i
  rw [View.read_apply]
  have hi : i = (ix2 (i 0) (i 1) : S512x1024.Idx) := by
    funext a
    match a with
    | ⟨0, _⟩ => rfl
    | ⟨1, _⟩ => rfl
  show outsAt0 m c t i = resultOf m c _
  refine (congrArg (outsAt0 m c t) hi).trans ((outs_result m c t (i 0) (i 1)).trans (congrArg (resultOf m c) (funext fun a => Fin.ext ?_)))
  match a with
  | ⟨0, _⟩ => show t.val * 512 + (i 0).val = win0_9.index t 0 * 512 + 1 * (i 0).val; rw [(index9 t).1]; omega
  | ⟨1, _⟩ => show (i 1).val = win0_9.index t 1 * 1024 + 1 * (i 1).val; rw [(index9 t).2]; omega

/-- Every point writes its block back. -/
theorem flush9 : ∀ t : Fin cfg0.N, (cfg0.win 9).flush t = true :=
  (by decide +kernel : ∀ t : Fin grid0.N, win0_9.flush t = true)

/-- The result array after the run. -/
theorem final (c : Dev nD) : (dats m 0 c).arrAt 9 cfg0.N = resultOf m c :=
  (dats m 0 c).arrAt_eq_of_cover 9 (resultOf m c) (flushed_eq m c) fun i => by
    have hN : cfg0.N = 32 := N_0
    have h0 : (i 0 : Nat) < 16384 := (i 0).isLt
    have h1 : (i 1 : Nat) < 1024 := (i 1).isLt
    refine ⟨⟨(i 0).val / 512, by omega⟩, flush9 _, ?_⟩
    generalize ht : (⟨(i 0).val / 512, by omega⟩ : Fin cfg0.N) = t
    have hv : t.val = (i 0).val / 512 := by rw [← ht]
    show i ∈ ((View.whole main_v14).slice (win0_9.rect t)).set
    rw [View.set_slice_whole, Rect.mem_set_unit]
    intro a
    match a with
    | ⟨0, _⟩ => show win0_9.index t 0 * 512 ≤ (i 0 : Nat) ∧ (i 0 : Nat) < win0_9.index t 0 * 512 + 512
                rw [(index9 t).1]; omega
    | ⟨1, _⟩ => show win0_9.index t 1 * 1024 ≤ (i 1 : Nat) ∧ (i 1 : Nat) < win0_9.index t 1 * 1024 + 1024
                rw [(index9 t).2]; omega

end Cert.TailValue

end
-- ==== Proof.TailRow.lean ====
/-
  The reference of the layer's last call, element by element over the extended reals: each row is the feed-forward block
  (RowMath.lean) of the row's attention residual.
-/
module

public import proofs.«01_k».proof.Proof.RowMath
public import proofs.«01_k».proof.Proof.Gen.TailRefIdeal.Read

@[expose] public section

set_option maxRecDepth 16384

noncomputable section

namespace Cert.TailRow

open Idealize.ShloMosaic Idealize.SL.Sem Cert.TailRefIdeal Cert.TailRefIdeal.Gen Idealize.ShloMosaic.TcCoe Cert.Rows Cert.TailRefIdeal.Read

variable (x0 : FVec Ideal S16384x1024 .f32) (x1 : FVec Ideal S16384x1024 .bf16) (x2 : FVec Ideal S1x1024x1024 .f32)
  (x3 x4 x5 : FVec Ideal S2x1024 .f32) (x6 x7 : FVec Ideal S2x1024x2816 .f32) (x8 : FVec Ideal S2x2816x1024 .f32)

/-- The attention residual of a row. -/
theorem v18_apply (r : Fin 16384) (c : Fin 1024) :
    val_main_v18 (F := Ideal) x0 x1 x2 x3 (ix2 r c)
      = outproj (fun k => x0 (ix2 r k)) (fun k => x1 (ix2 r k)) (fun k j => x2 (ix3 0 k j)) (fun k => x3 (ix2 1 k)) c := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, dot_S16384x1024_S1024x1024_S16384x1024_1_0_0_1_n_n]
  rfl

/-- The normed row the feed-forward block reads. -/
theorem v33_apply (r : Fin 16384) (c : Fin 1024) :
    val_main_v33 (F := Ideal) x0 x1 x2 x3 x4 (ix2 r c)
      = rmsn (fun k => val_main_v18 (F := Ideal) x0 x1 x2 x3 (ix2 r k)) (fun k => x4 (ix2 1 k)) c := by
  unfold val_main_v33 val_main_v30 val_main_v29 val_main_v28 val_main_v27 val_main_v25 val_main_v23 val_main_v22 val_main_v21
  generalize val_main_v18 (F := Ideal) x0 x1 x2 x3 = y
  pointwise [val_main_v32, val_main_v31, val_main_v26, val_main_v24, val_main_v20, val_main_v19, val_main_cst_2, val_main_cst_3, val_main_cst_4]
  rfl

/-- The gate's product. -/
theorem v40_apply (r : Fin 16384) (j : Fin 2816) :
    val_main_v40 (F := Ideal) x0 x1 x2 x3 x4 x6 (ix2 r j)
      = dot (fun k => val_main_v33 (F := Ideal) x0 x1 x2 x3 x4 (ix2 r k)) (fun k j => x6 (ix3 1 k j)) j := by
  unfold val_main_v40
  generalize val_main_v33 (F := Ideal) x0 x1 x2 x3 x4 = y
  pointwise [val_main_v35, val_main_v34, dot_S16384x1024_S1024x2816_S16384x2816_1_0_0_1_n_n]
  rfl

/-- The gated activations. -/
theorem v43_apply (r : Fin 16384) (j : Fin 2816) :
    val_main_v43 (F := Ideal) x0 x1 x2 x3 x4 x6 x7 (ix2 r j)
      = act (fun k => val_main_v33 (F := Ideal) x0 x1 x2 x3 x4 (ix2 r k)) (fun k j => x6 (ix3 1 k j)) (fun k j => x7 (ix3 1 k j)) j := by
  unfold act
  rw [← v40_apply]
  unfold val_main_v43 val_main_v41 val_main_call0_v5 val_main_call0_v3 val_main_call0_v1 val_main_call0_v0 val_main_v42
  generalize val_main_v40 (F := Ideal) x0 x1 x2 x3 x4 x6 = g
  generalize val_main_v33 (F := Ideal) x0 x1 x2 x3 x4 = y
  pointwise [val_main_call0_v4, val_main_call0_v2, val_main_call0_cst, val_main_call0_cst_0, val_main_v37, val_main_v36, dot_S16384x1024_S1024x2816_S16384x2816_1_0_0_1_n_n]
  rfl

/-- The result: the feed-forward block of the row's attention residual. -/
theorem v60_apply (r : Fin 16384) (c : Fin 1024) :
    val_main_v60 (F := Ideal) x0 x1 x2 x3 x4 x5 x6 x7 x8 (ix2 r c)
      = ffn (outproj (fun k => x0 (ix2 r k)) (fun k => x1 (ix2 r k)) (fun k j => x2 (ix3 0 k j)) (fun k => x3 (ix2 1 k)))
          (fun k => x4 (ix2 1 k)) (fun k => x5 (ix2 1 k)) (fun k j => x6 (ix3 1 k j)) (fun k j => x7 (ix3 1 k j))
          (fun k j => x8 (ix3 1 k j)) c := by
  unfold ffn
  have e18 : outproj (fun k => x0 (ix2 r k)) (fun k => x1 (ix2 r k)) (fun k j => x2 (ix3 0 k j)) (fun k => x3 (ix2 1 k))
      = fun k => val_main_v18 (F := Ideal) x0 x1 x2 x3 (ix2 r k) := funext fun k => (v18_apply x0 x1 x2 x3 r k).symm
  have e33 : rmsn (fun k => val_main_v18 (F := Ideal) x0 x1 x2 x3 (ix2 r k)) (fun k => x4 (ix2 1 k))
      = fun k => val_main_v33 (F := Ideal) x0 x1 x2 x3 x4 (ix2 r k) := funext fun k => (v33_apply x0 x1 x2 x3 x4 r k).symm
  have e43 : act (fun k => val_main_v33 (F := Ideal) x0 x1 x2 x3 x4 (ix2 r k)) (fun k j => x6 (ix3 1 k j)) (fun k j => x7 (ix3 1 k j))
      = fun j => val_main_v43 (F := Ideal) x0 x1 x2 x3 x4 x6 x7 (ix2 r j) := funext fun j => (v43_apply x0 x1 x2 x3 x4 x6 x7 r j).symm
  rw [e18, e33, e43]
  unfold val_main_v60 val_main_v59 val_main_v56 val_main_v55 val_main_v54 val_main_v53 val_main_v51 val_main_v49 val_main_v48 val_main_v47 val_main_v44
  generalize val_main_v43 (F := Ideal) x0 x1 x2 x3 x4 x6 x7 = a
  generalize val_main_v18 (F := Ideal) x0 x1 x2 x3 = y
  pointwise [val_main_v58, val_main_v57, val_main_v52, val_main_v50, val_main_v46, val_main_v45, val_main_v39, val_main_v38, val_main_cst_5, val_main_cst_6, val_main_cst_7, dot_S16384x2816_S2816x1024_S16384x1024_1_0_0_1_n_n]
  rfl

end Cert.TailRow

end
-- ==== Proof.TailClaims.lean ====
/-
  The claims about the prompt group's last call (output projection and feed-forward block): the frames, and the value.
-/
module

public import proofs.«01_k».proof.Defs
public import proofs.«01_k».proof.Proof.Gen.Tail.Frame
public import proofs.«01_k».proof.Proof.TailValue
public import proofs.«01_k».proof.Proof.TailRow
public import proofs.«01_k».proof.Proof.Gen.TailRefIdeal.Run
public import Idealize.ShloMosaic.Adequacy
public import Idealize.ShloMosaic.Init

@[expose] public section

set_option maxRecDepth 16384

noncomputable section

namespace Cert.TailClaims

open Idealize.ShloMosaic Idealize.SL.Sem Idealize.ShloMosaic.TcCoe

/-- The printed program ends, keeps its arguments and leaves its counters at zero. -/
theorem frame_p : Cert.quiescent_Tail := fun m g _ => Cert.Tail.Gen.frame m g

/-- So does its reading over the extended reals. -/
theorem frame_pi : Cert.quiescent_TailIdeal := fun m g _ => Cert.TailIdeal.Gen.frame m g

/-- So does the reference. -/
theorem frame_ri : Cert.quiescent_TailRefIdeal := fun m g _ =>
  (θ_run Cert.TailRefIdeal.defs _ _).mono (fun r h => ⟨fun c => (h c).2,
      Idealize.ShloMosaic.sem_eq_zero_of_no_sems (by decide) r.2⟩)
    (Cert.TailRefIdeal.Value.run (F := Ideal) m g)

/-- The reading rewrites nothing. -/
theorem preserves : Cert.preserves_Tail_TailIdeal := trivial

/-- The reference's result is the function the kernel's value is stated with. -/
theorem value0 (x0 : FVec Ideal Cert.TailRefIdeal.S16384x1024 .f32) (x1 : FVec Ideal Cert.TailRefIdeal.S16384x1024 .bf16) (x2 : FVec Ideal Cert.TailRefIdeal.S1x1024x1024 .f32) (x3 x4 x5 : FVec Ideal Cert.TailRefIdeal.S2x1024 .f32) (x6 x7 : FVec Ideal Cert.TailRefIdeal.S2x1024x2816 .f32) (x8 : FVec Ideal Cert.TailRefIdeal.S2x2816x1024 .f32) :
    Cert.TailRefIdeal.Read.val_main_v60 (F := Ideal) x0 x1 x2 x3 x4 x5 x6 x7 x8 = Cert.TailValue.result x0 x1 x2 x3 x4 x5 x6 x7 x8 := by
  funext i
  refine (congrArg _ (?_ : i = ix2 (i 0) (i 1))).trans ((Cert.TailRow.v60_apply x0 x1 x2 x3 x4 x5 x6 x7 x8 (i 0) (i 1)).trans ?_)
  · funext a
    match a with
    | ⟨0, _⟩ => rfl
    | ⟨1, _⟩ => rfl
  · rfl

/-- The kernel's results are the reference's, element by element over the extended reals. -/
theorem algebraic : Cert.algebraic_TailIdeal_TailRefIdeal := by
  intro m g m' g' _ hagree
  refine ⟨fun c => Cert.TailValue.resultOf m c,
    (θ_run Cert.TailIdeal.defs _ _).mono (fun r h c => ?_) (Cert.TailIdeal.Value.run_blocks (F := Ideal) m g),
    (θ_run Cert.TailRefIdeal.defs _ _).mono (fun r h c => ?_) (Cert.TailRefIdeal.Value.run (F := Ideal) m' g')⟩
  · obtain ⟨e0, hk⟩ := h c
    exact ⟨e0.trans (Cert.TailValue.final m c), hk⟩
  · obtain ⟨e0, hk⟩ := h c
    obtain ⟨h0, h1, h2, h3, h4, h5, h6, h7, h8⟩ := hagree c
    refine ⟨e0.trans ?_, hk⟩
    · refine (Cert.TailRefIdeal.Read.val_main_v60_eq m' c).trans ((value0 (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8))).trans ?_)
      show Cert.TailValue.result (m' ((c.tc : Thread Cert.TailRefIdeal.nD Cert.TailRefIdeal.τ).loc Cert.TailRefIdeal.main_arg0)) (m' ((c.tc : Thread Cert.TailRefIdeal.nD Cert.TailRefIdeal.τ).loc Cert.TailRefIdeal.main_arg1)) (m' ((c.tc : Thread Cert.TailRefIdeal.nD Cert.TailRefIdeal.τ).loc Cert.TailRefIdeal.main_arg2)) (m' ((c.tc : Thread Cert.TailRefIdeal.nD Cert.TailRefIdeal.τ).loc Cert.TailRefIdeal.main_arg3)) (m' ((c.tc : Thread Cert.TailRefIdeal.nD Cert.TailRefIdeal.τ).loc Cert.TailRefIdeal.main_arg4)) (m' ((c.tc : Thread Cert.TailRefIdeal.nD Cert.TailRefIdeal.τ).loc Cert.TailRefIdeal.main_arg5)) (m' ((c.tc : Thread Cert.TailRefIdeal.nD Cert.TailRefIdeal.τ).loc Cert.TailRefIdeal.main_arg6)) (m' ((c.tc : Thread Cert.TailRefIdeal.nD Cert.TailRefIdeal.τ).loc Cert.TailRefIdeal.main_arg7)) (m' ((c.tc : Thread Cert.TailRefIdeal.nD Cert.TailRefIdeal.τ).loc Cert.TailRefIdeal.main_arg8)) = Cert.TailValue.result (m ((c.tc : Thread Cert.TailIdeal.nD Cert.TailIdeal.τ).loc Cert.TailIdeal.main_arg0)) (m ((c.tc : Thread Cert.TailIdeal.nD Cert.TailIdeal.τ).loc Cert.TailIdeal.main_arg1)) (m ((c.tc : Thread Cert.TailIdeal.nD Cert.TailIdeal.τ).loc Cert.TailIdeal.main_arg2)) (m ((c.tc : Thread Cert.TailIdeal.nD Cert.TailIdeal.τ).loc Cert.TailIdeal.main_arg3)) (m ((c.tc : Thread Cert.TailIdeal.nD Cert.TailIdeal.τ).loc Cert.TailIdeal.main_arg4)) (m ((c.tc : Thread Cert.TailIdeal.nD Cert.TailIdeal.τ).loc Cert.TailIdeal.main_arg5)) (m ((c.tc : Thread Cert.TailIdeal.nD Cert.TailIdeal.τ).loc Cert.TailIdeal.main_arg6)) (m ((c.tc : Thread Cert.TailIdeal.nD Cert.TailIdeal.τ).loc Cert.TailIdeal.main_arg7)) (m ((c.tc : Thread Cert.TailIdeal.nD Cert.TailIdeal.τ).loc Cert.TailIdeal.main_arg8))
      rw [h0, h1, h2, h3, h4, h5, h6, h7, h8]

end Cert.TailClaims

end
-- ==== Proof.ProjValue.lean ====
/-
  The projections' result arrays after their run, element by element over the extended reals: each is a row of the input,
  normed (RowMath.lean) and multiplied with one of the matrices as launched.
-/
module

public import proofs.«01_k».proof.Proof.RowMath
public import proofs.«01_k».proof.Proof.Gen.ProjIdeal.Value

@[expose] public section

set_option maxRecDepth 16384

noncomputable section

namespace Cert.ProjValue

open Idealize.ShloMosaic Idealize.SL.Sem Cert.ProjIdeal Cert.ProjIdeal.Gen Idealize.ShloMosaic.TcCoe Cert.Rows
open Idealize.ShloMosaic.Pipeline (Dat Cfg Window)

variable (m : (ℓ : Loc nD τ sig) → Buf (Elt Ideal) ℓ) (ρ : Dev nD → PrngReg)

/-- A zero offset of two axes. -/
theorem hz : (![0, 0] : Fin 2 → Nat) = fun _ => 0 := funext fun a => by fin_cases a <;> rfl

/-! ## One grid point -/

/-- What one point leaves in the block of window 6. -/
theorem out6_apply (x0 : Vec Ideal S512x1024 .f32) (x1 x2 : Vec Ideal S1x1024 .f32) (x3 x4 x5 : Vec Ideal S1024x1024 .bf16)
    (r : Fin 512) (j : Fin 1024) :
    out0_6 x0 x1 x2 x3 x4 x5 (ix2 r j) = proj (fun k => x0 (ix2 r k)) (fun k => x1 (ix2 0 k)) (fun k j => x3 (ix2 k j)) j := by
  unfold out0_6
  rw [View.canon_unit_zero (S := S512x1024) hz]
  simp only [View.ld_unit_zero (S := S512x1024) hz, View.ld_unit_zero (S := S1024x1024) hz, View.ld_unit_zero (S := S1x1024) hz]
  pointwise [k0_pay6, k0_pay4, dot_S512x1024_S1024x1024_S512x1024_1_0_0_1_n_n]
  rfl

/-- What one point leaves in the block of window 7. -/
theorem out7_apply (x0 : Vec Ideal S512x1024 .f32) (x1 x2 : Vec Ideal S1x1024 .f32) (x3 x4 x5 : Vec Ideal S1024x1024 .bf16)
    (r : Fin 512) (j : Fin 1024) :
    out0_7 x0 x1 x2 x3 x4 x5 (ix2 r j) = proj (fun k => x0 (ix2 r k)) (fun k => x1 (ix2 0 k)) (fun k j => x4 (ix2 k j)) j := by
  unfold out0_7
  rw [View.canon_unit_zero (S := S512x1024) hz]
  simp only [View.ld_unit_zero (S := S512x1024) hz, View.ld_unit_zero (S := S1024x1024) hz, View.ld_unit_zero (S := S1x1024) hz]
  pointwise [k0_pay5, k0_pay4, dot_S512x1024_S1024x1024_S512x1024_1_0_0_1_n_n]
  rfl

/-- What one point leaves in the block of window 8. -/
theorem out8_apply (x0 : Vec Ideal S512x1024 .f32) (x1 x2 : Vec Ideal S1x1024 .f32) (x3 x4 x5 : Vec Ideal S1024x1024 .bf16)
    (r : Fin 512) (j : Fin 1024) :
    out0_8 x0 x1 x2 x3 x4 x5 (ix2 r j) = proj (fun k => x0 (ix2 r k)) (fun k => x1 (ix2 0 k)) (fun k j => x3 (ix2 k j)) j := by
  unfold out0_8
  rw [View.canon_unit_zero (S := S512x1024) hz]
  simp only [View.ld_unit_zero (S := S512x1024) hz, View.ld_unit_zero (S := S1024x1024) hz, View.ld_unit_zero (S := S1x1024) hz]
  pointwise [k0_pay2, k0_pay6, k0_pay4, dot_S512x1024_S1024x1024_S512x1024_1_0_0_1_n_n]
  rfl

/-- What one point leaves in the block of window 9. -/
theorem out9_apply (x0 : Vec Ideal S512x1024 .f32) (x1 x2 : Vec Ideal S1x1024 .f32) (x3 x4 x5 : Vec Ideal S1024x1024 .bf16)
    (r : Fin 512) (j : Fin 1024) :
    out0_9 x0 x1 x2 x3 x4 x5 (ix2 j r) = proj (fun k => x0 (ix2 r k)) (fun k => x1 (ix2 0 k)) (fun k j => x4 (ix2 k j)) j := by
  unfold out0_9
  rw [View.canon_unit_zero (S := S1024x512) hz]
  simp only [View.ld_unit_zero (S := S512x1024) hz, View.ld_unit_zero (S := S1024x1024) hz, View.ld_unit_zero (S := S1x1024) hz]
  pointwise [k0_pay1, k0_pay5, k0_pay4, dot_S512x1024_S1024x1024_S512x1024_1_0_0_1_n_n]
  rfl

/-- What one point leaves in the block of window 10. -/
theorem out10_apply (x0 : Vec Ideal S512x1024 .f32) (x1 x2 : Vec Ideal S1x1024 .f32) (x3 x4 x5 : Vec Ideal S1024x1024 .bf16)
    (r : Fin 512) (j : Fin 1024) :
    out0_10 x0 x1 x2 x3 x4 x5 (ix2 r j) = query (fun k => x0 (ix2 r k)) (fun k => x2 (ix2 0 k)) (fun k j => x5 (ix2 k j)) (Ideal.ofBits .f32 0x3FB8AA3B#32) j := by
  unfold out0_10
  rw [View.canon_unit_zero (S := S512x1024) hz]
  simp only [View.ld_unit_zero (S := S512x1024) hz, View.ld_unit_zero (S := S1024x1024) hz, View.ld_unit_zero (S := S1x1024) hz]
  pointwise [k0_pay3, k0_pay7, k0_pay8, dot_S512x1024_S1024x1024_S512x1024_1_0_0_1_n_n]
  rfl

/-! ## The blocks as parts of the arguments -/

/-- The row of the array that block `t` holds as its row `r`. -/
def row (t : Fin cfg0.N) (r : Fin 512) : Fin 16384 :=
  ⟨t.val * 512 + r.val, by have : cfg0.N = 32 := N_0; have := t.isLt; omega⟩

/-- The second of two stacked gains, as a row. -/
theorem gain_apply (x : FVec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k)
      = x (ix2 1 k) := by
  pointwise

/-- A gain vector, as a row. -/
theorem vec_apply (x : FVec Ideal S1024 .f32) (k : Fin 1024) : shapeCast S1x1024 x shapeCasts_S1024_S1x1024 (ix2 0 k) = x (ix1 k) := by
  pointwise

/-- The query matrix, rounded and with its leading axis dropped. -/
theorem square_apply (x : FVec Ideal S1x1024x1024 .f32) (k j : Fin 1024) :
    truncf .bf16 (shapeCast S1024x1024 x shapeCasts_S1x1024x1024_S1024x1024) bitsLt_bf16_f32 (ix2 k j) = x (ix3 0 k j) := by
  pointwise

/-- The first gain row the region finds. -/
theorem V_g_kv (c : Dev nD) (k : Fin 1024) :
    (V m c main_v4 : Vec Ideal S1x1024 .f32) (ix2 0 k) = (m ((c : Thread nD τ).loc main_arg1) : FVec Ideal S1024 .f32) (ix1 k) := by
  have e : @Eq (FVec Ideal S1x1024 .f32) (V m c main_v4) (shapeCast S1x1024 (m ((c : Thread nD τ).loc main_arg1) : FVec Ideal S1024 .f32) shapeCasts_S1024_S1x1024) := by
    unfold V
    after_results <;> rfl
  rw [e]
  exact vec_apply _ k

/-- The second gain row the region finds. -/
theorem V_g_mix (c : Dev nD) (k : Fin 1024) :
    (V m c main_v7 : Vec Ideal S1x1024 .f32) (ix2 0 k) = (m ((c : Thread nD τ).loc main_arg2) : FVec Ideal S2x1024 .f32) (ix2 1 k) := by
  have e : @Eq (FVec Ideal S1x1024 .f32) (V m c main_v7) (shapeCast S1x1024 (shapeCast S1024 (extractStridedSlice S1x1024 ![1, 0] (m ((c : Thread nD τ).loc main_arg2) : FVec Ideal S2x1024 .f32) slices_S2x1024_S1x1024_1_0) shapeCasts_S1x1024_S1024) shapeCasts_S1024_S1x1024) := by
    unfold V
    after_results <;> rfl
  rw [e]
  exact gain_apply _ k

/-- A matrix the region finds, rounded. -/
theorem V_w_k (c : Dev nD) (k j : Fin 1024) :
    (V m c main_v1 : Vec Ideal S1024x1024 .bf16) (ix2 k j) = (m ((c : Thread nD τ).loc main_arg3) : FVec Ideal S1024x1024 .f32) (ix2 k j) := by
  have e : @Eq (FVec Ideal S1024x1024 .bf16) (V m c main_v1) (truncf .bf16 (m ((c : Thread nD τ).loc main_arg3) : FVec Ideal S1024x1024 .f32) bitsLt_bf16_f32) := by
    unfold V
    after_results <;> rfl
  rw [e]
  exact rfl

/-- A matrix the region finds, rounded. -/
theorem V_w_v (c : Dev nD) (k j : Fin 1024) :
    (V m c main_v2 : Vec Ideal S1024x1024 .bf16) (ix2 k j) = (m ((c : Thread nD τ).loc main_arg4) : FVec Ideal S1024x1024 .f32) (ix2 k j) := by
  have e : @Eq (FVec Ideal S1024x1024 .bf16) (V m c main_v2) (truncf .bf16 (m ((c : Thread nD τ).loc main_arg4) : FVec Ideal S1024x1024 .f32) bitsLt_bf16_f32) := by
    unfold V
    after_results <;> rfl
  rw [e]
  exact rfl

/-- The query matrix the region finds. -/
theorem V_w_q (c : Dev nD) (k j : Fin 1024) :
    (V m c main_v3 : Vec Ideal S1024x1024 .bf16) (ix2 k j) = (m ((c : Thread nD τ).loc main_arg5) : FVec Ideal S1x1024x1024 .f32) (ix3 0 k j) := by
  have e : @Eq (FVec Ideal S1024x1024 .bf16) (V m c main_v3) (truncf .bf16 (shapeCast S1024x1024 (m ((c : Thread nD τ).loc main_arg5) : FVec Ideal S1x1024x1024 .f32) shapeCasts_S1x1024x1024_S1024x1024) bitsLt_bf16_f32) := by
    unfold V
    after_results <;> rfl
  rw [e]
  exact square_apply _ k j

/-- The block index of window 0 at each grid point. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block index of window 1 at each grid point. -/
theorem index1 : ∀ t : Fin cfg0.N, win0_1.index t 0 = 0 ∧ win0_1.index t 1 = 0 :=
  (by decide +kernel : ∀ t : Fin grid0.N, win0_1.index t 0 = 0 ∧ win0_1.index t 1 = 0)

/-- The block index of window 2 at each grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The block index of window 3 at each grid point. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block index of window 4 at each grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block index of window 5 at each grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- The block index of window 6 at each grid point. -/
theorem index6 : ∀ t : Fin cfg0.N, win0_6.index t 0 = t.val ∧ win0_6.index t 1 = 0 :=
  (by decide +kernel : ∀ t : Fin grid0.N, win0_6.index t 0 = t.val ∧ win0_6.index t 1 = 0)

/-- The block index of window 7 at each grid point. -/
theorem index7 : ∀ t : Fin cfg0.N, win0_7.index t 0 = t.val ∧ win0_7.index t 1 = 0 :=
  (by decide +kernel : ∀ t : Fin grid0.N, win0_7.index t 0 = t.val ∧ win0_7.index t 1 = 0)

/-- The block index of window 8 at each grid point. -/
theorem index8 : ∀ t : Fin cfg0.N, win0_8.index t 0 = t.val ∧ win0_8.index t 1 = 0 :=
  (by decide +kernel : ∀ t : Fin grid0.N, win0_8.index t 0 = t.val ∧ win0_8.index t 1 = 0)

/-- The block index of window 9 at each grid point. -/
theorem index9 : ∀ t : Fin cfg0.N, win0_9.index t 0 = 0 ∧ win0_9.index t 1 = t.val :=
  (by decide +kernel : ∀ t : Fin grid0.N, win0_9.index t 0 = 0 ∧ win0_9.index t 1 = t.val)

/-- The block index of window 10 at each grid point. -/
theorem index10 : ∀ t : Fin cfg0.N, win0_10.index t 0 = t.val ∧ win0_10.index t 1 = 0 :=
  (by decide +kernel : ∀ t : Fin grid0.N, win0_10.index t 0 = t.val ∧ win0_10.index t 1 = 0)

/-- Block row `r` is the array's row. -/
theorem blk0 (c : Dev nD) (t : Fin cfg0.N) (r : Fin 512) (k : Fin 1024) :
    (iblk m c 0 t : Vec Ideal S512x1024 .f32) (ix2 r k) = (m ((c : Thread nD τ).loc main_arg0) : FVec Ideal S16384x1024 .f32) (ix2 (row t r) k) := by
  refine Eq.trans ?_ (congrFun (V_main_arg0 m c) _)
  unfold iblk
  rw [View.read_apply]
  show V m c main_arg0 _ = _
  refine congrArg (V m c main_arg0) (funext fun a => Fin.ext ?_)
  match a with
  | ⟨0, _⟩ => show win0_0.index t 0 * 512 + 1 * r.val = t.val * 512 + r.val; rw [(index0 t).1]; omega
  | ⟨1, _⟩ => show win0_0.index t 1 * 1024 + 1 * k.val = k.val; rw [(index0 t).2]; omega

/-- The first gain row's block. -/
theorem blk1 (c : Dev nD) (t : Fin cfg0.N) (k : Fin 1024) :
    (iblk m c 1 t : Vec Ideal S1x1024 .f32) (ix2 0 k) = (m ((c : Thread nD τ).loc main_arg1) : FVec Ideal S1024 .f32) (ix1 k) := by
  refine Eq.trans ?_ (V_g_kv m c k)
  unfold iblk
  rw [View.read_apply]
  show V m c main_v4 _ = _
  refine congrArg (V m c main_v4) (funext fun a => Fin.ext ?_)
  match a with
  | ⟨0, _⟩ => show win0_1.index t 0 * 1 + 1 * 0 = 0; rw [(index1 t).1]
  | ⟨1, _⟩ => show win0_1.index t 1 * 1024 + 1 * k.val = k.val; rw [(index1 t).2]; omega

/-- The second gain row's block. -/
theorem blk2 (c : Dev nD) (t : Fin cfg0.N) (k : Fin 1024) :
    (iblk m c 2 t : Vec Ideal S1x1024 .f32) (ix2 0 k) = (m ((c : Thread nD τ).loc main_arg2) : FVec Ideal S2x1024 .f32) (ix2 1 k) := by
  refine Eq.trans ?_ (V_g_mix m c k)
  unfold iblk
  rw [View.read_apply]
  show V m c main_v7 _ = _
  refine congrArg (V m c main_v7) (funext fun a => Fin.ext ?_)
  match a with
  | ⟨0, _⟩ => show win0_2.index t 0 * 1 + 1 * 0 = 0; rw [(index2 t).1]
  | ⟨1, _⟩ => show win0_2.index t 1 * 1024 + 1 * k.val = k.val; rw [(index2 t).2]; omega

/-- A matrix's block. -/
theorem blk3 (c : Dev nD) (t : Fin cfg0.N) (k j : Fin 1024) :
    (iblk m c 3 t : Vec Ideal S1024x1024 .bf16) (ix2 k j) = (m ((c : Thread nD τ).loc main_arg3) : FVec Ideal S1024x1024 .f32) (ix2 k j) := by
  refine Eq.trans ?_ (V_w_k m c k j)
  unfold iblk
  rw [View.read_apply]
  show V m c main_v1 _ = _
  refine congrArg (V m c main_v1) (funext fun a => Fin.ext ?_)
  match a with
  | ⟨0, _⟩ => show win0_3.index t 0 * 1024 + 1 * k.val = k.val; rw [(index3 t).1]; omega
  | ⟨1, _⟩ => show win0_3.index t 1 * 1024 + 1 * j.val = j.val; rw [(index3 t).2]; omega

/-- A matrix's block. -/
theorem blk4 (c : Dev nD) (t : Fin cfg0.N) (k j : Fin 1024) :
    (iblk m c 4 t : Vec Ideal S1024x1024 .bf16) (ix2 k j) = (m ((c : Thread nD τ).loc main_arg4) : FVec Ideal S1024x1024 .f32) (ix2 k j) := by
  refine Eq.trans ?_ (V_w_v m c k j)
  unfold iblk
  rw [View.read_apply]
  show V m c main_v2 _ = _
  refine congrArg (V m c main_v2) (funext fun a => Fin.ext ?_)
  match a with
  | ⟨0, _⟩ => show win0_4.index t 0 * 1024 + 1 * k.val = k.val; rw [(index4 t).1]; omega
  | ⟨1, _⟩ => show win0_4.index t 1 * 1024 + 1 * j.val = j.val; rw [(index4 t).2]; omega

/-- The query matrix's block. -/
theorem blk5 (c : Dev nD) (t : Fin cfg0.N) (k j : Fin 1024) :
    (iblk m c 5 t : Vec Ideal S1024x1024 .bf16) (ix2 k j) = (m ((c : Thread nD τ).loc main_arg5) : FVec Ideal S1x1024x1024 .f32) (ix3 0 k j) := by
  refine Eq.trans ?_ (V_w_q m c k j)
  unfold iblk
  rw [View.read_apply]
  show V m c main_v3 _ = _
  refine congrArg (V m c main_v3) (funext fun a => Fin.ext ?_)
  match a with
  | ⟨0, _⟩ => show win0_5.index t 0 * 1024 + 1 * k.val = k.val; rw [(index5 t).1]; omega
  | ⟨1, _⟩ => show win0_5.index t 1 * 1024 + 1 * j.val = j.val; rw [(index5 t).2]; omega

/-! ## The result arrays -/

/-- The result array of window 6, from the arguments as launched. -/
def result6 (x0 : FVec Ideal S16384x1024 .f32) (x1 : FVec Ideal S1024 .f32) (x3 : FVec Ideal S1024x1024 .f32) : FVec Ideal S16384x1024 .f32 := fun i =>
  proj (fun k => x0 (ix2 (i 0) k)) (fun k => x1 (ix1 k)) (fun k j => x3 (ix2 k j)) (i 1)

/-- `result6` of the arguments of device `c` as launched. -/
abbrev resultOf6 (c : Dev nD) : FVec Ideal S16384x1024 .f32 :=
  result6 (m ((c : Thread nD τ).loc main_arg0)) (m ((c : Thread nD τ).loc main_arg1)) (m ((c : Thread nD τ).loc main_arg3))

/-- What point `t` leaves for window 6 is `result6` on its block. -/
theorem outs6 (c : Dev nD) (t : Fin cfg0.N) (r : Fin 512) (j : Fin 1024) :
    out0_6 (iblk m c 0 t) (iblk m c 1 t) (iblk m c 2 t) (iblk m c 3 t) (iblk m c 4 t) (iblk m c 5 t) (ix2 r j) = resultOf6 m c (ix2 (row t r) j) := by
  rw [out6_apply]
  simp only [blk0, blk1, blk2, blk3, blk4, blk5]
  rfl

/-- What point `t` writes back for window 6 is its block of `result6`. -/
theorem flushed_eq6 (c : Dev nD) (t : Fin cfg0.N) (_hf : (cfg0.win 6).flush t = true) :
    (dats m 0 c).flushed 6 t = ((cfg0.win 6).blk t).view.read (Elt Ideal) (resultOf6 m c) := by
  rw [Cert.ProjIdeal.Value.flushed6]
  funext i
  rw [View.read_apply]
  have hi : i = (ix2 (i 0) (i 1) : S512x1024.Idx) := by
    funext a
    match a with
    | ⟨0, _⟩ => rfl
    | ⟨1, _⟩ => rfl
  show out0_6 (iblk m c 0 t) (iblk m c 1 t) (iblk m c 2 t) (iblk m c 3 t) (iblk m c 4 t) (iblk m c 5 t) i = resultOf6 m c _
  refine (congrArg (out0_6 (iblk m c 0 t) (iblk m c 1 t) (iblk m c 2 t) (iblk m c 3 t) (iblk m c 4 t) (iblk m c 5 t)) hi).trans ((outs6 m c t (i 0) (i 1)).trans (congrArg (resultOf6 m c) (funext fun a => Fin.ext ?_)))
  match a with
  | ⟨0, _⟩ => show t.val * 512 + (i 0).val = win0_6.index t 0 * 512 + 1 * (i 0).val; rw [(index6 t).1]; omega
  | ⟨1, _⟩ => show (i 1).val = win0_6.index t 1 * 1024 + 1 * (i 1).val; rw [(index6 t).2]; omega

/-- Every point writes its block of window 6 back. -/
theorem flush6 : ∀ t : Fin cfg0.N, (cfg0.win 6).flush t = true :=
  (by decide +kernel : ∀ t : Fin grid0.N, win0_6.flush t = true)

/-- The result array of window 6 after the run. -/
theorem final6 (c : Dev nD) : (dats m 0 c).arrAt 6 cfg0.N = resultOf6 m c :=
  (dats m 0 c).arrAt_eq_of_cover 6 (resultOf6 m c) (flushed_eq6 m c) fun i => by
    have hN : cfg0.N = 32 := N_0
    have h0 : (i 0 : Nat) < 16384 := (i 0).isLt
    have h1 : (i 1 : Nat) < 1024 := (i 1).isLt
    refine ⟨⟨(i 0).val / 512, by omega⟩, flush6 _, ?_⟩
    generalize ht : (⟨(i 0).val / 512, by omega⟩ : Fin cfg0.N) = t
    have hv : t.val = (i 0).val / 512 := by rw [← ht]
    show i ∈ ((View.whole main_v8_0).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(index6 t).1]; omega
    | ⟨1, _⟩ => show win0_6.index t 1 * 1024 ≤ (i 1 : Nat) ∧ (i 1 : Nat) < win0_6.index t 1 * 1024 + 1024
                rw [(index6 t).2]; omega

/-- The result array of window 7, from the arguments as launched. -/
def result7 (x0 : FVec Ideal S16384x1024 .f32) (x1 : FVec Ideal S1024 .f32) (x4 : FVec Ideal S1024x1024 .f32) : FVec Ideal S16384x1024 .f32 := fun i =>
  proj (fun k => x0 (ix2 (i 0) k)) (fun k => x1 (ix1 k)) (fun k j => x4 (ix2 k j)) (i 1)

/-- `result7` of the arguments of device `c` as launched. -/
abbrev resultOf7 (c : Dev nD) : FVec Ideal S16384x1024 .f32 :=
  result7 (m ((c : Thread nD τ).loc main_arg0)) (m ((c : Thread nD τ).loc main_arg1)) (m ((c : Thread nD τ).loc main_arg4))

/-- What point `t` leaves for window 7 is `result7` on its block. -/
theorem outs7 (c : Dev nD) (t : Fin cfg0.N) (r : Fin 512) (j : Fin 1024) :
    out0_7 (iblk m c 0 t) (iblk m c 1 t) (iblk m c 2 t) (iblk m c 3 t) (iblk m c 4 t) (iblk m c 5 t) (ix2 r j) = resultOf7 m c (ix2 (row t r) j) := by
  rw [out7_apply]
  simp only [blk0, blk1, blk2, blk3, blk4, blk5]
  rfl

/-- What point `t` writes back for window 7 is its block of `result7`. -/
theorem flushed_eq7 (c : Dev nD) (t : Fin cfg0.N) (_hf : (cfg0.win 7).flush t = true) :
    (dats m 0 c).flushed 7 t = ((cfg0.win 7).blk t).view.read (Elt Ideal) (resultOf7 m c) := by
  rw [Cert.ProjIdeal.Value.flushed7]
  funext i
  rw [View.read_apply]
  have hi : i = (ix2 (i 0) (i 1) : S512x1024.Idx) := by
    funext a
    match a with
    | ⟨0, _⟩ => rfl
    | ⟨1, _⟩ => rfl
  show out0_7 (iblk m c 0 t) (iblk m c 1 t) (iblk m c 2 t) (iblk m c 3 t) (iblk m c 4 t) (iblk m c 5 t) i = resultOf7 m c _
  refine (congrArg (out0_7 (iblk m c 0 t) (iblk m c 1 t) (iblk m c 2 t) (iblk m c 3 t) (iblk m c 4 t) (iblk m c 5 t)) hi).trans ((outs7 m c t (i 0) (i 1)).trans (congrArg (resultOf7 m c) (funext fun a => Fin.ext ?_)))
  match a with
  | ⟨0, _⟩ => show t.val * 512 + (i 0).val = win0_7.index t 0 * 512 + 1 * (i 0).val; rw [(index7 t).1]; omega
  | ⟨1, _⟩ => show (i 1).val = win0_7.index t 1 * 1024 + 1 * (i 1).val; rw [(index7 t).2]; omega

/-- Every point writes its block of window 7 back. -/
theorem flush7 : ∀ t : Fin cfg0.N, (cfg0.win 7).flush t = true :=
  (by decide +kernel : ∀ t : Fin grid0.N, win0_7.flush t = true)

/-- The result array of window 7 after the run. -/
theorem final7 (c : Dev nD) : (dats m 0 c).arrAt 7 cfg0.N = resultOf7 m c :=
  (dats m 0 c).arrAt_eq_of_cover 7 (resultOf7 m c) (flushed_eq7 m c) fun i => by
    have hN : cfg0.N = 32 := N_0
    have h0 : (i 0 : Nat) < 16384 := (i 0).isLt
    have h1 : (i 1 : Nat) < 1024 := (i 1).isLt
    refine ⟨⟨(i 0).val / 512, by omega⟩, flush7 _, ?_⟩
    generalize ht : (⟨(i 0).val / 512, by omega⟩ : Fin cfg0.N) = t
    have hv : t.val = (i 0).val / 512 := by rw [← ht]
    show i ∈ ((View.whole main_v8_1).slice (win0_7.rect t)).set
    rw [View.set_slice_whole, Rect.mem_set_unit]
    intro a
    match a with
    | ⟨0, _⟩ => show win0_7.index t 0 * 512 ≤ (i 0 : Nat) ∧ (i 0 : Nat) < win0_7.index t 0 * 512 + 512
                rw [(index7 t).1]; omega
    | ⟨1, _⟩ => show win0_7.index t 1 * 1024 ≤ (i 1 : Nat) ∧ (i 1 : Nat) < win0_7.index t 1 * 1024 + 1024
                rw [(index7 t).2]; omega

/-- The result array of window 8, from the arguments as launched. -/
def result8 (x0 : FVec Ideal S16384x1024 .f32) (x1 : FVec Ideal S1024 .f32) (x3 : FVec Ideal S1024x1024 .f32) : FVec Ideal S16384x1024 .bf16 := fun i =>
  proj (fun k => x0 (ix2 (i 0) k)) (fun k => x1 (ix1 k)) (fun k j => x3 (ix2 k j)) (i 1)

/-- `result8` of the arguments of device `c` as launched. -/
abbrev resultOf8 (c : Dev nD) : FVec Ideal S16384x1024 .bf16 :=
  result8 (m ((c : Thread nD τ).loc main_arg0)) (m ((c : Thread nD τ).loc main_arg1)) (m ((c : Thread nD τ).loc main_arg3))

/-- What point `t` leaves for window 8 is `result8` on its block. -/
theorem outs8 (c : Dev nD) (t : Fin cfg0.N) (r : Fin 512) (j : Fin 1024) :
    out0_8 (iblk m c 0 t) (iblk m c 1 t) (iblk m c 2 t) (iblk m c 3 t) (iblk m c 4 t) (iblk m c 5 t) (ix2 r j) = resultOf8 m c (ix2 (row t r) j) := by
  rw [out8_apply]
  simp only [blk0, blk1, blk2, blk3, blk4, blk5]
  rfl

/-- What point `t` writes back for window 8 is its block of `result8`. -/
theorem flushed_eq8 (c : Dev nD) (t : Fin cfg0.N) (_hf : (cfg0.win 8).flush t = true) :
    (dats m 0 c).flushed 8 t = ((cfg0.win 8).blk t).view.read (Elt Ideal) (resultOf8 m c) := by
  rw [Cert.ProjIdeal.Value.flushed8]
  funext i
  rw [View.read_apply]
  have hi : i = (ix2 (i 0) (i 1) : S512x1024.Idx) := by
    funext a
    match a with
    | ⟨0, _⟩ => rfl
    | ⟨1, _⟩ => rfl
  show out0_8 (iblk m c 0 t) (iblk m c 1 t) (iblk m c 2 t) (iblk m c 3 t) (iblk m c 4 t) (iblk m c 5 t) i = resultOf8 m c _
  refine (congrArg (out0_8 (iblk m c 0 t) (iblk m c 1 t) (iblk m c 2 t) (iblk m c 3 t) (iblk m c 4 t) (iblk m c 5 t)) hi).trans ((outs8 m c t (i 0) (i 1)).trans (congrArg (resultOf8 m c) (funext fun a => Fin.ext ?_)))
  match a with
  | ⟨0, _⟩ => show t.val * 512 + (i 0).val = win0_8.index t 0 * 512 + 1 * (i 0).val; rw [(index8 t).1]; omega
  | ⟨1, _⟩ => show (i 1).val = win0_8.index t 1 * 1024 + 1 * (i 1).val; rw [(index8 t).2]; omega

/-- Every point writes its block of window 8 back. -/
theorem flush8 : ∀ t : Fin cfg0.N, (cfg0.win 8).flush t = true :=
  (by decide +kernel : ∀ t : Fin grid0.N, win0_8.flush t = true)

/-- The result array of window 8 after the run. -/
theorem final8 (c : Dev nD) : (dats m 0 c).arrAt 8 cfg0.N = resultOf8 m c :=
  (dats m 0 c).arrAt_eq_of_cover 8 (resultOf8 m c) (flushed_eq8 m c) fun i => by
    have hN : cfg0.N = 32 := N_0
    have h0 : (i 0 : Nat) < 16384 := (i 0).isLt
    have h1 : (i 1 : Nat) < 1024 := (i 1).isLt
    refine ⟨⟨(i 0).val / 512, by omega⟩, flush8 _, ?_⟩
    generalize ht : (⟨(i 0).val / 512, by omega⟩ : Fin cfg0.N) = t
    have hv : t.val = (i 0).val / 512 := by rw [← ht]
    show i ∈ ((View.whole main_v8_2).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [(index8 t).1]; omega
    | ⟨1, _⟩ => show win0_8.index t 1 * 1024 ≤ (i 1 : Nat) ∧ (i 1 : Nat) < win0_8.index t 1 * 1024 + 1024
                rw [(index8 t).2]; omega

/-- The result array of window 9, from the arguments as launched. -/
def result9 (x0 : FVec Ideal S16384x1024 .f32) (x1 : FVec Ideal S1024 .f32) (x4 : FVec Ideal S1024x1024 .f32) : FVec Ideal S1024x16384 .bf16 := fun i =>
  proj (fun k => x0 (ix2 (i 1) k)) (fun k => x1 (ix1 k)) (fun k j => x4 (ix2 k j)) (i 0)

/-- `result9` of the arguments of device `c` as launched. -/
abbrev resultOf9 (c : Dev nD) : FVec Ideal S1024x16384 .bf16 :=
  result9 (m ((c : Thread nD τ).loc main_arg0)) (m ((c : Thread nD τ).loc main_arg1)) (m ((c : Thread nD τ).loc main_arg4))

/-- What point `t` leaves for window 9 is `result9` on its block. -/
theorem outs9 (c : Dev nD) (t : Fin cfg0.N) (r : Fin 512) (j : Fin 1024) :
    out0_9 (iblk m c 0 t) (iblk m c 1 t) (iblk m c 2 t) (iblk m c 3 t) (iblk m c 4 t) (iblk m c 5 t) (ix2 j r) = resultOf9 m c (ix2 j (row t r)) := by
  rw [out9_apply]
  simp only [blk0, blk1, blk2, blk3, blk4, blk5]
  rfl

/-- What point `t` writes back for window 9 is its block of `result9`. -/
theorem flushed_eq9 (c : Dev nD) (t : Fin cfg0.N) (_hf : (cfg0.win 9).flush t = true) :
    (dats m 0 c).flushed 9 t = ((cfg0.win 9).blk t).view.read (Elt Ideal) (resultOf9 m c) := by
  rw [Cert.ProjIdeal.Value.flushed9]
  funext i
  rw [View.read_apply]
  have hi : i = (ix2 (i 0) (i 1) : S1024x512.Idx) := by
    funext a
    match a with
    | ⟨0, _⟩ => rfl
    | ⟨1, _⟩ => rfl
  show out0_9 (iblk m c 0 t) (iblk m c 1 t) (iblk m c 2 t) (iblk m c 3 t) (iblk m c 4 t) (iblk m c 5 t) i = resultOf9 m c _
  refine (congrArg (out0_9 (iblk m c 0 t) (iblk m c 1 t) (iblk m c 2 t) (iblk m c 3 t) (iblk m c 4 t) (iblk m c 5 t)) hi).trans ((outs9 m c t (i 1) (i 0)).trans (congrArg (resultOf9 m c) (funext fun a => Fin.ext ?_)))
  match a with
  | ⟨0, _⟩ => show (i 0).val = win0_9.index t 0 * 1024 + 1 * (i 0).val; rw [(index9 t).1]; omega
  | ⟨1, _⟩ => show t.val * 512 + (i 1).val = win0_9.index t 1 * 512 + 1 * (i 1).val; rw [(index9 t).2]; omega

/-- Every point writes its block of window 9 back. -/
theorem flush9 : ∀ t : Fin cfg0.N, (cfg0.win 9).flush t = true :=
  (by decide +kernel : ∀ t : Fin grid0.N, win0_9.flush t = true)

/-- The result array of window 9 after the run. -/
theorem final9 (c : Dev nD) : (dats m 0 c).arrAt 9 cfg0.N = resultOf9 m c :=
  (dats m 0 c).arrAt_eq_of_cover 9 (resultOf9 m c) (flushed_eq9 m c) fun i => by
    have hN : cfg0.N = 32 := N_0
    have h0 : (i 0 : Nat) < 1024 := (i 0).isLt
    have h1 : (i 1 : Nat) < 16384 := (i 1).isLt
    refine ⟨⟨(i 1).val / 512, by omega⟩, flush9 _, ?_⟩
    generalize ht : (⟨(i 1).val / 512, by omega⟩ : Fin cfg0.N) = t
    have hv : t.val = (i 1).val / 512 := by rw [← ht]
    show i ∈ ((View.whole main_v8_3).slice (win0_9.rect t)).set
    rw [View.set_slice_whole, Rect.mem_set_unit]
    intro a
    match a with
    | ⟨0, _⟩ => show win0_9.index t 0 * 1024 ≤ (i 0 : Nat) ∧ (i 0 : Nat) < win0_9.index t 0 * 1024 + 1024
                rw [(index9 t).1]; omega
    | ⟨1, _⟩ => show win0_9.index t 1 * 512 ≤ (i 1 : Nat) ∧ (i 1 : Nat) < win0_9.index t 1 * 512 + 512
                rw [(index9 t).2]; omega

/-- The result array of window 10, from the arguments as launched. -/
def result10 (x0 : FVec Ideal S16384x1024 .f32) (x2 : FVec Ideal S2x1024 .f32) (x5 : FVec Ideal S1x1024x1024 .f32) : FVec Ideal S16384x1024 .bf16 := fun i =>
  query (fun k => x0 (ix2 (i 0) k)) (fun k => x2 (ix2 1 k)) (fun k j => x5 (ix3 0 k j)) (Ideal.ofBits .f32 0x3FB8AA3B#32) (i 1)

/-- `result10` of the arguments of device `c` as launched. -/
abbrev resultOf10 (c : Dev nD) : FVec Ideal S16384x1024 .bf16 :=
  result10 (m ((c : Thread nD τ).loc main_arg0)) (m ((c : Thread nD τ).loc main_arg2)) (m ((c : Thread nD τ).loc main_arg5))

/-- What point `t` leaves for window 10 is `result10` on its block. -/
theorem outs10 (c : Dev nD) (t : Fin cfg0.N) (r : Fin 512) (j : Fin 1024) :
    out0_10 (iblk m c 0 t) (iblk m c 1 t) (iblk m c 2 t) (iblk m c 3 t) (iblk m c 4 t) (iblk m c 5 t) (ix2 r j) = resultOf10 m c (ix2 (row t r) j) := by
  rw [out10_apply]
  simp only [blk0, blk1, blk2, blk3, blk4, blk5]
  rfl

/-- What point `t` writes back for window 10 is its block of `result10`. -/
theorem flushed_eq10 (c : Dev nD) (t : Fin cfg0.N) (_hf : (cfg0.win 10).flush t = true) :
    (dats m 0 c).flushed 10 t = ((cfg0.win 10).blk t).view.read (Elt Ideal) (resultOf10 m c) := by
  rw [Cert.ProjIdeal.Value.flushed10]
  funext i
  rw [View.read_apply]
  have hi : i = (ix2 (i 0) (i 1) : S512x1024.Idx) := by
    funext a
    match a with
    | ⟨0, _⟩ => rfl
    | ⟨1, _⟩ => rfl
  show out0_10 (iblk m c 0 t) (iblk m c 1 t) (iblk m c 2 t) (iblk m c 3 t) (iblk m c 4 t) (iblk m c 5 t) i = resultOf10 m c _
  refine (congrArg (out0_10 (iblk m c 0 t) (iblk m c 1 t) (iblk m c 2 t) (iblk m c 3 t) (iblk m c 4 t) (iblk m c 5 t)) hi).trans ((outs10 m c t (i 0) (i 1)).trans (congrArg (resultOf10 m c) (funext fun a => Fin.ext ?_)))
  match a with
  | ⟨0, _⟩ => show t.val * 512 + (i 0).val = win0_10.index t 0 * 512 + 1 * (i 0).val; rw [(index10 t).1]; omega
  | ⟨1, _⟩ => show (i 1).val = win0_10.index t 1 * 1024 + 1 * (i 1).val; rw [(index10 t).2]; omega

/-- Every point writes its block of window 10 back. -/
theorem flush10 : ∀ t : Fin cfg0.N, (cfg0.win 10).flush t = true :=
  (by decide +kernel : ∀ t : Fin grid0.N, win0_10.flush t = true)

/-- The result array of window 10 after the run. -/
theorem final10 (c : Dev nD) : (dats m 0 c).arrAt 10 cfg0.N = resultOf10 m c :=
  (dats m 0 c).arrAt_eq_of_cover 10 (resultOf10 m c) (flushed_eq10 m c) fun i => by
    have hN : cfg0.N = 32 := N_0
    have h0 : (i 0 : Nat) < 16384 := (i 0).isLt
    have h1 : (i 1 : Nat) < 1024 := (i 1).isLt
    refine ⟨⟨(i 0).val / 512, by omega⟩, flush10 _, ?_⟩
    generalize ht : (⟨(i 0).val / 512, by omega⟩ : Fin cfg0.N) = t
    have hv : t.val = (i 0).val / 512 := by rw [← ht]
    show i ∈ ((View.whole main_v8_4).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512
                rw [(index10 t).1]; omega
    | ⟨1, _⟩ => show win0_10.index t 1 * 1024 ≤ (i 1 : Nat) ∧ (i 1 : Nat) < win0_10.index t 1 * 1024 + 1024
                rw [(index10 t).2]; omega

end Cert.ProjValue

end
-- ==== Proof.ProjRow.lean ====
/-
  The reference of the projections, element by element over the extended reals: a row of the input, normed (RowMath.lean),
  times one of the matrices.
-/
module

public import proofs.«01_k».proof.Proof.RowMath
public import proofs.«01_k».proof.Proof.Gen.ProjRefIdeal.Read

@[expose] public section

set_option maxRecDepth 16384

noncomputable section

namespace Cert.ProjRow

open Idealize.ShloMosaic Idealize.SL.Sem Cert.ProjRefIdeal Cert.ProjRefIdeal.Gen Idealize.ShloMosaic.TcCoe Cert.Rows Cert.ProjRefIdeal.Read

variable (x0 : FVec Ideal S16384x1024 .f32) (x1 : FVec Ideal S1024 .f32) (x2 : FVec Ideal S2x1024 .f32)
  (x3 x4 : FVec Ideal S1024x1024 .f32) (x5 : FVec Ideal S1x1024x1024 .f32)

/-- The normed row the keys and values come from. -/
theorem v12_apply (r : Fin 16384) (c : Fin 1024) :
    val_main_v12 (F := Ideal) x0 x1 (ix2 r c) = rmsn (fun k => x0 (ix2 r k)) (fun k => x1 (ix1 k)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The keys. -/
theorem v13_apply (r : Fin 16384) (j : Fin 1024) :
    val_main_v13 (F := Ideal) x0 x1 x3 (ix2 r j) = proj (fun k => x0 (ix2 r k)) (fun k => x1 (ix1 k)) (fun k j => x3 (ix2 k j)) j := by
  unfold proj
  rw [show rmsn (fun k => x0 (ix2 r k)) (fun k => x1 (ix1 k)) = fun k => val_main_v12 (F := Ideal) x0 x1 (ix2 r k) from
    funext fun k => (v12_apply x0 x1 r k).symm]
  unfold val_main_v13
  generalize val_main_v12 (F := Ideal) x0 x1 = y
  pointwise [dot_S16384x1024_S1024x1024_S16384x1024_1_0_0_1_n_n]
  rfl

/-- The values. -/
theorem v14_apply (r : Fin 16384) (j : Fin 1024) :
    val_main_v14 (F := Ideal) x0 x1 x4 (ix2 r j) = proj (fun k => x0 (ix2 r k)) (fun k => x1 (ix1 k)) (fun k j => x4 (ix2 k j)) j := by
  unfold proj
  rw [show rmsn (fun k => x0 (ix2 r k)) (fun k => x1 (ix1 k)) = fun k => val_main_v12 (F := Ideal) x0 x1 (ix2 r k) from
    funext fun k => (v12_apply x0 x1 r k).symm]
  unfold val_main_v14
  generalize val_main_v12 (F := Ideal) x0 x1 = y
  pointwise [dot_S16384x1024_S1024x1024_S16384x1024_1_0_0_1_n_n]
  rfl

/-- The normed row the queries come from. -/
theorem v29_apply (r : Fin 16384) (c : Fin 1024) :
    val_main_v29 (F := Ideal) x0 x2 (ix2 r c) = rmsn (fun k => x0 (ix2 r k)) (fun k => x2 (ix2 1 k)) c := by
  pointwise [val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  rfl

/-- The rounded keys. -/
theorem v34_apply (r : Fin 16384) (j : Fin 1024) :
    val_main_v34 (F := Ideal) x0 x1 x3 (ix2 r j) = proj (fun k => x0 (ix2 r k)) (fun k => x1 (ix1 k)) (fun k j => x3 (ix2 k j)) j := by
  rw [← v13_apply]
  rfl

/-- The rounded values, transposed. -/
theorem v36_apply (r : Fin 16384) (j : Fin 1024) :
    val_main_v36 (F := Ideal) x0 x1 x4 (ix2 j r) = proj (fun k => x0 (ix2 r k)) (fun k => x1 (ix1 k)) (fun k j => x4 (ix2 k j)) j := by
  rw [← v14_apply]
  unfold val_main_v36 val_main_v35
  generalize val_main_v14 (F := Ideal) x0 x1 x4 = y
  pointwise

/-- The queries. -/
theorem v39_apply (r : Fin 16384) (j : Fin 1024) :
    val_main_v39 (F := Ideal) x0 x2 x5 (ix2 r j)
      = query (fun k => x0 (ix2 r k)) (fun k => x2 (ix2 1 k)) (fun k j => x5 (ix3 0 k j)) (Ideal.ofBits .f32 0x3FB8AA3B#32) j := by
  unfold query
  rw [show rmsn (fun k => x0 (ix2 r k)) (fun k => x2 (ix2 1 k)) = fun k => val_main_v29 (F := Ideal) x0 x2 (ix2 r k) from
    funext fun k => (v29_apply x0 x2 r k).symm]
  unfold val_main_v39 val_main_v38 val_main_v33 val_main_v31
  generalize val_main_v29 (F := Ideal) x0 x2 = y
  pointwise [val_main_v37, val_main_cst_6, val_main_v32, val_main_cst_5, val_main_v30, dot_S16384x1024_S1024x1024_S16384x1024_1_0_0_1_n_n]
  rfl

end Cert.ProjRow

end
-- ==== Proof.ProjClaims.lean ====
/-
  The claims about the prompt group's projections (keys, values, queries): the frames, and the values.
-/
module

public import proofs.«01_k».proof.Defs
public import proofs.«01_k».proof.Proof.Gen.Proj.Frame
public import proofs.«01_k».proof.Proof.ProjValue
public import proofs.«01_k».proof.Proof.ProjRow
public import proofs.«01_k».proof.Proof.Gen.ProjRefIdeal.Run
public import Idealize.ShloMosaic.Adequacy
public import Idealize.ShloMosaic.Init

@[expose] public section

set_option maxRecDepth 16384

noncomputable section

namespace Cert.ProjClaims

open Idealize.ShloMosaic Idealize.SL.Sem Idealize.ShloMosaic.TcCoe

/-- The printed program ends, keeps its arguments and leaves its counters at zero. -/
theorem frame_p : Cert.quiescent_Proj := fun m g _ => Cert.Proj.Gen.frame m g

/-- So does its reading over the extended reals. -/
theorem frame_pi : Cert.quiescent_ProjIdeal := fun m g _ => Cert.ProjIdeal.Gen.frame m g

/-- So does the reference. -/
theorem frame_ri : Cert.quiescent_ProjRefIdeal := fun m g _ =>
  (θ_run Cert.ProjRefIdeal.defs _ _).mono (fun r h => ⟨fun c => (h c).2.2.2.2.2,
      Idealize.ShloMosaic.sem_eq_zero_of_no_sems (by decide) r.2⟩)
    (Cert.ProjRefIdeal.Value.run (F := Ideal) m g)

/-- The reading rewrites nothing. -/
theorem preserves : Cert.preserves_Proj_ProjIdeal := trivial

/-- The reference's result is the function the kernel's value is stated with (result 0). -/
theorem value0 (x0 : FVec Ideal Cert.ProjRefIdeal.S16384x1024 .f32) (x1 : FVec Ideal Cert.ProjRefIdeal.S1024 .f32) (x3 : FVec Ideal Cert.ProjRefIdeal.S1024x1024 .f32) :
    Cert.ProjRefIdeal.Read.val_main_v13 (F := Ideal) x0 x1 x3 = Cert.ProjValue.result6 x0 x1 x3 := by
  funext i
  refine (congrArg _ (?_ : i = ix2 (i 0) (i 1))).trans ((Cert.ProjRow.v13_apply x0 x1 x3 (i 0) (i 1)).trans ?_)
  · funext a
    match a with
    | ⟨0, _⟩ => rfl
    | ⟨1, _⟩ => rfl
  · rfl

/-- The reference's result is the function the kernel's value is stated with (result 1). -/
theorem value1 (x0 : FVec Ideal Cert.ProjRefIdeal.S16384x1024 .f32) (x1 : FVec Ideal Cert.ProjRefIdeal.S1024 .f32) (x4 : FVec Ideal Cert.ProjRefIdeal.S1024x1024 .f32) :
    Cert.ProjRefIdeal.Read.val_main_v14 (F := Ideal) x0 x1 x4 = Cert.ProjValue.result7 x0 x1 x4 := by
  funext i
  refine (congrArg _ (?_ : i = ix2 (i 0) (i 1))).trans ((Cert.ProjRow.v14_apply x0 x1 x4 (i 0) (i 1)).trans ?_)
  · funext a
    match a with
    | ⟨0, _⟩ => rfl
    | ⟨1, _⟩ => rfl
  · rfl

/-- The reference's result is the function the kernel's value is stated with (result 2). -/
theorem value2 (x0 : FVec Ideal Cert.ProjRefIdeal.S16384x1024 .f32) (x1 : FVec Ideal Cert.ProjRefIdeal.S1024 .f32) (x3 : FVec Ideal Cert.ProjRefIdeal.S1024x1024 .f32) :
    Cert.ProjRefIdeal.Read.val_main_v34 (F := Ideal) x0 x1 x3 = Cert.ProjValue.result8 x0 x1 x3 := by
  funext i
  refine (congrArg _ (?_ : i = ix2 (i 0) (i 1))).trans ((Cert.ProjRow.v34_apply x0 x1 x3 (i 0) (i 1)).trans ?_)
  · funext a
    match a with
    | ⟨0, _⟩ => rfl
    | ⟨1, _⟩ => rfl
  · rfl

/-- The reference's result is the function the kernel's value is stated with (result 3). -/
theorem value3 (x0 : FVec Ideal Cert.ProjRefIdeal.S16384x1024 .f32) (x1 : FVec Ideal Cert.ProjRefIdeal.S1024 .f32) (x4 : FVec Ideal Cert.ProjRefIdeal.S1024x1024 .f32) :
    Cert.ProjRefIdeal.Read.val_main_v36 (F := Ideal) x0 x1 x4 = Cert.ProjValue.result9 x0 x1 x4 := by
  funext i
  refine (congrArg _ (?_ : i = ix2 (i 0) (i 1))).trans ((Cert.ProjRow.v36_apply x0 x1 x4 (i 1) (i 0)).trans ?_)
  · funext a
    match a with
    | ⟨0, _⟩ => rfl
    | ⟨1, _⟩ => rfl
  · rfl

/-- The reference's result is the function the kernel's value is stated with (result 4). -/
theorem value4 (x0 : FVec Ideal Cert.ProjRefIdeal.S16384x1024 .f32) (x2 : FVec Ideal Cert.ProjRefIdeal.S2x1024 .f32) (x5 : FVec Ideal Cert.ProjRefIdeal.S1x1024x1024 .f32) :
    Cert.ProjRefIdeal.Read.val_main_v39 (F := Ideal) x0 x2 x5 = Cert.ProjValue.result10 x0 x2 x5 := by
  funext i
  refine (congrArg _ (?_ : i = ix2 (i 0) (i 1))).trans ((Cert.ProjRow.v39_apply x0 x2 x5 (i 0) (i 1)).trans ?_)
  · funext a
    match a with
    | ⟨0, _⟩ => rfl
    | ⟨1, _⟩ => rfl
  · rfl

/-- The kernel's results are the reference's, element by element over the extended reals. -/
theorem algebraic : Cert.algebraic_ProjIdeal_ProjRefIdeal := by
  intro m g m' g' _ hagree
  refine ⟨fun c => Cert.ProjValue.resultOf6 m c, fun c => Cert.ProjValue.resultOf7 m c, fun c => Cert.ProjValue.resultOf8 m c, fun c => Cert.ProjValue.resultOf9 m c, fun c => Cert.ProjValue.resultOf10 m c,
    (θ_run Cert.ProjIdeal.defs _ _).mono (fun r h c => ?_) (Cert.ProjIdeal.Value.run_blocks (F := Ideal) m g),
    (θ_run Cert.ProjRefIdeal.defs _ _).mono (fun r h c => ?_) (Cert.ProjRefIdeal.Value.run (F := Ideal) m' g')⟩
  · obtain ⟨e0, e1, e2, e3, e4, hk⟩ := h c
    exact ⟨e0.trans (Cert.ProjValue.final6 m c), e1.trans (Cert.ProjValue.final7 m c), e2.trans (Cert.ProjValue.final8 m c), e3.trans (Cert.ProjValue.final9 m c), e4.trans (Cert.ProjValue.final10 m c), hk⟩
  · obtain ⟨e0, e1, e2, e3, e4, hk⟩ := h c
    obtain ⟨h0, h1, h2, h3, h4, h5⟩ := hagree c
    refine ⟨e0.trans ?_, e1.trans ?_, e2.trans ?_, e3.trans ?_, e4.trans ?_, hk⟩
    · refine (Cert.ProjRefIdeal.Read.val_main_v13_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3))).trans ((value0 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3))).trans ?_)
      show Cert.ProjValue.result6 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3)) = Cert.ProjValue.result6 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg3))
      rw [h0, h1, h3]
    · refine (Cert.ProjRefIdeal.Read.val_main_v14_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))).trans ((value1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))).trans ?_)
      show Cert.ProjValue.result7 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = Cert.ProjValue.result7 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg4))
      rw [h0, h1, h4]
    · refine (Cert.ProjRefIdeal.Read.val_main_v34_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3))).trans ((value2 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3))).trans ?_)
      show Cert.ProjValue.result8 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg3)) = Cert.ProjValue.result8 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg3))
      rw [h0, h1, h3]
    · refine (Cert.ProjRefIdeal.Read.val_main_v36_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))).trans ((value3 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4))).trans ?_)
      show Cert.ProjValue.result9 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg4)) = Cert.ProjValue.result9 (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg4))
      rw [h0, h1, h4]
    · refine (Cert.ProjRefIdeal.Read.val_main_v39_eq (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5))).trans ((value4 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5))).trans ?_)
      show Cert.ProjValue.result10 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg5)) = Cert.ProjValue.result10 (m ((c.tc : Thread Cert.ProjIdeal.nD Cert.ProjIdeal.τ).loc Cert.ProjIdeal.main_arg0)) (m ((c.tc : Thread Cert.ProjIdeal.nD Cert.ProjIdeal.τ).loc Cert.ProjIdeal.main_arg2)) (m ((c.tc : Thread Cert.ProjIdeal.nD Cert.ProjIdeal.τ).loc Cert.ProjIdeal.main_arg5))
      rw [h0, h2, h5]

end Cert.ProjClaims

end
-- ==== Proof.TailSBlock.lean ====
/-
  One grid point of the sample rows' last call, element by element over the extended reals: the block its store leaves is the
  feed-forward block (RowMath.lean) of the row's attention residual.
-/
module

public import proofs.«01_k».proof.Proof.RowMath
public import proofs.«01_k».proof.Proof.Gen.TailSIdeal.Skeleton

@[expose] public section

set_option maxRecDepth 16384

noncomputable section

namespace Cert.TailSBlock
open Idealize.ShloMosaic Idealize.SL.Sem Cert.TailSIdeal Cert.TailSIdeal.Gen Idealize.ShloMosaic.TcCoe Cert.Rows
open Idealize.ShloMosaic.Pipeline (Dat Cfg Window)

/-- The first residual of a block row: the row plus its normed attention projection. -/
theorem pay2_apply (v0 : Vec Ideal S128x1024 .f32) (v1 : Vec Ideal S128x1024 .f32) (v2 : Vec Ideal S1024x1024 .bf16)
    (v5 : Vec Ideal S1x1024 .f32) (r : Fin 128) (c : Fin 1024) :
    k0_pay2 v0 v1 v2 v5 (ix2 r c)
      = outproj (fun k => v0 (ix2 r k)) (fun k => v1 (ix2 r k)) (fun k j => v2 (ix2 k j)) (fun k => v5 (ix2 0 k)) c := by
  pointwise [k0_pay2, dot_S128x1024_S1024x1024_S128x1024_1_0_0_1_n_n]
  rfl

/-- The normed row the feed-forward block reads. -/
theorem pay3_apply (v0 : Vec Ideal S128x1024 .f32) (v1 : Vec Ideal S128x1024 .f32) (v2 : Vec Ideal S1024x1024 .bf16)
    (v5 v20 : Vec Ideal S1x1024 .f32) (r : Fin 128) (c : Fin 1024) :
    k0_pay3 v0 v1 v2 v5 v20 (ix2 r c) = rmsn (fun k => k0_pay2 v0 v1 v2 v5 (ix2 r k)) (fun k => v20 (ix2 0 k)) c := by
  unfold k0_pay3
  generalize k0_pay2 v0 v1 v2 v5 = y
  pointwise
  rfl

/-- The gated activations, left half. -/
theorem pay5_apply (v34 : FVec Ideal S128x1024 .bf16) (v36 v38 : Vec Ideal S1x1024x1408 .bf16) (r : Fin 128) (j : Fin 1408) :
   k0_pay5 v34 (k0_pay4 v36) (fun _ => FloatOps.ofBits FTy.f32 0#32) v38 (ix2 r j) = dot (fun k => v34 (ix2 r k)) (fun k j => v36 (ix3 0 k j)) j * Ideal.logistic (dot (fun k => v34 (ix2 r k)) (fun k j => v36 (ix3 0 k j)) j) * dot (fun k => v34 (ix2 r k)) (fun k j => v38 (ix3 0 k j)) j := by
  pointwise [k0_pay5, k0_pay4, dot_S128x1024_S1024x1408_S128x1408_1_0_0_1_n_n]
  rfl

/-- The gated activations, right half. -/
theorem pay6_apply (v34 : FVec Ideal S128x1024 .bf16) (v48 v51 : Vec Ideal S1x1024x1408 .bf16) (r : Fin 128) (j : Fin 1408) :
   k0_pay6 v34 v48 v51 (ix2 r j) = dot (fun k => v34 (ix2 r k)) (fun k j => v48 (ix3 0 k j)) j * Ideal.logistic (dot (fun k => v34 (ix2 r k)) (fun k j => v48 (ix3 0 k j)) j) * dot (fun k => v34 (ix2 r k)) (fun k j => v51 (ix3 0 k j)) j := by
  pointwise [k0_pay6, dot_S128x1024_S1024x1408_S128x1408_1_0_0_1_n_n]
  rfl

/-- The down projection of the kept activations. -/
theorem pay7_apply (v61 : Vec Ideal S128x2816 .bf16) (v62 : Vec Ideal S1x2816x1024 .bf16) (r : Fin 128) (c : Fin 1024) :
    k0_pay7 v61 v62 (ix2 r c) = dot (fun j => v61 (ix2 r j)) (fun j c => v62 (ix3 0 j c)) c := by
  pointwise [k0_pay7, dot_S128x2816_S2816x1024_S128x1024_1_0_0_1_n_n]
  rfl

/-- What the block's store leaves at one index, from the row it adds to and the product it norms. -/
theorem pay1_apply (v19 : FVec Ideal S128x1024 .f32) (v61 : Vec Ideal S128x2816 .bf16) (v62 : Vec Ideal S1x2816x1024 .bf16)
    (v65 : Vec Ideal S1x1024 .f32) (r : Fin 128) (c : Fin 1024) :
    k0_pay1 v19 (k0_pay7 v61 v62) (k0_pay8 v65) (k0_pay9 v61 v62) (ix2 r c)
      = v19 (ix2 r c) + rmsn (fun k => k0_pay7 v61 v62 (ix2 r k)) (fun k => v65 (ix2 0 k)) c := by
  unfold k0_pay1 k0_pay8 k0_pay9
  generalize k0_pay7 v61 v62 = y
  pointwise
  rfl

/-- The activations the block keeps: the two stores of 1408 columns, read back whole. -/
def acts (h : FVec Ideal S128x1024 .bf16) (x6 x7 : Vec Ideal S1x1024x2816 .bf16) : Vec Ideal S128x2816 .bf16 :=
  (View.whole cc0_scratch0).readCov
    [⟨Rect.unit ![0, 1408] ![128, 1408] inb_S128x2816_S128x1408_0_1408,
        k0_pay6 h (View.ld x6 (Rect.unit ![0, 0, 1408] ![1, 1024, 1408] inb_S1x1024x2816_S1x1024x1408_0_0_1408))
          (View.ld x7 (Rect.unit ![0, 0, 1408] ![1, 1024, 1408] inb_S1x1024x2816_S1x1024x1408_0_0_1408))⟩,
      ⟨Rect.unit ![0, 0] ![128, 1408] inb_S128x2816_S128x1408_0_0,
        k0_pay5 h (k0_pay4 (View.ld x6 (Rect.unit ![0, 0, 0] ![1, 1024, 1408] inb_S1x1024x2816_S1x1024x1408_0_0_0))) (fun _ => FloatOps.ofBits FTy.f32 0#32) (View.ld x7 (Rect.unit ![0, 0, 0] ![1, 1024, 1408] inb_S1x1024x2816_S1x1024x1408_0_0_0))⟩]
    (Rect.unit ![0, 0] ![128, 2816] inb_S128x2816_S128x2816_0_0).toLoadRect

/-- The left half of a matrix of 2816 columns. -/
def left (x : Vec Ideal S1x1024x2816 .bf16) : Vec Ideal S1x1024x1408 .bf16 :=
  fun i => x (ix3 0 (i 1) ⟨(i 2).val, (i 2).isLt.trans (by decide)⟩)

/-- The right half of a matrix of 2816 columns. -/
def right (x : Vec Ideal S1x1024x2816 .bf16) : Vec Ideal S1x1024x1408 .bf16 :=
  fun i => x (ix3 0 (i 1) ⟨(i 2).val + 1408, by have : (i 2).val < 1408 := (i 2).isLt; omega⟩)

/-- The load of columns 0 to 1407 is the left half. -/
theorem ld_left (x : Vec Ideal S1x1024x2816 .bf16) :
    View.ld x (Rect.unit ![0, 0, 0] ![1, 1024, 1408] inb_S1x1024x2816_S1x1024x1408_0_0_0) = left x := by
  funext i
  refine congrArg x (funext fun a => Fin.ext ?_)
  match a with
  | ⟨0, _⟩ => have h : (i 0).val < 1 := (i 0).isLt
              show 0 + 1 * (i 0).val = 0; omega
  | ⟨1, _⟩ => show 0 + 1 * (i 1).val = (i 1).val; omega
  | ⟨2, _⟩ => show 0 + 1 * (i 2).val = (i 2).val; omega

/-- The load of columns 1408 to 2815 is the right half. -/
theorem ld_right (x : Vec Ideal S1x1024x2816 .bf16) :
    View.ld x (Rect.unit ![0, 0, 1408] ![1, 1024, 1408] inb_S1x1024x2816_S1x1024x1408_0_0_1408) = right x := by
  funext i
  refine congrArg x (funext fun a => Fin.ext ?_)
  match a with
  | ⟨0, _⟩ => have h : (i 0).val < 1 := (i 0).isLt
              show 0 + 1 * (i 0).val = 0; omega
  | ⟨1, _⟩ => show 0 + 1 * (i 1).val = (i 1).val; omega
  | ⟨2, _⟩ => show 1408 + 1 * (i 2).val = (i 2).val + 1408; omega

/-- Each kept activation is the gated activation of its column. -/
theorem acts_apply (h : FVec Ideal S128x1024 .bf16) (x6 x7 : Vec Ideal S1x1024x2816 .bf16)
    (r : Fin 128) (j : Fin 2816) :
    acts h x6 x7 (ix2 r j)
      = act (fun k => h (ix2 r k)) (fun k j => x6 (ix3 0 k j)) (fun k j => x7 (ix3 0 k j)) j := by
  have e : (Rect.unit (s := S128x2816) ![0, 0] ![128, 2816] inb_S128x2816_S128x2816_0_0).toLoadRect.idx (ix2 r j) = (ix2 r j : S128x2816.Idx) := by
    funext a
    apply Fin.ext
    match a with
    | ⟨0, _⟩ => show 0 + 1 * r.val = r.val; omega
    | ⟨1, _⟩ => show 0 + 1 * j.val = j.val; omega
  unfold acts
  rw [View.readCov_eq_canon']
  dsimp only
  rw [e]
  refine (canon_halves (n := 128) (e := .bf16) _ _ _ _ r j).trans ?_
  split
  · rename_i hj
    rw [pay5_apply, ld_left, ld_left]
    rfl
  · rename_i hj
    rw [pay6_apply, ld_right, ld_right]
    have ej : (⟨j.val - 1408 + 1408, by omega⟩ : Fin 2816) = j := Fin.ext (by show j.val - 1408 + 1408 = j.val; omega)
    exact congrArg (act (fun k => h (ix2 r k)) (fun k j => x6 (ix3 0 k j)) (fun k j => x7 (ix3 0 k j))) ej

/-- One element of what the block's store leaves, from the normed row the feed-forward block reads. -/
theorem store_apply (v19 : FVec Ideal S128x1024 .f32) (h : FVec Ideal S128x1024 .bf16)
    (x5 : Vec Ideal S1x1024 .f32) (x6 x7 : Vec Ideal S1x1024x2816 .bf16) (x8 : Vec Ideal S1x2816x1024 .bf16) (r : Fin 128)
    (c : Fin 1024) :
    k0_pay1 v19 (k0_pay7 (acts h x6 x7) x8) (k0_pay8 x5) (k0_pay9 (acts h x6 x7) x8) (ix2 r c)
      = v19 (ix2 r c) + rmsn (dot (act (fun k => h (ix2 r k)) (fun k j => x6 (ix3 0 k j)) (fun k j => x7 (ix3 0 k j)))
          (fun k j => x8 (ix3 0 k j))) (fun k => x5 (ix2 0 k)) c := by
  have e := fun k => pay7_apply (acts h x6 x7) x8 r k
  have e' := fun j => acts_apply h x6 x7 r j
  rw [pay1_apply]
  simp only [e, e']

/-- One element of what the block's store leaves: the feed-forward block of the row's first residual. -/
theorem block_apply (x0 : Vec Ideal S128x1024 .f32) (x1 : Vec Ideal S128x1024 .f32) (x2 : Vec Ideal S1024x1024 .bf16)
    (x3 x4 x5 : Vec Ideal S1x1024 .f32) (x6 x7 : Vec Ideal S1x1024x2816 .bf16) (x8 : Vec Ideal S1x2816x1024 .bf16)
    (r : Fin 128) (c : Fin 1024) :
    k0_pay1 (k0_pay2 x0 x1 x2 x3)
        (k0_pay7 (acts (k0_pay3 x0 x1 x2 x3 x4) x6 x7) x8)
        (k0_pay8 x5)
        (k0_pay9 (acts (k0_pay3 x0 x1 x2 x3 x4) x6 x7) x8) (ix2 r c)
      = ffn (outproj (fun k => x0 (ix2 r k)) (fun k => x1 (ix2 r k)) (fun k j => x2 (ix2 k j)) (fun k => x3 (ix2 0 k)))
          (fun k => x4 (ix2 0 k)) (fun k => x5 (ix2 0 k)) (fun k j => x6 (ix3 0 k j)) (fun k j => x7 (ix3 0 k j))
          (fun k j => x8 (ix3 0 k j)) c := by
  have e2 := fun k => pay2_apply x0 x1 x2 x3 r k
  have e3 := fun k => pay3_apply x0 x1 x2 x3 x4 r k
  rw [store_apply _ _ _ _ _ _ r c]
  simp only [e2, e3]
  rfl

end Cert.TailSBlock

end
-- ==== Proof.TailSValue.lean ====
/-
  The result array of the sample group's last call after its run, element by element over the extended reals: each row is the
  feed-forward block (RowMath.lean) of the row's attention residual, with the weights as launched.
-/
module

public import proofs.«01_k».proof.Proof.TailSBlock
public import proofs.«01_k».proof.Proof.Gen.TailSIdeal.Value

@[expose] public section

set_option maxRecDepth 16384

noncomputable section

namespace Cert.TailSValue

open Idealize.ShloMosaic Idealize.SL.Sem Cert.TailSIdeal Cert.TailSIdeal.Gen Idealize.ShloMosaic.TcCoe Cert.Rows Cert.TailSBlock
open Idealize.ShloMosaic.Pipeline (Dat Cfg Window)

variable (m : (ℓ : Loc nD τ sig) → Buf (Elt Ideal) ℓ) (ρ : Dev nD → PrngReg)

/-- A zero offset of two axes. -/
theorem hz : (![0, 0] : Fin 2 → Nat) = fun _ => 0 := funext fun a => by fin_cases a <;> rfl
/-- A zero offset of three axes. -/
theorem hz3 : (![0, 0, 0] : Fin 3 → Nat) = fun _ => 0 := funext fun a => by fin_cases a <;> rfl

set_option maxHeartbeats 2000000 in
/-- What the output's staging buffer holds after point `t`, one element. -/
theorem outs_apply (c : Dev nD) (t : Fin cfg0.N) (r : Fin 128) (k : Fin 1024) :
    outsAt0 m c t (ix2 r k)
      = ffn (outproj (fun k => (iblk m c 0 t : Vec Ideal S128x1024 .f32) (ix2 r k))
            (fun k => (iblk m c 1 t : Vec Ideal S128x1024 .f32) (ix2 r k))
            (fun k j => (iblk m c 2 t : Vec Ideal S1024x1024 .bf16) (ix2 k j))
            (fun k => (iblk m c 3 t : Vec Ideal S1x1024 .f32) (ix2 0 k)))
          (fun k => (iblk m c 4 t : Vec Ideal S1x1024 .f32) (ix2 0 k)) (fun k => (iblk m c 5 t : Vec Ideal S1x1024 .f32) (ix2 0 k))
          (fun k j => (iblk m c 6 t : Vec Ideal S1x1024x2816 .bf16) (ix3 0 k j))
          (fun k j => (iblk m c 7 t : Vec Ideal S1x1024x2816 .bf16) (ix3 0 k j))
          (fun k j => (iblk m c 8 t : Vec Ideal S1x2816x1024 .bf16) (ix3 0 k j)) k := by
  unfold outsAt0 out0_A_9
  rw [View.read_writes_eq_canon _ _ _ (cover0_A_9 c _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rw [View.canon_unit_zero (S := S128x1024) hz]
  simp only [View.ld_unit_zero (S := S128x1024) hz, View.ld_unit_zero (S := S1024x1024) hz, View.ld_unit_zero (S := S1x1024) hz, View.ld_unit_zero (S := S1x2816x1024) hz3]
  exact block_apply _ _ _ _ _ _ _ _ _ r k

/-! ## The blocks as parts of the arguments -/

/-- The row of the array that block `t` holds as its row `r`. -/
def row (t : Fin cfg0.N) (r : Fin 128) : Fin 128 :=
  ⟨t.val * 128 + r.val, by have : cfg0.N = 1 := N_0; have := t.isLt; omega⟩

/-- The second of two stacked gains, as a row. -/
theorem gain_apply (x : FVec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k)
      = x (ix2 1 k) := by
  pointwise

/-- The square matrix, rounded and with its leading axis dropped. -/
theorem square_apply (x : FVec Ideal S1x1024x1024 .f32) (k j : Fin 1024) :
    truncf .bf16 (shapeCast S1024x1024 x shapeCasts_S1x1024x1024_S1024x1024) bitsLt_bf16_f32 (ix2 k j) = x (ix3 0 k j) := by
  pointwise

/-- The square matrix the region finds. -/
theorem V_w_o (c : Dev nD) (k j : Fin 1024) :
    (V m c main_v4 : Vec Ideal S1024x1024 .bf16) (ix2 k j) = (m ((c : Thread nD τ).loc main_arg2) : FVec Ideal S1x1024x1024 .f32) (ix3 0 k j) := by
  have e : @Eq (FVec Ideal S1024x1024 .bf16) (V m c main_v4) (truncf .bf16 (shapeCast S1024x1024 (m ((c : Thread nD τ).loc main_arg2) : FVec Ideal S1x1024x1024 .f32) shapeCasts_S1x1024x1024_S1024x1024) bitsLt_bf16_f32) := by
    unfold V
    after_results <;> rfl
  rw [e]
  exact square_apply _ k j

/-- A gain row the region finds. -/
theorem V_gmix (c : Dev nD) (k : Fin 1024) :
    (V m c main_v13 : Vec Ideal S1x1024 .f32) (ix2 0 k) = (m ((c : Thread nD τ).loc main_arg3) : FVec Ideal S2x1024 .f32) (ix2 1 k) := by
  have e : @Eq (FVec Ideal S1x1024 .f32) (V m c main_v13) (shapeCast S1x1024 (shapeCast S1024 (extractStridedSlice S1x1024 ![1, 0] (m ((c : Thread nD τ).loc main_arg3) : FVec Ideal S2x1024 .f32) slices_S2x1024_S1x1024_1_0) shapeCasts_S1x1024_S1024) shapeCasts_S1024_S1x1024) := by
    unfold V
    after_results <;> rfl
  rw [e]
  exact gain_apply _ k

/-- A gain row the region finds. -/
theorem V_gpre (c : Dev nD) (k : Fin 1024) :
    (V m c main_v7 : Vec Ideal S1x1024 .f32) (ix2 0 k) = (m ((c : Thread nD τ).loc main_arg4) : FVec Ideal S2x1024 .f32) (ix2 1 k) := by
  have e : @Eq (FVec Ideal S1x1024 .f32) (V m c main_v7) (shapeCast S1x1024 (shapeCast S1024 (extractStridedSlice S1x1024 ![1, 0] (m ((c : Thread nD τ).loc main_arg4) : FVec Ideal S2x1024 .f32) slices_S2x1024_S1x1024_1_0) shapeCasts_S1x1024_S1024) shapeCasts_S1024_S1x1024) := by
    unfold V
    after_results <;> rfl
  rw [e]
  exact gain_apply _ k

/-- A gain row the region finds. -/
theorem V_gpost (c : Dev nD) (k : Fin 1024) :
    (V m c main_v10 : Vec Ideal S1x1024 .f32) (ix2 0 k) = (m ((c : Thread nD τ).loc main_arg5) : FVec Ideal S2x1024 .f32) (ix2 1 k) := by
  have e : @Eq (FVec Ideal S1x1024 .f32) (V m c main_v10) (shapeCast S1x1024 (shapeCast S1024 (extractStridedSlice S1x1024 ![1, 0] (m ((c : Thread nD τ).loc main_arg5) : FVec Ideal S2x1024 .f32) slices_S2x1024_S1x1024_1_0) shapeCasts_S1x1024_S1024) shapeCasts_S1024_S1x1024) := by
    unfold V
    after_results <;> rfl
  rw [e]
  exact gain_apply _ k

/-- A stacked weight the region finds, rounded. -/
theorem V_gate (c : Dev nD) (k : Fin 1024) (j : Fin 2816) :
    (V m c main_v0 : Vec Ideal S2x1024x2816 .bf16) (ix3 1 k j) = (m ((c : Thread nD τ).loc main_arg6) : FVec Ideal S2x1024x2816 .f32) (ix3 1 k j) := by
  have e : @Eq (FVec Ideal S2x1024x2816 .bf16) (V m c main_v0) (truncf .bf16 (m ((c : Thread nD τ).loc main_arg6) : FVec Ideal S2x1024x2816 .f32) bitsLt_bf16_f32) := by
    unfold V
    after_results <;> rfl
  rw [e]
  exact rfl

/-- A stacked weight the region finds, rounded. -/
theorem V_up (c : Dev nD) (k : Fin 1024) (j : Fin 2816) :
    (V m c main_v1 : Vec Ideal S2x1024x2816 .bf16) (ix3 1 k j) = (m ((c : Thread nD τ).loc main_arg7) : FVec Ideal S2x1024x2816 .f32) (ix3 1 k j) := by
  have e : @Eq (FVec Ideal S2x1024x2816 .bf16) (V m c main_v1) (truncf .bf16 (m ((c : Thread nD τ).loc main_arg7) : FVec Ideal S2x1024x2816 .f32) bitsLt_bf16_f32) := by
    unfold V
    after_results <;> rfl
  rw [e]
  exact rfl

/-- A stacked weight the region finds, rounded. -/
theorem V_down (c : Dev nD) (k : Fin 2816) (j : Fin 1024) :
    (V m c main_v2 : Vec Ideal S2x2816x1024 .bf16) (ix3 1 k j) = (m ((c : Thread nD τ).loc main_arg8) : FVec Ideal S2x2816x1024 .f32) (ix3 1 k j) := by
  have e : @Eq (FVec Ideal S2x2816x1024 .bf16) (V m c main_v2) (truncf .bf16 (m ((c : Thread nD τ).loc main_arg8) : FVec Ideal S2x2816x1024 .f32) bitsLt_bf16_f32) := by
    unfold V
    after_results <;> rfl
  rw [e]
  exact rfl

/-- The block index of window 0 at each grid point. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block index of window 1 at each grid point. -/
theorem index1 : ∀ t : Fin cfg0.N, win0_1.index t 0 = t.val ∧ win0_1.index t 1 = 0 :=
  (by decide +kernel : ∀ t : Fin grid0.N, win0_1.index t 0 = t.val ∧ win0_1.index t 1 = 0)

/-- The block index of window 2 at each grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The block index of window 3 at each grid point. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block index of window 4 at each grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block index of window 5 at each grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- The block index of window 6 at each grid point. -/
theorem index6 : ∀ t : Fin cfg0.N, win0_6.index t 0 = 1 ∧ win0_6.index t 1 = 0 ∧ win0_6.index t 2 = 0 :=
  (by decide +kernel : ∀ t : Fin grid0.N, win0_6.index t 0 = 1 ∧ win0_6.index t 1 = 0 ∧ win0_6.index t 2 = 0)

/-- The block index of window 7 at each grid point. -/
theorem index7 : ∀ t : Fin cfg0.N, win0_7.index t 0 = 1 ∧ win0_7.index t 1 = 0 ∧ win0_7.index t 2 = 0 :=
  (by decide +kernel : ∀ t : Fin grid0.N, win0_7.index t 0 = 1 ∧ win0_7.index t 1 = 0 ∧ win0_7.index t 2 = 0)

/-- The block index of window 8 at each grid point. -/
theorem index8 : ∀ t : Fin cfg0.N, win0_8.index t 0 = 1 ∧ win0_8.index t 1 = 0 ∧ win0_8.index t 2 = 0 :=
  (by decide +kernel : ∀ t : Fin grid0.N, win0_8.index t 0 = 1 ∧ win0_8.index t 1 = 0 ∧ win0_8.index t 2 = 0)

/-- The block index of window 9 at each grid point. -/
theorem index9 : ∀ t : Fin cfg0.N, win0_9.index t 0 = t.val ∧ win0_9.index t 1 = 0 :=
  (by decide +kernel : ∀ t : Fin grid0.N, win0_9.index t 0 = t.val ∧ win0_9.index t 1 = 0)

/-- Block row `r` is the array's row. -/
theorem blk0 (c : Dev nD) (t : Fin cfg0.N) (r : Fin 128) (k : Fin 1024) :
    (iblk m c 0 t : Vec Ideal S128x1024 .f32) (ix2 r k) = (m ((c : Thread nD τ).loc main_arg0) : FVec Ideal S128x1024 .f32) (ix2 (row t r) k) := by
  refine Eq.trans ?_ (congrFun (V_main_arg0 m c) _)
  unfold iblk
  rw [View.read_apply]
  show V m c main_arg0 _ = _
  refine congrArg (V m c main_arg0) (funext fun a => Fin.ext ?_)
  match a with
  | ⟨0, _⟩ => show win0_0.index t 0 * 128 + 1 * r.val = t.val * 128 + r.val; rw [(index0 t).1]; omega
  | ⟨1, _⟩ => show win0_0.index t 1 * 1024 + 1 * k.val = k.val; rw [(index0 t).2]; omega

/-- Block row `r` is the array's row. -/
theorem blk1 (c : Dev nD) (t : Fin cfg0.N) (r : Fin 128) (k : Fin 1024) :
    (iblk m c 1 t : Vec Ideal S128x1024 .f32) (ix2 r k) = (m ((c : Thread nD τ).loc main_arg1) : FVec Ideal S128x1024 .f32) (ix2 (row t r) k) := by
  refine Eq.trans ?_ (congrFun (V_main_arg1 m c) _)
  unfold iblk
  rw [View.read_apply]
  show V m c main_arg1 _ = _
  refine congrArg (V m c main_arg1) (funext fun a => Fin.ext ?_)
  match a with
  | ⟨0, _⟩ => show win0_1.index t 0 * 128 + 1 * r.val = t.val * 128 + r.val; rw [(index1 t).1]; omega
  | ⟨1, _⟩ => show win0_1.index t 1 * 1024 + 1 * k.val = k.val; rw [(index1 t).2]; omega

/-- The square matrix's block. -/
theorem blk2 (c : Dev nD) (t : Fin cfg0.N) (k j : Fin 1024) :
    (iblk m c 2 t : Vec Ideal S1024x1024 .bf16) (ix2 k j) = (m ((c : Thread nD τ).loc main_arg2) : FVec Ideal S1x1024x1024 .f32) (ix3 0 k j) := by
  refine Eq.trans ?_ (V_w_o m c k j)
  unfold iblk
  rw [View.read_apply]
  show V m c main_v4 _ = _
  refine congrArg (V m c main_v4) (funext fun a => Fin.ext ?_)
  match a with
  | ⟨0, _⟩ => show win0_2.index t 0 * 1024 + 1 * k.val = k.val; rw [(index2 t).1]; omega
  | ⟨1, _⟩ => show win0_2.index t 1 * 1024 + 1 * j.val = j.val; rw [(index2 t).2]; omega

/-- A gain row's block. -/
theorem blk3 (c : Dev nD) (t : Fin cfg0.N) (k : Fin 1024) :
    (iblk m c 3 t : Vec Ideal S1x1024 .f32) (ix2 0 k) = (m ((c : Thread nD τ).loc main_arg3) : FVec Ideal S2x1024 .f32) (ix2 1 k) := by
  refine Eq.trans ?_ (V_gmix m c k)
  unfold iblk
  rw [View.read_apply]
  show V m c main_v13 _ = _
  refine congrArg (V m c main_v13) (funext fun a => Fin.ext ?_)
  match a with
  | ⟨0, _⟩ => show win0_3.index t 0 * 1 + 1 * 0 = 0; rw [(index3 t).1]
  | ⟨1, _⟩ => show win0_3.index t 1 * 1024 + 1 * k.val = k.val; rw [(index3 t).2]; omega

/-- A gain row's block. -/
theorem blk4 (c : Dev nD) (t : Fin cfg0.N) (k : Fin 1024) :
    (iblk m c 4 t : Vec Ideal S1x1024 .f32) (ix2 0 k) = (m ((c : Thread nD τ).loc main_arg4) : FVec Ideal S2x1024 .f32) (ix2 1 k) := by
  refine Eq.trans ?_ (V_gpre m c k)
  unfold iblk
  rw [View.read_apply]
  show V m c main_v7 _ = _
  refine congrArg (V m c main_v7) (funext fun a => Fin.ext ?_)
  match a with
  | ⟨0, _⟩ => show win0_4.index t 0 * 1 + 1 * 0 = 0; rw [(index4 t).1]
  | ⟨1, _⟩ => show win0_4.index t 1 * 1024 + 1 * k.val = k.val; rw [(index4 t).2]; omega

/-- A gain row's block. -/
theorem blk5 (c : Dev nD) (t : Fin cfg0.N) (k : Fin 1024) :
    (iblk m c 5 t : Vec Ideal S1x1024 .f32) (ix2 0 k) = (m ((c : Thread nD τ).loc main_arg5) : FVec Ideal S2x1024 .f32) (ix2 1 k) := by
  refine Eq.trans ?_ (V_gpost m c k)
  unfold iblk
  rw [View.read_apply]
  show V m c main_v10 _ = _
  refine congrArg (V m c main_v10) (funext fun a => Fin.ext ?_)
  match a with
  | ⟨0, _⟩ => show win0_5.index t 0 * 1 + 1 * 0 = 0; rw [(index5 t).1]
  | ⟨1, _⟩ => show win0_5.index t 1 * 1024 + 1 * k.val = k.val; rw [(index5 t).2]; omega

/-- A stacked weight's block: its second layer. -/
theorem blk6 (c : Dev nD) (t : Fin cfg0.N) (k : Fin 1024) (j : Fin 2816) :
    (iblk m c 6 t : Vec Ideal S1x1024x2816 .bf16) (ix3 0 k j) = (m ((c : Thread nD τ).loc main_arg6) : FVec Ideal S2x1024x2816 .f32) (ix3 1 k j) := by
  refine Eq.trans ?_ (V_gate m c k j)
  unfold iblk
  rw [View.read_apply]
  show V m c main_v0 _ = _
  refine congrArg (V m c main_v0) (funext fun a => Fin.ext ?_)
  match a with
  | ⟨0, _⟩ => show win0_6.index t 0 * 1 + 1 * 0 = 1; rw [(index6 t).1]
  | ⟨1, _⟩ => show win0_6.index t 1 * 1024 + 1 * k.val = k.val; rw [(index6 t).2.1]; omega
  | ⟨2, _⟩ => show win0_6.index t 2 * 2816 + 1 * j.val = j.val; rw [(index6 t).2.2]; omega

/-- A stacked weight's block: its second layer. -/
theorem blk7 (c : Dev nD) (t : Fin cfg0.N) (k : Fin 1024) (j : Fin 2816) :
    (iblk m c 7 t : Vec Ideal S1x1024x2816 .bf16) (ix3 0 k j) = (m ((c : Thread nD τ).loc main_arg7) : FVec Ideal S2x1024x2816 .f32) (ix3 1 k j) := by
  refine Eq.trans ?_ (V_up m c k j)
  unfold iblk
  rw [View.read_apply]
  show V m c main_v1 _ = _
  refine congrArg (V m c main_v1) (funext fun a => Fin.ext ?_)
  match a with
  | ⟨0, _⟩ => show win0_7.index t 0 * 1 + 1 * 0 = 1; rw [(index7 t).1]
  | ⟨1, _⟩ => show win0_7.index t 1 * 1024 + 1 * k.val = k.val; rw [(index7 t).2.1]; omega
  | ⟨2, _⟩ => show win0_7.index t 2 * 2816 + 1 * j.val = j.val; rw [(index7 t).2.2]; omega

/-- A stacked weight's block: its second layer. -/
theorem blk8 (c : Dev nD) (t : Fin cfg0.N) (k : Fin 2816) (j : Fin 1024) :
    (iblk m c 8 t : Vec Ideal S1x2816x1024 .bf16) (ix3 0 k j) = (m ((c : Thread nD τ).loc main_arg8) : FVec Ideal S2x2816x1024 .f32) (ix3 1 k j) := by
  refine Eq.trans ?_ (V_down m c k j)
  unfold iblk
  rw [View.read_apply]
  show V m c main_v2 _ = _
  refine congrArg (V m c main_v2) (funext fun a => Fin.ext ?_)
  match a with
  | ⟨0, _⟩ => show win0_8.index t 0 * 1 + 1 * 0 = 1; rw [(index8 t).1]
  | ⟨1, _⟩ => show win0_8.index t 1 * 2816 + 1 * k.val = k.val; rw [(index8 t).2.1]; omega
  | ⟨2, _⟩ => show win0_8.index t 2 * 1024 + 1 * j.val = j.val; rw [(index8 t).2.2]; omega

/-! ## The result array -/

/-- One element of the result, from the arguments as launched. -/
def result (x0 : FVec Ideal S128x1024 .f32) (x1 : FVec Ideal S128x1024 .f32) (x2 : FVec Ideal S1x1024x1024 .f32)
    (x3 x4 x5 : FVec Ideal S2x1024 .f32) (x6 x7 : FVec Ideal S2x1024x2816 .f32) (x8 : FVec Ideal S2x2816x1024 .f32) :
    FVec Ideal S128x1024 .f32 := fun i =>
  ffn (outproj (fun k => x0 (ix2 (i 0) k)) (fun k => x1 (ix2 (i 0) k)) (fun k j => x2 (ix3 0 k j)) (fun k => x3 (ix2 1 k)))
    (fun k => x4 (ix2 1 k)) (fun k => x5 (ix2 1 k)) (fun k j => x6 (ix3 1 k j)) (fun k j => x7 (ix3 1 k j))
    (fun k j => x8 (ix3 1 k j)) (i 1)

/-- `result` of the arguments of device `c` as launched. -/
abbrev resultOf (c : Dev nD) : FVec Ideal S128x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- What point `t` leaves is `result` on the rows of its block. -/
theorem outs_result (c : Dev nD) (t : Fin cfg0.N) (r : Fin 128) (k : Fin 1024) :
    outsAt0 m c t (ix2 r k) = resultOf m c (ix2 (row t r) k) := by
  rw [outs_apply]
  simp only [blk0, blk1, blk2, blk3, blk4, blk5, blk6, blk7, blk8]
  rfl

/-- What point `t` writes back is its block of `result`. -/
theorem flushed_eq (c : Dev nD) (t : Fin cfg0.N) (_hf : (cfg0.win 9).flush t = true) :
    (dats m 0 c).flushed 9 t = ((cfg0.win 9).blk t).view.read (Elt Ideal) (resultOf m c) := by
  rw [Cert.TailSIdeal.Value.flushed9]
  funext i
  rw [View.read_apply]
  have hi : i = (ix2 (i 0) (i 1) : S128x1024.Idx) := by
    funext a
    match a with
    | ⟨0, _⟩ => rfl
    | ⟨1, _⟩ => rfl
  show outsAt0 m c t i = resultOf m c _
  refine (congrArg (outsAt0 m c t) hi).trans ((outs_result m c t (i 0) (i 1)).trans (congrArg (resultOf m c) (funext fun a => Fin.ext ?_)))
  match a with
  | ⟨0, _⟩ => show t.val * 128 + (i 0).val = win0_9.index t 0 * 128 + 1 * (i 0).val; rw [(index9 t).1]; omega
  | ⟨1, _⟩ => show (i 1).val = win0_9.index t 1 * 1024 + 1 * (i 1).val; rw [(index9 t).2]; omega

/-- Every point writes its block back. -/
theorem flush9 : ∀ t : Fin cfg0.N, (cfg0.win 9).flush t = true :=
  (by decide +kernel : ∀ t : Fin grid0.N, win0_9.flush t = true)

/-- The result array after the run. -/
theorem final (c : Dev nD) : (dats m 0 c).arrAt 9 cfg0.N = resultOf m c :=
  (dats m 0 c).arrAt_eq_of_cover 9 (resultOf m c) (flushed_eq m c) fun i => by
    have hN : cfg0.N = 1 := N_0
    have h0 : (i 0 : Nat) < 128 := (i 0).isLt
    have h1 : (i 1 : Nat) < 1024 := (i 1).isLt
    refine ⟨⟨(i 0).val / 128, by omega⟩, flush9 _, ?_⟩
    generalize ht : (⟨(i 0).val / 128, by omega⟩ : Fin cfg0.N) = t
    have hv : t.val = (i 0).val / 128 := by rw [← ht]
    show i ∈ ((View.whole main_v14).slice (win0_9.rect t)).set
    rw [View.set_slice_whole, Rect.mem_set_unit]
    intro a
    match a with
    | ⟨0, _⟩ => show win0_9.index t 0 * 128 ≤ (i 0 : Nat) ∧ (i 0 : Nat) < win0_9.index t 0 * 128 + 128
                rw [(index9 t).1]; omega
    | ⟨1, _⟩ => show win0_9.index t 1 * 1024 ≤ (i 1 : Nat) ∧ (i 1 : Nat) < win0_9.index t 1 * 1024 + 1024
                rw [(index9 t).2]; omega

end Cert.TailSValue

end
-- ==== Proof.TailSRow.lean ====
/-
  The reference of the sample group's last call, element by element over the extended reals: each row is the feed-forward block
  (RowMath.lean) of the row's attention residual.
-/
module

public import proofs.«01_k».proof.Proof.RowMath
public import proofs.«01_k».proof.Proof.Gen.TailSRefIdeal.Read

@[expose] public section

set_option maxRecDepth 128

noncomputable section

namespace Cert.TailSRow

open Idealize.ShloMosaic Idealize.SL.Sem Cert.TailSRefIdeal Cert.TailSRefIdeal.Gen Idealize.ShloMosaic.TcCoe Cert.Rows Cert.TailSRefIdeal.Read

variable (x0 : FVec Ideal S128x1024 .f32) (x1 : FVec Ideal S128x1024 .f32) (x2 : FVec Ideal S1x1024x1024 .f32)
  (x3 x4 x5 : FVec Ideal S2x1024 .f32) (x6 x7 : FVec Ideal S2x1024x2816 .f32) (x8 : FVec Ideal S2x2816x1024 .f32)

/-- The attention residual of a row. -/
theorem v17_apply (r : Fin 128) (c : Fin 1024) :
    val_main_v17 (F := Ideal) x0 x1 x2 x3 (ix2 r c)
      = outproj (fun k => x0 (ix2 r k)) (fun k => x1 (ix2 r k)) (fun k j => x2 (ix3 0 k j)) (fun k => x3 (ix2 1 k)) c := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, dot_S128x1024_S1024x1024_S128x1024_1_0_0_1_n_n]
  rfl

/-- The normed row the feed-forward block reads. -/
theorem v32_apply (r : Fin 128) (c : Fin 1024) :
    val_main_v32 (F := Ideal) x0 x1 x2 x3 x4 (ix2 r c)
      = rmsn (fun k => val_main_v17 (F := Ideal) x0 x1 x2 x3 (ix2 r k)) (fun k => x4 (ix2 1 k)) c := by
  unfold val_main_v32 val_main_v29 val_main_v28 val_main_v27 val_main_v26 val_main_v24 val_main_v22 val_main_v21 val_main_v20
  generalize val_main_v17 (F := Ideal) x0 x1 x2 x3 = y
  pointwise [val_main_v31, val_main_v30, val_main_v25, val_main_v23, val_main_v19, val_main_v18, val_main_cst_2, val_main_cst_3, val_main_cst_4]
  rfl

/-- The gate's product. -/
theorem v39_apply (r : Fin 128) (j : Fin 2816) :
    val_main_v39 (F := Ideal) x0 x1 x2 x3 x4 x6 (ix2 r j)
      = dot (fun k => val_main_v32 (F := Ideal) x0 x1 x2 x3 x4 (ix2 r k)) (fun k j => x6 (ix3 1 k j)) j := by
  unfold val_main_v39
  generalize val_main_v32 (F := Ideal) x0 x1 x2 x3 x4 = y
  pointwise [val_main_v34, val_main_v33, dot_S128x1024_S1024x2816_S128x2816_1_0_0_1_n_n]
  rfl

/-- The gated activations. -/
theorem v42_apply (r : Fin 128) (j : Fin 2816) :
    val_main_v42 (F := Ideal) x0 x1 x2 x3 x4 x6 x7 (ix2 r j)
      = act (fun k => val_main_v32 (F := Ideal) x0 x1 x2 x3 x4 (ix2 r k)) (fun k j => x6 (ix3 1 k j)) (fun k j => x7 (ix3 1 k j)) j := by
  unfold act
  rw [← v39_apply]
  unfold val_main_v42 val_main_v40 val_main_call0_v5 val_main_call0_v3 val_main_call0_v1 val_main_call0_v0 val_main_v41
  generalize val_main_v39 (F := Ideal) x0 x1 x2 x3 x4 x6 = g
  generalize val_main_v32 (F := Ideal) x0 x1 x2 x3 x4 = y
  pointwise [val_main_call0_v4, val_main_call0_v2, val_main_call0_cst, val_main_call0_cst_0, val_main_v36, val_main_v35, dot_S128x1024_S1024x2816_S128x2816_1_0_0_1_n_n]
  rfl

/-- The result: the feed-forward block of the row's attention residual. -/
theorem v59_apply (r : Fin 128) (c : Fin 1024) :
    val_main_v59 (F := Ideal) x0 x1 x2 x3 x4 x5 x6 x7 x8 (ix2 r c)
      = ffn (outproj (fun k => x0 (ix2 r k)) (fun k => x1 (ix2 r k)) (fun k j => x2 (ix3 0 k j)) (fun k => x3 (ix2 1 k)))
          (fun k => x4 (ix2 1 k)) (fun k => x5 (ix2 1 k)) (fun k j => x6 (ix3 1 k j)) (fun k j => x7 (ix3 1 k j))
          (fun k j => x8 (ix3 1 k j)) c := by
  unfold ffn
  have e18 : outproj (fun k => x0 (ix2 r k)) (fun k => x1 (ix2 r k)) (fun k j => x2 (ix3 0 k j)) (fun k => x3 (ix2 1 k))
      = fun k => val_main_v17 (F := Ideal) x0 x1 x2 x3 (ix2 r k) := funext fun k => (v17_apply x0 x1 x2 x3 r k).symm
  have e33 : rmsn (fun k => val_main_v17 (F := Ideal) x0 x1 x2 x3 (ix2 r k)) (fun k => x4 (ix2 1 k))
      = fun k => val_main_v32 (F := Ideal) x0 x1 x2 x3 x4 (ix2 r k) := funext fun k => (v32_apply x0 x1 x2 x3 x4 r k).symm
  have e43 : act (fun k => val_main_v32 (F := Ideal) x0 x1 x2 x3 x4 (ix2 r k)) (fun k j => x6 (ix3 1 k j)) (fun k j => x7 (ix3 1 k j))
      = fun j => val_main_v42 (F := Ideal) x0 x1 x2 x3 x4 x6 x7 (ix2 r j) := funext fun j => (v42_apply x0 x1 x2 x3 x4 x6 x7 r j).symm
  rw [e18, e33, e43]
  unfold val_main_v59 val_main_v58 val_main_v55 val_main_v54 val_main_v53 val_main_v52 val_main_v50 val_main_v48 val_main_v47 val_main_v46 val_main_v43
  generalize val_main_v42 (F := Ideal) x0 x1 x2 x3 x4 x6 x7 = a
  generalize val_main_v17 (F := Ideal) x0 x1 x2 x3 = y
  pointwise [val_main_v57, val_main_v56, val_main_v51, val_main_v49, val_main_v45, val_main_v44, val_main_v38, val_main_v37, val_main_cst_5, val_main_cst_6, val_main_cst_7, dot_S128x2816_S2816x1024_S128x1024_1_0_0_1_n_n]
  rfl

end Cert.TailSRow

end
-- ==== Proof.TailSClaims.lean ====
/-
  The claims about the sample group's last call (output projection and feed-forward block): the frames, and the value.
-/
module

public import proofs.«01_k».proof.Defs
public import proofs.«01_k».proof.Proof.Gen.TailS.Frame
public import proofs.«01_k».proof.Proof.TailSValue
public import proofs.«01_k».proof.Proof.TailSRow
public import proofs.«01_k».proof.Proof.Gen.TailSRefIdeal.Run
public import Idealize.ShloMosaic.Adequacy
public import Idealize.ShloMosaic.Init

@[expose] public section

set_option maxRecDepth 16384

noncomputable section

namespace Cert.TailSClaims

open Idealize.ShloMosaic Idealize.SL.Sem Idealize.ShloMosaic.TcCoe

/-- The printed program ends, keeps its arguments and leaves its counters at zero. -/
theorem frame_p : Cert.quiescent_TailS := fun m g _ => Cert.TailS.Gen.frame m g

/-- So does its reading over the extended reals. -/
theorem frame_pi : Cert.quiescent_TailSIdeal := fun m g _ => Cert.TailSIdeal.Gen.frame m g

/-- So does the reference. -/
theorem frame_ri : Cert.quiescent_TailSRefIdeal := fun m g _ =>
  (θ_run Cert.TailSRefIdeal.defs _ _).mono (fun r h => ⟨fun c => (h c).2,
      Idealize.ShloMosaic.sem_eq_zero_of_no_sems (by decide) r.2⟩)
    (Cert.TailSRefIdeal.Value.run (F := Ideal) m g)

/-- The reading rewrites nothing. -/
theorem preserves : Cert.preserves_TailS_TailSIdeal := trivial

/-- The reference's result is the function the kernel's value is stated with. -/
theorem value0 (x0 : FVec Ideal Cert.TailSRefIdeal.S128x1024 .f32) (x1 : FVec Ideal Cert.TailSRefIdeal.S128x1024 .f32) (x2 : FVec Ideal Cert.TailSRefIdeal.S1x1024x1024 .f32) (x3 x4 x5 : FVec Ideal Cert.TailSRefIdeal.S2x1024 .f32) (x6 x7 : FVec Ideal Cert.TailSRefIdeal.S2x1024x2816 .f32) (x8 : FVec Ideal Cert.TailSRefIdeal.S2x2816x1024 .f32) :
    Cert.TailSRefIdeal.Read.val_main_v59 (F := Ideal) x0 x1 x2 x3 x4 x5 x6 x7 x8 = Cert.TailSValue.result x0 x1 x2 x3 x4 x5 x6 x7 x8 := by
  funext i
  refine (congrArg _ (?_ : i = ix2 (i 0) (i 1))).trans ((Cert.TailSRow.v59_apply x0 x1 x2 x3 x4 x5 x6 x7 x8 (i 0) (i 1)).trans ?_)
  · funext a
    match a with
    | ⟨0, _⟩ => rfl
    | ⟨1, _⟩ => rfl
  · rfl

/-- The kernel's results are the reference's, element by element over the extended reals. -/
theorem algebraic : Cert.algebraic_TailSIdeal_TailSRefIdeal := by
  intro m g m' g' _ hagree
  refine ⟨fun c => Cert.TailSValue.resultOf m c,
    (θ_run Cert.TailSIdeal.defs _ _).mono (fun r h c => ?_) (Cert.TailSIdeal.Value.run_blocks (F := Ideal) m g),
    (θ_run Cert.TailSRefIdeal.defs _ _).mono (fun r h c => ?_) (Cert.TailSRefIdeal.Value.run (F := Ideal) m' g')⟩
  · obtain ⟨e0, hk⟩ := h c
    exact ⟨e0.trans (Cert.TailSValue.final m c), hk⟩
  · obtain ⟨e0, hk⟩ := h c
    obtain ⟨h0, h1, h2, h3, h4, h5, h6, h7, h8⟩ := hagree c
    refine ⟨e0.trans ?_, hk⟩
    · refine (Cert.TailSRefIdeal.Read.val_main_v59_eq m' c).trans ((value0 (m' ((c.tc : Thread Cert.TailSRefIdeal.nD Cert.TailSRefIdeal.τ).loc Cert.TailSRefIdeal.main_arg0)) (m' ((c.tc : Thread Cert.TailSRefIdeal.nD Cert.TailSRefIdeal.τ).loc Cert.TailSRefIdeal.main_arg1)) (m' ((c.tc : Thread Cert.TailSRefIdeal.nD Cert.TailSRefIdeal.τ).loc Cert.TailSRefIdeal.main_arg2)) (m' ((c.tc : Thread Cert.TailSRefIdeal.nD Cert.TailSRefIdeal.τ).loc Cert.TailSRefIdeal.main_arg3)) (m' ((c.tc : Thread Cert.TailSRefIdeal.nD Cert.TailSRefIdeal.τ).loc Cert.TailSRefIdeal.main_arg4)) (m' ((c.tc : Thread Cert.TailSRefIdeal.nD Cert.TailSRefIdeal.τ).loc Cert.TailSRefIdeal.main_arg5)) (m' ((c.tc : Thread Cert.TailSRefIdeal.nD Cert.TailSRefIdeal.τ).loc Cert.TailSRefIdeal.main_arg6)) (m' ((c.tc : Thread Cert.TailSRefIdeal.nD Cert.TailSRefIdeal.τ).loc Cert.TailSRefIdeal.main_arg7)) (m' ((c.tc : Thread Cert.TailSRefIdeal.nD Cert.TailSRefIdeal.τ).loc Cert.TailSRefIdeal.main_arg8))).trans ?_)
      show Cert.TailSValue.result (m' ((c.tc : Thread Cert.TailSRefIdeal.nD Cert.TailSRefIdeal.τ).loc Cert.TailSRefIdeal.main_arg0)) (m' ((c.tc : Thread Cert.TailSRefIdeal.nD Cert.TailSRefIdeal.τ).loc Cert.TailSRefIdeal.main_arg1)) (m' ((c.tc : Thread Cert.TailSRefIdeal.nD Cert.TailSRefIdeal.τ).loc Cert.TailSRefIdeal.main_arg2)) (m' ((c.tc : Thread Cert.TailSRefIdeal.nD Cert.TailSRefIdeal.τ).loc Cert.TailSRefIdeal.main_arg3)) (m' ((c.tc : Thread Cert.TailSRefIdeal.nD Cert.TailSRefIdeal.τ).loc Cert.TailSRefIdeal.main_arg4)) (m' ((c.tc : Thread Cert.TailSRefIdeal.nD Cert.TailSRefIdeal.τ).loc Cert.TailSRefIdeal.main_arg5)) (m' ((c.tc : Thread Cert.TailSRefIdeal.nD Cert.TailSRefIdeal.τ).loc Cert.TailSRefIdeal.main_arg6)) (m' ((c.tc : Thread Cert.TailSRefIdeal.nD Cert.TailSRefIdeal.τ).loc Cert.TailSRefIdeal.main_arg7)) (m' ((c.tc : Thread Cert.TailSRefIdeal.nD Cert.TailSRefIdeal.τ).loc Cert.TailSRefIdeal.main_arg8)) = Cert.TailSValue.result (m ((c.tc : Thread Cert.TailSIdeal.nD Cert.TailSIdeal.τ).loc Cert.TailSIdeal.main_arg0)) (m ((c.tc : Thread Cert.TailSIdeal.nD Cert.TailSIdeal.τ).loc Cert.TailSIdeal.main_arg1)) (m ((c.tc : Thread Cert.TailSIdeal.nD Cert.TailSIdeal.τ).loc Cert.TailSIdeal.main_arg2)) (m ((c.tc : Thread Cert.TailSIdeal.nD Cert.TailSIdeal.τ).loc Cert.TailSIdeal.main_arg3)) (m ((c.tc : Thread Cert.TailSIdeal.nD Cert.TailSIdeal.τ).loc Cert.TailSIdeal.main_arg4)) (m ((c.tc : Thread Cert.TailSIdeal.nD Cert.TailSIdeal.τ).loc Cert.TailSIdeal.main_arg5)) (m ((c.tc : Thread Cert.TailSIdeal.nD Cert.TailSIdeal.τ).loc Cert.TailSIdeal.main_arg6)) (m ((c.tc : Thread Cert.TailSIdeal.nD Cert.TailSIdeal.τ).loc Cert.TailSIdeal.main_arg7)) (m ((c.tc : Thread Cert.TailSIdeal.nD Cert.TailSIdeal.τ).loc Cert.TailSIdeal.main_arg8))
      rw [h0, h1, h2, h3, h4, h5, h6, h7, h8]

end Cert.TailSClaims

end
-- ==== Proof.ProjSValue.lean ====
/-
  The projections' result arrays after their run, element by element over the extended reals: each is a row of the input,
  normed (RowMath.lean) and multiplied with one of the matrices as launched.
-/
module

public import proofs.«01_k».proof.Proof.RowMath
public import proofs.«01_k».proof.Proof.Gen.ProjSIdeal.Value

@[expose] public section

set_option maxRecDepth 16384

noncomputable section

namespace Cert.ProjSValue

open Idealize.ShloMosaic Idealize.SL.Sem Cert.ProjSIdeal Cert.ProjSIdeal.Gen Idealize.ShloMosaic.TcCoe Cert.Rows
open Idealize.ShloMosaic.Pipeline (Dat Cfg Window)

variable (m : (ℓ : Loc nD τ sig) → Buf (Elt Ideal) ℓ) (ρ : Dev nD → PrngReg)

/-- A zero offset of two axes. -/
theorem hz : (![0, 0] : Fin 2 → Nat) = fun _ => 0 := funext fun a => by fin_cases a <;> rfl

/-! ## One grid point -/

/-- What one point leaves in the block of window 6. -/
theorem out6_apply (x0 : Vec Ideal S128x1024 .f32) (x1 x2 : Vec Ideal S1x1024 .f32) (x3 x4 x5 : Vec Ideal S1024x1024 .bf16)
    (r : Fin 128) (j : Fin 1024) :
    out0_6 x0 x1 x2 x3 x4 x5 (ix2 r j) = proj (fun k => x0 (ix2 r k)) (fun k => x1 (ix2 0 k)) (fun k j => x3 (ix2 k j)) j := by
  unfold out0_6
  rw [View.canon_unit_zero (S := S128x1024) hz]
  simp only [View.ld_unit_zero (S := S128x1024) hz, View.ld_unit_zero (S := S1024x1024) hz, View.ld_unit_zero (S := S1x1024) hz]
  pointwise [k0_pay4, k0_pay2, dot_S128x1024_S1024x1024_S128x1024_1_0_0_1_n_n]
  rfl

/-- What one point leaves in the block of window 7. -/
theorem out7_apply (x0 : Vec Ideal S128x1024 .f32) (x1 x2 : Vec Ideal S1x1024 .f32) (x3 x4 x5 : Vec Ideal S1024x1024 .bf16)
    (r : Fin 128) (j : Fin 1024) :
    out0_7 x0 x1 x2 x3 x4 x5 (ix2 r j) = proj (fun k => x0 (ix2 r k)) (fun k => x1 (ix2 0 k)) (fun k j => x4 (ix2 k j)) j := by
  unfold out0_7
  rw [View.canon_unit_zero (S := S128x1024) hz]
  simp only [View.ld_unit_zero (S := S128x1024) hz, View.ld_unit_zero (S := S1024x1024) hz, View.ld_unit_zero (S := S1x1024) hz]
  pointwise [k0_pay3, k0_pay2, dot_S128x1024_S1024x1024_S128x1024_1_0_0_1_n_n]
  rfl

/-- What one point leaves in the block of window 8. -/
theorem out8_apply (x0 : Vec Ideal S128x1024 .f32) (x1 x2 : Vec Ideal S1x1024 .f32) (x3 x4 x5 : Vec Ideal S1024x1024 .bf16)
    (r : Fin 128) (j : Fin 1024) :
    out0_8 x0 x1 x2 x3 x4 x5 (ix2 r j) = query (fun k => x0 (ix2 r k)) (fun k => x2 (ix2 0 k)) (fun k j => x5 (ix2 k j)) 1 j := by
  unfold out0_8
  rw [View.canon_unit_zero (S := S128x1024) hz]
  simp only [View.ld_unit_zero (S := S128x1024) hz, View.ld_unit_zero (S := S1024x1024) hz, View.ld_unit_zero (S := S1x1024) hz]
  pointwise [k0_pay1, k0_pay5, k0_pay6, dot_S128x1024_S1024x1024_S128x1024_1_0_0_1_n_n]
  exact (mul_one _).symm

/-! ## The blocks as parts of the arguments -/

/-- The row of the array that block `t` holds as its row `r`. -/
def row (t : Fin cfg0.N) (r : Fin 128) : Fin 128 :=
  ⟨t.val * 128 + r.val, by have : cfg0.N = 1 := N_0; have := t.isLt; omega⟩

/-- The second of two stacked gains, as a row. -/
theorem gain_apply (x : FVec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k)
      = x (ix2 1 k) := by
  pointwise

/-- A gain vector, as a row. -/
theorem vec_apply (x : FVec Ideal S1024 .f32) (k : Fin 1024) : shapeCast S1x1024 x shapeCasts_S1024_S1x1024 (ix2 0 k) = x (ix1 k) := by
  pointwise

/-- The query matrix, rounded and with its leading axis dropped. -/
theorem square_apply (x : FVec Ideal S1x1024x1024 .f32) (k j : Fin 1024) :
    truncf .bf16 (shapeCast S1024x1024 x shapeCasts_S1x1024x1024_S1024x1024) bitsLt_bf16_f32 (ix2 k j) = x (ix3 0 k j) := by
  pointwise

/-- The first gain row the region finds. -/
theorem V_g_kv (c : Dev nD) (k : Fin 1024) :
    (V m c main_v4 : Vec Ideal S1x1024 .f32) (ix2 0 k) = (m ((c : Thread nD τ).loc main_arg1) : FVec Ideal S1024 .f32) (ix1 k) := by
  have e : @Eq (FVec Ideal S1x1024 .f32) (V m c main_v4) (shapeCast S1x1024 (m ((c : Thread nD τ).loc main_arg1) : FVec Ideal S1024 .f32) shapeCasts_S1024_S1x1024) := by
    unfold V
    after_results <;> rfl
  rw [e]
  exact vec_apply _ k

/-- The second gain row the region finds. -/
theorem V_g_mix (c : Dev nD) (k : Fin 1024) :
    (V m c main_v7 : Vec Ideal S1x1024 .f32) (ix2 0 k) = (m ((c : Thread nD τ).loc main_arg2) : FVec Ideal S2x1024 .f32) (ix2 1 k) := by
  have e : @Eq (FVec Ideal S1x1024 .f32) (V m c main_v7) (shapeCast S1x1024 (shapeCast S1024 (extractStridedSlice S1x1024 ![1, 0] (m ((c : Thread nD τ).loc main_arg2) : FVec Ideal S2x1024 .f32) slices_S2x1024_S1x1024_1_0) shapeCasts_S1x1024_S1024) shapeCasts_S1024_S1x1024) := by
    unfold V
    after_results <;> rfl
  rw [e]
  exact gain_apply _ k

/-- A matrix the region finds, rounded. -/
theorem V_w_k (c : Dev nD) (k j : Fin 1024) :
    (V m c main_v1 : Vec Ideal S1024x1024 .bf16) (ix2 k j) = (m ((c : Thread nD τ).loc main_arg3) : FVec Ideal S1024x1024 .f32) (ix2 k j) := by
  have e : @Eq (FVec Ideal S1024x1024 .bf16) (V m c main_v1) (truncf .bf16 (m ((c : Thread nD τ).loc main_arg3) : FVec Ideal S1024x1024 .f32) bitsLt_bf16_f32) := by
    unfold V
    after_results <;> rfl
  rw [e]
  exact rfl

/-- A matrix the region finds, rounded. -/
theorem V_w_v (c : Dev nD) (k j : Fin 1024) :
    (V m c main_v2 : Vec Ideal S1024x1024 .bf16) (ix2 k j) = (m ((c : Thread nD τ).loc main_arg4) : FVec Ideal S1024x1024 .f32) (ix2 k j) := by
  have e : @Eq (FVec Ideal S1024x1024 .bf16) (V m c main_v2) (truncf .bf16 (m ((c : Thread nD τ).loc main_arg4) : FVec Ideal S1024x1024 .f32) bitsLt_bf16_f32) := by
    unfold V
    after_results <;> rfl
  rw [e]
  exact rfl

/-- The query matrix the region finds. -/
theorem V_w_q (c : Dev nD) (k j : Fin 1024) :
    (V m c main_v3 : Vec Ideal S1024x1024 .bf16) (ix2 k j) = (m ((c : Thread nD τ).loc main_arg5) : FVec Ideal S1x1024x1024 .f32) (ix3 0 k j) := by
  have e : @Eq (FVec Ideal S1024x1024 .bf16) (V m c main_v3) (truncf .bf16 (shapeCast S1024x1024 (m ((c : Thread nD τ).loc main_arg5) : FVec Ideal S1x1024x1024 .f32) shapeCasts_S1x1024x1024_S1024x1024) bitsLt_bf16_f32) := by
    unfold V
    after_results <;> rfl
  rw [e]
  exact square_apply _ k j

/-- The block index of window 0 at each grid point. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block index of window 1 at each grid point. -/
theorem index1 : ∀ t : Fin cfg0.N, win0_1.index t 0 = 0 ∧ win0_1.index t 1 = 0 :=
  (by decide +kernel : ∀ t : Fin grid0.N, win0_1.index t 0 = 0 ∧ win0_1.index t 1 = 0)

/-- The block index of window 2 at each grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The block index of window 3 at each grid point. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block index of window 4 at each grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block index of window 5 at each grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- The block index of window 6 at each grid point. -/
theorem index6 : ∀ t : Fin cfg0.N, win0_6.index t 0 = t.val ∧ win0_6.index t 1 = 0 :=
  (by decide +kernel : ∀ t : Fin grid0.N, win0_6.index t 0 = t.val ∧ win0_6.index t 1 = 0)

/-- The block index of window 7 at each grid point. -/
theorem index7 : ∀ t : Fin cfg0.N, win0_7.index t 0 = t.val ∧ win0_7.index t 1 = 0 :=
  (by decide +kernel : ∀ t : Fin grid0.N, win0_7.index t 0 = t.val ∧ win0_7.index t 1 = 0)

/-- The block index of window 8 at each grid point. -/
theorem index8 : ∀ t : Fin cfg0.N, win0_8.index t 0 = t.val ∧ win0_8.index t 1 = 0 :=
  (by decide +kernel : ∀ t : Fin grid0.N, win0_8.index t 0 = t.val ∧ win0_8.index t 1 = 0)

/-- Block row `r` is the array's row. -/
theorem blk0 (c : Dev nD) (t : Fin cfg0.N) (r : Fin 128) (k : Fin 1024) :
    (iblk m c 0 t : Vec Ideal S128x1024 .f32) (ix2 r k) = (m ((c : Thread nD τ).loc main_arg0) : FVec Ideal S128x1024 .f32) (ix2 (row t r) k) := by
  refine Eq.trans ?_ (congrFun (V_main_arg0 m c) _)
  unfold iblk
  rw [View.read_apply]
  show V m c main_arg0 _ = _
  refine congrArg (V m c main_arg0) (funext fun a => Fin.ext ?_)
  match a with
  | ⟨0, _⟩ => show win0_0.index t 0 * 128 + 1 * r.val = t.val * 128 + r.val; rw [(index0 t).1]; omega
  | ⟨1, _⟩ => show win0_0.index t 1 * 1024 + 1 * k.val = k.val; rw [(index0 t).2]; omega

/-- The first gain row's block. -/
theorem blk1 (c : Dev nD) (t : Fin cfg0.N) (k : Fin 1024) :
    (iblk m c 1 t : Vec Ideal S1x1024 .f32) (ix2 0 k) = (m ((c : Thread nD τ).loc main_arg1) : FVec Ideal S1024 .f32) (ix1 k) := by
  refine Eq.trans ?_ (V_g_kv m c k)
  unfold iblk
  rw [View.read_apply]
  show V m c main_v4 _ = _
  refine congrArg (V m c main_v4) (funext fun a => Fin.ext ?_)
  match a with
  | ⟨0, _⟩ => show win0_1.index t 0 * 1 + 1 * 0 = 0; rw [(index1 t).1]
  | ⟨1, _⟩ => show win0_1.index t 1 * 1024 + 1 * k.val = k.val; rw [(index1 t).2]; omega

/-- The second gain row's block. -/
theorem blk2 (c : Dev nD) (t : Fin cfg0.N) (k : Fin 1024) :
    (iblk m c 2 t : Vec Ideal S1x1024 .f32) (ix2 0 k) = (m ((c : Thread nD τ).loc main_arg2) : FVec Ideal S2x1024 .f32) (ix2 1 k) := by
  refine Eq.trans ?_ (V_g_mix m c k)
  unfold iblk
  rw [View.read_apply]
  show V m c main_v7 _ = _
  refine congrArg (V m c main_v7) (funext fun a => Fin.ext ?_)
  match a with
  | ⟨0, _⟩ => show win0_2.index t 0 * 1 + 1 * 0 = 0; rw [(index2 t).1]
  | ⟨1, _⟩ => show win0_2.index t 1 * 1024 + 1 * k.val = k.val; rw [(index2 t).2]; omega

/-- A matrix's block. -/
theorem blk3 (c : Dev nD) (t : Fin cfg0.N) (k j : Fin 1024) :
    (iblk m c 3 t : Vec Ideal S1024x1024 .bf16) (ix2 k j) = (m ((c : Thread nD τ).loc main_arg3) : FVec Ideal S1024x1024 .f32) (ix2 k j) := by
  refine Eq.trans ?_ (V_w_k m c k j)
  unfold iblk
  rw [View.read_apply]
  show V m c main_v1 _ = _
  refine congrArg (V m c main_v1) (funext fun a => Fin.ext ?_)
  match a with
  | ⟨0, _⟩ => show win0_3.index t 0 * 1024 + 1 * k.val = k.val; rw [(index3 t).1]; omega
  | ⟨1, _⟩ => show win0_3.index t 1 * 1024 + 1 * j.val = j.val; rw [(index3 t).2]; omega

/-- A matrix's block. -/
theorem blk4 (c : Dev nD) (t : Fin cfg0.N) (k j : Fin 1024) :
    (iblk m c 4 t : Vec Ideal S1024x1024 .bf16) (ix2 k j) = (m ((c : Thread nD τ).loc main_arg4) : FVec Ideal S1024x1024 .f32) (ix2 k j) := by
  refine Eq.trans ?_ (V_w_v m c k j)
  unfold iblk
  rw [View.read_apply]
  show V m c main_v2 _ = _
  refine congrArg (V m c main_v2) (funext fun a => Fin.ext ?_)
  match a with
  | ⟨0, _⟩ => show win0_4.index t 0 * 1024 + 1 * k.val = k.val; rw [(index4 t).1]; omega
  | ⟨1, _⟩ => show win0_4.index t 1 * 1024 + 1 * j.val = j.val; rw [(index4 t).2]; omega

/-- The query matrix's block. -/
theorem blk5 (c : Dev nD) (t : Fin cfg0.N) (k j : Fin 1024) :
    (iblk m c 5 t : Vec Ideal S1024x1024 .bf16) (ix2 k j) = (m ((c : Thread nD τ).loc main_arg5) : FVec Ideal S1x1024x1024 .f32) (ix3 0 k j) := by
  refine Eq.trans ?_ (V_w_q m c k j)
  unfold iblk
  rw [View.read_apply]
  show V m c main_v3 _ = _
  refine congrArg (V m c main_v3) (funext fun a => Fin.ext ?_)
  match a with
  | ⟨0, _⟩ => show win0_5.index t 0 * 1024 + 1 * k.val = k.val; rw [(index5 t).1]; omega
  | ⟨1, _⟩ => show win0_5.index t 1 * 1024 + 1 * j.val = j.val; rw [(index5 t).2]; omega

/-! ## The result arrays -/

/-- The result array of window 6, from the arguments as launched. -/
def result6 (x0 : FVec Ideal S128x1024 .f32) (x1 : FVec Ideal S1024 .f32) (x3 : FVec Ideal S1024x1024 .f32) : FVec Ideal S128x1024 .f32 := fun i =>
  proj (fun k => x0 (ix2 (i 0) k)) (fun k => x1 (ix1 k)) (fun k j => x3 (ix2 k j)) (i 1)

/-- `result6` of the arguments of device `c` as launched. -/
abbrev resultOf6 (c : Dev nD) : FVec Ideal S128x1024 .f32 :=
  result6 (m ((c : Thread nD τ).loc main_arg0)) (m ((c : Thread nD τ).loc main_arg1)) (m ((c : Thread nD τ).loc main_arg3))

/-- What point `t` leaves for window 6 is `result6` on its block. -/
theorem outs6 (c : Dev nD) (t : Fin cfg0.N) (r : Fin 128) (j : Fin 1024) :
    out0_6 (iblk m c 0 t) (iblk m c 1 t) (iblk m c 2 t) (iblk m c 3 t) (iblk m c 4 t) (iblk m c 5 t) (ix2 r j) = resultOf6 m c (ix2 (row t r) j) := by
  rw [out6_apply]
  simp only [blk0, blk1, blk2, blk3, blk4, blk5]
  rfl

/-- What point `t` writes back for window 6 is its block of `result6`. -/
theorem flushed_eq6 (c : Dev nD) (t : Fin cfg0.N) (_hf : (cfg0.win 6).flush t = true) :
    (dats m 0 c).flushed 6 t = ((cfg0.win 6).blk t).view.read (Elt Ideal) (resultOf6 m c) := by
  rw [Cert.ProjSIdeal.Value.flushed6]
  funext i
  rw [View.read_apply]
  have hi : i = (ix2 (i 0) (i 1) : S128x1024.Idx) := by
    funext a
    match a with
    | ⟨0, _⟩ => rfl
    | ⟨1, _⟩ => rfl
  show out0_6 (iblk m c 0 t) (iblk m c 1 t) (iblk m c 2 t) (iblk m c 3 t) (iblk m c 4 t) (iblk m c 5 t) i = resultOf6 m c _
  refine (congrArg (out0_6 (iblk m c 0 t) (iblk m c 1 t) (iblk m c 2 t) (iblk m c 3 t) (iblk m c 4 t) (iblk m c 5 t)) hi).trans ((outs6 m c t (i 0) (i 1)).trans (congrArg (resultOf6 m c) (funext fun a => Fin.ext ?_)))
  match a with
  | ⟨0, _⟩ => show t.val * 128 + (i 0).val = win0_6.index t 0 * 128 + 1 * (i 0).val; rw [(index6 t).1]; omega
  | ⟨1, _⟩ => show (i 1).val = win0_6.index t 1 * 1024 + 1 * (i 1).val; rw [(index6 t).2]; omega

/-- Every point writes its block of window 6 back. -/
theorem flush6 : ∀ t : Fin cfg0.N, (cfg0.win 6).flush t = true :=
  (by decide +kernel : ∀ t : Fin grid0.N, win0_6.flush t = true)

/-- The result array of window 6 after the run. -/
theorem final6 (c : Dev nD) : (dats m 0 c).arrAt 6 cfg0.N = resultOf6 m c :=
  (dats m 0 c).arrAt_eq_of_cover 6 (resultOf6 m c) (flushed_eq6 m c) fun i => by
    have hN : cfg0.N = 1 := N_0
    have h0 : (i 0 : Nat) < 128 := (i 0).isLt
    have h1 : (i 1 : Nat) < 1024 := (i 1).isLt
    refine ⟨⟨(i 0).val / 128, by omega⟩, flush6 _, ?_⟩
    generalize ht : (⟨(i 0).val / 128, by omega⟩ : Fin cfg0.N) = t
    have hv : t.val = (i 0).val / 128 := by rw [← ht]
    show i ∈ ((View.whole main_v8_0).slice (win0_6.rect t)).set
    rw [View.set_slice_whole, Rect.mem_set_unit]
    intro a
    match a with
    | ⟨0, _⟩ => show win0_6.index t 0 * 128 ≤ (i 0 : Nat) ∧ (i 0 : Nat) < win0_6.index t 0 * 128 + 128
                rw [(index6 t).1]; omega
    | ⟨1, _⟩ => show win0_6.index t 1 * 1024 ≤ (i 1 : Nat) ∧ (i 1 : Nat) < win0_6.index t 1 * 1024 + 1024
                rw [(index6 t).2]; omega

/-- The result array of window 7, from the arguments as launched. -/
def result7 (x0 : FVec Ideal S128x1024 .f32) (x1 : FVec Ideal S1024 .f32) (x4 : FVec Ideal S1024x1024 .f32) : FVec Ideal S128x1024 .f32 := fun i =>
  proj (fun k => x0 (ix2 (i 0) k)) (fun k => x1 (ix1 k)) (fun k j => x4 (ix2 k j)) (i 1)

/-- `result7` of the arguments of device `c` as launched. -/
abbrev resultOf7 (c : Dev nD) : FVec Ideal S128x1024 .f32 :=
  result7 (m ((c : Thread nD τ).loc main_arg0)) (m ((c : Thread nD τ).loc main_arg1)) (m ((c : Thread nD τ).loc main_arg4))

/-- What point `t` leaves for window 7 is `result7` on its block. -/
theorem outs7 (c : Dev nD) (t : Fin cfg0.N) (r : Fin 128) (j : Fin 1024) :
    out0_7 (iblk m c 0 t) (iblk m c 1 t) (iblk m c 2 t) (iblk m c 3 t) (iblk m c 4 t) (iblk m c 5 t) (ix2 r j) = resultOf7 m c (ix2 (row t r) j) := by
  rw [out7_apply]
  simp only [blk0, blk1, blk2, blk3, blk4, blk5]
  rfl

/-- What point `t` writes back for window 7 is its block of `result7`. -/
theorem flushed_eq7 (c : Dev nD) (t : Fin cfg0.N) (_hf : (cfg0.win 7).flush t = true) :
    (dats m 0 c).flushed 7 t = ((cfg0.win 7).blk t).view.read (Elt Ideal) (resultOf7 m c) := by
  rw [Cert.ProjSIdeal.Value.flushed7]
  funext i
  rw [View.read_apply]
  have hi : i = (ix2 (i 0) (i 1) : S128x1024.Idx) := by
    funext a
    match a with
    | ⟨0, _⟩ => rfl
    | ⟨1, _⟩ => rfl
  show out0_7 (iblk m c 0 t) (iblk m c 1 t) (iblk m c 2 t) (iblk m c 3 t) (iblk m c 4 t) (iblk m c 5 t) i = resultOf7 m c _
  refine (congrArg (out0_7 (iblk m c 0 t) (iblk m c 1 t) (iblk m c 2 t) (iblk m c 3 t) (iblk m c 4 t) (iblk m c 5 t)) hi).trans ((outs7 m c t (i 0) (i 1)).trans (congrArg (resultOf7 m c) (funext fun a => Fin.ext ?_)))
  match a with
  | ⟨0, _⟩ => show t.val * 128 + (i 0).val = win0_7.index t 0 * 128 + 1 * (i 0).val; rw [(index7 t).1]; omega
  | ⟨1, _⟩ => show (i 1).val = win0_7.index t 1 * 1024 + 1 * (i 1).val; rw [(index7 t).2]; omega

/-- Every point writes its block of window 7 back. -/
theorem flush7 : ∀ t : Fin cfg0.N, (cfg0.win 7).flush t = true :=
  (by decide +kernel : ∀ t : Fin grid0.N, win0_7.flush t = true)

/-- The result array of window 7 after the run. -/
theorem final7 (c : Dev nD) : (dats m 0 c).arrAt 7 cfg0.N = resultOf7 m c :=
  (dats m 0 c).arrAt_eq_of_cover 7 (resultOf7 m c) (flushed_eq7 m c) fun i => by
    have hN : cfg0.N = 1 := N_0
    have h0 : (i 0 : Nat) < 128 := (i 0).isLt
    have h1 : (i 1 : Nat) < 1024 := (i 1).isLt
    refine ⟨⟨(i 0).val / 128, by omega⟩, flush7 _, ?_⟩
    generalize ht : (⟨(i 0).val / 128, by omega⟩ : Fin cfg0.N) = t
    have hv : t.val = (i 0).val / 128 := by rw [← ht]
    show i ∈ ((View.whole main_v8_1).slice (win0_7.rect t)).set
    rw [View.set_slice_whole, Rect.mem_set_unit]
    intro a
    match a with
    | ⟨0, _⟩ => show win0_7.index t 0 * 128 ≤ (i 0 : Nat) ∧ (i 0 : Nat) < win0_7.index t 0 * 128 + 128
                rw [(index7 t).1]; omega
    | ⟨1, _⟩ => show win0_7.index t 1 * 1024 ≤ (i 1 : Nat) ∧ (i 1 : Nat) < win0_7.index t 1 * 1024 + 1024
                rw [(index7 t).2]; omega

/-- The result array of window 8, from the arguments as launched. -/
def result8 (x0 : FVec Ideal S128x1024 .f32) (x2 : FVec Ideal S2x1024 .f32) (x5 : FVec Ideal S1x1024x1024 .f32) : FVec Ideal S128x1024 .f32 := fun i =>
  query (fun k => x0 (ix2 (i 0) k)) (fun k => x2 (ix2 1 k)) (fun k j => x5 (ix3 0 k j)) 1 (i 1)

/-- `result8` of the arguments of device `c` as launched. -/
abbrev resultOf8 (c : Dev nD) : FVec Ideal S128x1024 .f32 :=
  result8 (m ((c : Thread nD τ).loc main_arg0)) (m ((c : Thread nD τ).loc main_arg2)) (m ((c : Thread nD τ).loc main_arg5))

/-- What point `t` leaves for window 8 is `result8` on its block. -/
theorem outs8 (c : Dev nD) (t : Fin cfg0.N) (r : Fin 128) (j : Fin 1024) :
    out0_8 (iblk m c 0 t) (iblk m c 1 t) (iblk m c 2 t) (iblk m c 3 t) (iblk m c 4 t) (iblk m c 5 t) (ix2 r j) = resultOf8 m c (ix2 (row t r) j) := by
  rw [out8_apply]
  simp only [blk0, blk1, blk2, blk3, blk4, blk5]
  rfl

/-- What point `t` writes back for window 8 is its block of `result8`. -/
theorem flushed_eq8 (c : Dev nD) (t : Fin cfg0.N) (_hf : (cfg0.win 8).flush t = true) :
    (dats m 0 c).flushed 8 t = ((cfg0.win 8).blk t).view.read (Elt Ideal) (resultOf8 m c) := by
  rw [Cert.ProjSIdeal.Value.flushed8]
  funext i
  rw [View.read_apply]
  have hi : i = (ix2 (i 0) (i 1) : S128x1024.Idx) := by
    funext a
    match a with
    | ⟨0, _⟩ => rfl
    | ⟨1, _⟩ => rfl
  show out0_8 (iblk m c 0 t) (iblk m c 1 t) (iblk m c 2 t) (iblk m c 3 t) (iblk m c 4 t) (iblk m c 5 t) i = resultOf8 m c _
  refine (congrArg (out0_8 (iblk m c 0 t) (iblk m c 1 t) (iblk m c 2 t) (iblk m c 3 t) (iblk m c 4 t) (iblk m c 5 t)) hi).trans ((outs8 m c t (i 0) (i 1)).trans (congrArg (resultOf8 m c) (funext fun a => Fin.ext ?_)))
  match a with
  | ⟨0, _⟩ => show t.val * 128 + (i 0).val = win0_8.index t 0 * 128 + 1 * (i 0).val; rw [(index8 t).1]; omega
  | ⟨1, _⟩ => show (i 1).val = win0_8.index t 1 * 1024 + 1 * (i 1).val; rw [(index8 t).2]; omega

/-- Every point writes its block of window 8 back. -/
theorem flush8 : ∀ t : Fin cfg0.N, (cfg0.win 8).flush t = true :=
  (by decide +kernel : ∀ t : Fin grid0.N, win0_8.flush t = true)

/-- The result array of window 8 after the run. -/
theorem final8 (c : Dev nD) : (dats m 0 c).arrAt 8 cfg0.N = resultOf8 m c :=
  (dats m 0 c).arrAt_eq_of_cover 8 (resultOf8 m c) (flushed_eq8 m c) fun i => by
    have hN : cfg0.N = 1 := N_0
    have h0 : (i 0 : Nat) < 128 := (i 0).isLt
    have h1 : (i 1 : Nat) < 1024 := (i 1).isLt
    refine ⟨⟨(i 0).val / 128, by omega⟩, flush8 _, ?_⟩
    generalize ht : (⟨(i 0).val / 128, by omega⟩ : Fin cfg0.N) = t
    have hv : t.val = (i 0).val / 128 := by rw [← ht]
    show i ∈ ((View.whole main_v8_2).slice (win0_8.rect t)).set
    rw [View.set_slice_whole, Rect.mem_set_unit]
    intro a
    match a with
    | ⟨0, _⟩ => show win0_8.index t 0 * 128 ≤ (i 0 : Nat) ∧ (i 0 : Nat) < win0_8.index t 0 * 128 + 128
                rw [(index8 t).1]; omega
    | ⟨1, _⟩ => show win0_8.index t 1 * 1024 ≤ (i 1 : Nat) ∧ (i 1 : Nat) < win0_8.index t 1 * 1024 + 1024
                rw [(index8 t).2]; omega

end Cert.ProjSValue

end
-- ==== Proof.ProjSRow.lean ====
/-
  The reference of the projections, element by element over the extended reals: a row of the input, normed (RowMath.lean),
  times one of the matrices.
-/
module

public import proofs.«01_k».proof.Proof.RowMath
public import proofs.«01_k».proof.Proof.Gen.ProjSRefIdeal.Read

@[expose] public section

set_option maxRecDepth 16384

noncomputable section

namespace Cert.ProjSRow

open Idealize.ShloMosaic Idealize.SL.Sem Cert.ProjSRefIdeal Cert.ProjSRefIdeal.Gen Idealize.ShloMosaic.TcCoe Cert.Rows Cert.ProjSRefIdeal.Read

variable (x0 : FVec Ideal S128x1024 .f32) (x1 : FVec Ideal S1024 .f32) (x2 : FVec Ideal S2x1024 .f32)
  (x3 x4 : FVec Ideal S1024x1024 .f32) (x5 : FVec Ideal S1x1024x1024 .f32)

/-- The normed row the keys and values come from. -/
theorem v12_apply (r : Fin 128) (c : Fin 1024) :
    val_main_v12 (F := Ideal) x0 x1 (ix2 r c) = rmsn (fun k => x0 (ix2 r k)) (fun k => x1 (ix1 k)) c := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The keys. -/
theorem v13_apply (r : Fin 128) (j : Fin 1024) :
    val_main_v13 (F := Ideal) x0 x1 x3 (ix2 r j) = proj (fun k => x0 (ix2 r k)) (fun k => x1 (ix1 k)) (fun k j => x3 (ix2 k j)) j := by
  unfold proj
  rw [show rmsn (fun k => x0 (ix2 r k)) (fun k => x1 (ix1 k)) = fun k => val_main_v12 (F := Ideal) x0 x1 (ix2 r k) from
    funext fun k => (v12_apply x0 x1 r k).symm]
  unfold val_main_v13
  generalize val_main_v12 (F := Ideal) x0 x1 = y
  pointwise [dot_S128x1024_S1024x1024_S128x1024_1_0_0_1_n_n]
  rfl

/-- The values. -/
theorem v14_apply (r : Fin 128) (j : Fin 1024) :
    val_main_v14 (F := Ideal) x0 x1 x4 (ix2 r j) = proj (fun k => x0 (ix2 r k)) (fun k => x1 (ix1 k)) (fun k j => x4 (ix2 k j)) j := by
  unfold proj
  rw [show rmsn (fun k => x0 (ix2 r k)) (fun k => x1 (ix1 k)) = fun k => val_main_v12 (F := Ideal) x0 x1 (ix2 r k) from
    funext fun k => (v12_apply x0 x1 r k).symm]
  unfold val_main_v14
  generalize val_main_v12 (F := Ideal) x0 x1 = y
  pointwise [dot_S128x1024_S1024x1024_S128x1024_1_0_0_1_n_n]
  rfl

/-- The normed row the queries come from. -/
theorem v29_apply (r : Fin 128) (c : Fin 1024) :
    val_main_v29 (F := Ideal) x0 x2 (ix2 r c) = rmsn (fun k => x0 (ix2 r k)) (fun k => x2 (ix2 1 k)) c := by
  pointwise [val_main_v29, val_main_v28, val_main_v27, val_main_v26, val_main_v25, val_main_v24, val_main_v23, val_main_v22, val_main_v21, val_main_v20, val_main_v19, val_main_v18, val_main_v17, val_main_v16, val_main_v15, val_main_cst_2, val_main_cst_3, val_main_cst_4]
  rfl

/-- The queries. -/
theorem v33_apply (r : Fin 128) (j : Fin 1024) :
    val_main_v33 (F := Ideal) x0 x2 x5 (ix2 r j)
      = query (fun k => x0 (ix2 r k)) (fun k => x2 (ix2 1 k)) (fun k j => x5 (ix3 0 k j)) 1 j := by
  unfold query
  rw [mul_one, show rmsn (fun k => x0 (ix2 r k)) (fun k => x2 (ix2 1 k)) = fun k => val_main_v29 (F := Ideal) x0 x2 (ix2 r k) from
    funext fun k => (v29_apply x0 x2 r k).symm]
  unfold val_main_v33 val_main_v31
  generalize val_main_v29 (F := Ideal) x0 x2 = y
  pointwise [val_main_v32, val_main_cst_5, val_main_v30, dot_S128x1024_S1024x1024_S128x1024_1_0_0_1_n_n]
  rfl

end Cert.ProjSRow

end
-- ==== Proof.ProjSClaims.lean ====
/-
  The claims about the sample group's projections (keys, values, queries): the frames, and the values.
-/
module

public import proofs.«01_k».proof.Defs
public import proofs.«01_k».proof.Proof.Gen.ProjS.Frame
public import proofs.«01_k».proof.Proof.ProjSValue
public import proofs.«01_k».proof.Proof.ProjSRow
public import proofs.«01_k».proof.Proof.Gen.ProjSRefIdeal.Run
public import Idealize.ShloMosaic.Adequacy
public import Idealize.ShloMosaic.Init

@[expose] public section

set_option maxRecDepth 16384

noncomputable section

namespace Cert.ProjSClaims

open Idealize.ShloMosaic Idealize.SL.Sem Idealize.ShloMosaic.TcCoe

/-- The printed program ends, keeps its arguments and leaves its counters at zero. -/
theorem frame_p : Cert.quiescent_ProjS := fun m g _ => Cert.ProjS.Gen.frame m g

/-- So does its reading over the extended reals. -/
theorem frame_pi : Cert.quiescent_ProjSIdeal := fun m g _ => Cert.ProjSIdeal.Gen.frame m g

/-- So does the reference. -/
theorem frame_ri : Cert.quiescent_ProjSRefIdeal := fun m g _ =>
  (θ_run Cert.ProjSRefIdeal.defs _ _).mono (fun r h => ⟨fun c => (h c).2.2.2,
      Idealize.ShloMosaic.sem_eq_zero_of_no_sems (by decide) r.2⟩)
    (Cert.ProjSRefIdeal.Value.run (F := Ideal) m g)

/-- The reading rewrites nothing. -/
theorem preserves : Cert.preserves_ProjS_ProjSIdeal := trivial

/-- The reference's result is the function the kernel's value is stated with (result 0). -/
theorem value0 (x0 : FVec Ideal Cert.ProjSRefIdeal.S128x1024 .f32) (x1 : FVec Ideal Cert.ProjSRefIdeal.S1024 .f32) (x3 : FVec Ideal Cert.ProjSRefIdeal.S1024x1024 .f32) :
    Cert.ProjSRefIdeal.Read.val_main_v13 (F := Ideal) x0 x1 x3 = Cert.ProjSValue.result6 x0 x1 x3 := by
  funext i
  refine (congrArg _ (?_ : i = ix2 (i 0) (i 1))).trans ((Cert.ProjSRow.v13_apply x0 x1 x3 (i 0) (i 1)).trans ?_)
  · funext a
    match a with
    | ⟨0, _⟩ => rfl
    | ⟨1, _⟩ => rfl
  · rfl

/-- The reference's result is the function the kernel's value is stated with (result 1). -/
theorem value1 (x0 : FVec Ideal Cert.ProjSRefIdeal.S128x1024 .f32) (x1 : FVec Ideal Cert.ProjSRefIdeal.S1024 .f32) (x4 : FVec Ideal Cert.ProjSRefIdeal.S1024x1024 .f32) :
    Cert.ProjSRefIdeal.Read.val_main_v14 (F := Ideal) x0 x1 x4 = Cert.ProjSValue.result7 x0 x1 x4 := by
  funext i
  refine (congrArg _ (?_ : i = ix2 (i 0) (i 1))).trans ((Cert.ProjSRow.v14_apply x0 x1 x4 (i 0) (i 1)).trans ?_)
  · funext a
    match a with
    | ⟨0, _⟩ => rfl
    | ⟨1, _⟩ => rfl
  · rfl

/-- The reference's result is the function the kernel's value is stated with (result 2). -/
theorem value2 (x0 : FVec Ideal Cert.ProjSRefIdeal.S128x1024 .f32) (x2 : FVec Ideal Cert.ProjSRefIdeal.S2x1024 .f32) (x5 : FVec Ideal Cert.ProjSRefIdeal.S1x1024x1024 .f32) :
    Cert.ProjSRefIdeal.Read.val_main_v33 (F := Ideal) x0 x2 x5 = Cert.ProjSValue.result8 x0 x2 x5 := by
  funext i
  refine (congrArg _ (?_ : i = ix2 (i 0) (i 1))).trans ((Cert.ProjSRow.v33_apply x0 x2 x5 (i 0) (i 1)).trans ?_)
  · funext a
    match a with
    | ⟨0, _⟩ => rfl
    | ⟨1, _⟩ => rfl
  · rfl

/-- The kernel's results are the reference's, element by element over the extended reals. -/
theorem algebraic : Cert.algebraic_ProjSIdeal_ProjSRefIdeal := by
  intro m g m' g' _ hagree
  refine ⟨fun c => Cert.ProjSValue.resultOf6 m c, fun c => Cert.ProjSValue.resultOf7 m c, fun c => Cert.ProjSValue.resultOf8 m c,
    (θ_run Cert.ProjSIdeal.defs _ _).mono (fun r h c => ?_) (Cert.ProjSIdeal.Value.run_blocks (F := Ideal) m g),
    (θ_run Cert.ProjSRefIdeal.defs _ _).mono (fun r h c => ?_) (Cert.ProjSRefIdeal.Value.run (F := Ideal) m' g')⟩
  · obtain ⟨e0, e1, e2, hk⟩ := h c
    exact ⟨e0.trans (Cert.ProjSValue.final6 m c), e1.trans (Cert.ProjSValue.final7 m c), e2.trans (Cert.ProjSValue.final8 m c), hk⟩
  · obtain ⟨e0, e1, e2, hk⟩ := h c
    obtain ⟨h0, h1, h2, h3, h4, h5⟩ := hagree c
    refine ⟨e0.trans ?_, e1.trans ?_, e2.trans ?_, hk⟩
    · refine (Cert.ProjSRefIdeal.Read.val_main_v13_eq (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg3))).trans ((value0 (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg3))).trans ?_)
      show Cert.ProjSValue.result6 (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg3)) = Cert.ProjSValue.result6 (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg3))
      rw [h0, h1, h3]
    · refine (Cert.ProjSRefIdeal.Read.val_main_v14_eq (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg4))).trans ((value1 (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg4))).trans ?_)
      show Cert.ProjSValue.result7 (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg4)) = Cert.ProjSValue.result7 (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg1)) (m ((c.tc : Thread Cert.ProjSIdeal.nD Cert.ProjSIdeal.τ).loc Cert.ProjSIdeal.main_arg4))
      rw [h0, h1, h4]
    · refine (Cert.ProjSRefIdeal.Read.val_main_v33_eq (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg5))).trans ((value2 (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg5))).trans ?_)
      show Cert.ProjSValue.result8 (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg5)) = Cert.ProjSValue.result8 (m ((c.tc : Thread Cert.ProjSIdeal.nD Cert.ProjSIdeal.τ).loc Cert.ProjSIdeal.main_arg0)) (m ((c.tc : Thread Cert.ProjSIdeal.nD Cert.ProjSIdeal.τ).loc Cert.ProjSIdeal.main_arg2)) (m ((c.tc : Thread Cert.ProjSIdeal.nD Cert.ProjSIdeal.τ).loc Cert.ProjSIdeal.main_arg5))
      rw [h0, h2, h5]

end Cert.ProjSClaims

end
-- ==== Proof.FfnSBlock.lean ====
/-
  The sample group's first feed-forward block at one grid point, element by element over the extended reals: the block its
  store leaves is the feed-forward block (RowMath.lean) of the row.
-/
module

public import proofs.«01_k».proof.Proof.RowMath
public import proofs.«01_k».proof.Proof.Gen.FfnSIdeal.Skeleton

@[expose] public section

set_option maxRecDepth 16384

noncomputable section

namespace Cert.FfnSBlock
open Idealize.ShloMosaic Idealize.SL.Sem Cert.FfnSIdeal Cert.FfnSIdeal.Gen Idealize.ShloMosaic.TcCoe Cert.Rows
open Idealize.ShloMosaic.Pipeline (Dat Cfg Window)

/-- The normed row the feed-forward block reads. -/
theorem pay3_apply (v0 : Vec Ideal S128x1024 .f32) (v1 : Vec Ideal S1x1024 .f32) (r : Fin 128) (c : Fin 1024) :
    k0_pay3 v0 v1 (ix2 r c) = rmsn (fun k => v0 (ix2 r k)) (fun k => v1 (ix2 0 k)) c := by
  pointwise [k0_pay3]
  rfl

/-- The gated activations, left half. -/
theorem pay4_apply (v0 : Vec Ideal S128x1024 .f32) (v1 : Vec Ideal S1x1024 .f32) (v16 v19 : Vec Ideal S1x1024x1408 .bf16) (r : Fin 128) (j : Fin 1408) :
    k0_pay4 v0 v1 v16 v19 (ix2 r j) = dot (fun k => k0_pay3 v0 v1 (ix2 r k)) (fun k j => v16 (ix3 0 k j)) j * Ideal.logistic (dot (fun k => k0_pay3 v0 v1 (ix2 r k)) (fun k j => v16 (ix3 0 k j)) j) * dot (fun k => k0_pay3 v0 v1 (ix2 r k)) (fun k j => v19 (ix3 0 k j)) j := by
  unfold k0_pay4
  generalize k0_pay3 v0 v1 = y
  pointwise [dot_S128x1024_S1024x1408_S128x1408_1_0_0_1_n_n]
  rfl

/-- The gated activations, right half. -/
theorem pay1_apply (v0 : Vec Ideal S128x1024 .f32) (v1 : Vec Ideal S1x1024 .f32) (v29 v32 : Vec Ideal S1x1024x1408 .bf16) (r : Fin 128) (j : Fin 1408) :
    k0_pay1 (k0_pay3 v0 v1) (k0_pay5 v0 v1 v29) (k0_pay6 v32) (ix2 r j) = dot (fun k => k0_pay3 v0 v1 (ix2 r k)) (fun k j => v29 (ix3 0 k j)) j * Ideal.logistic (dot (fun k => k0_pay3 v0 v1 (ix2 r k)) (fun k j => v29 (ix3 0 k j)) j) * dot (fun k => k0_pay3 v0 v1 (ix2 r k)) (fun k j => v32 (ix3 0 k j)) j := by
  unfold k0_pay1 k0_pay5 k0_pay6
  generalize k0_pay3 v0 v1 = y
  pointwise [dot_S128x1024_S1024x1408_S128x1408_1_0_0_1_n_n]
  rfl

/-- What the block's store leaves at one index, from the kept activations. -/
theorem pay2_apply (v0 : Vec Ideal S128x1024 .f32) (v42 : Vec Ideal S128x2816 .bf16) (v43 : Vec Ideal S1x2816x1024 .bf16)
    (v46 : Vec Ideal S1x1024 .f32) (r : Fin 128) (c : Fin 1024) :
    k0_pay2 v0 v42 v43 v46 (ix2 r c)
      = v0 (ix2 r c) + rmsn (dot (fun j => v42 (ix2 r j)) (fun j c => v43 (ix3 0 j c))) (fun k => v46 (ix2 0 k)) c := by
  pointwise [k0_pay2, dot_S128x2816_S2816x1024_S128x1024_1_0_0_1_n_n]
  rfl

/-- The activations the block keeps: the two stores of 1408 columns, read back whole. -/
def acts (v0 : Vec Ideal S128x1024 .f32) (v1 : Vec Ideal S1x1024 .f32) (x3 x4 : Vec Ideal S1x1024x2816 .bf16) : Vec Ideal S128x2816 .bf16 :=
  (View.whole cc0_scratch0).readCov
    [⟨Rect.unit ![0, 1408] ![128, 1408] inb_S128x2816_S128x1408_0_1408,
        k0_pay1 (k0_pay3 v0 v1) (k0_pay5 v0 v1 (View.ld x3 (Rect.unit ![0, 0, 1408] ![1, 1024, 1408] inb_S1x1024x2816_S1x1024x1408_0_0_1408)))
          (k0_pay6 (View.ld x4 (Rect.unit ![0, 0, 1408] ![1, 1024, 1408] inb_S1x1024x2816_S1x1024x1408_0_0_1408)))⟩,
      ⟨Rect.unit ![0, 0] ![128, 1408] inb_S128x2816_S128x1408_0_0,
        k0_pay4 v0 v1 (View.ld x3 (Rect.unit ![0, 0, 0] ![1, 1024, 1408] inb_S1x1024x2816_S1x1024x1408_0_0_0))
          (View.ld x4 (Rect.unit ![0, 0, 0] ![1, 1024, 1408] inb_S1x1024x2816_S1x1024x1408_0_0_0))⟩]
    (Rect.unit ![0, 0] ![128, 2816] inb_S128x2816_S128x2816_0_0).toLoadRect

/-- The left half of a matrix of 2816 columns. -/
def left (x : Vec Ideal S1x1024x2816 .bf16) : Vec Ideal S1x1024x1408 .bf16 :=
  fun i => x (ix3 0 (i 1) ⟨(i 2).val, (i 2).isLt.trans (by decide)⟩)

/-- The right half of a matrix of 2816 columns. -/
def right (x : Vec Ideal S1x1024x2816 .bf16) : Vec Ideal S1x1024x1408 .bf16 :=
  fun i => x (ix3 0 (i 1) ⟨(i 2).val + 1408, by have : (i 2).val < 1408 := (i 2).isLt; omega⟩)

/-- The load of columns 0 to 1407 is the left half. -/
theorem ld_left (x : Vec Ideal S1x1024x2816 .bf16) :
    View.ld x (Rect.unit ![0, 0, 0] ![1, 1024, 1408] inb_S1x1024x2816_S1x1024x1408_0_0_0) = left x := by
  funext i
  refine congrArg x (funext fun a => Fin.ext ?_)
  match a with
  | ⟨0, _⟩ => have h : (i 0).val < 1 := (i 0).isLt
              show 0 + 1 * (i 0).val = 0; omega
  | ⟨1, _⟩ => show 0 + 1 * (i 1).val = (i 1).val; omega
  | ⟨2, _⟩ => show 0 + 1 * (i 2).val = (i 2).val; omega

/-- The load of columns 1408 to 2815 is the right half. -/
theorem ld_right (x : Vec Ideal S1x1024x2816 .bf16) :
    View.ld x (Rect.unit ![0, 0, 1408] ![1, 1024, 1408] inb_S1x1024x2816_S1x1024x1408_0_0_1408) = right x := by
  funext i
  refine congrArg x (funext fun a => Fin.ext ?_)
  match a with
  | ⟨0, _⟩ => have h : (i 0).val < 1 := (i 0).isLt
              show 0 + 1 * (i 0).val = 0; omega
  | ⟨1, _⟩ => show 0 + 1 * (i 1).val = (i 1).val; omega
  | ⟨2, _⟩ => show 1408 + 1 * (i 2).val = (i 2).val + 1408; omega

/-- Each kept activation is the gated activation of its column. -/
theorem acts_apply (v0 : Vec Ideal S128x1024 .f32) (v1 : Vec Ideal S1x1024 .f32) (x3 x4 : Vec Ideal S1x1024x2816 .bf16)
    (r : Fin 128) (j : Fin 2816) :
    acts v0 v1 x3 x4 (ix2 r j)
      = act (fun k => k0_pay3 v0 v1 (ix2 r k)) (fun k j => x3 (ix3 0 k j)) (fun k j => x4 (ix3 0 k j)) j := by
  have e : (Rect.unit (s := S128x2816) ![0, 0] ![128, 2816] inb_S128x2816_S128x2816_0_0).toLoadRect.idx (ix2 r j) = (ix2 r j : S128x2816.Idx) := by
    funext a
    apply Fin.ext
    match a with
    | ⟨0, _⟩ => show 0 + 1 * r.val = r.val; omega
    | ⟨1, _⟩ => show 0 + 1 * j.val = j.val; omega
  unfold acts
  rw [View.readCov_eq_canon']
  dsimp only
  rw [e]
  refine (canon_halves (n := 128) (e := .bf16) _ _ _ _ r j).trans ?_
  split
  · rename_i hj
    rw [pay4_apply, ld_left, ld_left]
    rfl
  · rename_i hj
    rw [pay1_apply, ld_right, ld_right]
    have ej : (⟨j.val - 1408 + 1408, by omega⟩ : Fin 2816) = j := Fin.ext (by show j.val - 1408 + 1408 = j.val; omega)
    exact congrArg (act (fun k => k0_pay3 v0 v1 (ix2 r k)) (fun k j => x3 (ix3 0 k j)) (fun k j => x4 (ix3 0 k j))) ej

/-- One element of what the block's store leaves: the feed-forward block of the row. -/
theorem block_apply (x0 : Vec Ideal S128x1024 .f32) (x1 x2 : Vec Ideal S1x1024 .f32) (x3 x4 : Vec Ideal S1x1024x2816 .bf16)
    (x5 : Vec Ideal S1x2816x1024 .bf16) (r : Fin 128) (c : Fin 1024) :
    k0_pay2 x0 (acts x0 x1 x3 x4) x5 x2 (ix2 r c)
      = ffn (fun k => x0 (ix2 r k)) (fun k => x1 (ix2 0 k)) (fun k => x2 (ix2 0 k)) (fun k j => x3 (ix3 0 k j)) (fun k j => x4 (ix3 0 k j))
          (fun k j => x5 (ix3 0 k j)) c := by
  have e3 := fun k => pay3_apply x0 x1 r k
  have e' := fun j => acts_apply x0 x1 x3 x4 r j
  rw [pay2_apply]
  simp only [e', e3]
  rfl

end Cert.FfnSBlock

end
-- ==== Proof.FfnSValue.lean ====
/-
  The result array of the sample group's first feed-forward call after its run, element by element over the extended reals:
  each row is the feed-forward block (RowMath.lean) of the row, with the weights as launched.
-/
module

public import proofs.«01_k».proof.Proof.FfnSBlock
public import proofs.«01_k».proof.Proof.Gen.FfnSIdeal.Value

@[expose] public section

set_option maxRecDepth 16384

noncomputable section

namespace Cert.FfnSValue

open Idealize.ShloMosaic Idealize.SL.Sem Cert.FfnSIdeal Cert.FfnSIdeal.Gen Idealize.ShloMosaic.TcCoe Cert.Rows Cert.FfnSBlock
open Idealize.ShloMosaic.Pipeline (Dat Cfg Window)

variable (m : (ℓ : Loc nD τ sig) → Buf (Elt Ideal) ℓ) (ρ : Dev nD → PrngReg)

/-- A zero offset of two axes. -/
theorem hz : (![0, 0] : Fin 2 → Nat) = fun _ => 0 := funext fun a => by fin_cases a <;> rfl
/-- A zero offset of three axes. -/
theorem hz3 : (![0, 0, 0] : Fin 3 → Nat) = fun _ => 0 := funext fun a => by fin_cases a <;> rfl

set_option maxHeartbeats 2000000 in
/-- What the output's staging buffer holds after point `t`, one element. -/
theorem outs_apply (c : Dev nD) (t : Fin cfg0.N) (r : Fin 128) (k : Fin 1024) :
    outsAt0 m c t (ix2 r k)
      = ffn (fun k => (iblk m c 0 t : Vec Ideal S128x1024 .f32) (ix2 r k))
          (fun k => (iblk m c 1 t : Vec Ideal S1x1024 .f32) (ix2 0 k)) (fun k => (iblk m c 2 t : Vec Ideal S1x1024 .f32) (ix2 0 k))
          (fun k j => (iblk m c 3 t : Vec Ideal S1x1024x2816 .bf16) (ix3 0 k j))
          (fun k j => (iblk m c 4 t : Vec Ideal S1x1024x2816 .bf16) (ix3 0 k j))
          (fun k j => (iblk m c 5 t : Vec Ideal S1x2816x1024 .bf16) (ix3 0 k j)) k := by
  unfold outsAt0 out0_A_6
  rw [View.read_writes_eq_canon _ _ _ (cover0_A_6 c _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero (S := S128x1024) hz]
  simp only [View.ld_unit_zero (S := S128x1024) hz, View.ld_unit_zero (S := S1x1024) hz, View.ld_unit_zero (S := S1x2816x1024) hz3]
  exact block_apply _ _ _ _ _ _ r k

/-! ## The blocks as parts of the arguments -/

/-- The row of the array that block `t` holds as its row `r`. -/
def row (t : Fin cfg0.N) (r : Fin 128) : Fin 128 :=
  ⟨t.val * 128 + r.val, by have : cfg0.N = 1 := N_0; have := t.isLt; omega⟩

/-- The first of two stacked gains, as a row. -/
theorem gain_apply (x : FVec Ideal S2x1024 .f32) (k : Fin 1024) :
    shapeCast S1x1024 (shapeCast S1024 (extractStridedSlice S1x1024 ![0, 0] x slices_S2x1024_S1x1024_0_0) shapeCasts_S1x1024_S1024) shapeCasts_S1024_S1x1024 (ix2 0 k)
      = x (ix2 0 k) := by
  pointwise

/-- A gain row the region finds. -/
theorem V_gpre (c : Dev nD) (k : Fin 1024) :
    (V m c main_v5 : Vec Ideal S1x1024 .f32) (ix2 0 k) = (m ((c : Thread nD τ).loc main_arg1) : FVec Ideal S2x1024 .f32) (ix2 0 k) := by
  have e : @Eq (FVec Ideal S1x1024 .f32) (V m c main_v5) (shapeCast S1x1024 (shapeCast S1024 (extractStridedSlice S1x1024 ![0, 0] (m ((c : Thread nD τ).loc main_arg1) : FVec Ideal S2x1024 .f32) slices_S2x1024_S1x1024_0_0) shapeCasts_S1x1024_S1024) shapeCasts_S1024_S1x1024) := by
    unfold V
    after_results <;> rfl
  rw [e]
  exact gain_apply _ k

/-- A gain row the region finds. -/
theorem V_gpost (c : Dev nD) (k : Fin 1024) :
    (V m c main_v8 : Vec Ideal S1x1024 .f32) (ix2 0 k) = (m ((c : Thread nD τ).loc main_arg2) : FVec Ideal S2x1024 .f32) (ix2 0 k) := by
  have e : @Eq (FVec Ideal S1x1024 .f32) (V m c main_v8) (shapeCast S1x1024 (shapeCast S1024 (extractStridedSlice S1x1024 ![0, 0] (m ((c : Thread nD τ).loc main_arg2) : FVec Ideal S2x1024 .f32) slices_S2x1024_S1x1024_0_0) shapeCasts_S1x1024_S1024) shapeCasts_S1024_S1x1024) := by
    unfold V
    after_results <;> rfl
  rw [e]
  exact gain_apply _ k

/-- A stacked weight the region finds, rounded. -/
theorem V_gate (c : Dev nD) (k : Fin 1024) (j : Fin 2816) :
    (V m c main_v0 : Vec Ideal S2x1024x2816 .bf16) (ix3 0 k j) = (m ((c : Thread nD τ).loc main_arg3) : FVec Ideal S2x1024x2816 .f32) (ix3 0 k j) := by
  have e : @Eq (FVec Ideal S2x1024x2816 .bf16) (V m c main_v0) (truncf .bf16 (m ((c : Thread nD τ).loc main_arg3) : FVec Ideal S2x1024x2816 .f32) bitsLt_bf16_f32) := by
    unfold V
    after_results <;> rfl
  rw [e]
  exact rfl

/-- A stacked weight the region finds, rounded. -/
theorem V_up (c : Dev nD) (k : Fin 1024) (j : Fin 2816) :
    (V m c main_v1 : Vec Ideal S2x1024x2816 .bf16) (ix3 0 k j) = (m ((c : Thread nD τ).loc main_arg4) : FVec Ideal S2x1024x2816 .f32) (ix3 0 k j) := by
  have e : @Eq (FVec Ideal S2x1024x2816 .bf16) (V m c main_v1) (truncf .bf16 (m ((c : Thread nD τ).loc main_arg4) : FVec Ideal S2x1024x2816 .f32) bitsLt_bf16_f32) := by
    unfold V
    after_results <;> rfl
  rw [e]
  exact rfl

/-- A stacked weight the region finds, rounded. -/
theorem V_down (c : Dev nD) (k : Fin 2816) (j : Fin 1024) :
    (V m c main_v2 : Vec Ideal S2x2816x1024 .bf16) (ix3 0 k j) = (m ((c : Thread nD τ).loc main_arg5) : FVec Ideal S2x2816x1024 .f32) (ix3 0 k j) := by
  have e : @Eq (FVec Ideal S2x2816x1024 .bf16) (V m c main_v2) (truncf .bf16 (m ((c : Thread nD τ).loc main_arg5) : FVec Ideal S2x2816x1024 .f32) bitsLt_bf16_f32) := by
    unfold V
    after_results <;> rfl
  rw [e]
  exact rfl

/-- The block index of window 0 at each grid point. -/
theorem index0 : ∀ t : Fin cfg0.N, win0_0.index t 0 = t.val ∧ win0_0.index t 1 = 0 :=
  (by decide +kernel : ∀ t : Fin grid0.N, win0_0.index t 0 = t.val ∧ win0_0.index t 1 = 0)

/-- The block index of window 1 at each grid point. -/
theorem index1 : ∀ t : Fin cfg0.N, win0_1.index t 0 = 0 ∧ win0_1.index t 1 = 0 :=
  (by decide +kernel : ∀ t : Fin grid0.N, win0_1.index t 0 = 0 ∧ win0_1.index t 1 = 0)

/-- The block index of window 2 at each grid point. -/
theorem index2 : ∀ t : Fin cfg0.N, win0_2.index t 0 = 0 ∧ win0_2.index t 1 = 0 :=
  (by decide +kernel : ∀ t : Fin grid0.N, win0_2.index t 0 = 0 ∧ win0_2.index t 1 = 0)

/-- The block index of window 3 at each grid point. -/
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

/-- The block index of window 4 at each grid point. -/
theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

/-- The block index of window 5 at each grid point. -/
theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- The block index of window 6 at each grid point. -/
theorem index6 : ∀ t : Fin cfg0.N, win0_6.index t 0 = t.val ∧ win0_6.index t 1 = 0 :=
  (by decide +kernel : ∀ t : Fin grid0.N, win0_6.index t 0 = t.val ∧ win0_6.index t 1 = 0)

/-- Block row `r` is the array's row. -/
theorem blk0 (c : Dev nD) (t : Fin cfg0.N) (r : Fin 128) (k : Fin 1024) :
    (iblk m c 0 t : Vec Ideal S128x1024 .f32) (ix2 r k) = (m ((c : Thread nD τ).loc main_arg0) : FVec Ideal S128x1024 .f32) (ix2 (row t r) k) := by
  refine Eq.trans ?_ (congrFun (V_main_arg0 m c) _)
  unfold iblk
  rw [View.read_apply]
  show V m c main_arg0 _ = _
  refine congrArg (V m c main_arg0) (funext fun a => Fin.ext ?_)
  match a with
  | ⟨0, _⟩ => show win0_0.index t 0 * 128 + 1 * r.val = t.val * 128 + r.val; rw [(index0 t).1]; omega
  | ⟨1, _⟩ => show win0_0.index t 1 * 1024 + 1 * k.val = k.val; rw [(index0 t).2]; omega

/-- A gain row's block. -/
theorem blk1 (c : Dev nD) (t : Fin cfg0.N) (k : Fin 1024) :
    (iblk m c 1 t : Vec Ideal S1x1024 .f32) (ix2 0 k) = (m ((c : Thread nD τ).loc main_arg1) : FVec Ideal S2x1024 .f32) (ix2 0 k) := by
  refine Eq.trans ?_ (V_gpre m c k)
  unfold iblk
  rw [View.read_apply]
  show V m c main_v5 _ = _
  refine congrArg (V m c main_v5) (funext fun a => Fin.ext ?_)
  match a with
  | ⟨0, _⟩ => show win0_1.index t 0 * 1 + 1 * 0 = 0; rw [(index1 t).1]
  | ⟨1, _⟩ => show win0_1.index t 1 * 1024 + 1 * k.val = k.val; rw [(index1 t).2]; omega

/-- A gain row's block. -/
theorem blk2 (c : Dev nD) (t : Fin cfg0.N) (k : Fin 1024) :
    (iblk m c 2 t : Vec Ideal S1x1024 .f32) (ix2 0 k) = (m ((c : Thread nD τ).loc main_arg2) : FVec Ideal S2x1024 .f32) (ix2 0 k) := by
  refine Eq.trans ?_ (V_gpost m c k)
  unfold iblk
  rw [View.read_apply]
  show V m c main_v8 _ = _
  refine congrArg (V m c main_v8) (funext fun a => Fin.ext ?_)
  match a with
  | ⟨0, _⟩ => show win0_2.index t 0 * 1 + 1 * 0 = 0; rw [(index2 t).1]
  | ⟨1, _⟩ => show win0_2.index t 1 * 1024 + 1 * k.val = k.val; rw [(index2 t).2]; omega

/-- A stacked weight's block: its first layer. -/
theorem blk3 (c : Dev nD) (t : Fin cfg0.N) (k : Fin 1024) (j : Fin 2816) :
    (iblk m c 3 t : Vec Ideal S1x1024x2816 .bf16) (ix3 0 k j) = (m ((c : Thread nD τ).loc main_arg3) : FVec Ideal S2x1024x2816 .f32) (ix3 0 k j) := by
  refine Eq.trans ?_ (V_gate m c k j)
  unfold iblk
  rw [View.read_apply]
  show V m c main_v0 _ = _
  refine congrArg (V m c main_v0) (funext fun a => Fin.ext ?_)
  match a with
  | ⟨0, _⟩ => show win0_3.index t 0 * 1 + 1 * 0 = 0; rw [(index3 t).1]
  | ⟨1, _⟩ => show win0_3.index t 1 * 1024 + 1 * k.val = k.val; rw [(index3 t).2.1]; omega
  | ⟨2, _⟩ => show win0_3.index t 2 * 2816 + 1 * j.val = j.val; rw [(index3 t).2.2]; omega

/-- A stacked weight's block: its first layer. -/
theorem blk4 (c : Dev nD) (t : Fin cfg0.N) (k : Fin 1024) (j : Fin 2816) :
    (iblk m c 4 t : Vec Ideal S1x1024x2816 .bf16) (ix3 0 k j) = (m ((c : Thread nD τ).loc main_arg4) : FVec Ideal S2x1024x2816 .f32) (ix3 0 k j) := by
  refine Eq.trans ?_ (V_up m c k j)
  unfold iblk
  rw [View.read_apply]
  show V m c main_v1 _ = _
  refine congrArg (V m c main_v1) (funext fun a => Fin.ext ?_)
  match a with
  | ⟨0, _⟩ => show win0_4.index t 0 * 1 + 1 * 0 = 0; rw [(index4 t).1]
  | ⟨1, _⟩ => show win0_4.index t 1 * 1024 + 1 * k.val = k.val; rw [(index4 t).2.1]; omega
  | ⟨2, _⟩ => show win0_4.index t 2 * 2816 + 1 * j.val = j.val; rw [(index4 t).2.2]; omega

/-- A stacked weight's block: its first layer. -/
theorem blk5 (c : Dev nD) (t : Fin cfg0.N) (k : Fin 2816) (j : Fin 1024) :
    (iblk m c 5 t : Vec Ideal S1x2816x1024 .bf16) (ix3 0 k j) = (m ((c : Thread nD τ).loc main_arg5) : FVec Ideal S2x2816x1024 .f32) (ix3 0 k j) := by
  refine Eq.trans ?_ (V_down m c k j)
  unfold iblk
  rw [View.read_apply]
  show V m c main_v2 _ = _
  refine congrArg (V m c main_v2) (funext fun a => Fin.ext ?_)
  match a with
  | ⟨0, _⟩ => show win0_5.index t 0 * 1 + 1 * 0 = 0; rw [(index5 t).1]
  | ⟨1, _⟩ => show win0_5.index t 1 * 2816 + 1 * k.val = k.val; rw [(index5 t).2.1]; omega
  | ⟨2, _⟩ => show win0_5.index t 2 * 1024 + 1 * j.val = j.val; rw [(index5 t).2.2]; omega

/-! ## The result array -/

/-- One element of the result, from the arguments as launched. -/
def result (x0 : FVec Ideal S128x1024 .f32) (x1 x2 : FVec Ideal S2x1024 .f32) (x3 x4 : FVec Ideal S2x1024x2816 .f32) (x5 : FVec Ideal S2x2816x1024 .f32) :
    FVec Ideal S128x1024 .f32 := fun i =>
  ffn (fun k => x0 (ix2 (i 0) k)) (fun k => x1 (ix2 0 k)) (fun k => x2 (ix2 0 k)) (fun k j => x3 (ix3 0 k j)) (fun k j => x4 (ix3 0 k j))
    (fun k j => x5 (ix3 0 k j)) (i 1)

/-- `result` of the arguments of device `c` as launched. -/
abbrev resultOf (c : Dev nD) : FVec Ideal S128x1024 .f32 :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point `t` leaves is `result` on the rows of its block. -/
theorem outs_result (c : Dev nD) (t : Fin cfg0.N) (r : Fin 128) (k : Fin 1024) :
    outsAt0 m c t (ix2 r k) = resultOf m c (ix2 (row t r) k) := by
  rw [outs_apply]
  simp only [blk0, blk1, blk2, blk3, blk4, blk5]
  rfl

/-- What point `t` writes back is its block of `result`. -/
theorem flushed_eq (c : Dev nD) (t : Fin cfg0.N) (_hf : (cfg0.win 6).flush t = true) :
    (dats m 0 c).flushed 6 t = ((cfg0.win 6).blk t).view.read (Elt Ideal) (resultOf m c) := by
  rw [Cert.FfnSIdeal.Value.flushed6]
  funext i
  rw [View.read_apply]
  have hi : i = (ix2 (i 0) (i 1) : S128x1024.Idx) := by
    funext a
    match a with
    | ⟨0, _⟩ => rfl
    | ⟨1, _⟩ => rfl
  show outsAt0 m c t i = resultOf m c _
  refine (congrArg (outsAt0 m c t) hi).trans ((outs_result m c t (i 0) (i 1)).trans (congrArg (resultOf m c) (funext fun a => Fin.ext ?_)))
  match a with
  | ⟨0, _⟩ => show t.val * 128 + (i 0).val = win0_6.index t 0 * 128 + 1 * (i 0).val; rw [(index6 t).1]; omega
  | ⟨1, _⟩ => show (i 1).val = win0_6.index t 1 * 1024 + 1 * (i 1).val; rw [(index6 t).2]; omega

/-- Every point writes its block back. -/
theorem flush6 : ∀ t : Fin cfg0.N, (cfg0.win 6).flush t = true :=
  (by decide +kernel : ∀ t : Fin grid0.N, win0_6.flush t = true)

/-- The result array after the run. -/
theorem final (c : Dev nD) : (dats m 0 c).arrAt 6 cfg0.N = resultOf m c :=
  (dats m 0 c).arrAt_eq_of_cover 6 (resultOf m c) (flushed_eq m c) fun i => by
    have hN : cfg0.N = 1 := N_0
    have h0 : (i 0 : Nat) < 128 := (i 0).isLt
    have h1 : (i 1 : Nat) < 1024 := (i 1).isLt
    refine ⟨⟨(i 0).val / 128, by omega⟩, flush6 _, ?_⟩
    generalize ht : (⟨(i 0).val / 128, by omega⟩ : Fin cfg0.N) = t
    have hv : t.val = (i 0).val / 128 := by rw [← ht]
    show i ∈ ((View.whole main_v9).slice (win0_6.rect t)).set
    rw [View.set_slice_whole, Rect.mem_set_unit]
    intro a
    match a with
    | ⟨0, _⟩ => show win0_6.index t 0 * 128 ≤ (i 0 : Nat) ∧ (i 0 : Nat) < win0_6.index t 0 * 128 + 128
                rw [(index6 t).1]; omega
    | ⟨1, _⟩ => show win0_6.index t 1 * 1024 ≤ (i 1 : Nat) ∧ (i 1 : Nat) < win0_6.index t 1 * 1024 + 1024
                rw [(index6 t).2]; omega

end Cert.FfnSValue

end
-- ==== Proof.FfnSRow.lean ====
/-
  The reference of the sample group's first feed-forward call, element by element over the extended reals: each row is the
  feed-forward block (RowMath.lean) of the row.
-/
module

public import proofs.«01_k».proof.Proof.RowMath
public import proofs.«01_k».proof.Proof.Gen.FfnSRefIdeal.Read

@[expose] public section

set_option maxRecDepth 128

noncomputable section

namespace Cert.FfnSRow

open Idealize.ShloMosaic Idealize.SL.Sem Cert.FfnSRefIdeal Cert.FfnSRefIdeal.Gen Idealize.ShloMosaic.TcCoe Cert.Rows Cert.FfnSRefIdeal.Read

variable (x0 : FVec Ideal S128x1024 .f32) (x1 x2 : FVec Ideal S2x1024 .f32) (x3 x4 : FVec Ideal S2x1024x2816 .f32)
  (x5 : FVec Ideal S2x2816x1024 .f32)

/-- The normed row the feed-forward block reads. -/
theorem v14_apply (r : Fin 128) (c : Fin 1024) :
    val_main_v14 (F := Ideal) x0 x1 (ix2 r c) = rmsn (fun k => x0 (ix2 r k)) (fun k => x1 (ix2 0 k)) c := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

/-- The gate's product. -/
theorem v21_apply (r : Fin 128) (j : Fin 2816) :
    val_main_v21 (F := Ideal) x0 x1 x3 (ix2 r j)
      = dot (fun k => val_main_v14 (F := Ideal) x0 x1 (ix2 r k)) (fun k j => x3 (ix3 0 k j)) j := by
  unfold val_main_v21
  generalize val_main_v14 (F := Ideal) x0 x1 = y
  pointwise [val_main_v16, val_main_v15, dot_S128x1024_S1024x2816_S128x2816_1_0_0_1_n_n]
  rfl

/-- The gated activations. -/
theorem v24_apply (r : Fin 128) (j : Fin 2816) :
    val_main_v24 (F := Ideal) x0 x1 x3 x4 (ix2 r j)
      = act (fun k => val_main_v14 (F := Ideal) x0 x1 (ix2 r k)) (fun k j => x3 (ix3 0 k j)) (fun k j => x4 (ix3 0 k j)) j := by
  unfold act
  rw [← v21_apply]
  unfold val_main_v24 val_main_v22 val_main_call0_v5 val_main_call0_v3 val_main_call0_v1 val_main_call0_v0 val_main_v23
  generalize val_main_v21 (F := Ideal) x0 x1 x3 = g
  generalize val_main_v14 (F := Ideal) x0 x1 = y
  pointwise [val_main_call0_v4, val_main_call0_v2, val_main_call0_cst, val_main_call0_cst_0, val_main_v18, val_main_v17, dot_S128x1024_S1024x2816_S128x2816_1_0_0_1_n_n]
  rfl

/-- The result: the feed-forward block of the row. -/
theorem v41_apply (r : Fin 128) (c : Fin 1024) :
    val_main_v41 (F := Ideal) x0 x1 x2 x3 x4 x5 (ix2 r c)
      = ffn (fun k => x0 (ix2 r k)) (fun k => x1 (ix2 0 k)) (fun k => x2 (ix2 0 k)) (fun k j => x3 (ix3 0 k j)) (fun k j => x4 (ix3 0 k j))
          (fun k j => x5 (ix3 0 k j)) c := by
  unfold ffn
  have e14 : rmsn (fun k => x0 (ix2 r k)) (fun k => x1 (ix2 0 k))
      = fun k => val_main_v14 (F := Ideal) x0 x1 (ix2 r k) := funext fun k => (v14_apply x0 x1 r k).symm
  have e24 : act (fun k => val_main_v14 (F := Ideal) x0 x1 (ix2 r k)) (fun k j => x3 (ix3 0 k j)) (fun k j => x4 (ix3 0 k j))
      = fun j => val_main_v24 (F := Ideal) x0 x1 x3 x4 (ix2 r j) := funext fun j => (v24_apply x0 x1 x3 x4 r j).symm
  rw [e14, e24]
  unfold val_main_v41 val_main_v40 val_main_v37 val_main_v36 val_main_v35 val_main_v34 val_main_v32 val_main_v30 val_main_v29 val_main_v28 val_main_v25
  generalize val_main_v24 (F := Ideal) x0 x1 x3 x4 = a
  pointwise [val_main_v39, val_main_v38, val_main_v33, val_main_v31, val_main_v27, val_main_v26, val_main_v20, val_main_v19, val_main_cst_2, val_main_cst_3, val_main_cst_4, dot_S128x2816_S2816x1024_S128x1024_1_0_0_1_n_n]
  rfl

end Cert.FfnSRow

end
-- ==== Proof.FfnSClaims.lean ====
/-
  The claims about the sample group's first feed-forward block: the frames, and the value.
-/
module

public import proofs.«01_k».proof.Defs
public import proofs.«01_k».proof.Proof.Gen.FfnS.Frame
public import proofs.«01_k».proof.Proof.FfnSValue
public import proofs.«01_k».proof.Proof.FfnSRow
public import proofs.«01_k».proof.Proof.Gen.FfnSRefIdeal.Run
public import Idealize.ShloMosaic.Adequacy
public import Idealize.ShloMosaic.Init

@[expose] public section

set_option maxRecDepth 16384

noncomputable section

namespace Cert.FfnSClaims

open Idealize.ShloMosaic Idealize.SL.Sem Idealize.ShloMosaic.TcCoe

/-- The printed program ends, keeps its arguments and leaves its counters at zero. -/
theorem frame_p : Cert.quiescent_FfnS := fun m g _ => Cert.FfnS.Gen.frame m g

/-- So does its reading over the extended reals. -/
theorem frame_pi : Cert.quiescent_FfnSIdeal := fun m g _ => Cert.FfnSIdeal.Gen.frame m g

/-- So does the reference. -/
theorem frame_ri : Cert.quiescent_FfnSRefIdeal := fun m g _ =>
  (θ_run Cert.FfnSRefIdeal.defs _ _).mono (fun r h => ⟨fun c => (h c).2,
      Idealize.ShloMosaic.sem_eq_zero_of_no_sems (by decide) r.2⟩)
    (Cert.FfnSRefIdeal.Value.run (F := Ideal) m g)

/-- The reading rewrites nothing. -/
theorem preserves : Cert.preserves_FfnS_FfnSIdeal := trivial

/-- The reference's result is the function the kernel's value is stated with. -/
theorem value0 (x0 : FVec Ideal Cert.FfnSRefIdeal.S128x1024 .f32) (x1 x2 : FVec Ideal Cert.FfnSRefIdeal.S2x1024 .f32) (x3 x4 : FVec Ideal Cert.FfnSRefIdeal.S2x1024x2816 .f32) (x5 : FVec Ideal Cert.FfnSRefIdeal.S2x2816x1024 .f32) :
    Cert.FfnSRefIdeal.Read.val_main_v41 (F := Ideal) x0 x1 x2 x3 x4 x5 = Cert.FfnSValue.result x0 x1 x2 x3 x4 x5 := by
  funext i
  refine (congrArg _ (?_ : i = ix2 (i 0) (i 1))).trans ((Cert.FfnSRow.v41_apply x0 x1 x2 x3 x4 x5 (i 0) (i 1)).trans ?_)
  · funext a
    match a with
    | ⟨0, _⟩ => rfl
    | ⟨1, _⟩ => rfl
  · rfl

/-- The kernel's results are the reference's, element by element over the extended reals. -/
theorem algebraic : Cert.algebraic_FfnSIdeal_FfnSRefIdeal := by
  intro m g m' g' _ hagree
  refine ⟨fun c => Cert.FfnSValue.resultOf m c,
    (θ_run Cert.FfnSIdeal.defs _ _).mono (fun r h c => ?_) (Cert.FfnSIdeal.Value.run_blocks (F := Ideal) m g),
    (θ_run Cert.FfnSRefIdeal.defs _ _).mono (fun r h c => ?_) (Cert.FfnSRefIdeal.Value.run (F := Ideal) m' g')⟩
  · obtain ⟨e0, hk⟩ := h c
    exact ⟨e0.trans (Cert.FfnSValue.final m c), hk⟩
  · obtain ⟨e0, hk⟩ := h c
    obtain ⟨h0, h1, h2, h3, h4, h5⟩ := hagree c
    refine ⟨e0.trans ?_, hk⟩
    · refine (Cert.FfnSRefIdeal.Read.val_main_v41_eq m' c).trans ((value0 (m' ((c.tc : Thread Cert.FfnSRefIdeal.nD Cert.FfnSRefIdeal.τ).loc Cert.FfnSRefIdeal.main_arg0)) (m' ((c.tc : Thread Cert.FfnSRefIdeal.nD Cert.FfnSRefIdeal.τ).loc Cert.FfnSRefIdeal.main_arg1)) (m' ((c.tc : Thread Cert.FfnSRefIdeal.nD Cert.FfnSRefIdeal.τ).loc Cert.FfnSRefIdeal.main_arg2)) (m' ((c.tc : Thread Cert.FfnSRefIdeal.nD Cert.FfnSRefIdeal.τ).loc Cert.FfnSRefIdeal.main_arg3)) (m' ((c.tc : Thread Cert.FfnSRefIdeal.nD Cert.FfnSRefIdeal.τ).loc Cert.FfnSRefIdeal.main_arg4)) (m' ((c.tc : Thread Cert.FfnSRefIdeal.nD Cert.FfnSRefIdeal.τ).loc Cert.FfnSRefIdeal.main_arg5))).trans ?_)
      show Cert.FfnSValue.result (m' ((c.tc : Thread Cert.FfnSRefIdeal.nD Cert.FfnSRefIdeal.τ).loc Cert.FfnSRefIdeal.main_arg0)) (m' ((c.tc : Thread Cert.FfnSRefIdeal.nD Cert.FfnSRefIdeal.τ).loc Cert.FfnSRefIdeal.main_arg1)) (m' ((c.tc : Thread Cert.FfnSRefIdeal.nD Cert.FfnSRefIdeal.τ).loc Cert.FfnSRefIdeal.main_arg2)) (m' ((c.tc : Thread Cert.FfnSRefIdeal.nD Cert.FfnSRefIdeal.τ).loc Cert.FfnSRefIdeal.main_arg3)) (m' ((c.tc : Thread Cert.FfnSRefIdeal.nD Cert.FfnSRefIdeal.τ).loc Cert.FfnSRefIdeal.main_arg4)) (m' ((c.tc : Thread Cert.FfnSRefIdeal.nD Cert.FfnSRefIdeal.τ).loc Cert.FfnSRefIdeal.main_arg5)) = Cert.FfnSValue.result (m ((c.tc : Thread Cert.FfnSIdeal.nD Cert.FfnSIdeal.τ).loc Cert.FfnSIdeal.main_arg0)) (m ((c.tc : Thread Cert.FfnSIdeal.nD Cert.FfnSIdeal.τ).loc Cert.FfnSIdeal.main_arg1)) (m ((c.tc : Thread Cert.FfnSIdeal.nD Cert.FfnSIdeal.τ).loc Cert.FfnSIdeal.main_arg2)) (m ((c.tc : Thread Cert.FfnSIdeal.nD Cert.FfnSIdeal.τ).loc Cert.FfnSIdeal.main_arg3)) (m ((c.tc : Thread Cert.FfnSIdeal.nD Cert.FfnSIdeal.τ).loc Cert.FfnSIdeal.main_arg4)) (m ((c.tc : Thread Cert.FfnSIdeal.nD Cert.FfnSIdeal.τ).loc Cert.FfnSIdeal.main_arg5))
      rw [h0, h1, h2, h3, h4, h5]

end Cert.FfnSClaims

end
-- ==== Proof.Hold.lean ====
/-
  A whole buffer held at known contents, as the plain assertion about the buffer.
-/
module

public import Idealize.ShloMosaic.Lib.Pipeline.Frame

@[expose] public section

noncomputable section

namespace Hold

open Idealize.ShloMosaic
open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Holding a whole buffer at contents `X` is holding it at the one buffer content that reads `X`. -/
theorem owns_unread (c : Thread nD τ) {sp : Space} {sh : Shape} {e : EltTy} (M : Memref sig c.2.kind sp sh e) (h : M.IsWhole)
    (q : PosShare TreeShare) (X : sh.Idx → Val e) :
    (owns c M q X : sProp 𝕄) = (M.view.loc c ↦[M.view.set]{q} h.unread X) := by
  unfold owns
  have h₁ : iprop(∃ f, ⌜M.view.read Val f = X⌝ ∗ (M.view.loc c ↦[M.view.set]{q} f))
      ⊢ (M.view.loc c ↦[M.view.set]{q} h.unread X : sProp 𝕄) := by
    iintro ⟨%f, %hf, H⟩
    obtain rfl := h.eq_unread hf
    iexact H
  have h₂ : (M.view.loc c ↦[M.view.set]{q} h.unread X : sProp 𝕄)
      ⊢ iprop(∃ f, ⌜M.view.read Val f = X⌝ ∗ (M.view.loc c ↦[M.view.set]{q} f)) := by
    iintro H; iexists _; isplitr
    · ipureintro; exact h.read_unread _
    iexact H
  exact BI.equiv_iff.mp ⟨h₁, h₂⟩

/-- What is written over any contents reads as the pieces say, where they cover. -/
theorem owns_writes (c : Thread nD τ) {sp : Space} {sh : Shape} {e : EltTy} (M : Memref sig c.2.kind sp sh e)
    (q : PosShare TreeShare) (f g : M.view.ty.Contents Val) (L : List (View.Piece Val sh e)) (h : ∀ y, ∃ p ∈ L, y ∈ p.1.set) :
    (M.view.loc c ↦[M.view.set]{q} M.view.writes Val f L : sProp 𝕄)
      ⊢ owns c M q (M.view.read Val (M.view.writes Val g L)) := by
  unfold owns; iintro H; iexists _; isplitr
  swap; · iexact H
  ipureintro; exact View.read_writes_of_cover _ _ _ _ _ h

end Hold

end
-- ==== Proof.MixerFrame.lean ====
/-
  The mixer kernel's launch as compiled: the body runs at every point, so the launch ends with the arguments as they
  were. Nothing is said here of what it computes.
-/
module

public import proofs.«01_k».proof.Proof.MixerBufs
public import Idealize.ShloMosaic.Lib.Claim

@[expose] public section

set_option maxRecDepth 16384

noncomputable section

namespace Cert.Mixer.Track

open Cert.Mixer.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 12000000 in
/-- The body runs from any contents of its outputs and scratch buffers, and gives back every buffer. -/
theorem run (c : Dev nD) (i : grid0.Coords) (b : Bufs) (x : Ins F) (h0 : atFirst i → atStart i) (E : Set ℕ) (K : PUnit → sProp 𝕄) :
    iprop(held c b x ∗ (∃ d, owns (c : Thread nD τ) b.arg12 fullShare d) ∗ (∃ d, owns (c : Thread nD τ) b.arg13 fullShare d) ∗ (∃ d, owns (c : Thread nD τ) b.arg14 fullShare d) ∗ (∃ d, owns (c : Thread nD τ) b.arg15 fullShare d) ∗ (∃ d, owns (c : Thread nD τ) b.arg16 fullShare d) ∗ (∃ d, owns (c : Thread nD τ) b.arg17 fullShare d) ∗ (iprop(held c b x ∗ (∃ d, owns (c : Thread nD τ) b.arg12 fullShare d) ∗ (∃ d, owns (c : Thread nD τ) b.arg13 fullShare d) ∗ (∃ d, owns (c : Thread nD τ) b.arg14 fullShare d) ∗ (∃ d, owns (c : Thread nD τ) b.arg15 fullShare d) ∗ (∃ d, owns (c : Thread nD τ) b.arg16 fullShare d) ∗ (∃ d, owns (c : Thread nD τ) b.arg17 fullShare d)) -∗ K ⟨⟩))
      ⊢ wp frame (wpE (defs₀ (F := F)) Variants.none c none) E (bodyOn i b) K := by
  simp only [bodyOn, cc0_pool_mixer_ffn_eq_skeleton]; unfold cc0_pool_mixer_ffn_skel held
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  simp only [Hold.owns_unread (c : Thread nD τ) b.arg1 b.h1, Hold.owns_unread (c : Thread nD τ) b.arg2 b.h2, Hold.owns_unread (c : Thread nD τ) b.arg3 b.h3, Hold.owns_unread (c : Thread nD τ) b.arg4 b.h4, Hold.owns_unread (c : Thread nD τ) b.arg5 b.h5, Hold.owns_unread (c : Thread nD τ) b.arg6 b.h6, Hold.owns_unread (c : Thread nD τ) b.arg7 b.h7, Hold.owns_unread (c : Thread nD τ) b.arg8 b.h8, Hold.owns_unread (c : Thread nD τ) b.arg9 b.h9, Hold.owns_unread (c : Thread nD τ) b.arg10 b.h10, Hold.owns_unread (c : Thread nD τ) b.arg11 b.h11]
  unfold owns
  iintro ⟨⟨H0, H1, H2, H3, H4, H5, H6, H7, H8, H9, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, Hk⟩
  by_cases hc0 : atFirst i <;> by_cases hc1 : atStart i <;> by_cases hc2 : atEnd i
  any_goals try exact absurd hc2 (not_atEnd_of_atStart i hc1)
  any_goals try exact absurd (h0 hc0) hc1
  all_goals
    sl_exec (disch := first | sl_exact hc0 | sl_exact hc1 | sl_exact hc2)
    sl_step
    iapply Hk
    isplitl [H0 H1 H2 H3 H4 H5 H6 H7 H8 H9 H10]
    · iframe
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

variable (m : (ℓ : Loc nD τ sig) → Buf (Elt F) ℓ) (ρ : Dev nD → PrngReg)

/-- The outputs nothing is said of. -/
def forgets0 : Fin 13 → Bool := fun w => w.val == 11 || w.val == 12

/-- The proof data: inputs at their blocks; of the outputs and the scratch buffers nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d

theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_0 (c : Dev nD) (t : Fin cfg0.N) : (dats m 0 c).leavesExact 0 t = owns (c : Thread nD τ) (win0_0.stage (cfg0.slots t 0)) fullShare (iblk m c 0 t) :=
  (leaves_live m c t 0 rfl).trans (by dsimp only [dats])
theorem leaves_1 (c : Dev nD) (t : Fin cfg0.N) : (dats m 0 c).leavesExact 1 t = owns (c : Thread nD τ) (win0_1.stage (cfg0.slots t 1)) fullShare (iblk m c 1 t) :=
  (leaves_live m c t 1 rfl).trans (by dsimp only [dats])
theorem leaves_2 (c : Dev nD) (t : Fin cfg0.N) : (dats m 0 c).leavesExact 2 t = owns (c : Thread nD τ) (win0_2.stage (cfg0.slots t 2)) fullShare (iblk m c 2 t) :=
  (leaves_live m c t 2 rfl).trans (by dsimp only [dats])
theorem leaves_3 (c : Dev nD) (t : Fin cfg0.N) : (dats m 0 c).leavesExact 3 t = owns (c : Thread nD τ) (win0_3.stage (cfg0.slots t 3)) fullShare (iblk m c 3 t) :=
  (leaves_live m c t 3 rfl).trans (by dsimp only [dats])
theorem leaves_4 (c : Dev nD) (t : Fin cfg0.N) : (dats m 0 c).leavesExact 4 t = owns (c : Thread nD τ) (win0_4.stage (cfg0.slots t 4)) fullShare (iblk m c 4 t) :=
  (leaves_live m c t 4 rfl).trans (by dsimp only [dats])
theorem leaves_5 (c : Dev nD) (t : Fin cfg0.N) : (dats m 0 c).leavesExact 5 t = owns (c : Thread nD τ) (win0_5.stage (cfg0.slots t 5)) fullShare (iblk m c 5 t) :=
  (leaves_live m c t 5 rfl).trans (by dsimp only [dats])
theorem leaves_6 (c : Dev nD) (t : Fin cfg0.N) : (dats m 0 c).leavesExact 6 t = owns (c : Thread nD τ) (win0_6.stage (cfg0.slots t 6)) fullShare (iblk m c 6 t) :=
  (leaves_live m c t 6 rfl).trans (by dsimp only [dats])
theorem leaves_7 (c : Dev nD) (t : Fin cfg0.N) : (dats m 0 c).leavesExact 7 t = owns (c : Thread nD τ) (win0_7.stage (cfg0.slots t 7)) fullShare (iblk m c 7 t) :=
  (leaves_live m c t 7 rfl).trans (by dsimp only [dats])
theorem leaves_8 (c : Dev nD) (t : Fin cfg0.N) : (dats m 0 c).leavesExact 8 t = owns (c : Thread nD τ) (win0_8.stage (cfg0.slots t 8)) fullShare (iblk m c 8 t) :=
  (leaves_live m c t 8 rfl).trans (by dsimp only [dats])
theorem leaves_9 (c : Dev nD) (t : Fin cfg0.N) : (dats m 0 c).leavesExact 9 t = owns (c : Thread nD τ) (win0_9.stage (cfg0.slots t 9)) fullShare (iblk m c 9 t) :=
  (leaves_live m c t 9 rfl).trans (by dsimp only [dats])
theorem leaves_10 (c : Dev nD) (t : Fin cfg0.N) : (dats m 0 c).leavesExact 10 t = owns (c : Thread nD τ) (win0_10.stage (cfg0.slots t 10)) fullShare (iblk m c 10 t) :=
  (leaves_live m c t 10 rfl).trans (by dsimp only [dats])

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare d))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (win0_11.stage (cfg0.slots t 11)) fullShare d)
    ∗ (∃ d, owns (c : Thread nD τ) (win0_12.stage (cfg0.slots t 12)) fullShare d))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10]
  rw [leaves_0, leaves_1, leaves_2, leaves_3, leaves_4, leaves_5, leaves_6, leaves_7, leaves_8, leaves_9, leaves_10]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, scratch_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12⟩
  iapply (run c (grid0.coords t) (bufs t) (ins m c t)
    (fun h => (atStart_iff t).mpr (by have := (atFirst_iff t).mp h; omega)) Set.univ _)
  unfold held
  isplitl [H0 H1 H2 H3 H4 H5 H6 H7 H8 H9 H10]; · iframe
  isplitl [H11]; · iexact H11
  isplitl [H12]; · iexact H12
  isplitl [HS0]; · iexact HS0
  isplitl [HS1]; · iexact HS1
  isplitl [HS2]; · iexact HS2
  isplitl [HS3]; · iexact HS3
  iintro ⟨⟨H0, H1, H2, H3, H4, H5, H6, H7, H8, H9, H10⟩, H11, H12, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := BI.Entails.refl _

theorem hout (c : Dev nD) : (dats m 0 c).Φ (Fin.last cfg0.N) ⊢ Pipeline.ΦA spec0 c := BI.Entails.refl _

set_option backward.isDefEq.respectTransparency.types false in
/-- The launch: every execution ends, with every array at what the proof data says and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

/-- The frame: every execution ends, the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Mixer.Track

end
-- ==== Proof.MixerPool.lean ====
/-
  The mathematics of one row of the pooling mixer, over the extended reals: windowed means of the rows before it, the row
  taken off, a square matrix per group of 256 columns. Both the kernel's blocks and the reference's arrays are read as these
  functions of their rows.
-/
module

public import proofs.«01_k».proof.Proof.RowMath

@[expose] public section

noncomputable section

namespace Cert.Rows

open Idealize.ShloMosaic

/-- An entry plus the `n` before it, the nearest first. -/
def back (f : ℕ → EReal) : ℕ → EReal
  | 0 => f 0
  | n + 1 => back f n + f (n + 1)

/-- How many rows a window of `w` holds at position `p`, as a number. -/
def count (w p : BitVec 32) : EReal := FloatOps.sitofp (F := Ideal) .f32 (IntOp.minsi w (IntOp.addi p 1#32))

/-- The windowed mean of a column less the row's own entry. -/
def pooled (f : ℕ → EReal) (n : ℕ) (w p : BitVec 32) : EReal := Ideal.div (back f n) (count w p) - f 0

/-- The window of a group of columns, less one. -/
def reach (g : Fin 4) : ℕ := 2 ^ (g.val + 1) - 1

/-- The window of a group of columns. -/
def window (g : Fin 4) : BitVec 32 := BitVec.ofNat 32 (2 ^ (g.val + 1))

/-- The column of group `g` at `k`. -/
def gcol (g : Fin 4) (k : Fin 256) : Fin 1024 := ⟨g.val * 256 + k.val, by omega⟩

/-- The mixer's product of one row and one column of group `g`; `f k` is the row `k` steps back. -/
def mixed (f : ℕ → Fin 1024 → EReal) (p : BitVec 32) (wp : Fin 4 → Fin 256 → Fin 256 → EReal) (ps : Fin 1024 → EReal)
    (g : Fin 4) (j : Fin 256) : EReal :=
  (∑ k, pooled (fun n => f n (gcol g k)) (reach g) (window g) p * wp g k j) * ps (gcol g j)

/-- The same, its columns together. -/
def mix (f : ℕ → Fin 1024 → EReal) (p : BitVec 32) (wp : Fin 4 → Fin 256 → Fin 256 → EReal) (ps : Fin 1024 → EReal)
    (c : Fin 1024) : EReal :=
  mixed f p wp ps ⟨c.val / 256, by omega⟩ ⟨c.val % 256, by omega⟩

/-- The mixer of one row, with its norm and its residual. -/
def mixer (x gpost : Fin 1024 → EReal) (f : ℕ → Fin 1024 → EReal) (p : BitVec 32) (wp : Fin 4 → Fin 256 → Fin 256 → EReal)
    (ps : Fin 1024 → EReal) (c : Fin 1024) : EReal :=
  x c + rmsn (mix f p wp ps) gpost c

/-- The rows of a sequence before row `t`, and zero rows before the sequence. -/
def before (h : Fin 2048 → Fin 1024 → EReal) (t : Fin 2048) (k : ℕ) (c : Fin 1024) : EReal :=
  if k ≤ t.val then h ⟨t.val - k, by omega⟩ c else Ideal.ofBits .f32 0x00000000#32

/-- A window at a position of the sequence holds at least one row. -/
theorem count_ne_zero (w : BitVec 32) (n : ℕ) (hw : 0 < w.toInt) (hn : n < 2048) : count w (BitVec.ofNat 32 n) ≠ 0 := by
  have hp : IntOp.addi (BitVec.ofNat 32 n) 1#32 = BitVec.ofNat 32 (n + 1) := by
    unfold IntOp.addi
    exact (BitVec.ofNat_add n 1).symm
  have hv : (BitVec.ofNat 32 (n + 1)).toInt = (n + 1 : ℕ) := by
    have e : (BitVec.ofNat 32 (n + 1)).toNat = n + 1 := by
      rw [BitVec.toNat_ofNat]; omega
    rw [BitVec.toInt_eq_toNat_of_lt (by rw [e]; omega), e]
  have h : 0 < (IntOp.minsi w (IntOp.addi (BitVec.ofNat 32 n) 1#32)).toInt := by
    rw [hp]
    unfold IntOp.minsi
    split
    · exact hw
    · rw [hv]; omega
  unfold count
  intro e
  have e' : (((IntOp.minsi w (IntOp.addi (BitVec.ofNat 32 n) 1#32)).toInt : ℝ) : EReal) = 0 := e
  have := EReal.coe_eq_zero.mp e'
  have := Int.cast_eq_zero.mp this
  omega

/-- Times the reciprocal of the count is divided by the count. -/
theorem mul_count (s : EReal) (w : BitVec 32) (n : ℕ) (hw : 0 < w.toInt) (hn : n < 2048) :
    s * Ideal.div 1 (count w (BitVec.ofNat 32 n)) = Ideal.div s (count w (BitVec.ofNat 32 n)) := by
  unfold Ideal.div
  rw [if_neg (count_ne_zero w n hw hn), if_neg (count_ne_zero w n hw hn), one_mul]

/-- A column of a group is read in its group. -/
theorem mix_gcol (f : ℕ → Fin 1024 → EReal) (p : BitVec 32) (wp : Fin 4 → Fin 256 → Fin 256 → EReal) (ps : Fin 1024 → EReal)
    (g : Fin 4) (j : Fin 256) (c : Fin 1024) (hc : c.val = g.val * 256 + j.val) : mix f p wp ps c = mixed f p wp ps g j := by
  have e0 : (⟨c.val / 256, by omega⟩ : Fin 4) = g := Fin.ext (by show c.val / 256 = g.val; omega)
  have e1 : (⟨c.val % 256, by omega⟩ : Fin 256) = j := Fin.ext (by show c.val % 256 = j.val; omega)
  unfold mix
  rw [e0, e1]

end Cert.Rows

end
-- ==== Proof.MixerIdealBufs.lean ====
/-
  What the mixer kernel's body finds and is given at a grid point: its buffers, their contents on entry, and the
  slots of the carried ring buffer that a point reads and writes.
-/
module

public import proofs.«01_k».proof.Proof.Gen.MixerIdeal.Frame
public import proofs.«01_k».proof.Proof.Gen.MixerIdeal.Skeleton
public import proofs.«01_k».proof.Proof.Hold
public import Idealize.ShloMosaic.Lib.Pipeline.TableIdle

@[expose] public section

set_option maxRecDepth 16384

noncomputable section

namespace Cert.MixerIdeal.Track

open Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slot of the carried buffer the feed-forward stage reads: the other one of the two. -/
theorem k0_off1_eq : ∀ i : grid0.Coords, k0_off1 i = ![(((i 0).val + 1) % 2), 0, 0] := by decide +kernel

instance closedOff_k0_off1 (i : grid0.Coords) : ClosedOff (k0_off1 i) := ⟨![(((i 0).val + 1) % 2), 0, 0], k0_off1_eq i⟩

/-- The slot the mixer stage writes. -/
theorem k0_off2_eq : ∀ i : grid0.Coords, k0_off2 i = ![((i 0).val % 2), 0, 0] := by decide +kernel

instance closedOff_k0_off2 (i : grid0.Coords) : ClosedOff (k0_off2 i) := ⟨![((i 0).val % 2), 0, 0], k0_off2_eq i⟩

/-- The body's three branches: at the first point, where a sequence starts, where a sequence ends. -/
abbrev atFirst (i : grid0.Coords) : Prop := (Scalar.cmpi .ne (Scalar.extui (Scalar.cmpi .eq (BitVec.ofNat 32 (i 0).val) 0#32)) 0#32) = 1#1
abbrev atStart (i : grid0.Coords) : Prop := (Scalar.cmpi .ne (Scalar.extui (Scalar.cmpi .eq (Scalar.select (Scalar.andi (Scalar.xori (Scalar.cmpi .slt (Scalar.remsi (Scalar.minsi (BitVec.ofNat 32 (i 0).val) 31#32) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (Scalar.minsi (BitVec.ofNat 32 (i 0).val) 31#32) (Scalar.select (Scalar.cmpi .eq 4#32 0#32) 1#32 4#32)) 0#32)) (Scalar.addi (Scalar.remsi (Scalar.minsi (BitVec.ofNat 32 (i 0).val) 31#32) (Scalar.select (Scalar.cmpi .eq 4#32 0#32) 1#32 4#32)) (Scalar.select (Scalar.cmpi .eq 4#32 0#32) 1#32 4#32)) (Scalar.remsi (Scalar.minsi (BitVec.ofNat 32 (i 0).val) 31#32) (Scalar.select (Scalar.cmpi .eq 4#32 0#32) 1#32 4#32))) 0#32)) 0#32) = 1#1
abbrev atEnd (i : grid0.Coords) : Prop := k0_cond3 i = 1#1

theorem atFirst_iff : ∀ t : Fin cfg0.N, atFirst (grid0.coords t) ↔ t.val = 0 :=
  (by decide +kernel : ∀ t : Fin grid0.N, atFirst (grid0.coords t) ↔ t.val = 0)

theorem atStart_iff : ∀ t : Fin cfg0.N, atStart (grid0.coords t) ↔ (t.val % 4 = 0 ∧ t.val ≠ 32) :=
  (by decide +kernel : ∀ t : Fin grid0.N, atStart (grid0.coords t) ↔ (t.val % 4 = 0 ∧ t.val ≠ 32))

theorem atEnd_iff : ∀ t : Fin cfg0.N, atEnd (grid0.coords t) ↔ t.val % 4 = 3 :=
  (by decide +kernel : ∀ t : Fin grid0.N, atEnd (grid0.coords t) ↔ t.val % 4 = 3)

/-- A point that starts a sequence does not end one. -/
theorem not_atEnd_of_atStart : ∀ i : grid0.Coords, atStart i → ¬ atEnd i := by decide +kernel

/-- The buffers one run of the body is given, each whole. -/
structure Bufs where
  arg1 : Memref sig .tc .vmem S1x512x1024 .f32
  h1 : arg1.IsWhole
  arg2 : Memref sig .tc .vmem S1x15x1024 .f32
  h2 : arg2.IsWhole
  arg3 : Memref sig .tc .vmem S4x256x256 .bf16
  h3 : arg3.IsWhole
  arg4 : Memref sig .tc .vmem S1x1024 .f32
  h4 : arg4.IsWhole
  arg5 : Memref sig .tc .vmem S1x1024 .f32
  h5 : arg5.IsWhole
  arg6 : Memref sig .tc .vmem S1x1024 .f32
  h6 : arg6.IsWhole
  arg7 : Memref sig .tc .vmem S1x1024 .f32
  h7 : arg7.IsWhole
  arg8 : Memref sig .tc .vmem S1x1024 .f32
  h8 : arg8.IsWhole
  arg9 : Memref sig .tc .vmem S1x1024x2816 .bf16
  h9 : arg9.IsWhole
  arg10 : Memref sig .tc .vmem S1x1024x2816 .bf16
  h10 : arg10.IsWhole
  arg11 : Memref sig .tc .vmem S1x2816x1024 .bf16
  h11 : arg11.IsWhole
  arg12 : Memref sig .tc .vmem S1x512x1024 .f32
  h12 : arg12.IsWhole
  arg13 : Memref sig .tc .vmem S1x15x1024 .f32
  h13 : arg13.IsWhole
  arg14 : Memref sig .tc .vmem S528x1024 .f32
  h14 : arg14.IsWhole
  arg15 : Memref sig .tc .vmem S512x1024 .f32
  h15 : arg15.IsWhole
  arg16 : Memref sig .tc .vmem S512x2816 .bf16
  h16 : arg16.IsWhole
  arg17 : Memref sig .tc .vmem S2x512x1024 .f32
  h17 : arg17.IsWhole

/-- What the eleven input buffers hold. -/
structure Ins (F : FTy → Type) [FloatOps F] where
  x0 : Vec F S1x512x1024 .f32
  x1 : Vec F S1x15x1024 .f32
  x2 : Vec F S4x256x256 .bf16
  x3 : Vec F S1x1024 .f32
  x4 : Vec F S1x1024 .f32
  x5 : Vec F S1x1024 .f32
  x6 : Vec F S1x1024 .f32
  x7 : Vec F S1x1024 .f32
  x8 : Vec F S1x1024x2816 .bf16
  x9 : Vec F S1x1024x2816 .bf16
  x10 : Vec F S1x2816x1024 .bf16

/-- The body on those buffers. -/
abbrev bodyOn (i : grid0.Coords) (b : Bufs) :=
  cc0_pool_mixer_ffn (F := F) i b.arg1 b.h1 b.arg2 b.h2 b.arg3 b.h3 b.arg4 b.h4 b.arg5 b.h5 b.arg6 b.h6 b.arg7 b.h7 b.arg8 b.h8 b.arg9 b.h9 b.arg10 b.h10 b.arg11 b.h11 b.arg12 b.h12 b.arg13 b.h13 b.arg14 b.h14 b.arg15 b.h15 b.arg16 b.h16 b.arg17 b.h17

/-- The input buffers, held at their contents. -/
def held (c : Dev nD) (b : Bufs) (x : Ins F) : sProp 𝕄 :=
  iprop(owns (c : Thread nD τ) b.arg1 fullShare x.x0
    ∗ owns (c : Thread nD τ) b.arg2 fullShare x.x1
    ∗ owns (c : Thread nD τ) b.arg3 fullShare x.x2
    ∗ owns (c : Thread nD τ) b.arg4 fullShare x.x3
    ∗ owns (c : Thread nD τ) b.arg5 fullShare x.x4
    ∗ owns (c : Thread nD τ) b.arg6 fullShare x.x5
    ∗ owns (c : Thread nD τ) b.arg7 fullShare x.x6
    ∗ owns (c : Thread nD τ) b.arg8 fullShare x.x7
    ∗ owns (c : Thread nD τ) b.arg9 fullShare x.x8
    ∗ owns (c : Thread nD τ) b.arg10 fullShare x.x9
    ∗ owns (c : Thread nD τ) b.arg11 fullShare x.x10)

/-- The buffers the pipeline passes at point `t`. -/
abbrev bufs (t : Fin cfg0.N) : Bufs where
  arg1 := win0_0.stage (cfg0.slots t 0)
  h1 := hstage0_0 ((cfg0.slots t 0).cast nbuf0_0)
  arg2 := win0_1.stage (cfg0.slots t 1)
  h2 := hstage0_1 ((cfg0.slots t 1).cast nbuf0_1)
  arg3 := win0_2.stage (cfg0.slots t 2)
  h3 := hstage0_2 ((cfg0.slots t 2).cast nbuf0_2)
  arg4 := win0_3.stage (cfg0.slots t 3)
  h4 := hstage0_3 ((cfg0.slots t 3).cast nbuf0_3)
  arg5 := win0_4.stage (cfg0.slots t 4)
  h5 := hstage0_4 ((cfg0.slots t 4).cast nbuf0_4)
  arg6 := win0_5.stage (cfg0.slots t 5)
  h6 := hstage0_5 ((cfg0.slots t 5).cast nbuf0_5)
  arg7 := win0_6.stage (cfg0.slots t 6)
  h7 := hstage0_6 ((cfg0.slots t 6).cast nbuf0_6)
  arg8 := win0_7.stage (cfg0.slots t 7)
  h8 := hstage0_7 ((cfg0.slots t 7).cast nbuf0_7)
  arg9 := win0_8.stage (cfg0.slots t 8)
  h9 := hstage0_8 ((cfg0.slots t 8).cast nbuf0_8)
  arg10 := win0_9.stage (cfg0.slots t 9)
  h10 := hstage0_9 ((cfg0.slots t 9).cast nbuf0_9)
  arg11 := win0_10.stage (cfg0.slots t 10)
  h11 := hstage0_10 ((cfg0.slots t 10).cast nbuf0_10)
  arg12 := win0_11.stage (cfg0.slots t 11)
  h12 := hstage0_11 ((cfg0.slots t 11).cast nbuf0_11)
  arg13 := win0_12.stage (cfg0.slots t 12)
  h13 := hstage0_12 ((cfg0.slots t 12).cast nbuf0_12)
  arg14 := Memref.whole cc0_scratch0
  h14 := Memref.isWhole_whole _
  arg15 := Memref.whole cc0_scratch1
  h15 := Memref.isWhole_whole _
  arg16 := Memref.whole cc0_scratch2
  h16 := Memref.isWhole_whole _
  arg17 := Memref.whole cc0_scratch3
  h17 := Memref.isWhole_whole _

variable (m : (ℓ : Loc nD τ sig) → Buf (Elt F) ℓ) (ρ : Dev nD → PrngReg)

/-- The input blocks of point `t`. -/
abbrev ins (c : Dev nD) (t : Fin cfg0.N) : Ins F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t

/-- What the region keeps between points, with its four scratch buffers named. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

end Cert.MixerIdeal.Track

end
-- ==== Proof.MixerBlock.lean ====
/-
  The mixer kernel at one grid point, element by element over the extended reals: the feed-forward block it stores, and the
  mixer's rows it keeps.
-/
module

public import proofs.«01_k».proof.Proof.MixerPool
public import proofs.«01_k».proof.Proof.MixerIdealBufs

@[expose] public section

set_option maxRecDepth 16384

noncomputable section

namespace Cert.MixerBlock
open Idealize.ShloMosaic Idealize.SL.Sem Cert.MixerIdeal Cert.MixerIdeal.Gen Idealize.ShloMosaic.TcCoe Cert.Rows

/-- An index of two axes is the pair of its coordinates. -/
theorem eta2 {n0 n1 : ℕ} (i : (⟨2, ![n0, n1]⟩ : Shape).Idx) : i = ix2 (i 0) (i 1) := by
  funext a
  match a with
  | ⟨0, _⟩ => rfl
  | ⟨1, _⟩ => rfl

/-- The normed row the feed-forward block reads. -/
theorem pay8_apply (v0 : Vec Ideal S1x512x1024 .f32) (v1 : Vec Ideal S1x1024 .f32) (r : Fin 512) (c : Fin 1024) :
    k0_pay8 v0 v1 (ix2 r c) = rmsn (fun k => v0 (ix3 0 r k)) (fun k => v1 (ix2 0 k)) c := by
  pointwise [k0_pay8, k0_pay7]
  rfl

/-- The normed row the mixer pools. -/
theorem pay10_apply (v0 : Vec Ideal S1x512x1024 .f32) (v1 : Vec Ideal S1x1024 .f32) (r : Fin 512) (c : Fin 1024) :
    k0_pay10 v0 v1 (ix2 r c) = rmsn (fun k => v0 (ix3 0 r k)) (fun k => v1 (ix2 0 k)) c := by
  pointwise [k0_pay10, k0_pay9]
  rfl

/-- The same row, as it is stored. -/
theorem pay11_apply (v0 : Vec Ideal S1x512x1024 .f32) (v1 : Vec Ideal S1x1024 .f32) (r : Fin 512) (c : Fin 1024) :
    k0_pay11 v0 v1 (ix2 r c) = rmsn (fun k => v0 (ix3 0 r k)) (fun k => v1 (ix2 0 k)) c := by
  unfold k0_pay11
  rw [shapeCast_self]
  exact pay10_apply v0 v1 r c

/-- The gated activation of one column from the two products' matrices. -/
def gated {n : ℕ} (h : Fin 1024 → EReal) (wg wu : Fin 1024 → Fin n → EReal) (j : Fin n) : EReal :=
  dot h wg j * Ideal.logistic (dot h wg j) * dot h wu j

theorem pay13_apply (v0 : Vec Ideal S1x512x1024 .f32) (v1 : Vec Ideal S1x1024 .f32) (wg wu : Vec Ideal S1x1024x768 .bf16) (r : Fin 512) (j : Fin 768) :
    k0_pay13 (k0_pay8 v0 v1) (k0_pay12 v0 v1 wg) wu (ix2 r j) = gated (fun k => k0_pay8 v0 v1 (ix2 r k)) (fun k j => wg (ix3 0 k j)) (fun k j => wu (ix3 0 k j)) j := by
  unfold k0_pay13 k0_pay12
  generalize k0_pay8 v0 v1 = y
  pointwise [dot_S512x1024_S1024x768_S512x768_1_0_0_1_n_n]
  rfl

theorem pay16_apply (h : FVec Ideal S512x1024 .bf16) (wg wu : Vec Ideal S1x1024x768 .bf16) (r : Fin 512) (j : Fin 768) :
    k0_pay16 h (k0_pay15 wg) wu (ix2 r j) = gated (fun k => h (ix2 r k)) (fun k j => wg (ix3 0 k j)) (fun k j => wu (ix3 0 k j)) j := by
  pointwise [k0_pay16, k0_pay15, dot_S512x1024_S1024x768_S512x768_1_0_0_1_n_n]
  rfl

theorem pay19_apply (h : FVec Ideal S512x1024 .bf16) (wg wu : Vec Ideal S1x1024x768 .bf16) (r : Fin 512) (j : Fin 768) :
    k0_pay19 h wg wu (ix2 r j) = gated (fun k => h (ix2 r k)) (fun k j => wg (ix3 0 k j)) (fun k j => wu (ix3 0 k j)) j := by
  pointwise [k0_pay19, dot_S512x1024_S1024x768_S512x768_1_0_0_1_n_n]
  rfl

theorem pay24_apply (h : FVec Ideal S512x1024 .bf16) (wg wu : Vec Ideal S1x1024x512 .bf16) (r : Fin 512) (j : Fin 512) :
    k0_pay24 h wg wu (ix2 r j) = gated (fun k => h (ix2 r k)) (fun k j => wg (ix3 0 k j)) (fun k j => wu (ix3 0 k j)) j := by
  pointwise [k0_pay24, dot_S512x1024_S1024x512_S512x512_1_0_0_1_n_n]
  rfl

/-- What the block's store leaves at one index, from the kept activations. -/
theorem pay33_apply (v0 : Vec Ideal S1x512x1024 .f32) (a : Vec Ideal S512x2816 .bf16) (wd : Vec Ideal S1x2816x1024 .bf16)
    (g : Vec Ideal S1x1024 .f32) (r : Fin 512) (c : Fin 1024) :
    k0_pay33 (k0_pay30 (k0_pay7 v0) a wd g) (ix3 0 r c)
      = v0 (ix3 0 r c) + rmsn (dot (fun j => a (ix2 r j)) (fun j c => wd (ix3 0 j c))) (fun k => g (ix2 0 k)) c := by
  pointwise [k0_pay33, k0_pay30, k0_pay7, dot_S512x2816_S2816x1024_S512x1024_1_0_0_1_n_n]
  rfl

/-- The mixer's row with its norm and its residual, from the products of the four groups. -/
theorem pay1_apply (v0 : Vec Ideal S1x512x1024 .f32) (y : Vec Ideal S512x1024 .f32) (g : Vec Ideal S1x1024 .f32) (r : Fin 512) (c : Fin 1024) :
    k0_pay1 (k0_pay31 (k0_pay9 v0) y g) (ix3 0 r c)
      = v0 (ix3 0 r c) + rmsn (fun k => y (ix2 r k)) (fun k => g (ix2 0 k)) c := by
  pointwise [k0_pay1, k0_pay31, k0_pay9]
  rfl

/-- The row `k` steps back from block row `r`, in the sequence block extended by sixteen rows. -/
def eat (E : Vec Ideal S528x1024 .f32) (r : Fin 512) (k : ℕ) (c : Fin 1024) : EReal := E (ix2 ⟨16 + r.val - k, by omega⟩ c)

/-- Row `o` above a block row is the row `16 - o` steps back. -/
theorem eat_at (E : Vec Ideal S528x1024 .f32) (r : Fin 512) (c : Fin 1024) (o : ℕ) (ho : o ≤ 16) (hb : o + r.val < 528) :
    E (ix2 ⟨o + r.val, hb⟩ c) = eat E r (16 - o) c := by
  unfold eat
  exact congrArg (fun q => E (ix2 q c)) (Fin.ext (by show o + r.val = 16 + r.val - (16 - o); omega))

/-- The first group's columns are the first 256. -/
theorem gcol_zero (k : Fin 256) : gcol 0 k = ⟨k.val, by omega⟩ := Fin.ext (Nat.zero_add _)

section Groups

variable (p : IVec S512x1 32) (h : FVec Ideal S512x1024 .f32) (E : Vec Ideal S528x1024 .f32) (w : Vec Ideal S4x256x256 .bf16)
  (s : Vec Ideal S1x1024 .f32) (r : Fin 512) (n : ℕ) (hp : p (ix2 r 0) = BitVec.ofNat 32 n) (hn : n < 2048)
  (h0 : ∀ c, h (ix2 r c) = eat E r 0 c)
include hp hn h0

theorem group0_apply (j : Fin 256) :
    k0_pay14 p h (View.ld E (Rect.unit ![15, 0] S512x256.size inb_S528x1024_S512x256_15_0)) (View.ld w (Rect.unit ![0, 0, 0] S1x256x256.size inb_S4x256x256_S1x256x256_0_0_0)) (View.ld s (Rect.unit ![0, 0] S1x256.size inb_S1x1024_S1x256_0_0)) (ix2 r j)
      = mixed (eat E r) (BitVec.ofNat 32 n) (fun g k j => w (ix3 g k j)) (fun c => s (ix2 0 c)) 0 j := by
  pointwise [k0_pay14, dot_S512x256_S256x256_S512x256_1_0_0_1_n_n]
  unfold mixed
  simp only [gcol_zero]
  simp (disch := decide) only [hp, h0, eat_at]
  refine congrArg₂ (fun a b : EReal => a * b) (Finset.sum_congr rfl fun x _ => congrArg₂ (fun a b : EReal => a * b) ?_ rfl) rfl
  unfold pooled
  rw [← mul_count _ _ n (by decide) hn]
  rfl

theorem group1_apply (j : Fin 256) :
    k0_pay18 (k0_pay17 p h (View.ld E (Rect.unit ![15, 256] S512x256.size inb_S528x1024_S512x256_15_256)) (View.ld E (Rect.unit ![14, 256] S512x256.size inb_S528x1024_S512x256_14_256)) (View.ld E (Rect.unit ![13, 256] S512x256.size inb_S528x1024_S512x256_13_256)) (View.ld w (Rect.unit ![1, 0, 0] S1x256x256.size inb_S4x256x256_S1x256x256_1_0_0)) (View.ld s (Rect.unit ![0, 256] S1x256.size inb_S1x1024_S1x256_0_256))) (ix2 r j)
      = mixed (eat E r) (BitVec.ofNat 32 n) (fun g k j => w (ix3 g k j)) (fun c => s (ix2 0 c)) 1 j := by
  pointwise [k0_pay18, k0_pay17, dot_S512x256_S256x256_S512x256_1_0_0_1_n_n]
  simp (disch := decide) only [hp, h0, eat_at]
  refine congrArg₂ (fun a b : EReal => a * b) (Finset.sum_congr rfl fun x _ => congrArg₂ (fun a b : EReal => a * b) ?_ rfl) rfl
  unfold pooled
  rw [← mul_count _ _ n (by decide) hn]
  rfl

theorem group2_apply (j : Fin 256) :
    k0_pay23 p (k0_pay20 h) (k0_pay21 h (View.ld E (Rect.unit ![15, 512] S512x256.size inb_S528x1024_S512x256_15_512)) (View.ld E (Rect.unit ![14, 512] S512x256.size inb_S528x1024_S512x256_14_512)) (View.ld E (Rect.unit ![13, 512] S512x256.size inb_S528x1024_S512x256_13_512)) (View.ld E (Rect.unit ![12, 512] S512x256.size inb_S528x1024_S512x256_12_512)) (View.ld E (Rect.unit ![11, 512] S512x256.size inb_S528x1024_S512x256_11_512)) (View.ld E (Rect.unit ![10, 512] S512x256.size inb_S528x1024_S512x256_10_512)) (View.ld E (Rect.unit ![9, 512] S512x256.size inb_S528x1024_S512x256_9_512))) k0_pay22 (View.ld w (Rect.unit ![2, 0, 0] S1x256x256.size inb_S4x256x256_S1x256x256_2_0_0)) (View.ld s (Rect.unit ![0, 512] S1x256.size inb_S1x1024_S1x256_0_512)) (ix2 r j)
      = mixed (eat E r) (BitVec.ofNat 32 n) (fun g k j => w (ix3 g k j)) (fun c => s (ix2 0 c)) 2 j := by
  pointwise [k0_pay23, k0_pay20, k0_pay21, k0_pay22, dot_S512x256_S256x256_S512x256_1_0_0_1_n_n]
  simp (disch := decide) only [hp, h0, eat_at]
  refine congrArg₂ (fun a b : EReal => a * b) (Finset.sum_congr rfl fun x _ => congrArg₂ (fun a b : EReal => a * b) ?_ rfl) rfl
  unfold pooled
  rw [← mul_count _ _ n (by decide) hn]
  rfl

theorem group3_apply (j : Fin 256) :
    k0_pay29 (k0_pay25 h) (k0_pay27 (k0_pay26 h (View.ld E (Rect.unit ![15, 768] S512x256.size inb_S528x1024_S512x256_15_768))) (View.ld E (Rect.unit ![14, 768] S512x256.size inb_S528x1024_S512x256_14_768)) (View.ld E (Rect.unit ![13, 768] S512x256.size inb_S528x1024_S512x256_13_768)) (View.ld E (Rect.unit ![12, 768] S512x256.size inb_S528x1024_S512x256_12_768)) (View.ld E (Rect.unit ![11, 768] S512x256.size inb_S528x1024_S512x256_11_768)) (View.ld E (Rect.unit ![10, 768] S512x256.size inb_S528x1024_S512x256_10_768)) (View.ld E (Rect.unit ![9, 768] S512x256.size inb_S528x1024_S512x256_9_768)) (View.ld E (Rect.unit ![8, 768] S512x256.size inb_S528x1024_S512x256_8_768)) (View.ld E (Rect.unit ![7, 768] S512x256.size inb_S528x1024_S512x256_7_768)) (View.ld E (Rect.unit ![6, 768] S512x256.size inb_S528x1024_S512x256_6_768)) (View.ld E (Rect.unit ![5, 768] S512x256.size inb_S528x1024_S512x256_5_768)) (View.ld E (Rect.unit ![4, 768] S512x256.size inb_S528x1024_S512x256_4_768)) (View.ld E (Rect.unit ![3, 768] S512x256.size inb_S528x1024_S512x256_3_768)) (View.ld E (Rect.unit ![2, 768] S512x256.size inb_S528x1024_S512x256_2_768)) (View.ld E (Rect.unit ![1, 768] S512x256.size inb_S528x1024_S512x256_1_768))) (k0_pay28 p) (16#32) (View.ld w (Rect.unit ![3, 0, 0] S1x256x256.size inb_S4x256x256_S1x256x256_3_0_0)) (View.ld s (Rect.unit ![0, 768] S1x256.size inb_S1x1024_S1x256_0_768)) (ix2 r j)
      = mixed (eat E r) (BitVec.ofNat 32 n) (fun g k j => w (ix3 g k j)) (fun c => s (ix2 0 c)) 3 j := by
  pointwise [k0_pay29, k0_pay25, k0_pay26, k0_pay27, k0_pay28, dot_S512x256_S256x256_S512x256_1_0_0_1_n_n]
  simp (disch := decide) only [hp, h0, eat_at]
  refine congrArg₂ (fun a b : EReal => a * b) (Finset.sum_congr rfl fun x _ => congrArg₂ (fun a b : EReal => a * b) ?_ rfl) rfl
  unfold pooled
  rw [← mul_count _ _ n (by decide) hn]
  rfl

end Groups

/-! ## The feed-forward block -/

/-- The activations the block keeps: four stores of 768, 768, 768 and 512 columns. -/
def acts (X : Vec Ideal S1x512x1024 .f32) (g : Vec Ideal S1x1024 .f32) (x8 x9 : Vec Ideal S1x1024x2816 .bf16) : Vec Ideal S512x2816 .bf16 :=
  View.canon (Val := Elt Ideal) (s := S512x2816) (e := .bf16)
    [⟨Rect.unit (s := S512x2816) ![0, 2304] S512x512.size inb_S512x2816_S512x512_0_2304, k0_pay24 (k0_pay8 X g) (View.ld x8 (Rect.unit ![0, 0, 2304] S1x1024x512.size inb_S1x1024x2816_S1x1024x512_0_0_2304)) (View.ld x9 (Rect.unit ![0, 0, 2304] S1x1024x512.size inb_S1x1024x2816_S1x1024x512_0_0_2304))⟩,
      ⟨Rect.unit (s := S512x2816) ![0, 1536] S512x768.size inb_S512x2816_S512x768_0_1536, k0_pay19 (k0_pay8 X g) (View.ld x8 (Rect.unit ![0, 0, 1536] S1x1024x768.size inb_S1x1024x2816_S1x1024x768_0_0_1536)) (View.ld x9 (Rect.unit ![0, 0, 1536] S1x1024x768.size inb_S1x1024x2816_S1x1024x768_0_0_1536))⟩,
      ⟨Rect.unit (s := S512x2816) ![0, 768] S512x768.size inb_S512x2816_S512x768_0_768, k0_pay16 (k0_pay8 X g) (k0_pay15 (View.ld x8 (Rect.unit ![0, 0, 768] S1x1024x768.size inb_S1x1024x2816_S1x1024x768_0_0_768))) (View.ld x9 (Rect.unit ![0, 0, 768] S1x1024x768.size inb_S1x1024x2816_S1x1024x768_0_0_768))⟩,
      ⟨Rect.unit (s := S512x2816) ![0, 0] S512x768.size inb_S512x2816_S512x768_0_0, k0_pay13 (k0_pay8 X g) (k0_pay12 X g (View.ld x8 (Rect.unit ![0, 0, 0] S1x1024x768.size inb_S1x1024x2816_S1x1024x768_0_0_0))) (View.ld x9 (Rect.unit ![0, 0, 0] S1x1024x768.size inb_S1x1024x2816_S1x1024x768_0_0_0))⟩]

/-- Columns `o` and on of the two matrices give those columns of the activations. -/
theorem gated_ld {n : ℕ} (o : ℕ) (ho : o + n ≤ 2816) (h : Fin 1024 → EReal) (x8 x9 : Vec Ideal S1x1024x2816 .bf16)
    (inb : ∀ a, (![0, 0, o] : Fin 3 → ℕ) a + (![1, 1024, n] : Fin 3 → ℕ) a ≤ S1x1024x2816.size a) (j : Fin n) :
    gated h (fun k j => View.ld x8 (Rect.unit ![0, 0, o] ![1, 1024, n] inb) (ix3 (n0 := 1) 0 k j)) (fun k j => View.ld x9 (Rect.unit ![0, 0, o] ![1, 1024, n] inb) (ix3 (n0 := 1) 0 k j)) j
      = act h (fun k j => x8 (ix3 0 k j)) (fun k j => x9 (ix3 0 k j)) ⟨o + j.val, by omega⟩ := by
  have e : ∀ x : Vec Ideal S1x1024x2816 .bf16, (fun (k : Fin 1024) (j : Fin n) => View.ld x (Rect.unit ![0, 0, o] ![1, 1024, n] inb) (ix3 (n0 := 1) 0 k j))
      = fun k j => x (ix3 0 k ⟨o + j.val, by omega⟩) := fun x => funext fun k => funext fun j => by
    refine congrArg x (funext fun a => Fin.ext ?_)
    match a with
    | ⟨0, _⟩ => rfl
    | ⟨1, _⟩ => show 0 + 1 * k.val = k.val; omega
    | ⟨2, _⟩ => show o + 1 * j.val = o + j.val; omega
  rw [e x8, e x9]
  rfl

/-- Each kept activation is the gated activation of its column. -/
theorem acts_apply (X : Vec Ideal S1x512x1024 .f32) (g : Vec Ideal S1x1024 .f32) (x8 x9 : Vec Ideal S1x1024x2816 .bf16)
    (r : Fin 512) (j : Fin 2816) :
    acts X g x8 x9 (ix2 r j)
      = act (fun k => k0_pay8 X g (ix2 r k)) (fun k j => x8 (ix3 0 k j)) (fun k j => x9 (ix3 0 k j)) j := by
  let G : Fin 512 → Fin 2816 → EReal := fun r j => act (fun k => k0_pay8 X g (ix2 r k)) (fun k j => x8 (ix3 0 k j)) (fun k j => x9 (ix3 0 k j)) j
  refine View.canon_apply_of_pieces (Val := Elt Ideal) (S := S512x2816) (e := .bf16) (fun i => G (i 0) (i 1)) _ ?_ (ix2 r j) (View.cover_of_tiledBy _ ![1, 256] (by sl_kernel_rfl) _)
  simp only [List.forall_mem_cons]
  refine ⟨fun x => ?_, fun x => ?_, fun x => ?_, fun x => ?_, fun p hp => absurd hp List.not_mem_nil⟩
  · refine (congrArg _ (eta2 (n0 := 512) (n1 := 512) x)).trans ((pay24_apply _ _ _ (x 0) (x 1)).trans ((gated_ld 2304 (by decide) _ _ _ _ (x 1)).trans ?_))
    exact congrArg₂ G (Fin.ext (by show (x 0).val = 0 + 1 * (x 0).val; omega)) (Fin.ext (by show 2304 + (x 1).val = 2304 + 1 * (x 1).val; omega))
  · refine (congrArg _ (eta2 (n0 := 512) (n1 := 768) x)).trans ((pay19_apply _ _ _ (x 0) (x 1)).trans ((gated_ld 1536 (by decide) _ _ _ _ (x 1)).trans ?_))
    exact congrArg₂ G (Fin.ext (by show (x 0).val = 0 + 1 * (x 0).val; omega)) (Fin.ext (by show 1536 + (x 1).val = 1536 + 1 * (x 1).val; omega))
  · refine (congrArg _ (eta2 (n0 := 512) (n1 := 768) x)).trans ((pay16_apply _ _ _ (x 0) (x 1)).trans ((gated_ld 768 (by decide) _ _ _ _ (x 1)).trans ?_))
    exact congrArg₂ G (Fin.ext (by show (x 0).val = 0 + 1 * (x 0).val; omega)) (Fin.ext (by show 768 + (x 1).val = 768 + 1 * (x 1).val; omega))
  · refine (congrArg _ (eta2 (n0 := 512) (n1 := 768) x)).trans ((pay13_apply _ _ _ _ (x 0) (x 1)).trans ((gated_ld 0 (by decide) _ _ _ _ (x 1)).trans ?_))
    exact congrArg₂ G (Fin.ext (by show (x 0).val = 0 + 1 * (x 0).val; omega)) (Fin.ext (by show 0 + (x 1).val = 0 + 1 * (x 1).val; omega))

/-- One element of what the block's store leaves: the feed-forward block of the row it reads. -/
theorem stored_apply (X : Vec Ideal S1x512x1024 .f32) (g6 g7 : Vec Ideal S1x1024 .f32) (x8 x9 : Vec Ideal S1x1024x2816 .bf16)
    (x10 : Vec Ideal S1x2816x1024 .bf16) (r : Fin 512) (c : Fin 1024) :
    k0_pay33 (k0_pay30 (k0_pay7 X) (acts X g6 x8 x9) x10 g7) (ix3 0 r c)
      = ffn (fun k => X (ix3 0 r k)) (fun k => g6 (ix2 0 k)) (fun k => g7 (ix2 0 k)) (fun k j => x8 (ix3 0 k j)) (fun k j => x9 (ix3 0 k j))
          (fun k j => x10 (ix3 0 k j)) c := by
  have e3 := fun k => pay8_apply X g6 r k
  have e' := fun j => acts_apply X g6 x8 x9 r j
  rw [pay33_apply]
  simp only [e', e3]
  rfl

/-! ## The mixer -/

/-- The position of a block row in its sequence. -/
theorem pay3_zero : ∀ t : Fin grid0.N, k0_pay3 (grid0.coords t) (ix2 0 0) = BitVec.ofNat 32 (min t.val 31 % 4 * 512) := by decide +kernel

theorem pay3_apply (t : Fin cfg0.N) (r : Fin 512) :
    k0_pay3 (grid0.coords t) (ix2 r 0) = BitVec.ofNat 32 (min t.val 31 % 4 * 512 + r.val) := by
  have e : k0_pay3 (grid0.coords t) (ix2 r 0) = IntOp.addi (k0_pay3 (grid0.coords t) (ix2 0 0)) (BitVec.ofNat 32 r.val) := by
    pointwise [k0_pay3]
    exact congrArg (fun b : BitVec 32 => b + BitVec.ofNat 32 r.val) (BitVec.add_zero _).symm
  rw [e, pay3_zero t]
  unfold IntOp.addi
  exact (BitVec.ofNat_add _ _).symm

/-- The products the mixer keeps: a store of 256 columns per group. -/
def products (p : IVec S512x1 32) (h : FVec Ideal S512x1024 .f32) (E : Vec Ideal S528x1024 .f32) (w : Vec Ideal S4x256x256 .bf16)
    (s : Vec Ideal S1x1024 .f32) : Vec Ideal S512x1024 .f32 :=
  View.canon (Val := Elt Ideal) (s := S512x1024) (e := .f32)
    [⟨Rect.unit (s := S512x1024) ![0, 768] S512x256.size inb_S512x1024_S512x256_0_768, k0_pay29 (k0_pay25 h) (k0_pay27 (k0_pay26 h (View.ld E (Rect.unit ![15, 768] S512x256.size inb_S528x1024_S512x256_15_768))) (View.ld E (Rect.unit ![14, 768] S512x256.size inb_S528x1024_S512x256_14_768)) (View.ld E (Rect.unit ![13, 768] S512x256.size inb_S528x1024_S512x256_13_768)) (View.ld E (Rect.unit ![12, 768] S512x256.size inb_S528x1024_S512x256_12_768)) (View.ld E (Rect.unit ![11, 768] S512x256.size inb_S528x1024_S512x256_11_768)) (View.ld E (Rect.unit ![10, 768] S512x256.size inb_S528x1024_S512x256_10_768)) (View.ld E (Rect.unit ![9, 768] S512x256.size inb_S528x1024_S512x256_9_768)) (View.ld E (Rect.unit ![8, 768] S512x256.size inb_S528x1024_S512x256_8_768)) (View.ld E (Rect.unit ![7, 768] S512x256.size inb_S528x1024_S512x256_7_768)) (View.ld E (Rect.unit ![6, 768] S512x256.size inb_S528x1024_S512x256_6_768)) (View.ld E (Rect.unit ![5, 768] S512x256.size inb_S528x1024_S512x256_5_768)) (View.ld E (Rect.unit ![4, 768] S512x256.size inb_S528x1024_S512x256_4_768)) (View.ld E (Rect.unit ![3, 768] S512x256.size inb_S528x1024_S512x256_3_768)) (View.ld E (Rect.unit ![2, 768] S512x256.size inb_S528x1024_S512x256_2_768)) (View.ld E (Rect.unit ![1, 768] S512x256.size inb_S528x1024_S512x256_1_768))) (k0_pay28 p) (16#32) (View.ld w (Rect.unit ![3, 0, 0] S1x256x256.size inb_S4x256x256_S1x256x256_3_0_0)) (View.ld s (Rect.unit ![0, 768] S1x256.size inb_S1x1024_S1x256_0_768))⟩,
      ⟨Rect.unit (s := S512x1024) ![0, 512] S512x256.size inb_S512x1024_S512x256_0_512, k0_pay23 p (k0_pay20 h) (k0_pay21 h (View.ld E (Rect.unit ![15, 512] S512x256.size inb_S528x1024_S512x256_15_512)) (View.ld E (Rect.unit ![14, 512] S512x256.size inb_S528x1024_S512x256_14_512)) (View.ld E (Rect.unit ![13, 512] S512x256.size inb_S528x1024_S512x256_13_512)) (View.ld E (Rect.unit ![12, 512] S512x256.size inb_S528x1024_S512x256_12_512)) (View.ld E (Rect.unit ![11, 512] S512x256.size inb_S528x1024_S512x256_11_512)) (View.ld E (Rect.unit ![10, 512] S512x256.size inb_S528x1024_S512x256_10_512)) (View.ld E (Rect.unit ![9, 512] S512x256.size inb_S528x1024_S512x256_9_512))) k0_pay22 (View.ld w (Rect.unit ![2, 0, 0] S1x256x256.size inb_S4x256x256_S1x256x256_2_0_0)) (View.ld s (Rect.unit ![0, 512] S1x256.size inb_S1x1024_S1x256_0_512))⟩,
      ⟨Rect.unit (s := S512x1024) ![0, 256] S512x256.size inb_S512x1024_S512x256_0_256, k0_pay18 (k0_pay17 p h (View.ld E (Rect.unit ![15, 256] S512x256.size inb_S528x1024_S512x256_15_256)) (View.ld E (Rect.unit ![14, 256] S512x256.size inb_S528x1024_S512x256_14_256)) (View.ld E (Rect.unit ![13, 256] S512x256.size inb_S528x1024_S512x256_13_256)) (View.ld w (Rect.unit ![1, 0, 0] S1x256x256.size inb_S4x256x256_S1x256x256_1_0_0)) (View.ld s (Rect.unit ![0, 256] S1x256.size inb_S1x1024_S1x256_0_256)))⟩,
      ⟨Rect.unit (s := S512x1024) ![0, 0] S512x256.size inb_S512x1024_S512x256_0_0, k0_pay14 p h (View.ld E (Rect.unit ![15, 0] S512x256.size inb_S528x1024_S512x256_15_0)) (View.ld w (Rect.unit ![0, 0, 0] S1x256x256.size inb_S4x256x256_S1x256x256_0_0_0)) (View.ld s (Rect.unit ![0, 0] S1x256.size inb_S1x1024_S1x256_0_0))⟩]

/-- Each kept product is the mixer's of its row and column. -/
theorem products_apply (t : Fin cfg0.N) (h : FVec Ideal S512x1024 .f32) (E : Vec Ideal S528x1024 .f32) (w : Vec Ideal S4x256x256 .bf16)
    (s : Vec Ideal S1x1024 .f32) (h0 : ∀ r c, h (ix2 r c) = eat E r 0 c) (r : Fin 512) (c : Fin 1024) :
    products (k0_pay3 (grid0.coords t)) h E w s (ix2 r c)
      = mix (eat E r) (BitVec.ofNat 32 (min t.val 31 % 4 * 512 + r.val)) (fun g k j => w (ix3 g k j)) (fun c => s (ix2 0 c)) c := by
  let G : Fin 512 → Fin 1024 → EReal := fun r c =>
    mix (eat E r) (BitVec.ofNat 32 (min t.val 31 % 4 * 512 + r.val)) (fun g k j => w (ix3 g k j)) (fun c => s (ix2 0 c)) c
  have hp : ∀ r : Fin 512, k0_pay3 (grid0.coords t) (ix2 r 0) = BitVec.ofNat 32 (min t.val 31 % 4 * 512 + r.val) := pay3_apply t
  have hn : ∀ r : Fin 512, min t.val 31 % 4 * 512 + r.val < 2048 := fun r => by omega
  refine View.canon_apply_of_pieces (Val := Elt Ideal) (S := S512x1024) (e := .f32) (fun i => G (i 0) (i 1)) _ ?_ (ix2 r c) (View.cover_of_tiledBy _ ![1, 256] (by sl_kernel_rfl) _)
  simp only [List.forall_mem_cons]
  refine ⟨fun x => ?_, fun x => ?_, fun x => ?_, fun x => ?_, fun p hp => absurd hp List.not_mem_nil⟩
  · refine (congrArg _ (eta2 (n0 := 512) (n1 := 256) x)).trans ((group3_apply _ _ _ _ _ _ _ (hp (x 0)) (hn (x 0)) (h0 (x 0)) (x 1)).trans ?_)
    refine (mix_gcol _ _ _ _ 3 (x 1) ⟨768 + (x 1).val, by have : (x 1).val < 256 := (x 1).isLt; omega⟩ (by show 768 + (x 1).val = 3 * 256 + (x 1).val; omega)).symm.trans ?_
    exact congrArg₂ G (Fin.ext (by show (x 0).val = 0 + 1 * (x 0).val; omega)) (Fin.ext (by show 768 + (x 1).val = 768 + 1 * (x 1).val; omega))
  · refine (congrArg _ (eta2 (n0 := 512) (n1 := 256) x)).trans ((group2_apply _ _ _ _ _ _ _ (hp (x 0)) (hn (x 0)) (h0 (x 0)) (x 1)).trans ?_)
    refine (mix_gcol _ _ _ _ 2 (x 1) ⟨512 + (x 1).val, by have : (x 1).val < 256 := (x 1).isLt; omega⟩ (by show 512 + (x 1).val = 2 * 256 + (x 1).val; omega)).symm.trans ?_
    exact congrArg₂ G (Fin.ext (by show (x 0).val = 0 + 1 * (x 0).val; omega)) (Fin.ext (by show 512 + (x 1).val = 512 + 1 * (x 1).val; omega))
  · refine (congrArg _ (eta2 (n0 := 512) (n1 := 256) x)).trans ((group1_apply _ _ _ _ _ _ _ (hp (x 0)) (hn (x 0)) (h0 (x 0)) (x 1)).trans ?_)
    refine (mix_gcol _ _ _ _ 1 (x 1) ⟨256 + (x 1).val, by have : (x 1).val < 256 := (x 1).isLt; omega⟩ (by show 256 + (x 1).val = 1 * 256 + (x 1).val; omega)).symm.trans ?_
    exact congrArg₂ G (Fin.ext (by show (x 0).val = 0 + 1 * (x 0).val; omega)) (Fin.ext (by show 256 + (x 1).val = 256 + 1 * (x 1).val; omega))
  · refine (congrArg _ (eta2 (n0 := 512) (n1 := 256) x)).trans ((group0_apply _ _ _ _ _ _ _ (hp (x 0)) (hn (x 0)) (h0 (x 0)) (x 1)).trans ?_)
    refine (mix_gcol _ _ _ _ 0 (x 1) ⟨0 + (x 1).val, by have : (x 1).val < 256 := (x 1).isLt; omega⟩ (by show 0 + (x 1).val = 0 * 256 + (x 1).val; omega)).symm.trans ?_
    exact congrArg₂ G (Fin.ext (by show (x 0).val = 0 + 1 * (x 0).val; omega)) (Fin.ext (by show 0 + (x 1).val = 0 + 1 * (x 1).val; omega))

/-- One element of what the mixer keeps for the next point: the mixer of the row. -/
theorem kept_apply (t : Fin cfg0.N) (x0 : Vec Ideal S1x512x1024 .f32) (g4 g5 : Vec Ideal S1x1024 .f32) (E : Vec Ideal S528x1024 .f32)
    (w : Vec Ideal S4x256x256 .bf16) (s : Vec Ideal S1x1024 .f32) (h0 : ∀ r c, k0_pay10 x0 g4 (ix2 r c) = eat E r 0 c) (r : Fin 512) (c : Fin 1024) :
    k0_pay1 (k0_pay31 (k0_pay9 x0) (products (k0_pay3 (grid0.coords t)) (k0_pay10 x0 g4) E w s) g5) (ix3 0 r c)
      = mixer (fun k => x0 (ix3 0 r k)) (fun k => g5 (ix2 0 k)) (eat E r) (BitVec.ofNat 32 (min t.val 31 % 4 * 512 + r.val))
          (fun g k j => w (ix3 g k j)) (fun c => s (ix2 0 c)) c := by
  have e := fun k => products_apply t (k0_pay10 x0 g4) E w s h0 r k
  rw [pay1_apply]
  simp only [e]
  rfl

end Cert.MixerBlock

end
-- ==== Proof.MixerIdealRun.lean ====
/-
  One run of the mixer kernel's body: what it stores, found by running it — at the first point, and at a later one.
-/
module

public import proofs.«01_k».proof.Proof.MixerIdealBufs

@[expose] public section

set_option maxRecDepth 16384

noncomputable section

namespace Cert.MixerIdeal.Track

open Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point: what the body stores into its two outputs and into the two scratch buffers it carries, and that it
    runs. -/
def runFirst (c : Dev nD) (i : grid0.Coords) (b : Bufs) (hc0 : atFirst i) (hc1 : atStart i) (hc2 : ¬ atEnd i) (x : Ins F) :
    Σ' (L11 : List (View.Piece (Elt F) S1x512x1024 .f32)), Σ' (L12 : List (View.Piece (Elt F) S1x15x1024 .f32)), Σ' (LS0 : List (View.Piece (Elt F) S528x1024 .f32)),
      { LS3 : List (View.Piece (Elt F) S2x512x1024 .f32) //
      (∀ y, ∃ p ∈ L11, y ∈ p.1.set) ∧ (∀ y, ∃ p ∈ LS0, y ∈ p.1.set) ∧ L12 = [] ∧ (∀ y, ∃ p ∈ LS3, y ∈ p.1.set) ∧ ∀ (xi12 : Vec F S1x15x1024 .f32) (E : Set ℕ) (K : PUnit → sProp 𝕄),
        iprop(held c b x ∗ (∃ d, owns (c : Thread nD τ) b.arg12 fullShare d) ∗ owns (c : Thread nD τ) b.arg13 fullShare xi12
            ∗ (∃ d, owns (c : Thread nD τ) b.arg14 fullShare d) ∗ (∃ d, owns (c : Thread nD τ) b.arg15 fullShare d) ∗ (∃ d, owns (c : Thread nD τ) b.arg16 fullShare d) ∗ (∃ d, owns (c : Thread nD τ) b.arg17 fullShare d)
            ∗ (iprop(held c b x ∗ (∃ f, b.arg12.view.loc (c : Thread nD τ) ↦[b.arg12.view.set]{fullShare} b.arg12.view.writes (Elt F) f L11)
              ∗ (b.arg13.view.loc (c : Thread nD τ) ↦[b.arg13.view.set]{fullShare} b.arg13.view.writes (Elt F) (b.h13.unread xi12) L12)
              ∗ (∃ f, b.arg14.view.loc (c : Thread nD τ) ↦[b.arg14.view.set]{fullShare} b.arg14.view.writes (Elt F) f LS0) ∗ (∃ d, owns (c : Thread nD τ) b.arg15 fullShare d) ∗ (∃ d, owns (c : Thread nD τ) b.arg16 fullShare d) ∗ (∃ f, b.arg17.view.loc (c : Thread nD τ) ↦[b.arg17.view.set]{fullShare} b.arg17.view.writes (Elt F) f LS3)) -∗ K ⟨⟩))
          ⊢ wp frame (wpE (defs₀ (F := F)) Variants.none c none) E (bodyOn i b) K } := by
  refine ⟨?_, [], ?_, ?_, ?cov, ?cov0, rfl, ?cov3, fun xi12 E K => ?run⟩
  case run =>
    simp only [bodyOn, cc0_pool_mixer_ffn_eq_skeleton]; unfold cc0_pool_mixer_ffn_skel held
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    simp only [Hold.owns_unread (c : Thread nD τ) b.arg1 b.h1, Hold.owns_unread (c : Thread nD τ) b.arg2 b.h2, Hold.owns_unread (c : Thread nD τ) b.arg3 b.h3, Hold.owns_unread (c : Thread nD τ) b.arg4 b.h4, Hold.owns_unread (c : Thread nD τ) b.arg5 b.h5, Hold.owns_unread (c : Thread nD τ) b.arg6 b.h6, Hold.owns_unread (c : Thread nD τ) b.arg7 b.h7, Hold.owns_unread (c : Thread nD τ) b.arg8 b.h8, Hold.owns_unread (c : Thread nD τ) b.arg9 b.h9, Hold.owns_unread (c : Thread nD τ) b.arg10 b.h10, Hold.owns_unread (c : Thread nD τ) b.arg11 b.h11, Hold.owns_unread (c : Thread nD τ) b.arg13 b.h13]
    unfold owns
    iintro ⟨⟨H0, H1, H2, H3, H4, H5, H6, H7, H8, H9, H10⟩, ⟨%d11, %f11, -, H11⟩, H12, ⟨%ds0, %fs0, -, HS0⟩, ⟨%ds1, %fs1, -, HS1⟩, ⟨%ds2, %fs2, -, HS2⟩, ⟨%ds3, %fs3, -, HS3⟩, Hk⟩
    sl_exec (disch := first | sl_exact hc0 | sl_exact hc1 | sl_exact hc2)
    sl_step
    iapply Hk
    isplitl [H0 H1 H2 H3 H4 H5 H6 H7 H8 H9 H10]
    · iframe
    isplitl [H11]; · iexists _; iexact H11
    isplitl [H12]; · iexact H12
    isplitl [HS0]; · iexists _; iexact HS0
    isplitl [HS1]; · iexists _, _; isplitr; swap; · iexact HS1
                     ipureintro; rfl
    isplitl [HS2]; · iexists _, _; isplitr; swap; · iexact HS2
                     ipureintro; rfl
    iexists _; iexact HS3
  case cov => exact View.cover_of_tiledL _ S1x512x1024.size (by sl_kernel_rfl)
  case cov0 => exact View.cover_of_tiledBy _ ![1, 1024] (by sl_kernel_rfl)
  case cov3 => exact View.cover_of_wholeMem _ (by sl_whole_mem)

set_option maxHeartbeats 12000000 in
/-- A later point, over what the carried scratch buffers hold. -/
def runNext (c : Dev nD) (i : grid0.Coords) (b : Bufs) (hc0 : ¬ atFirst i) (x : Ins F) (xs0 : Vec F S528x1024 .f32) (xs3 : Vec F S2x512x1024 .f32) :
    Σ' (L11 : List (View.Piece (Elt F) S1x512x1024 .f32)), Σ' (L12 : List (View.Piece (Elt F) S1x15x1024 .f32)), Σ' (LS0 : List (View.Piece (Elt F) S528x1024 .f32)),
      { LS3 : List (View.Piece (Elt F) S2x512x1024 .f32) //
      (∀ y, ∃ p ∈ L11, y ∈ p.1.set) ∧ (∀ y, ∃ p ∈ LS0, y ∈ p.1.set) ∧ (atEnd i → ∀ y, ∃ p ∈ L12, y ∈ p.1.set) ∧ (¬ atEnd i → L12 = []) ∧ ∀ (xi12 : Vec F S1x15x1024 .f32) (E : Set ℕ) (K : PUnit → sProp 𝕄),
        iprop(held c b x ∗ (∃ d, owns (c : Thread nD τ) b.arg12 fullShare d) ∗ owns (c : Thread nD τ) b.arg13 fullShare xi12
            ∗ owns (c : Thread nD τ) b.arg14 fullShare xs0 ∗ (∃ d, owns (c : Thread nD τ) b.arg15 fullShare d) ∗ (∃ d, owns (c : Thread nD τ) b.arg16 fullShare d) ∗ owns (c : Thread nD τ) b.arg17 fullShare xs3
            ∗ (iprop(held c b x ∗ (∃ f, b.arg12.view.loc (c : Thread nD τ) ↦[b.arg12.view.set]{fullShare} b.arg12.view.writes (Elt F) f L11)
              ∗ (b.arg13.view.loc (c : Thread nD τ) ↦[b.arg13.view.set]{fullShare} b.arg13.view.writes (Elt F) (b.h13.unread xi12) L12)
              ∗ (b.arg14.view.loc (c : Thread nD τ) ↦[b.arg14.view.set]{fullShare} b.arg14.view.writes (Elt F) (b.h14.unread xs0) LS0) ∗ (∃ d, owns (c : Thread nD τ) b.arg15 fullShare d) ∗ (∃ d, owns (c : Thread nD τ) b.arg16 fullShare d) ∗ (b.arg17.view.loc (c : Thread nD τ) ↦[b.arg17.view.set]{fullShare} b.arg17.view.writes (Elt F) (b.h17.unread xs3) LS3)) -∗ K ⟨⟩))
          ⊢ wp frame (wpE (defs₀ (F := F)) Variants.none c none) E (bodyOn i b) K } := by
  by_cases hc1 : atStart i <;> by_cases hc2 : atEnd i
  · exact absurd hc2 (not_atEnd_of_atStart i hc1)
  on_goal 2 => refine ⟨?_, ?_, ?_, ?_, ?c1, ?c0, fun _ => ?c12, fun h => absurd hc2 h, fun xi12 E K => ?r1⟩
  on_goal 1 => refine ⟨?_, [], ?_, ?_, ?d1, ?d0, fun h => absurd h hc2, fun _ => rfl, fun xi12 E K => ?r2⟩
  on_goal -1 => refine ⟨?_, [], ?_, ?_, ?e1, ?e0, fun h => absurd h hc2, fun _ => rfl, fun xi12 E K => ?r3⟩
  case r1 | r2 | r3 =>
    simp only [bodyOn, cc0_pool_mixer_ffn_eq_skeleton]; unfold cc0_pool_mixer_ffn_skel held
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    simp only [Hold.owns_unread (c : Thread nD τ) b.arg1 b.h1, Hold.owns_unread (c : Thread nD τ) b.arg2 b.h2, Hold.owns_unread (c : Thread nD τ) b.arg3 b.h3, Hold.owns_unread (c : Thread nD τ) b.arg4 b.h4, Hold.owns_unread (c : Thread nD τ) b.arg5 b.h5, Hold.owns_unread (c : Thread nD τ) b.arg6 b.h6, Hold.owns_unread (c : Thread nD τ) b.arg7 b.h7, Hold.owns_unread (c : Thread nD τ) b.arg8 b.h8, Hold.owns_unread (c : Thread nD τ) b.arg9 b.h9, Hold.owns_unread (c : Thread nD τ) b.arg10 b.h10, Hold.owns_unread (c : Thread nD τ) b.arg11 b.h11, Hold.owns_unread (c : Thread nD τ) b.arg13 b.h13, Hold.owns_unread (c : Thread nD τ) b.arg14 b.h14, Hold.owns_unread (c : Thread nD τ) b.arg17 b.h17]
    unfold owns
    iintro ⟨⟨H0, H1, H2, H3, H4, H5, H6, H7, H8, H9, H10⟩, ⟨%d11, %f11, -, H11⟩, H12, HS0, ⟨%ds1, %fs1, -, HS1⟩, ⟨%ds2, %fs2, -, HS2⟩, HS3, Hk⟩
    sl_exec (disch := first | sl_exact hc0 | sl_exact hc1 | sl_exact hc2)
    sl_step
    iapply Hk
    isplitl [H0 H1 H2 H3 H4 H5 H6 H7 H8 H9 H10]
    · iframe
    isplitl [H11]; · iexists _; iexact H11
    isplitl [H12]; · iexact H12
    isplitl [HS0]; · iexact HS0
    isplitl [HS1]; · iexists _, _; isplitr; swap; · iexact HS1
                     ipureintro; rfl
    isplitl [HS2]; · iexists _, _; isplitr; swap; · iexact HS2
                     ipureintro; rfl
    iexact HS3
  case c1 | d1 | e1 => exact View.cover_of_tiledL _ S1x512x1024.size (by sl_kernel_rfl)
  case c0 | e0 => exact View.cover_of_tiledBy _ ![16, 1024] (by sl_kernel_rfl)
  case d0 => exact View.cover_of_tiledBy _ ![1, 1024] (by sl_kernel_rfl)
  case c12 => exact View.cover_of_tiledL _ S1x15x1024.size (by sl_kernel_rfl)

end Cert.MixerIdeal.Track

end
-- ==== Proof.MixerIdealFrame.lean ====
/-
  The mixer kernel's launch: what its buffers hold from point to point, the body's obligation at every point, and the
  run of the whole grid.
-/
module

public import proofs.«01_k».proof.Proof.MixerIdealRun
public import Idealize.ShloMosaic.Lib.Claim

@[expose] public section

set_option maxRecDepth 16384

noncomputable section

namespace Cert.MixerIdeal.Track

open Cert.MixerIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one point leaves: its two output buffers, the extended sequence block and the ring of the mixer's results. -/
structure State (F : FTy → Type) [FloatOps F] where
  out : Vec F S1x512x1024 .f32
  tail : Vec F S1x15x1024 .f32
  ext : Vec F S528x1024 .f32
  slots : Vec F S2x512x1024 .f32

/-- After the first point. -/
def first (c : Dev nD) (i : grid0.Coords) (b : Bufs) (hc0 : atFirst i) (hc1 : atStart i) (hc2 : ¬ atEnd i) (x : Ins F) : State F where
  out := b.arg12.view.read (Elt F) (b.arg12.view.writes (Elt F) b.arg12.view.junk (runFirst c i b hc0 hc1 hc2 x).1)
  tail := b.arg13.view.read (Elt F) b.arg13.view.junk
  ext := b.arg14.view.read (Elt F) (b.arg14.view.writes (Elt F) b.arg14.view.junk (runFirst c i b hc0 hc1 hc2 x).2.2.1)
  slots := b.arg17.view.read (Elt F) (b.arg17.view.writes (Elt F) b.arg17.view.junk (runFirst c i b hc0 hc1 hc2 x).2.2.2.1)

/-- After a later point, from what the point before left. -/
def next (c : Dev nD) (i : grid0.Coords) (b : Bufs) (hc0 : ¬ atFirst i) (x : Ins F) (s : State F) : State F where
  out := b.arg12.view.read (Elt F) (b.arg12.view.writes (Elt F) b.arg12.view.junk (runNext c i b hc0 x s.ext s.slots).1)
  tail := b.arg13.view.read (Elt F) (b.arg13.view.writes (Elt F) (b.h13.unread s.tail) (runNext c i b hc0 x s.ext s.slots).2.1)
  ext := b.arg14.view.read (Elt F) (b.arg14.view.writes (Elt F) b.arg14.view.junk (runNext c i b hc0 x s.ext s.slots).2.2.1)
  slots := b.arg17.view.read (Elt F) (b.arg17.view.writes (Elt F) (b.h17.unread s.slots) (runNext c i b hc0 x s.ext s.slots).2.2.2.1)

theorem startOfFirst (t : Fin cfg0.N) (ht : t.val = 0) : atStart (grid0.coords t) := (atStart_iff t).mpr (by omega)
theorem notEndOfFirst (t : Fin cfg0.N) (ht : t.val = 0) : ¬ atEnd (grid0.coords t) := fun h => by have := (atEnd_iff t).mp h; omega

/-- What every point leaves. -/
def states (c : Dev nD) : (n : ℕ) → n < cfg0.N → State F
  | 0, h => first c (grid0.coords ⟨0, h⟩) (bufs ⟨0, h⟩) ((atFirst_iff ⟨0, h⟩).mpr rfl) (startOfFirst ⟨0, h⟩ rfl) (notEndOfFirst ⟨0, h⟩ rfl) (ins m c ⟨0, h⟩)
  | n + 1, h => next c (grid0.coords ⟨n + 1, h⟩) (bufs ⟨n + 1, h⟩) (fun e => Nat.succ_ne_zero n ((atFirst_iff ⟨n + 1, h⟩).mp e)) (ins m c ⟨n + 1, h⟩)
      (states c n (Nat.lt_of_succ_lt h))

theorem states_first (c : Dev nD) (t : Fin cfg0.N) (ht : t.val = 0) :
    states m c t.val t.isLt = first c (grid0.coords t) (bufs t) ((atFirst_iff t).mpr ht) (startOfFirst t ht) (notEndOfFirst t ht) (ins m c t) := by
  obtain ⟨n, hn⟩ := t
  cases n with
  | zero => rfl
  | succ n => exact absurd ht (Nat.succ_ne_zero n)

theorem states_next (c : Dev nD) (t : Fin cfg0.N) (ht : t.val ≠ 0) :
    states m c t.val t.isLt = next c (grid0.coords t) (bufs t) (fun h => ht ((atFirst_iff t).mp h)) (ins m c t) (states m c (t.val - 1) (by omega)) := by
  obtain ⟨n, hn⟩ := t
  cases n with
  | zero => exact absurd rfl ht
  | succ n => rfl

/-- What the region keeps before point `n`: the two carried scratch buffers at what the point before left. -/
def PhiS (c : Dev nD) : (n : ℕ) → n ≤ cfg0.N → sProp 𝕄
  | 0, _ => Pipeline.ΦA spec0 c
  | n + 1, h => iprop(iprop(owns (c : Thread nD τ) (Memref.whole cc0_scratch0) fullShare (states m c n h).ext ∗ (∃ d, owns (c : Thread nD τ) (Memref.whole cc0_scratch1) fullShare d) ∗ (∃ d, owns (c : Thread nD τ) (Memref.whole cc0_scratch2) fullShare d)
      ∗ owns (c : Thread nD τ) (Memref.whole cc0_scratch3) fullShare (states m c n h).slots) ∗ (∃ r, prngReg c r))

/-- The proof data: inputs at their blocks, outputs at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (states m c t.val t.isLt).out
    | ⟨12, _⟩ => (states m c t.val t.isLt).tail
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_out (c : Dev nD) (t : Fin cfg0.N) : (dats m 0 c).after 11 t = (states m c t.val t.isLt).out := by dsimp only [dats]
theorem after_tail (c : Dev nD) (t : Fin cfg0.N) : (dats m 0 c).after 12 t = (states m c t.val t.isLt).tail := by dsimp only [dats]

theorem before_0 (c : Dev nD) (t : Fin cfg0.N) (d) : (dats m 0 c).before 0 t d = iblk m c 0 t :=
  before0_0_of m (dats m 0 c) (A_eq m c 0) (fun _ => by dsimp only [dats]) t d
theorem before_1 (c : Dev nD) (t : Fin cfg0.N) (d) : (dats m 0 c).before 1 t d = iblk m c 1 t :=
  before0_1_of m (dats m 0 c) (A_eq m c 1) (fun _ => by dsimp only [dats]) t d
theorem before_2 (c : Dev nD) (t : Fin cfg0.N) (d) : (dats m 0 c).before 2 t d = iblk m c 2 t :=
  before0_2_of m (dats m 0 c) (A_eq m c 2) (fun _ => by dsimp only [dats]) t d
theorem before_3 (c : Dev nD) (t : Fin cfg0.N) (d) : (dats m 0 c).before 3 t d = iblk m c 3 t :=
  before0_3_of m (dats m 0 c) (A_eq m c 3) (fun _ => by dsimp only [dats]) t d
theorem before_4 (c : Dev nD) (t : Fin cfg0.N) (d) : (dats m 0 c).before 4 t d = iblk m c 4 t :=
  before0_4_of m (dats m 0 c) (A_eq m c 4) (fun _ => by dsimp only [dats]) t d
theorem before_5 (c : Dev nD) (t : Fin cfg0.N) (d) : (dats m 0 c).before 5 t d = iblk m c 5 t :=
  before0_5_of m (dats m 0 c) (A_eq m c 5) (fun _ => by dsimp only [dats]) t d
theorem before_6 (c : Dev nD) (t : Fin cfg0.N) (d) : (dats m 0 c).before 6 t d = iblk m c 6 t :=
  before0_6_of m (dats m 0 c) (A_eq m c 6) (fun _ => by dsimp only [dats]) t d
theorem before_7 (c : Dev nD) (t : Fin cfg0.N) (d) : (dats m 0 c).before 7 t d = iblk m c 7 t :=
  before0_7_of m (dats m 0 c) (A_eq m c 7) (fun _ => by dsimp only [dats]) t d
theorem before_8 (c : Dev nD) (t : Fin cfg0.N) (d) : (dats m 0 c).before 8 t d = iblk m c 8 t :=
  before0_8_of m (dats m 0 c) (A_eq m c 8) (fun _ => by dsimp only [dats]) t d
theorem before_9 (c : Dev nD) (t : Fin cfg0.N) (d) : (dats m 0 c).before 9 t d = iblk m c 9 t :=
  before0_9_of m (dats m 0 c) (A_eq m c 9) (fun _ => by dsimp only [dats]) t d
theorem before_10 (c : Dev nD) (t : Fin cfg0.N) (d) : (dats m 0 c).before 10 t d = iblk m c 10 t :=
  before0_10_of m (dats m 0 c) (A_eq m c 10) (fun _ => by dsimp only [dats]) t d

theorem Phi_succ (c : Dev nD) (t : Fin cfg0.N) :
    (dats m 0 c).Φ t.succ = iprop(iprop(owns (c : Thread nD τ) (Memref.whole cc0_scratch0) fullShare (states m c t.val t.isLt).ext ∗ (∃ d, owns (c : Thread nD τ) (Memref.whole cc0_scratch1) fullShare d) ∗ (∃ d, owns (c : Thread nD τ) (Memref.whole cc0_scratch2) fullShare d)
      ∗ owns (c : Thread nD τ) (Memref.whole cc0_scratch3) fullShare (states m c t.val t.isLt).slots) ∗ (∃ r, prngReg c r)) := rfl

theorem Phi_first (c : Dev nD) (t : Fin cfg0.N) (ht : t.val = 0) : (dats m 0 c).Φ t.castSucc = Pipeline.ΦA spec0 c := by
  obtain ⟨n, hn⟩ := t
  cases n with
  | zero => rfl
  | succ n => exact absurd ht (Nat.succ_ne_zero n)

theorem Phi_next (c : Dev nD) (t : Fin cfg0.N) (ht : t.val ≠ 0) :
    (dats m 0 c).Φ t.castSucc = iprop(iprop(owns (c : Thread nD τ) (Memref.whole cc0_scratch0) fullShare (states m c (t.val - 1) (by omega)).ext ∗ (∃ d, owns (c : Thread nD τ) (Memref.whole cc0_scratch1) fullShare d) ∗ (∃ d, owns (c : Thread nD τ) (Memref.whole cc0_scratch2) fullShare d)
      ∗ owns (c : Thread nD τ) (Memref.whole cc0_scratch3) fullShare (states m c (t.val - 1) (by omega)).slots) ∗ (∃ r, prngReg c r)) := by
  obtain ⟨n, hn⟩ := t
  cases n with
  | zero => exact absurd rfl ht
  | succ n => rfl

/-! ## The state output's buffer, stored into only where a sequence ends -/

theorem live12 : ∀ t : Fin cfg0.N, atEnd (grid0.coords t) → cfg0.idle 12 (grid0.coords t) = false := by decide +kernel
theorem idle12 : ∀ t : Fin cfg0.N, ¬ atEnd (grid0.coords t) → cfg0.idle 12 (grid0.coords t) = true := by decide +kernel
theorem noFlush12 : ∀ t : Fin cfg0.N, ¬ atEnd (grid0.coords t) → t.val ≠ 32 → (cfg0.win 12).flush t = false := by decide +kernel
theorem flush12_last : ∀ t : Fin cfg0.N, t.val = 32 → (cfg0.win 12).flush t = true := by decide +kernel

/-- Whether nothing has been stored into the buffer since it was last written back: everywhere but just after a
    sequence's end that is not written back, the last one. -/
def freshTab : ℕ → Bool := fun n => n != 32

theorem freshTab_step : ∀ t : Fin cfg0.N,
    freshTab (t.val + 1) = ((cfg0.win 12).flush t || (cfg0.idle 12 (cfg0.grid.coords t) && freshTab t.val)) := by decide +kernel

theorem fresh12 (t : Fin cfg0.N) : cfg0.fresh 12 t.val = freshTab t.val :=
  Pipeline.Cfg.fresh_tab cfg0 12 freshTab rfl freshTab_step t.val (Nat.le_of_lt t.isLt)

/-- Where a point stores nothing into the state buffer it holds what it held. -/
theorem tail_kept (c : Dev nD) (t : Fin cfg0.N) (ht : t.val ≠ 0) (he : ¬ atEnd (grid0.coords t)) :
    (states m c t.val t.isLt).tail = (states m c (t.val - 1) (by omega)).tail := by
  rw [states_next m c t ht]; dsimp only [next]
  rw [(runNext _ _ _ _ _ _ _).2.2.2.property.2.2.2.1 he, View.writes_nil, Memref.IsWhole.read_unread]

theorem carry12 (c : Dev nD) : ∀ (t : Fin cfg0.N) (_ : t.val ≠ 0), cfg0.idle 12 (grid0.coords t) = true → cfg0.fresh 12 t.val = false →
    (dats m 0 c).after 12 t = (dats m 0 c).after 12 ⟨t.val - 1, by omega⟩ := by
  intro t ht hi _
  rw [after_tail, after_tail]
  exact tail_kept m c t ht fun he => by rw [live12 t he] at hi; exact absurd hi Bool.false_ne_true

theorem leaves_live (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

theorem leaves_flushed (c : Dev nD) (t : Fin cfg0.N) (w : Fin cfg0.W) (h : cfg0.idle w (grid0.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

theorem leaves_0 (c : Dev nD) (t : Fin cfg0.N) : (dats m 0 c).leavesExact 0 t = owns (c : Thread nD τ) (win0_0.stage (cfg0.slots t 0)) fullShare (iblk m c 0 t) :=
  (leaves_live m c t 0 rfl).trans (by dsimp only [dats])
theorem leaves_1 (c : Dev nD) (t : Fin cfg0.N) : (dats m 0 c).leavesExact 1 t = owns (c : Thread nD τ) (win0_1.stage (cfg0.slots t 1)) fullShare (iblk m c 1 t) :=
  (leaves_live m c t 1 rfl).trans (by dsimp only [dats])
theorem leaves_2 (c : Dev nD) (t : Fin cfg0.N) : (dats m 0 c).leavesExact 2 t = owns (c : Thread nD τ) (win0_2.stage (cfg0.slots t 2)) fullShare (iblk m c 2 t) :=
  (leaves_live m c t 2 rfl).trans (by dsimp only [dats])
theorem leaves_3 (c : Dev nD) (t : Fin cfg0.N) : (dats m 0 c).leavesExact 3 t = owns (c : Thread nD τ) (win0_3.stage (cfg0.slots t 3)) fullShare (iblk m c 3 t) :=
  (leaves_live m c t 3 rfl).trans (by dsimp only [dats])
theorem leaves_4 (c : Dev nD) (t : Fin cfg0.N) : (dats m 0 c).leavesExact 4 t = owns (c : Thread nD τ) (win0_4.stage (cfg0.slots t 4)) fullShare (iblk m c 4 t) :=
  (leaves_live m c t 4 rfl).trans (by dsimp only [dats])
theorem leaves_5 (c : Dev nD) (t : Fin cfg0.N) : (dats m 0 c).leavesExact 5 t = owns (c : Thread nD τ) (win0_5.stage (cfg0.slots t 5)) fullShare (iblk m c 5 t) :=
  (leaves_live m c t 5 rfl).trans (by dsimp only [dats])
theorem leaves_6 (c : Dev nD) (t : Fin cfg0.N) : (dats m 0 c).leavesExact 6 t = owns (c : Thread nD τ) (win0_6.stage (cfg0.slots t 6)) fullShare (iblk m c 6 t) :=
  (leaves_live m c t 6 rfl).trans (by dsimp only [dats])
theorem leaves_7 (c : Dev nD) (t : Fin cfg0.N) : (dats m 0 c).leavesExact 7 t = owns (c : Thread nD τ) (win0_7.stage (cfg0.slots t 7)) fullShare (iblk m c 7 t) :=
  (leaves_live m c t 7 rfl).trans (by dsimp only [dats])
theorem leaves_8 (c : Dev nD) (t : Fin cfg0.N) : (dats m 0 c).leavesExact 8 t = owns (c : Thread nD τ) (win0_8.stage (cfg0.slots t 8)) fullShare (iblk m c 8 t) :=
  (leaves_live m c t 8 rfl).trans (by dsimp only [dats])
theorem leaves_9 (c : Dev nD) (t : Fin cfg0.N) : (dats m 0 c).leavesExact 9 t = owns (c : Thread nD τ) (win0_9.stage (cfg0.slots t 9)) fullShare (iblk m c 9 t) :=
  (leaves_live m c t 9 rfl).trans (by dsimp only [dats])
theorem leaves_10 (c : Dev nD) (t : Fin cfg0.N) : (dats m 0 c).leavesExact 10 t = owns (c : Thread nD τ) (win0_10.stage (cfg0.slots t 10)) fullShare (iblk m c 10 t) :=
  (leaves_live m c t 10 rfl).trans (by dsimp only [dats])

/-- Holding a buffer is holding it at what it reads. -/
theorem owns_read (c : Thread nD τ) {sp : Space} {sh : Shape} {e : EltTy} (M : Memref sig c.2.kind sp sh e) (f : M.view.ty.Contents (Elt F)) :
    (M.view.loc c ↦[M.view.set]{fullShare} f : sProp 𝕄) ⊢ owns c M fullShare (M.view.read (Elt F) f) := by
  unfold owns; iintro H; iexists _; isplitr
  swap; · iexact H
  ipureintro; rfl

/-- The first point leaves the state buffer as it found it. -/
theorem leaves12_first (c : Dev nD) (t : Fin cfg0.N) (ht : t.val = 0) (d) :
    owns (c : Thread nD τ) (bufs t).arg13 fullShare ((bufs t).arg13.view.read (Elt F) ((bufs t).arg13.view.writes (Elt F) ((bufs t).h13.unread ((dats m 0 c).before 12 t d))
        (runFirst c (grid0.coords t) (bufs t) ((atFirst_iff t).mpr ht) (startOfFirst t ht) (notEndOfFirst t ht) (ins m c t)).2.1))
      ⊢ (dats m 0 c).leavesExact 12 t := by
  rw [(runFirst _ _ _ _ _ _ _).2.2.2.property.2.2.1, View.writes_nil, Memref.IsWhole.read_unread,
    Dat.leavesExact_idle _ 12 t (idle12 t (notEndOfFirst t ht)) (noFlush12 t (notEndOfFirst t ht) (by omega))]
  iintro H; iexists _; iexact H

/-- A later point stores the state where a sequence ends; elsewhere it leaves the buffer, which at the last point still
    holds the last sequence's state. -/
theorem leaves12_next (c : Dev nD) (t : Fin cfg0.N) (ht : t.val ≠ 0) (d) :
    owns (c : Thread nD τ) (bufs t).arg13 fullShare ((bufs t).arg13.view.read (Elt F) ((bufs t).arg13.view.writes (Elt F) ((bufs t).h13.unread ((dats m 0 c).before 12 t d))
        (runNext c (grid0.coords t) (bufs t) (fun h => ht ((atFirst_iff t).mp h)) (ins m c t) (states m c (t.val - 1) (by omega)).ext (states m c (t.val - 1) (by omega)).slots).2.1))
      ⊢ (dats m 0 c).leavesExact 12 t := by
  by_cases he : atEnd (grid0.coords t)
  · rw [leaves_live m c t 12 (live12 t he), after_tail, states_next m c t ht]
    dsimp only [next]
    rw [View.read_writes_of_cover _ _ (bufs t).arg13.view ((bufs t).h13.unread (states m c (t.val - 1) (by omega)).tail) _ ((runNext _ _ _ _ _ _ _).2.2.2.property.2.2.1 he)]
  · rw [(runNext _ _ _ _ _ _ _).2.2.2.property.2.2.2.1 he, View.writes_nil, Memref.IsWhole.read_unread]
    by_cases hl : t.val = 32
    · rw [leaves_flushed m c t 12 (idle12 t he) (flush12_last t hl), after_tail, tail_kept m c t ht he,
        (dats m 0 c).before_out_traj 12 rfl (fun _ _ => rfl) (carry12 m c) t.val t rfl d,
        fresh12, show freshTab t.val = false from by rw [hl]; rfl, if_neg Bool.false_ne_true, after_tail]
    · rw [Dat.leavesExact_idle _ 12 t (idle12 t he) (noFlush12 t he hl)]
      iintro H; iexists _; iexact H

/-! ## The body at every point -/

/-- What the pipeline hands the body at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it takes back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4000000 in
/-- The first point: the run takes what the pipeline hands the body and leaves what it states. -/
theorem sound_first (c : Dev nD) (t : Fin cfg0.N) (ht : t.val = 0) :
    bodyPre m c t ⊢ wp frame (wpE (defs₀ (F := F)) Variants.none c none) Set.univ (bodyAt0 t) (fun _ => bodyPost m c t) := by

  unfold bodyPre bodyPost
  simp only [before_0, before_1, before_2, before_3, before_4, before_5, before_6, before_7, before_8, before_9, before_10]
  rw [leaves_0, leaves_1, leaves_2, leaves_3, leaves_4, leaves_5, leaves_6, leaves_7, leaves_8, leaves_9, leaves_10, leaves_live m c t 11 rfl, after_out]
  rw [show (dats m 0 c).owesAt () t.succ = (dats m 0 c).owesAt () t.castSucc from rfl, Phi_succ, Phi_first m c t ht, scratch_eq, states_first m c t ht]
  dsimp only [first]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runFirst c (grid0.coords t) (bufs t) ((atFirst_iff t).mpr ht) (startOfFirst t ht) (notEndOfFirst t ht) (ins m c t)).2.2.2.property.2.2.2.2 _ Set.univ _)
  unfold held
  isplitl [H0 H1 H2 H3 H4 H5 H6 H7 H8 H9 H10]; · iframe
  isplitl [H11]; · iexists _; iexact H11
  isplitl [H12]; · iexact H12
  isplitl [HS0]; · iexact HS0
  isplitl [HS1]; · iexact HS1
  isplitl [HS2]; · iexact HS2
  isplitl [HS3]; · iexact HS3
  iintro ⟨⟨H0, H1, H2, H3, H4, H5, H6, H7, H8, H9, H10⟩, ⟨%e11, H11⟩, H12, ⟨%es0, HS0⟩, HS1, HS2, ⟨%es3, HS3⟩⟩
  isplitl [HS0 HS1 HS2 HS3 Hg]
  · isplitl [HS0 HS1 HS2 HS3]
    · isplitl [HS0]
      · iapply (Hold.owns_writes (c : Thread nD τ) _ _ _ _ _ (runFirst c (grid0.coords t) (bufs t) ((atFirst_iff t).mpr ht) (startOfFirst t ht) (notEndOfFirst t ht) (ins m c t)).2.2.2.property.2.1); iexact HS0
      isplitl [HS1]; · iexact HS1
      isplitl [HS2]; · iexact HS2
      iapply (Hold.owns_writes (c : Thread nD τ) _ _ _ _ _ (runFirst c (grid0.coords t) (bufs t) ((atFirst_iff t).mpr ht) (startOfFirst t ht) (notEndOfFirst t ht) (ins m c t)).2.2.2.property.2.2.2.1); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (Hold.owns_writes (c : Thread nD τ) _ _ _ _ _ (runFirst c (grid0.coords t) (bufs t) ((atFirst_iff t).mpr ht) (startOfFirst t ht) (notEndOfFirst t ht) (ins m c t)).2.2.2.property.1); iexact H11
  iapply (leaves12_first m c t ht _); iapply (owns_read (c : Thread nD τ)); iexact H12

set_option maxHeartbeats 4000000 in
/-- A later point: the run takes what the pipeline hands the body and leaves what it states. -/
theorem sound_next (c : Dev nD) (t : Fin cfg0.N) (ht : t.val ≠ 0) :
    bodyPre m c t ⊢ wp frame (wpE (defs₀ (F := F)) Variants.none c none) Set.univ (bodyAt0 t) (fun _ => bodyPost m c t) := by
  have hp : t.val - 1 < cfg0.N := by omega
  unfold bodyPre bodyPost
  simp only [before_0, before_1, before_2, before_3, before_4, before_5, before_6, before_7, before_8, before_9, before_10]
  rw [leaves_0, leaves_1, leaves_2, leaves_3, leaves_4, leaves_5, leaves_6, leaves_7, leaves_8, leaves_9, leaves_10, leaves_live m c t 11 rfl, after_out]
  rw [show (dats m 0 c).owesAt () t.succ = (dats m 0 c).owesAt () t.castSucc from rfl, Phi_succ, Phi_next m c t ht, states_next m c t ht]
  dsimp only [next]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runNext c (grid0.coords t) (bufs t) (fun h => ht ((atFirst_iff t).mp h)) (ins m c t) (states m c (t.val - 1) hp).ext (states m c (t.val - 1) hp).slots).2.2.2.property.2.2.2.2 _ Set.univ _)
  unfold held
  isplitl [H0 H1 H2 H3 H4 H5 H6 H7 H8 H9 H10]; · iframe
  isplitl [H11]; · iexists _; iexact H11
  isplitl [H12]; · iexact H12
  isplitl [HS0]; · iexact HS0
  isplitl [HS1]; · iexact HS1
  isplitl [HS2]; · iexact HS2
  isplitl [HS3]; · iexact HS3
  iintro ⟨⟨H0, H1, H2, H3, H4, H5, H6, H7, H8, H9, H10⟩, ⟨%e11, H11⟩, H12, HS0, HS1, HS2, HS3⟩
  isplitl [HS0 HS1 HS2 HS3 Hg]
  · isplitl [HS0 HS1 HS2 HS3]
    · isplitl [HS0]
      · iapply (Hold.owns_writes (c : Thread nD τ) _ _ _ _ _ (runNext c (grid0.coords t) (bufs t) (fun h => ht ((atFirst_iff t).mp h)) (ins m c t) (states m c (t.val - 1) hp).ext (states m c (t.val - 1) hp).slots).2.2.2.property.2.1); iexact HS0
      isplitl [HS1]; · iexact HS1
      isplitl [HS2]; · iexact HS2
      iapply (owns_read (c : Thread nD τ)); iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iapply (Hold.owns_writes (c : Thread nD τ) _ _ _ _ _ (runNext c (grid0.coords t) (bufs t) (fun h => ht ((atFirst_iff t).mp h)) (ins m c t) (states m c (t.val - 1) hp).ext (states m c (t.val - 1) hp).slots).2.2.2.property.1); iexact H11
  iapply (leaves12_next m c t ht _); iapply (owns_read (c : Thread nD τ)); iexact H12

theorem sound_body (c : Dev nD) (t : Fin cfg0.N) :
    bodyPre m c t ⊢ wp frame (wpE (defs₀ (F := F)) Variants.none c none) Set.univ (bodyAt0 t) (fun _ => bodyPost m c t) := by
  by_cases ht : t.val = 0
  · exact sound_first m c t ht
  · exact sound_next m c t ht

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := BI.Entails.refl _

/-- After the last point the scratch buffers are given back. -/
theorem hout (c : Dev nD) : (dats m 0 c).Φ (Fin.last cfg0.N) ⊢ Pipeline.ΦA spec0 c := by
  rw [show Fin.last cfg0.N = (⟨32, by decide⟩ : Fin cfg0.N).succ from rfl, Phi_succ, scratch_eq]
  iintro ⟨⟨HS0, HS1, HS2, HS3⟩, Hg⟩
  isplitl [HS0 HS1 HS2 HS3]
  · isplitl [HS0]
    · iexists _; iexact HS0
    isplitl [HS1]
    · iexact HS1
    isplitl [HS2]
    · iexact HS2
    iexists _; iexact HS3
  iexact Hg

set_option backward.isDefEq.respectTransparency.types false in
/-- The launch: every execution ends, with every array at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame: every execution ends, the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

/-- The run with its two results named. -/
theorem run_blocks : θ_run defs (onTc (τ := τ) (main (F := F))) ⟨m, fun _ => 0, ρ⟩ fun r =>
    (∀ c : Dev nD, r.2.mem ((c : Thread nD τ).loc main_v20_0) = (dats m 0 c).arrAt 11 cfg0.N
      ∧ r.2.mem ((c : Thread nD τ).loc main_v20_1) = (dats m 0 c).arrAt 12 cfg0.N)
    ∧ ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  θ_run_and ((θ_run defs _ _).mono (fun r h c => ⟨(h c).1 11, (h c).1 12⟩) (run_main m ρ)) (unchanged m ρ)

end Cert.MixerIdeal.Track

end
-- ==== Proof.MixerState.lean ====
/-
  What one point of the mixer kernel leaves, read off its run: the block it stores, the rows it keeps for the next point,
  the extended sequence block and the state rows.
-/
module

public import proofs.«01_k».proof.Proof.MixerBlock
public import proofs.«01_k».proof.Proof.MixerIdealFrame

@[expose] public section

set_option maxRecDepth 16384

noncomputable section

namespace Cert.MixerState

open Idealize.ShloMosaic Idealize.SL.Sem Cert.MixerIdeal Cert.MixerIdeal.Gen Cert.MixerIdeal.Track Idealize.ShloMosaic.TcCoe Cert.Rows Cert.MixerBlock

/-- A zero offset of two axes. -/
theorem hz : (![0, 0] : Fin 2 → Nat) = fun _ => 0 := funext fun a => by fin_cases a <;> rfl
/-- A zero offset of three axes. -/
theorem hz3 : (![0, 0, 0] : Fin 3 → Nat) = fun _ => 0 := funext fun a => by fin_cases a <;> rfl

/-- Stores read back whole. -/
theorem readCov_zero {S : Shape} {e : EltTy} {κ : Kind} {sp : Space} (v : View sig κ sp S e) {off : Fin S.rank → ℕ} (h : off = fun _ => 0)
    (inb : ∀ a, off a + S.size a ≤ S.size a) (L : List (View.Piece (Elt Ideal) S e)) :
    v.readCov L (Rect.unit off S.size inb).toLoadRect = View.canon L := by
  rw [View.readCov_eq_canon']
  exact View.ld_unit_zero h inb (View.canon L)

/-- Rows 512 to 527 of the extended block are the last sixteen of the block stored from row 16 on. -/
theorem ext_rows (h : Vec Ideal S512x1024 .f32) (L : List (View.Piece (Elt Ideal) S528x1024 .f32)) (o : ℕ) (ho : 16 ≤ o) (hb : o < 528) (k : Fin 1024) :
    View.canon ((⟨Rect.unit (s := S528x1024) ![16, 0] S512x1024.size inb_S528x1024_S512x1024_16_0, h⟩ : View.Piece (Elt Ideal) S528x1024 .f32) :: L)
        (ix2 ⟨o, hb⟩ k)
      = h (ix2 ⟨o - 16, by omega⟩ k) := by
  have e : (ix2 ⟨o, hb⟩ k : S528x1024.Idx)
      = (Rect.unit (s := S528x1024) ![16, 0] S512x1024.size inb_S528x1024_S512x1024_16_0).emb (ix2 ⟨o - 16, by omega⟩ k) := by
    funext a
    apply Fin.ext
    match a with
    | ⟨0, _⟩ => show o = 16 + 1 * (o - 16); omega
    | ⟨1, _⟩ => show k.val = 0 + 1 * k.val; omega
  rw [e, View.canon_cons_emb]

/-- The first sixteen rows after the last sixteen have been copied over them. -/
theorem ext_front (h : Vec Ideal S512x1024 .f32) (L L' : List (View.Piece (Elt Ideal) S528x1024 .f32))
    (inb : ∀ a, (![0, 0] : Fin 2 → ℕ) a + (![16, 1024] : Fin 2 → ℕ) a ≤ S528x1024.size a) (r : Fin 16) (k : Fin 1024) :
    View.canon ((⟨Rect.unit (s := S528x1024) ![0, 0] ![16, 1024] inb, k0_pay32 (fun j =>
          View.canon ((⟨Rect.unit (s := S528x1024) ![16, 0] S512x1024.size inb_S528x1024_S512x1024_16_0, h⟩ : View.Piece (Elt Ideal) S528x1024 .f32) :: L)
            ((Rect.unit (s := S528x1024) ![512, 0] S16x1024.size inb_S528x1024_S16x1024_512_0).toLoadRect.idx j))⟩ : View.Piece (Elt Ideal) S528x1024 .f32) :: L')
        (ix2 ⟨r.val, by omega⟩ k)
      = h (ix2 ⟨496 + r.val, by omega⟩ k) := by
  have e : (ix2 ⟨r.val, by omega⟩ k : S528x1024.Idx) = (Rect.unit (s := S528x1024) ![0, 0] ![16, 1024] inb).emb (ix2 r k) := by
    funext a
    apply Fin.ext
    match a with
    | ⟨0, _⟩ => show r.val = 0 + 1 * r.val; omega
    | ⟨1, _⟩ => show k.val = 0 + 1 * k.val; omega
  rw [e, View.canon_cons_emb]
  unfold k0_pay32
  rw [shapeCast_self]
  have e' : (Rect.unit (s := S528x1024) ![512, 0] S16x1024.size inb_S528x1024_S16x1024_512_0).toLoadRect.idx (ix2 r k)
      = (ix2 ⟨512 + r.val, by omega⟩ k : S528x1024.Idx) := by
    funext a
    apply Fin.ext
    match a with
    | ⟨0, _⟩ => show 512 + 1 * r.val = 512 + r.val; omega
    | ⟨1, _⟩ => show 0 + 1 * k.val = k.val; omega
  rw [e', ext_rows h L (512 + r.val) (by omega)]
  exact congrArg (fun q => h (ix2 q k)) (Fin.ext (by show 512 + r.val - 16 = 496 + r.val; omega))

/-- The state rows, from the last fifteen rows of the extended block. -/
theorem tail_rows (h : Vec Ideal S512x1024 .f32) (L : List (View.Piece (Elt Ideal) S528x1024 .f32))
    (inb : ∀ a, (![513, 0] : Fin 2 → ℕ) a + S15x1024.size a ≤ S528x1024.size a) (r : Fin 15) (k : Fin 1024) :
    k0_pay2 (fun j => View.canon ((⟨Rect.unit (s := S528x1024) ![16, 0] S512x1024.size inb_S528x1024_S512x1024_16_0, h⟩ : View.Piece (Elt Ideal) S528x1024 .f32) :: L)
            ((Rect.unit (s := S528x1024) ![513, 0] S15x1024.size inb).toLoadRect.idx j)) (ix3 0 r k)
      = h (ix2 ⟨497 + r.val, by omega⟩ k) := by
  have e' : (Rect.unit (s := S528x1024) ![513, 0] S15x1024.size inb).toLoadRect.idx (ix2 r k)
      = (ix2 ⟨513 + r.val, by omega⟩ k : S528x1024.Idx) := by
    funext a
    apply Fin.ext
    match a with
    | ⟨0, _⟩ => show 513 + 1 * r.val = 513 + r.val; omega
    | ⟨1, _⟩ => show 0 + 1 * k.val = k.val; omega
  have e2 : ∀ v : Vec Ideal S15x1024 .f32, k0_pay2 v (ix3 0 r k) = v (ix2 r k) := fun v => by pointwise [k0_pay2]
  rw [e2, e', ext_rows h L (513 + r.val) (by omega)]
  exact congrArg (fun q => h (ix2 q k)) (Fin.ext (by show 513 + r.val - 16 = 497 + r.val; omega))

/-- A slot just stored reads as what was stored. -/
theorem slot_read {κ : Kind} {sp : Space} (v : View sig κ sp S2x512x1024 .f32) (f : v.ty.Contents (Elt Ideal)) (w : Vec Ideal S1x512x1024 .f32)
    (off : Fin 3 → ℕ) (inb : ∀ a, off a + (![1, 512, 1024] : Fin 3 → ℕ) a ≤ S2x512x1024.size a)
    (L : List (View.Piece (Elt Ideal) S2x512x1024 .f32)) (y : S1x512x1024.Idx) :
    v.read (Elt Ideal) (v.writes (Elt Ideal) f ((⟨Rect.unit (s := S2x512x1024) off ![1, 512, 1024] inb, w⟩ : View.Piece (Elt Ideal) S2x512x1024 .f32) :: L))
        ((Rect.unit (s := S2x512x1024) off ![1, 512, 1024] inb).emb y)
      = w y :=
  View.read_writes_cons_emb v f (Rect.unit (s := S2x512x1024) off ![1, 512, 1024] inb) w L y

variable (c : Dev nD) (i : grid0.Coords) (b : Bufs) (x : Ins Ideal)

/-- What the feed-forward part stores, from the rows it reads. -/
def stored (X : Vec Ideal S1x512x1024 .f32) : Vec Ideal S1x512x1024 .f32 :=
  k0_pay33 (k0_pay30 (k0_pay7 X) (acts X x.x6 x.x8 x.x9) x.x10 x.x7)

/-- What the mixer keeps, from the extended sequence block. -/
def keep (E : Vec Ideal S528x1024 .f32) : Vec Ideal S1x512x1024 .f32 :=
  k0_pay1 (k0_pay31 (k0_pay9 x.x0) (products (k0_pay3 i) (k0_pay10 x.x0 x.x4) E x.x2 x.x3) x.x5)

/-- The extended sequence block where a sequence starts. -/
def extStart : Vec Ideal S528x1024 .f32 :=
  View.canon (Val := Elt Ideal) (s := S528x1024) (e := .f32)
    [⟨Rect.unit (s := S528x1024) ![16, 0] S512x1024.size inb_S528x1024_S512x1024_16_0, k0_pay11 x.x0 x.x4⟩,
      ⟨Rect.unit (s := S528x1024) ![1, 0] S15x1024.size inb_S528x1024_S15x1024_1_0, k0_pay6 x.x1⟩,
      ⟨Rect.unit (s := S528x1024) ![0, 0] S1x1024.size inb_S528x1024_S1x1024_0_0, k0_pay5 (F := Ideal)⟩]

/-- The extended sequence block elsewhere, over what the point before left. -/
def extNext (xs0 : Vec Ideal S528x1024 .f32) : Vec Ideal S528x1024 .f32 :=
  b.arg14.view.read (Elt Ideal) (b.arg14.view.writes (Elt Ideal) (b.h14.unread xs0)
    [⟨Rect.unit (s := S528x1024) ![16, 0] S512x1024.size inb_S528x1024_S512x1024_16_0, k0_pay11 x.x0 x.x4⟩])

section Later

variable (hc0 : ¬ atFirst i) (xs0 : Vec Ideal S528x1024 .f32) (xs3 : Vec Ideal S2x512x1024 .f32)

set_option maxHeartbeats 4000000 in
/-- The block a later point stores. -/
theorem next_out : View.canon (runNext c i b hc0 x xs0 xs3).1
    = stored x (View.ld xs3 (Rect.unit (k0_off1 i) S1x512x1024.size (k0_off1_inb i))) := by
  unfold runNext
  by_cases h1 : atStart i
  on_goal 1 => rw [dif_pos h1, dif_neg fun h => not_atEnd_of_atStart i h1 h]
  on_goal 2 =>
    rw [dif_neg h1]
    by_cases h2 : atEnd i
    on_goal 1 => rw [dif_pos h2]
    on_goal 2 => rw [dif_neg h2]
  all_goals
    sl_unfold_words
    simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h17.read_unread]
    rw [View.canon_unit_zero (S := S1x512x1024) hz3]
    simp only [View.ld_unit_zero (S := S1x1024) hz, View.ld_unit_zero (S := S1x2816x1024) hz3, readCov_zero (S := S512x2816) _ hz]
    rfl

set_option maxHeartbeats 4000000 in
/-- The rows a later point keeps, where a sequence starts. -/
theorem next_keep_start (h1 : atStart i) (f) (y : S1x512x1024.Idx) :
    b.arg17.view.read (Elt Ideal) (b.arg17.view.writes (Elt Ideal) f (runNext c i b hc0 x xs0 xs3).2.2.2.1)
        ((Rect.unit (s := S2x512x1024) (k0_off2 i) S1x512x1024.size (k0_off2_inb i)).emb y)
      = keep i x (extStart x) y := by
  unfold runNext
  rw [dif_pos h1, dif_neg fun h => not_atEnd_of_atStart i h1 h]
  dsimp only
  rw [slot_read]
  refine congrFun (congrArg k0_pay1 ?_) y
  sl_unfold_words
  simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h17.read_unread]
  simp only [View.ld_unit_zero (S := S1x512x1024) hz3, View.ld_unit_zero (S := S1x15x1024) hz3, View.ld_unit_zero (S := S1x1024) hz, readCov_zero (S := S512x1024) _ hz, View.readCov_eq_canon']
  rfl

set_option maxHeartbeats 4000000 in
/-- The rows a later point keeps, elsewhere. -/
theorem next_keep (h1 : ¬ atStart i) (f) (y : S1x512x1024.Idx) :
    b.arg17.view.read (Elt Ideal) (b.arg17.view.writes (Elt Ideal) f (runNext c i b hc0 x xs0 xs3).2.2.2.1)
        ((Rect.unit (s := S2x512x1024) (k0_off2 i) S1x512x1024.size (k0_off2_inb i)).emb y)
      = keep i x (extNext b x xs0) y := by
  unfold runNext
  rw [dif_neg h1]
  by_cases h2 : atEnd i
  on_goal 1 => rw [dif_pos h2]
  on_goal 2 => rw [dif_neg h2]
  all_goals
    dsimp only
    rw [slot_read]
    refine congrFun (congrArg k0_pay1 ?_) y
    sl_unfold_words
    simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h17.read_unread]
    simp only [View.ld_unit_zero (S := S1x512x1024) hz3, View.ld_unit_zero (S := S1x15x1024) hz3, View.ld_unit_zero (S := S1x1024) hz, readCov_zero (S := S512x1024) _ hz]
    rfl

set_option maxHeartbeats 4000000 in
/-- The first sixteen rows a later point leaves in the extended block: the last sixteen of its normed block. -/
theorem next_ext (r : Fin 16) (k : Fin 1024) : View.canon (runNext c i b hc0 x xs0 xs3).2.2.1 (ix2 ⟨r.val, by omega⟩ k)
    = k0_pay11 x.x0 x.x4 (ix2 ⟨496 + r.val, by omega⟩ k) := by
  unfold runNext
  by_cases h1 : atStart i
  on_goal 1 => rw [dif_pos h1, dif_neg fun h => not_atEnd_of_atStart i h1 h]
  on_goal 2 =>
    rw [dif_neg h1]
    by_cases h2 : atEnd i
    on_goal 1 => rw [dif_pos h2]
    on_goal 2 => rw [dif_neg h2]
  all_goals
    dsimp only
    sl_unfold_words
    simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h17.read_unread]
    simp only [View.ld_unit_zero (S := S1x512x1024) hz3, View.ld_unit_zero (S := S1x1024) hz, View.readCov_eq_canon']
    exact ext_front _ _ _ _ r k

set_option maxHeartbeats 4000000 in
/-- The state rows a sequence's last point stores: the last fifteen of its normed block. -/
theorem next_tail (h2 : atEnd i) (f) (r : Fin 15) (k : Fin 1024) :
    b.arg13.view.read (Elt Ideal) (b.arg13.view.writes (Elt Ideal) f (runNext c i b hc0 x xs0 xs3).2.1) (ix3 0 r k)
      = k0_pay11 x.x0 x.x4 (ix2 ⟨497 + r.val, by omega⟩ k) := by
  rw [View.read_writes_eq_canon _ _ _ ((runNext c i b hc0 x xs0 xs3).2.2.2.property.2.2.1 h2)]
  unfold runNext
  rw [dif_neg fun h1 => not_atEnd_of_atStart i h1 h2, dif_pos h2]
  dsimp only
  sl_unfold_words
  simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h17.read_unread]
  rw [View.canon_unit_zero (S := S1x15x1024) hz3]
  simp only [View.ld_unit_zero (S := S1x512x1024) hz3, View.ld_unit_zero (S := S1x1024) hz, View.readCov_eq_canon']
  exact tail_rows _ _ _ r k

end Later

section First

variable (hc0 : atFirst i) (hc1 : atStart i) (hc2 : ¬ atEnd i)

set_option maxHeartbeats 4000000 in
/-- The rows the first point keeps. -/
theorem first_keep (f) (y : S1x512x1024.Idx) :
    b.arg17.view.read (Elt Ideal) (b.arg17.view.writes (Elt Ideal) f (runFirst c i b hc0 hc1 hc2 x).2.2.2.1)
        ((Rect.unit (s := S2x512x1024) (k0_off2 i) S1x512x1024.size (k0_off2_inb i)).emb y)
      = keep i x (extStart x) y := by
  unfold runFirst
  dsimp only
  rw [slot_read]
  refine congrFun (congrArg k0_pay1 ?_) y
  sl_unfold_words
  simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h17.read_unread]
  simp only [View.ld_unit_zero (S := S1x512x1024) hz3, View.ld_unit_zero (S := S1x15x1024) hz3, View.ld_unit_zero (S := S1x1024) hz, readCov_zero (S := S512x1024) _ hz, View.readCov_eq_canon']
  rfl

set_option maxHeartbeats 4000000 in
/-- The first sixteen rows the first point leaves in the extended block. -/
theorem first_ext (r : Fin 16) (k : Fin 1024) : View.canon (runFirst c i b hc0 hc1 hc2 x).2.2.1 (ix2 ⟨r.val, by omega⟩ k)
    = k0_pay11 x.x0 x.x4 (ix2 ⟨496 + r.val, by omega⟩ k) := by
  unfold runFirst
  dsimp only
  sl_unfold_words
  simp only [View.readAt_eq_ld, b.h1.read_unread, b.h2.read_unread, b.h3.read_unread, b.h4.read_unread, b.h5.read_unread, b.h6.read_unread, b.h7.read_unread, b.h8.read_unread, b.h9.read_unread, b.h10.read_unread, b.h11.read_unread, b.h17.read_unread]
  simp only [View.ld_unit_zero (S := S1x512x1024) hz3, View.ld_unit_zero (S := S1x1024) hz, View.readCov_eq_canon']
  exact ext_front _ _ _ _ r k

end First

end Cert.MixerState

end
-- ==== Proof.MixerBlocks.lean ====
/-
  What the prompt group's mixer call finds in its blocks, element by element over the extended reals: rows of the sequences,
  zero rows before them, and the weights of the first layer.
-/
module

public import proofs.«01_k».proof.Proof.RowMath
public import proofs.«01_k».proof.Proof.MixerIdealFrame
public import Idealize.ShloMosaic.Lib.Pointwise

@[expose] public section

set_option maxRecDepth 16384

noncomputable section

namespace Cert.MixerBlocks

open Idealize.ShloMosaic Idealize.SL.Sem Cert.MixerIdeal Cert.MixerIdeal.Gen Idealize.ShloMosaic.TcCoe Cert.Rows Cert.MixerIdeal.Track
open Idealize.ShloMosaic.Pipeline (Dat Cfg Window)

variable (m : (ℓ : Loc nD τ sig) → Buf (Elt Ideal) ℓ)

/-- The sequence of point `n`. -/
def seqOf (n : ℕ) (h : n < 32) : Fin 8 := ⟨n / 4, by omega⟩

/-- The position in its sequence of row `r` of point `n`'s block. -/
def posOf (n : ℕ) (r : Fin 512) : Fin 2048 := ⟨n % 4 * 512 + r.val, by omega⟩

/-- The first of two stacked gains, as a row. -/
theorem gain_apply (x : FVec Ideal S2x1024 .f32) (k : Fin 1024) :
    shapeCast S1x1024 (shapeCast S1024 (extractStridedSlice S1x1024 ![0, 0] x slices_S2x1024_S1x1024_0_0) shapeCasts_S1x1024_S1024) shapeCasts_S1024_S1x1024 (ix2 0 k)
      = x (ix2 0 k) := by
  pointwise

/-- The pool's scale, as a row. -/
theorem scale_apply (x : FVec Ideal S1x1024 .f32) (k : Fin 1024) :
    shapeCast S1x1024 (shapeCast S1024 x shapeCasts_S1x1024_S1024) shapeCasts_S1024_S1x1024 (ix2 0 k) = x (ix2 0 k) := by
  pointwise

/-- The pool's matrices, rounded and with their leading axis dropped. -/
theorem pool_apply (x : FVec Ideal S1x4x256x256 .f32) (g : Fin 4) (k j : Fin 256) :
    truncf .bf16 (shapeCast S4x256x256 x shapeCasts_S1x4x256x256_S4x256x256) bitsLt_bf16_f32 (ix3 g k j) = x (ix4 0 g k j) := by
  pointwise

/-- The rows before a sequence are zero. -/
theorem V_zero (c : Dev nD) (i : S8x15x1024.Idx) : (V m c main_v3 : Vec Ideal S8x15x1024 .f32) i = Ideal.ofBits .f32 0x00000000#32 := by
  have e : @Eq (FVec Ideal S8x15x1024 .f32) (V m c main_v3) (broadcastInDim S8x15x1024 ![] bcast_S_S8x15x1024 (constant (F := Ideal) S_ .f32 0x00000000#32)) := by
    unfold V
    after_results <;> rfl
  rw [e]
  rfl

/-- The pool's matrices the region finds. -/
theorem V_pool (c : Dev nD) (g : Fin 4) (k j : Fin 256) :
    (V m c main_v5 : Vec Ideal S4x256x256 .bf16) (ix3 g k j) = (m ((c : Thread nD τ).loc main_arg1) : FVec Ideal S1x4x256x256 .f32) (ix4 0 g k j) := by
  have e : @Eq (FVec Ideal S4x256x256 .bf16) (V m c main_v5) (truncf .bf16 (shapeCast S4x256x256 (m ((c : Thread nD τ).loc main_arg1) : FVec Ideal S1x4x256x256 .f32) shapeCasts_S1x4x256x256_S4x256x256) bitsLt_bf16_f32) := by
    unfold V
    after_results <;> rfl
  rw [e]
  exact pool_apply _ g k j

/-- The pool's scale the region finds. -/
theorem V_scale (c : Dev nD) (k : Fin 1024) :
    (V m c main_v7 : Vec Ideal S1x1024 .f32) (ix2 0 k) = (m ((c : Thread nD τ).loc main_arg2) : FVec Ideal S1x1024 .f32) (ix2 0 k) := by
  have e : @Eq (FVec Ideal S1x1024 .f32) (V m c main_v7) (shapeCast S1x1024 (shapeCast S1024 (m ((c : Thread nD τ).loc main_arg2) : FVec Ideal S1x1024 .f32) shapeCasts_S1x1024_S1024) shapeCasts_S1024_S1x1024) := by
    unfold V
    after_results <;> rfl
  rw [e]
  exact scale_apply _ k

/-- A gain row the region finds. -/
theorem V_mixpre (c : Dev nD) (k : Fin 1024) :
    (V m c main_v10 : Vec Ideal S1x1024 .f32) (ix2 0 k) = (m ((c : Thread nD τ).loc main_arg3) : FVec Ideal S2x1024 .f32) (ix2 0 k) := by
  have e : @Eq (FVec Ideal S1x1024 .f32) (V m c main_v10) (shapeCast S1x1024 (shapeCast S1024 (extractStridedSlice S1x1024 ![0, 0] (m ((c : Thread nD τ).loc main_arg3) : FVec Ideal S2x1024 .f32) slices_S2x1024_S1x1024_0_0) shapeCasts_S1x1024_S1024) shapeCasts_S1024_S1x1024) := by
    unfold V
    after_results <;> rfl
  rw [e]
  exact gain_apply _ k

/-- A gain row the region finds. -/
theorem V_mixpost (c : Dev nD) (k : Fin 1024) :
    (V m c main_v13 : Vec Ideal S1x1024 .f32) (ix2 0 k) = (m ((c : Thread nD τ).loc main_arg4) : FVec Ideal S2x1024 .f32) (ix2 0 k) := by
  have e : @Eq (FVec Ideal S1x1024 .f32) (V m c main_v13) (shapeCast S1x1024 (shapeCast S1024 (extractStridedSlice S1x1024 ![0, 0] (m ((c : Thread nD τ).loc main_arg4) : FVec Ideal S2x1024 .f32) slices_S2x1024_S1x1024_0_0) shapeCasts_S1x1024_S1024) shapeCasts_S1024_S1x1024) := by
    unfold V
    after_results <;> rfl
  rw [e]
  exact gain_apply _ k

/-- A gain row the region finds. -/
theorem V_ffnpre (c : Dev nD) (k : Fin 1024) :
    (V m c main_v16 : Vec Ideal S1x1024 .f32) (ix2 0 k) = (m ((c : Thread nD τ).loc main_arg5) : FVec Ideal S2x1024 .f32) (ix2 0 k) := by
  have e : @Eq (FVec Ideal S1x1024 .f32) (V m c main_v16) (shapeCast S1x1024 (shapeCast S1024 (extractStridedSlice S1x1024 ![0, 0] (m ((c : Thread nD τ).loc main_arg5) : FVec Ideal S2x1024 .f32) slices_S2x1024_S1x1024_0_0) shapeCasts_S1x1024_S1024) shapeCasts_S1024_S1x1024) := by
    unfold V
    after_results <;> rfl
  rw [e]
  exact gain_apply _ k

/-- A gain row the region finds. -/
theorem V_ffnpost (c : Dev nD) (k : Fin 1024) :
    (V m c main_v19 : Vec Ideal S1x1024 .f32) (ix2 0 k) = (m ((c : Thread nD τ).loc main_arg6) : FVec Ideal S2x1024 .f32) (ix2 0 k) := by
  have e : @Eq (FVec Ideal S1x1024 .f32) (V m c main_v19) (shapeCast S1x1024 (shapeCast S1024 (extractStridedSlice S1x1024 ![0, 0] (m ((c : Thread nD τ).loc main_arg6) : FVec Ideal S2x1024 .f32) slices_S2x1024_S1x1024_0_0) shapeCasts_S1x1024_S1024) shapeCasts_S1024_S1x1024) := by
    unfold V
    after_results <;> rfl
  rw [e]
  exact gain_apply _ k

/-- A stacked weight the region finds, rounded. -/
theorem V_gate (c : Dev nD) (k : Fin 1024) (j : Fin 2816) :
    (V m c main_v0 : Vec Ideal S2x1024x2816 .bf16) (ix3 0 k j) = (m ((c : Thread nD τ).loc main_arg7) : FVec Ideal S2x1024x2816 .f32) (ix3 0 k j) := by
  have e : @Eq (FVec Ideal S2x1024x2816 .bf16) (V m c main_v0) (truncf .bf16 (m ((c : Thread nD τ).loc main_arg7) : FVec Ideal S2x1024x2816 .f32) bitsLt_bf16_f32) := by
    unfold V
    after_results <;> rfl
  rw [e]
  exact rfl

/-- A stacked weight the region finds, rounded. -/
theorem V_up (c : Dev nD) (k : Fin 1024) (j : Fin 2816) :
    (V m c main_v1 : Vec Ideal S2x1024x2816 .bf16) (ix3 0 k j) = (m ((c : Thread nD τ).loc main_arg8) : FVec Ideal S2x1024x2816 .f32) (ix3 0 k j) := by
  have e : @Eq (FVec Ideal S2x1024x2816 .bf16) (V m c main_v1) (truncf .bf16 (m ((c : Thread nD τ).loc main_arg8) : FVec Ideal S2x1024x2816 .f32) bitsLt_bf16_f32) := by
    unfold V
    after_results <;> rfl
  rw [e]
  exact rfl

/-- A stacked weight the region finds, rounded. -/
theorem V_down (c : Dev nD) (k : Fin 2816) (j : Fin 1024) :
    (V m c main_v2 : Vec Ideal S2x2816x1024 .bf16) (ix3 0 k j) = (m ((c : Thread nD τ).loc main_arg9) : FVec Ideal S2x2816x1024 .f32) (ix3 0 k j) := by
  have e : @Eq (FVec Ideal S2x2816x1024 .bf16) (V m c main_v2) (truncf .bf16 (m ((c : Thread nD τ).loc main_arg9) : FVec Ideal S2x2816x1024 .f32) bitsLt_bf16_f32) := by
    unfold V
    after_results <;> rfl
  rw [e]
  exact rfl

/-- The block index of window 0 at each grid point. -/
theorem index0 : ∀ t : Fin cfg0.N, win0_0.index t 0 = min t.val 31 / 4 ∧ win0_0.index t 1 = min t.val 31 % 4 ∧ win0_0.index t 2 = 0 :=
  (by decide +kernel : ∀ t : Fin grid0.N, win0_0.index t 0 = min t.val 31 / 4 ∧ win0_0.index t 1 = min t.val 31 % 4 ∧ win0_0.index t 2 = 0)

/-- The block index of window 2 at each grid point. -/
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

/-- The block index of window 3 at each grid point. -/
theorem index3 : ∀ t : Fin cfg0.N, win0_3.index t 0 = 0 ∧ win0_3.index t 1 = 0 :=
  (by decide +kernel : ∀ t : Fin grid0.N, win0_3.index t 0 = 0 ∧ win0_3.index t 1 = 0)

/-- The block index of window 4 at each grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block index of window 5 at each grid point. -/
theorem index5 : ∀ t : Fin cfg0.N, win0_5.index t 0 = 0 ∧ win0_5.index t 1 = 0 :=
  (by decide +kernel : ∀ t : Fin grid0.N, win0_5.index t 0 = 0 ∧ win0_5.index t 1 = 0)

/-- The block index of window 6 at each grid point. -/
theorem index6 : ∀ t : Fin cfg0.N, win0_6.index t 0 = 0 ∧ win0_6.index t 1 = 0 :=
  (by decide +kernel : ∀ t : Fin grid0.N, win0_6.index t 0 = 0 ∧ win0_6.index t 1 = 0)

/-- The block index of window 7 at each grid point. -/
theorem index7 : ∀ t : Fin cfg0.N, win0_7.index t 0 = 0 ∧ win0_7.index t 1 = 0 :=
  (by decide +kernel : ∀ t : Fin grid0.N, win0_7.index t 0 = 0 ∧ win0_7.index t 1 = 0)

/-- The block index of window 8 at each grid point. -/
theorem index8 : ∀ t : Fin cfg0.N, win0_8.index t 0 = 0 ∧ win0_8.index t 1 = 0 ∧ win0_8.index t 2 = 0 :=
  (by decide +kernel : ∀ t : Fin grid0.N, win0_8.index t 0 = 0 ∧ win0_8.index t 1 = 0 ∧ win0_8.index t 2 = 0)

/-- The block index of window 9 at each grid point. -/
theorem index9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)

/-- The block index of window 10 at each grid point. -/
theorem index10 : ∀ t : Fin cfg0.N, win0_10.index t 0 = 0 ∧ win0_10.index t 1 = 0 ∧ win0_10.index t 2 = 0 :=
  (by decide +kernel : ∀ t : Fin grid0.N, win0_10.index t 0 = 0 ∧ win0_10.index t 1 = 0 ∧ win0_10.index t 2 = 0)

/-- The block index of window 11 at each grid point. -/
theorem index11 : ∀ t : Fin cfg0.N, win0_11.index t 0 = (t.val - 1) / 4 ∧ win0_11.index t 1 = (t.val - 1) % 4 ∧ win0_11.index t 2 = 0 :=
  (by decide +kernel : ∀ t : Fin grid0.N, win0_11.index t 0 = (t.val - 1) / 4 ∧ win0_11.index t 1 = (t.val - 1) % 4 ∧ win0_11.index t 2 = 0)

/-- The block index of window 12 at each grid point. -/
theorem index12 : ∀ t : Fin cfg0.N, win0_12.index t 0 = min t.val 31 / 4 ∧ win0_12.index t 1 = 0 ∧ win0_12.index t 2 = 0 :=
  (by decide +kernel : ∀ t : Fin grid0.N, win0_12.index t 0 = min t.val 31 / 4 ∧ win0_12.index t 1 = 0 ∧ win0_12.index t 2 = 0)

/-- Block row `r` is the sequence's row. -/
theorem blk0 (c : Dev nD) (t : Fin cfg0.N) (ht : t.val < 32) (r : Fin 512) (k : Fin 1024) :
    (iblk m c 0 t : Vec Ideal S1x512x1024 .f32) (ix3 0 r k)
      = (m ((c : Thread nD τ).loc main_arg0) : FVec Ideal S8x2048x1024 .f32) (ix3 (seqOf t.val ht) (posOf t.val r) k) := by
  refine Eq.trans ?_ (congrFun (V_main_arg0 m c) _)
  unfold iblk
  rw [View.read_apply]
  show V m c main_arg0 _ = _
  refine congrArg (V m c main_arg0) (funext fun a => Fin.ext ?_)
  have h31 : min t.val 31 = t.val := by omega
  match a with
  | ⟨0, _⟩ => show win0_0.index t 0 * 1 + 1 * 0 = t.val / 4; rw [(index0 t).1, h31]; omega
  | ⟨1, _⟩ => show win0_0.index t 1 * 512 + 1 * r.val = t.val % 4 * 512 + r.val; rw [(index0 t).2.1, h31]; omega
  | ⟨2, _⟩ => show win0_0.index t 2 * 1024 + 1 * k.val = k.val; rw [(index0 t).2.2]; omega

/-- The rows before a sequence. -/
theorem blk1 (c : Dev nD) (t : Fin cfg0.N) (r : Fin 15) (k : Fin 1024) :
    (iblk m c 1 t : Vec Ideal S1x15x1024 .f32) (ix3 0 r k) = Ideal.ofBits .f32 0x00000000#32 := by
  unfold iblk
  rw [View.read_apply]
  exact V_zero m c _

/-- The pool's matrices. -/
theorem blk2 (c : Dev nD) (t : Fin cfg0.N) (g : Fin 4) (k j : Fin 256) :
    (iblk m c 2 t : Vec Ideal S4x256x256 .bf16) (ix3 g k j) = (m ((c : Thread nD τ).loc main_arg1) : FVec Ideal S1x4x256x256 .f32) (ix4 0 g k j) := by
  refine Eq.trans ?_ (V_pool m c g k j)
  unfold iblk
  rw [View.read_apply]
  show V m c main_v5 _ = _
  refine congrArg (V m c main_v5) (funext fun a => Fin.ext ?_)
  match a with
  | ⟨0, _⟩ => show win0_2.index t 0 * 4 + 1 * g.val = g.val; rw [(index2 t).1]; omega
  | ⟨1, _⟩ => show win0_2.index t 1 * 256 + 1 * k.val = k.val; rw [(index2 t).2.1]; omega
  | ⟨2, _⟩ => show win0_2.index t 2 * 256 + 1 * j.val = j.val; rw [(index2 t).2.2]; omega

/-- A row of gains. -/
theorem blk3 (c : Dev nD) (t : Fin cfg0.N) (k : Fin 1024) :
    (iblk m c 3 t : Vec Ideal S1x1024 .f32) (ix2 0 k) = (m ((c : Thread nD τ).loc main_arg2) : FVec Ideal S1x1024 .f32) (ix2 0 k) := by
  refine Eq.trans ?_ (V_scale m c k)
  unfold iblk
  rw [View.read_apply]
  show V m c main_v7 _ = _
  refine congrArg (V m c main_v7) (funext fun a => Fin.ext ?_)
  match a with
  | ⟨0, _⟩ => show win0_3.index t 0 * 1 + 1 * 0 = 0; rw [(index3 t).1]
  | ⟨1, _⟩ => show win0_3.index t 1 * 1024 + 1 * k.val = k.val; rw [(index3 t).2]; omega

/-- A row of gains. -/
theorem blk4 (c : Dev nD) (t : Fin cfg0.N) (k : Fin 1024) :
    (iblk m c 4 t : Vec Ideal S1x1024 .f32) (ix2 0 k) = (m ((c : Thread nD τ).loc main_arg3) : FVec Ideal S2x1024 .f32) (ix2 0 k) := by
  refine Eq.trans ?_ (V_mixpre m c k)
  unfold iblk
  rw [View.read_apply]
  show V m c main_v10 _ = _
  refine congrArg (V m c main_v10) (funext fun a => Fin.ext ?_)
  match a with
  | ⟨0, _⟩ => show win0_4.index t 0 * 1 + 1 * 0 = 0; rw [(index4 t).1]
  | ⟨1, _⟩ => show win0_4.index t 1 * 1024 + 1 * k.val = k.val; rw [(index4 t).2]; omega

/-- A row of gains. -/
theorem blk5 (c : Dev nD) (t : Fin cfg0.N) (k : Fin 1024) :
    (iblk m c 5 t : Vec Ideal S1x1024 .f32) (ix2 0 k) = (m ((c : Thread nD τ).loc main_arg4) : FVec Ideal S2x1024 .f32) (ix2 0 k) := by
  refine Eq.trans ?_ (V_mixpost m c k)
  unfold iblk
  rw [View.read_apply]
  show V m c main_v13 _ = _
  refine congrArg (V m c main_v13) (funext fun a => Fin.ext ?_)
  match a with
  | ⟨0, _⟩ => show win0_5.index t 0 * 1 + 1 * 0 = 0; rw [(index5 t).1]
  | ⟨1, _⟩ => show win0_5.index t 1 * 1024 + 1 * k.val = k.val; rw [(index5 t).2]; omega

/-- A row of gains. -/
theorem blk6 (c : Dev nD) (t : Fin cfg0.N) (k : Fin 1024) :
    (iblk m c 6 t : Vec Ideal S1x1024 .f32) (ix2 0 k) = (m ((c : Thread nD τ).loc main_arg5) : FVec Ideal S2x1024 .f32) (ix2 0 k) := by
  refine Eq.trans ?_ (V_ffnpre m c k)
  unfold iblk
  rw [View.read_apply]
  show V m c main_v16 _ = _
  refine congrArg (V m c main_v16) (funext fun a => Fin.ext ?_)
  match a with
  | ⟨0, _⟩ => show win0_6.index t 0 * 1 + 1 * 0 = 0; rw [(index6 t).1]
  | ⟨1, _⟩ => show win0_6.index t 1 * 1024 + 1 * k.val = k.val; rw [(index6 t).2]; omega

/-- A row of gains. -/
theorem blk7 (c : Dev nD) (t : Fin cfg0.N) (k : Fin 1024) :
    (iblk m c 7 t : Vec Ideal S1x1024 .f32) (ix2 0 k) = (m ((c : Thread nD τ).loc main_arg6) : FVec Ideal S2x1024 .f32) (ix2 0 k) := by
  refine Eq.trans ?_ (V_ffnpost m c k)
  unfold iblk
  rw [View.read_apply]
  show V m c main_v19 _ = _
  refine congrArg (V m c main_v19) (funext fun a => Fin.ext ?_)
  match a with
  | ⟨0, _⟩ => show win0_7.index t 0 * 1 + 1 * 0 = 0; rw [(index7 t).1]
  | ⟨1, _⟩ => show win0_7.index t 1 * 1024 + 1 * k.val = k.val; rw [(index7 t).2]; omega

/-- A stacked weight's block: its first layer. -/
theorem blk8 (c : Dev nD) (t : Fin cfg0.N) (k : Fin 1024) (j : Fin 2816) :
    (iblk m c 8 t : Vec Ideal S1x1024x2816 .bf16) (ix3 0 k j) = (m ((c : Thread nD τ).loc main_arg7) : FVec Ideal S2x1024x2816 .f32) (ix3 0 k j) := by
  refine Eq.trans ?_ (V_gate m c k j)
  unfold iblk
  rw [View.read_apply]
  show V m c main_v0 _ = _
  refine congrArg (V m c main_v0) (funext fun a => Fin.ext ?_)
  match a with
  | ⟨0, _⟩ => show win0_8.index t 0 * 1 + 1 * 0 = 0; rw [(index8 t).1]
  | ⟨1, _⟩ => show win0_8.index t 1 * 1024 + 1 * k.val = k.val; rw [(index8 t).2.1]; omega
  | ⟨2, _⟩ => show win0_8.index t 2 * 2816 + 1 * j.val = j.val; rw [(index8 t).2.2]; omega

/-- A stacked weight's block: its first layer. -/
theorem blk9 (c : Dev nD) (t : Fin cfg0.N) (k : Fin 1024) (j : Fin 2816) :
    (iblk m c 9 t : Vec Ideal S1x1024x2816 .bf16) (ix3 0 k j) = (m ((c : Thread nD τ).loc main_arg8) : FVec Ideal S2x1024x2816 .f32) (ix3 0 k j) := by
  refine Eq.trans ?_ (V_up m c k j)
  unfold iblk
  rw [View.read_apply]
  show V m c main_v1 _ = _
  refine congrArg (V m c main_v1) (funext fun a => Fin.ext ?_)
  match a with
  | ⟨0, _⟩ => show win0_9.index t 0 * 1 + 1 * 0 = 0; rw [(index9 t).1]
  | ⟨1, _⟩ => show win0_9.index t 1 * 1024 + 1 * k.val = k.val; rw [(index9 t).2.1]; omega
  | ⟨2, _⟩ => show win0_9.index t 2 * 2816 + 1 * j.val = j.val; rw [(index9 t).2.2]; omega

/-- A stacked weight's block: its first layer. -/
theorem blk10 (c : Dev nD) (t : Fin cfg0.N) (k : Fin 2816) (j : Fin 1024) :
    (iblk m c 10 t : Vec Ideal S1x2816x1024 .bf16) (ix3 0 k j) = (m ((c : Thread nD τ).loc main_arg9) : FVec Ideal S2x2816x1024 .f32) (ix3 0 k j) := by
  refine Eq.trans ?_ (V_down m c k j)
  unfold iblk
  rw [View.read_apply]
  show V m c main_v2 _ = _
  refine congrArg (V m c main_v2) (funext fun a => Fin.ext ?_)
  match a with
  | ⟨0, _⟩ => show win0_10.index t 0 * 1 + 1 * 0 = 0; rw [(index10 t).1]
  | ⟨1, _⟩ => show win0_10.index t 1 * 2816 + 1 * k.val = k.val; rw [(index10 t).2.1]; omega
  | ⟨2, _⟩ => show win0_10.index t 2 * 1024 + 1 * j.val = j.val; rw [(index10 t).2.2]; omega

end Cert.MixerBlocks

end
-- ==== Proof.MixerReach.lean ====
/-
  How many rows the pooling mixer reads: the row and the fifteen before it.
-/
module

public import proofs.«01_k».proof.Proof.MixerPool

@[expose] public section

noncomputable section

namespace Cert.Rows

open Idealize.ShloMosaic

/-- A sum of rows reads only the rows it holds. -/
theorem back_congr (f f' : ℕ → EReal) : ∀ n, (∀ k ≤ n, f k = f' k) → back f n = back f' n
  | 0, h => h 0 (Nat.le_refl 0)
  | n + 1, h => congrArg₂ (fun a b : EReal => a + b) (back_congr f f' n fun k hk => h k (Nat.le_succ_of_le hk)) (h (n + 1) (Nat.le_refl _))

theorem reach_le : ∀ g : Fin 4, reach g ≤ 15 := by decide

/-- The mixer reads only the row and the fifteen before it. -/
theorem mixer_congr (x gpost : Fin 1024 → EReal) (f f' : ℕ → Fin 1024 → EReal) (p : BitVec 32) (wp : Fin 4 → Fin 256 → Fin 256 → EReal)
    (ps : Fin 1024 → EReal) (h : ∀ k ≤ 15, ∀ c, f k c = f' k c) : mixer x gpost f p wp ps = mixer x gpost f' p wp ps := by
  have e : mix f p wp ps = mix f' p wp ps := funext fun c => by
    unfold mix mixed
    refine congrArg₂ (fun a b : EReal => a * b) (Finset.sum_congr rfl fun k _ => congrArg₂ (fun a b : EReal => a * b) ?_ rfl) rfl
    unfold pooled
    rw [back_congr _ (fun n => f' n (gcol ⟨c.val / 256, by omega⟩ k)) _ fun n hn => h n (hn.trans (reach_le _)) _]
    exact congrArg (fun z : EReal => Ideal.div _ _ - z) (h 0 (Nat.zero_le _) _)
  funext c
  unfold mixer
  rw [e]

end Cert.Rows

end
-- ==== Proof.MixerStep.lean ====
/-
  What the points of the prompt group's mixer call leave, element by element over the extended reals: the extended block is
  the sequence's normed rows with the rows before them, a kept slot is the mixer of its rows, and the stored block is the
  feed-forward block of what the point before kept.
-/
module

public import proofs.«01_k».proof.Proof.MixerState
public import proofs.«01_k».proof.Proof.MixerBlocks
public import proofs.«01_k».proof.Proof.MixerReach

@[expose] public section

set_option maxRecDepth 16384

noncomputable section

namespace Cert.MixerStep

open Idealize.ShloMosaic Idealize.SL.Sem Cert.MixerIdeal Cert.MixerIdeal.Gen Cert.MixerIdeal.Track Idealize.ShloMosaic.TcCoe Cert.Rows
open Cert.MixerBlock Cert.MixerBlocks Cert.MixerState

variable (m : (ℓ : Loc nD τ sig) → Buf (Elt Ideal) ℓ)

/-- The point before. -/
abbrev prev (t : Fin cfg0.N) : Fin cfg0.N := ⟨t.val - 1, Nat.lt_of_le_of_lt (Nat.sub_le _ _) t.isLt⟩

/-! ## One point, on any buffers -/

section Generic

variable (c : Dev nD) (i : grid0.Coords) (b : Bufs) (x : Ins Ideal)

theorem first_ext_rows (hc0 : atFirst i) (hc1 : atStart i) (hc2 : ¬ atEnd i) (o : Fin 16) (k : Fin 1024) :
    (first c i b hc0 hc1 hc2 x).ext (ix2 ⟨o.val, by omega⟩ k) = k0_pay11 x.x0 x.x4 (ix2 ⟨496 + o.val, by omega⟩ k) :=
  (congrFun (View.read_writes_junk_eq_canon _ _) _).trans (first_ext c i b x hc0 hc1 hc2 o k)

theorem first_slot_rows (hc0 : atFirst i) (hc1 : atStart i) (hc2 : ¬ atEnd i) (y : S1x512x1024.Idx) :
    (first c i b hc0 hc1 hc2 x).slots ((Rect.unit (s := S2x512x1024) (k0_off2 i) S1x512x1024.size (k0_off2_inb i)).emb y) = keep i x (extStart x) y :=
  first_keep c i b x hc0 hc1 hc2 _ y

variable (hc0 : ¬ atFirst i) (s : State Ideal)

theorem next_ext_rows (o : Fin 16) (k : Fin 1024) :
    (next c i b hc0 x s).ext (ix2 ⟨o.val, by omega⟩ k) = k0_pay11 x.x0 x.x4 (ix2 ⟨496 + o.val, by omega⟩ k) :=
  (congrFun (View.read_writes_junk_eq_canon _ _) _).trans (next_ext c i b x hc0 s.ext s.slots o k)

theorem next_out_eq : (next c i b hc0 x s).out = stored x (View.ld s.slots (Rect.unit (k0_off1 i) S1x512x1024.size (k0_off1_inb i))) :=
  (View.read_writes_junk_eq_canon _ _).trans (next_out c i b x hc0 s.ext s.slots)

theorem next_tail_rows (h : atEnd i) (r : Fin 15) (k : Fin 1024) :
    (next c i b hc0 x s).tail (ix3 0 r k) = k0_pay11 x.x0 x.x4 (ix2 ⟨497 + r.val, by omega⟩ k) :=
  next_tail c i b x hc0 s.ext s.slots h _ r k

theorem next_slot_rows (y : S1x512x1024.Idx) :
    (next c i b hc0 x s).slots ((Rect.unit (s := S2x512x1024) (k0_off2 i) S1x512x1024.size (k0_off2_inb i)).emb y)
      = keep i x (if atStart i then extStart x else extNext b x s.ext) y := by
  by_cases h : atStart i
  · rw [if_pos h]
    exact next_keep_start c i b x hc0 s.ext s.slots h _ y
  · rw [if_neg h]
    exact next_keep c i b x hc0 s.ext s.slots h _ y

end Generic

/-! ## The extended block -/

/-- Where a sequence starts, the rows before it are zero. -/
theorem extStart_front (x : Ins Ideal) (hx : ∀ r k, x.x1 (ix3 0 r k) = Ideal.ofBits .f32 0x00000000#32) (o : Fin 16) (k : Fin 1024) :
    extStart x (ix2 ⟨o.val, by omega⟩ k) = Ideal.ofBits .f32 0x00000000#32 := by
  unfold extStart
  refine (View.canon_cons_of_not_mem _ _ ?_).trans ?_
  · rw [Rect.mem_set_unit]
    intro h
    have h0 : 16 ≤ o.val := (h 0).1
    omega
  by_cases ho : o.val = 0
  · refine (View.canon_cons_of_not_mem _ _ ?_).trans ?_
    · rw [Rect.mem_set_unit]
      intro h
      have h0 : 1 ≤ o.val := (h 0).1
      omega
    have e : (ix2 ⟨o.val, by omega⟩ k : S528x1024.Idx) = (Rect.unit (s := S528x1024) ![0, 0] S1x1024.size inb_S528x1024_S1x1024_0_0).emb (ix2 0 k) := by
      funext a
      apply Fin.ext
      match a with
      | ⟨0, _⟩ => show o.val = 0 + 1 * 0; omega
      | ⟨1, _⟩ => show k.val = 0 + 1 * k.val; omega
    rw [e, View.canon_cons_emb]
    rfl
  · have e : (ix2 ⟨o.val, by omega⟩ k : S528x1024.Idx)
        = (Rect.unit (s := S528x1024) ![1, 0] S15x1024.size inb_S528x1024_S15x1024_1_0).emb (ix2 ⟨o.val - 1, by omega⟩ k) := by
      funext a
      apply Fin.ext
      match a with
      | ⟨0, _⟩ => show o.val = 1 + 1 * (o.val - 1); omega
      | ⟨1, _⟩ => show k.val = 0 + 1 * k.val; omega
    rw [e, View.canon_cons_emb]
    refine Eq.trans ?_ (hx ⟨o.val - 1, by omega⟩ k)
    generalize (⟨o.val - 1, by omega⟩ : Fin 15) = r
    pointwise [k0_pay6]

/-- The sequence's own rows, where it starts. -/
theorem extStart_back (x : Ins Ideal) (r : Fin 512) (k : Fin 1024) :
    extStart x (ix2 ⟨16 + r.val, by omega⟩ k) = k0_pay11 x.x0 x.x4 (ix2 r k) := by
  unfold extStart
  rw [ext_rows _ _ (16 + r.val) (by omega)]
  exact congrArg (fun q => k0_pay11 x.x0 x.x4 (ix2 q k)) (Fin.ext (by show 16 + r.val - 16 = r.val; omega))

/-- Elsewhere, the rows before are what the point before left. -/
theorem extNext_front (b : Bufs) (x : Ins Ideal) (xs0 : Vec Ideal S528x1024 .f32) (o : Fin 16) (k : Fin 1024) :
    extNext b x xs0 (ix2 ⟨o.val, by omega⟩ k) = xs0 (ix2 ⟨o.val, by omega⟩ k) := by
  unfold extNext
  rw [View.read_writes_apply_of_forall_not_mem _ _ _ _ (by
    intro p hp
    rw [List.mem_singleton] at hp
    subst hp
    rw [Rect.mem_set_unit]
    intro h
    have h0 : 16 ≤ o.val := (h 0).1
    omega), b.h14.read_unread]

/-- The sequence's own rows, elsewhere. -/
theorem extNext_back (b : Bufs) (x : Ins Ideal) (xs0 : Vec Ideal S528x1024 .f32) (r : Fin 512) (k : Fin 1024) :
    extNext b x xs0 (ix2 ⟨16 + r.val, by omega⟩ k) = k0_pay11 x.x0 x.x4 (ix2 r k) := by
  have e : (ix2 ⟨16 + r.val, by omega⟩ k : S528x1024.Idx)
      = (Rect.unit (s := S528x1024) ![16, 0] S512x1024.size inb_S528x1024_S512x1024_16_0).emb (ix2 r k) := by
    funext a
    apply Fin.ext
    match a with
    | ⟨0, _⟩ => show 16 + r.val = 16 + 1 * r.val; omega
    | ⟨1, _⟩ => show k.val = 0 + 1 * k.val; omega
  unfold extNext
  rw [e]
  exact View.read_writes_cons_emb _ _ _ _ _ _

/-- What a point leaves in the extended block's first rows: the last of its own rows. -/
theorem ext_kept (c : Dev nD) (t : Fin cfg0.N) (o : Fin 16) (k : Fin 1024) :
    (states m c t.val t.isLt).ext (ix2 ⟨o.val, by omega⟩ k) = k0_pay11 (ins m c t).x0 (ins m c t).x4 (ix2 ⟨496 + o.val, by omega⟩ k) := by
  by_cases ht : t.val = 0
  · rw [states_first m c t ht]
    exact first_ext_rows ..
  · rw [states_next m c t ht]
    exact next_ext_rows ..

/-- The extended block at a point. -/
def extAt (c : Dev nD) (t : Fin cfg0.N) : Vec Ideal S528x1024 .f32 :=
  if atStart (grid0.coords t) then extStart (ins m c t) else extNext (bufs t) (ins m c t) (states m c (t.val - 1) (by omega)).ext

/-- A normed row of the launched sequences. -/
def normed (c : Dev nD) (b : Fin 8) (p : Fin 2048) : Fin 1024 → EReal :=
  rmsn (fun k => (m ((c : Thread nD τ).loc main_arg0) : FVec Ideal S8x2048x1024 .f32) (ix3 b p k))
    (fun k => (m ((c : Thread nD τ).loc main_arg3) : FVec Ideal S2x1024 .f32) (ix2 0 k))

/-- A block's normed rows are the sequence's. -/
theorem rows_apply (c : Dev nD) (t : Fin cfg0.N) (ht : t.val < 32) (r : Fin 512) (k : Fin 1024) :
    k0_pay11 (ins m c t).x0 (ins m c t).x4 (ix2 r k) = normed m c (seqOf t.val ht) (posOf t.val r) k := by
  rw [pay11_apply]
  unfold normed
  simp only [blk0 m c t ht, blk4]

/-- The extended block's own rows. -/
theorem extAt_back (c : Dev nD) (t : Fin cfg0.N) (r : Fin 512) (k : Fin 1024) :
    extAt m c t (ix2 ⟨16 + r.val, by omega⟩ k) = k0_pay11 (ins m c t).x0 (ins m c t).x4 (ix2 r k) := by
  unfold extAt
  by_cases h : atStart (grid0.coords t)
  · rw [if_pos h]; exact extStart_back _ r k
  · rw [if_neg h]; exact extNext_back _ _ _ r k

/-- A row of the extended block, `k` steps back, is the sequence's. -/
theorem eat_extAt (c : Dev nD) (t : Fin cfg0.N) (ht : t.val < 32) (r : Fin 512) (k : ℕ) (hk : k ≤ 15) (j : Fin 1024) :
    eat (extAt m c t) r k j = before (normed m c (seqOf t.val ht)) (posOf t.val r) k j := by
  unfold eat
  by_cases hr : k ≤ r.val
  · have e : (⟨16 + r.val - k, by omega⟩ : Fin 528) = ⟨16 + (⟨r.val - k, by omega⟩ : Fin 512).val, by show 16 + (r.val - k) < 528; omega⟩ :=
      Fin.ext (by show 16 + r.val - k = 16 + (r.val - k); omega)
    rw [e, extAt_back, rows_apply m c t ht]
    unfold before
    rw [if_pos (by show k ≤ t.val % 4 * 512 + r.val; omega)]
    exact congrArg (fun q => normed m c (seqOf t.val ht) q j) (Fin.ext (by show t.val % 4 * 512 + (r.val - k) = t.val % 4 * 512 + r.val - k; omega))
  · have e : (⟨16 + r.val - k, by omega⟩ : Fin 528) = ⟨(⟨16 + r.val - k, by omega⟩ : Fin 16).val, by show 16 + r.val - k < 528; omega⟩ := rfl
    rw [e]
    unfold extAt
    by_cases h : atStart (grid0.coords t)
    · rw [if_pos h, extStart_front _ (fun r k => blk1 m c t r k)]
      have h4 := ((atStart_iff t).mp h).1
      unfold before
      rw [if_neg (by show ¬ k ≤ t.val % 4 * 512 + r.val; omega)]
    · have h4 : t.val % 4 ≠ 0 := fun h' => h ((atStart_iff t).mpr ⟨h', by omega⟩)
      rw [if_neg h, extNext_front, ext_kept m c (prev t), rows_apply m c (prev t) (by show t.val - 1 < 32; omega)]
      unfold before
      rw [if_pos (by show k ≤ t.val % 4 * 512 + r.val; omega)]
      refine congrArg₂ (fun b q => normed m c b q j) (Fin.ext ?_) (Fin.ext ?_)
      · show (t.val - 1) / 4 = t.val / 4; omega
      · show (t.val - 1) % 4 * 512 + (496 + (16 + r.val - k)) = t.val % 4 * 512 + r.val - k; omega

/-! ## The slots and the stored block -/

/-- The slot a point writes holds what its mixer keeps. -/
theorem slot_kept (c : Dev nD) (t : Fin cfg0.N) (y : S1x512x1024.Idx) :
    (states m c t.val t.isLt).slots ((Rect.unit (s := S2x512x1024) (k0_off2 (grid0.coords t)) S1x512x1024.size (k0_off2_inb (grid0.coords t))).emb y)
      = keep (grid0.coords t) (ins m c t) (extAt m c t) y := by
  unfold extAt
  by_cases ht : t.val = 0
  · rw [states_first m c t ht, if_pos (startOfFirst t ht)]
    exact first_slot_rows ..
  · rw [states_next m c t ht]
    exact next_slot_rows ..

/-- The mixer of a row of the launched sequences. -/
def mixed0 (c : Dev nD) (b : Fin 8) (p : Fin 2048) : Fin 1024 → EReal :=
  mixer (fun k => (m ((c : Thread nD τ).loc main_arg0) : FVec Ideal S8x2048x1024 .f32) (ix3 b p k))
    (fun k => (m ((c : Thread nD τ).loc main_arg4) : FVec Ideal S2x1024 .f32) (ix2 0 k))
    (before (normed m c b) p) (BitVec.ofNat 32 p.val)
    (fun g k j => (m ((c : Thread nD τ).loc main_arg1) : FVec Ideal S1x4x256x256 .f32) (ix4 0 g k j))
    (fun k => (m ((c : Thread nD τ).loc main_arg2) : FVec Ideal S1x1024 .f32) (ix2 0 k))

/-- What a point keeps is the mixer of its rows. -/
theorem keep_apply (c : Dev nD) (t : Fin cfg0.N) (ht : t.val < 32) (r : Fin 512) (k : Fin 1024) :
    keep (grid0.coords t) (ins m c t) (extAt m c t) (ix3 0 r k) = mixed0 m c (seqOf t.val ht) (posOf t.val r) k := by
  unfold keep
  rw [kept_apply t _ _ _ _ _ _ (fun r c' => by
    rw [pay10_apply, ← pay11_apply]
    unfold eat
    exact (extAt_back m c t r c').symm) r k]
  rw [mixer_congr _ _ _ _ _ _ _ (fun k hk j => eat_extAt m c t ht r k hk j)]
  unfold mixed0
  have h31 : min t.val 31 = t.val := by omega
  rw [h31]
  simp only [blk0 m c t ht, blk2, blk3, blk5]
  rfl

/-- A point's feed-forward part reads the slot the point before wrote. -/
theorem off_eq (t : Fin cfg0.N) (ht : t.val ≠ 0) : k0_off1 (grid0.coords t) = k0_off2 (grid0.coords (prev t)) := by
  have h : ∀ t : Fin cfg0.N, ((grid0.coords t) 0).val = t.val := (by decide +kernel : ∀ t : Fin grid0.N, ((grid0.coords t) 0).val = t.val)
  rw [k0_off1_eq, k0_off2_eq, h t, h (prev t)]
  have e : (t.val + 1) % 2 = (prev t).val % 2 := by show (t.val + 1) % 2 = (t.val - 1) % 2; omega
  rw [e]

/-- One row of the layer's result. -/
def outRow (c : Dev nD) (b : Fin 8) (p : Fin 2048) : Fin 1024 → EReal :=
  ffn (mixed0 m c b p) (fun k => (m ((c : Thread nD τ).loc main_arg5) : FVec Ideal S2x1024 .f32) (ix2 0 k))
    (fun k => (m ((c : Thread nD τ).loc main_arg6) : FVec Ideal S2x1024 .f32) (ix2 0 k))
    (fun k j => (m ((c : Thread nD τ).loc main_arg7) : FVec Ideal S2x1024x2816 .f32) (ix3 0 k j))
    (fun k j => (m ((c : Thread nD τ).loc main_arg8) : FVec Ideal S2x1024x2816 .f32) (ix3 0 k j))
    (fun k j => (m ((c : Thread nD τ).loc main_arg9) : FVec Ideal S2x2816x1024 .f32) (ix3 0 k j))

/-- What a later point stores: the feed-forward block of the rows the point before kept. -/
theorem out_apply (c : Dev nD) (t : Fin cfg0.N) (ht : t.val ≠ 0) (hl : t.val - 1 < 32) (r : Fin 512) (k : Fin 1024) :
    (states m c t.val t.isLt).out (ix3 0 r k) = outRow m c (seqOf (t.val - 1) hl) (posOf (t.val - 1) r) k := by
  rw [states_next m c t ht]
  rw [next_out_eq]
  unfold stored
  rw [stored_apply]
  have e : ∀ k, View.ld (states m c (t.val - 1) (by omega)).slots (Rect.unit (k0_off1 (grid0.coords t)) S1x512x1024.size (k0_off1_inb (grid0.coords t))) (ix3 0 r k)
      = mixed0 m c (seqOf (t.val - 1) hl) (posOf (t.val - 1) r) k := fun k => by
    refine Eq.trans ?_ (keep_apply m c (prev t) hl r k)
    refine Eq.trans ?_ (slot_kept m c (prev t) (ix3 0 r k))
    show (states m c (t.val - 1) _).slots _ = (states m c (t.val - 1) _).slots _
    refine congrArg _ (funext fun a => Fin.ext ?_)
    show k0_off1 (grid0.coords t) a + 1 * ((ix3 0 r k : S1x512x1024.Idx) a).val = k0_off2 (grid0.coords (prev t)) a + 1 * ((ix3 0 r k : S1x512x1024.Idx) a).val
    rw [off_eq t ht]
  have e' := funext e
  rw [e']
  unfold outRow
  simp only [blk6, blk7, blk8, blk9, blk10]

/-- The state rows at the end of a sequence: its last normed rows. -/
theorem tail_end (c : Dev nD) (t : Fin cfg0.N) (ht : t.val < 32) (he : t.val % 4 = 3) (r : Fin 15) (k : Fin 1024) :
    (states m c t.val t.isLt).tail (ix3 0 r k) = normed m c (seqOf t.val ht) ⟨2033 + r.val, by omega⟩ k := by
  rw [states_next m c t (by omega)]
  rw [next_tail_rows (h := (atEnd_iff t).mpr he), rows_apply m c t ht]
  exact congrArg (fun q => normed m c (seqOf t.val ht) q k) (Fin.ext (by show t.val % 4 * 512 + (497 + r.val) = 2033 + r.val; omega))

end Cert.MixerStep

end
-- ==== Proof.MixerValue.lean ====
/-
  The two result arrays of the prompt group's mixer call after its run, element by element over the extended reals: each row of
  the first is the feed-forward block of the row's mixer, the second holds every sequence's last normed rows.
-/
module

public import proofs.«01_k».proof.Proof.MixerStep

@[expose] public section

set_option maxRecDepth 16384

noncomputable section

namespace Cert.MixerValue

open Idealize.ShloMosaic Idealize.SL.Sem Cert.MixerIdeal Cert.MixerIdeal.Gen Cert.MixerIdeal.Track Idealize.ShloMosaic.TcCoe Cert.Rows
open Cert.MixerBlocks Cert.MixerStep
open Idealize.ShloMosaic.Pipeline (Dat Cfg Window)

variable (m : (ℓ : Loc nD τ sig) → Buf (Elt Ideal) ℓ)

/-- The layer's result. -/
def result (c : Dev nD) : FVec Ideal S8x2048x1024 .f32 := fun i => outRow m c (i 0) (i 1) (i 2)

/-- The state. -/
def state (c : Dev nD) : FVec Ideal S8x15x1024 .f32 := fun i =>
  normed m c (i 0) ⟨2033 + (i 1).val, by have : (i 1 : Nat) < 15 := (i 1).isLt; omega⟩ (i 2)

/-! ## The layer's result -/

theorem flush11_ne : ∀ t : Fin cfg0.N, (cfg0.win 11).flush t = true → t.val ≠ 0 :=
  (by decide +kernel : ∀ t : Fin grid0.N, win0_11.flush t = true → t.val ≠ 0)

theorem flush11 : ∀ t : Fin cfg0.N, t.val ≠ 0 → (cfg0.win 11).flush t = true :=
  (by decide +kernel : ∀ t : Fin grid0.N, t.val ≠ 0 → win0_11.flush t = true)

/-- What a point writes back of the first result is its block. -/
theorem flushed11 (c : Dev nD) (t : Fin cfg0.N) (hf : (cfg0.win 11).flush t = true) :
    (dats m 0 c).flushed 11 t = ((cfg0.win 11).blk t).view.read (Elt Ideal) (result m c) := by
  have ht := flush11_ne t hf
  have hN : cfg0.N = 33 := N_0
  have hl : t.val - 1 < 32 := by have := t.isLt; omega
  have e : (dats m 0 c).flushed 11 t = (cfg0.win 11).cut (grid0.coords t) (states m c t.val t.isLt).out := by
    show (cfg0.win 11).cut (grid0.coords t) ((dats m 0 c).after 11 t) = _
    rw [after_out]
  rw [e]
  funext i
  rw [View.read_apply]
  have h0 : (i 0).val = 0 := by have : (i 0).val < 1 := (i 0).isLt; omega
  have hi : i = (ix3 0 (i 1) (i 2) : S1x512x1024.Idx) := by
    funext a
    match a with
    | ⟨0, _⟩ => exact Fin.ext h0
    | ⟨1, _⟩ => rfl
    | ⟨2, _⟩ => rfl
  show (states m c t.val t.isLt).out i = result m c _
  refine (congrArg (states m c t.val t.isLt).out hi).trans ((out_apply m c t ht hl (i 1) (i 2)).trans ?_)
  show result m c (ix3 (seqOf (t.val - 1) hl) (posOf (t.val - 1) (i 1)) (i 2)) = _
  refine congrArg (result m c) (funext fun a => Fin.ext ?_)
  match a with
  | ⟨0, _⟩ => show (t.val - 1) / 4 = win0_11.index t 0 * 1 + 1 * (i 0).val; rw [(index11 t).1]; omega
  | ⟨1, _⟩ => show (t.val - 1) % 4 * 512 + (i 1).val = win0_11.index t 1 * 512 + 1 * (i 1).val; rw [(index11 t).2.1]; omega
  | ⟨2, _⟩ => show (i 2).val = win0_11.index t 2 * 1024 + 1 * (i 2).val; rw [(index11 t).2.2]; omega

/-- The first result array after the run. -/
theorem final11 (c : Dev nD) : (dats m 0 c).arrAt 11 cfg0.N = result m c :=
  (dats m 0 c).arrAt_eq_of_cover 11 (result m c) (flushed11 m c) fun i => by
    have hN : cfg0.N = 33 := N_0
    have h0 : (i 0 : Nat) < 8 := (i 0).isLt
    have h1 : (i 1 : Nat) < 2048 := (i 1).isLt
    have h2 : (i 2 : Nat) < 1024 := (i 2).isLt
    have hlt : (i 0).val * 4 + (i 1).val / 512 + 1 < cfg0.N := by omega
    refine ⟨⟨(i 0).val * 4 + (i 1).val / 512 + 1, hlt⟩, flush11 _ (Nat.succ_ne_zero _), ?_⟩
    generalize ht : (⟨(i 0).val * 4 + (i 1).val / 512 + 1, hlt⟩ : Fin cfg0.N) = t
    have hv : t.val = (i 0).val * 4 + (i 1).val / 512 + 1 := by rw [← ht]
    show i ∈ ((View.whole main_v20_0).slice (win0_11.rect t)).set
    rw [View.set_slice_whole, Rect.mem_set_unit]
    intro a
    match a with
    | ⟨0, _⟩ => show win0_11.index t 0 * 1 ≤ (i 0 : Nat) ∧ (i 0 : Nat) < win0_11.index t 0 * 1 + 1
                rw [(index11 t).1]; omega
    | ⟨1, _⟩ => show win0_11.index t 1 * 512 ≤ (i 1 : Nat) ∧ (i 1 : Nat) < win0_11.index t 1 * 512 + 512
                rw [(index11 t).2.1]; omega
    | ⟨2, _⟩ => show win0_11.index t 2 * 1024 ≤ (i 2 : Nat) ∧ (i 2 : Nat) < win0_11.index t 2 * 1024 + 1024
                rw [(index11 t).2.2]; omega

/-! ## The state -/

theorem flush12_at : ∀ t : Fin cfg0.N, (cfg0.win 12).flush t = true → (t.val % 4 = 3 ∧ t.val < 32) ∨ t.val = 32 :=
  (by decide +kernel : ∀ t : Fin grid0.N, win0_12.flush t = true → (t.val % 4 = 3 ∧ t.val < 32) ∨ t.val = 32)

theorem flush12 : ∀ t : Fin cfg0.N, (t.val % 4 = 3 ∧ t.val < 31) ∨ t.val = 32 → (cfg0.win 12).flush t = true :=
  (by decide +kernel : ∀ t : Fin grid0.N, (t.val % 4 = 3 ∧ t.val < 31) ∨ t.val = 32 → win0_12.flush t = true)

/-- What the state's buffer holds where it is written back. -/
theorem tail_apply (c : Dev nD) (t : Fin cfg0.N) (hf : (cfg0.win 12).flush t = true) (r : Fin 15) (k : Fin 1024) :
    (states m c t.val t.isLt).tail (ix3 0 r k) = state m c (ix3 ⟨min t.val 31 / 4, by omega⟩ r k) := by
  have hN : cfg0.N = 33 := N_0
  rcases flush12_at t hf with h | h
  · rw [tail_end m c t h.2 h.1]
    show normed m c (seqOf t.val h.2) _ k = normed m c _ _ k
    refine congrArg (fun b => normed m c b _ k) (Fin.ext ?_)
    show t.val / 4 = min t.val 31 / 4
    omega
  · rw [tail_kept m c t (by omega) (fun he => by have := (atEnd_iff t).mp he; omega)]
    refine (tail_end m c (prev t) (by show t.val - 1 < 32; omega) (by show (t.val - 1) % 4 = 3; omega) r k).trans ?_
    show normed m c (seqOf (t.val - 1) _) _ k = normed m c _ _ k
    refine congrArg (fun b => normed m c b _ k) (Fin.ext ?_)
    show (t.val - 1) / 4 = min t.val 31 / 4
    omega

/-- What a point writes back of the state is its block. -/
theorem flushed12 (c : Dev nD) (t : Fin cfg0.N) (hf : (cfg0.win 12).flush t = true) :
    (dats m 0 c).flushed 12 t = ((cfg0.win 12).blk t).view.read (Elt Ideal) (state m c) := by
  have e : (dats m 0 c).flushed 12 t = (cfg0.win 12).cut (grid0.coords t) (states m c t.val t.isLt).tail := by
    show (cfg0.win 12).cut (grid0.coords t) ((dats m 0 c).after 12 t) = _
    rw [after_tail]
  rw [e]
  funext i
  rw [View.read_apply]
  have h0 : (i 0).val = 0 := by have : (i 0).val < 1 := (i 0).isLt; omega
  have hi : i = (ix3 0 (i 1) (i 2) : S1x15x1024.Idx) := by
    funext a
    match a with
    | ⟨0, _⟩ => exact Fin.ext h0
    | ⟨1, _⟩ => rfl
    | ⟨2, _⟩ => rfl
  show (states m c t.val t.isLt).tail i = state m c _
  refine (congrArg (states m c t.val t.isLt).tail hi).trans ((tail_apply m c t hf (i 1) (i 2)).trans ?_)
  refine congrArg (state m c) (funext fun a => Fin.ext ?_)
  match a with
  | ⟨0, _⟩ => show min t.val 31 / 4 = win0_12.index t 0 * 1 + 1 * (i 0).val; rw [(index12 t).1]; omega
  | ⟨1, _⟩ => show (i 1).val = win0_12.index t 1 * 15 + 1 * (i 1).val; rw [(index12 t).2.1]; omega
  | ⟨2, _⟩ => show (i 2).val = win0_12.index t 2 * 1024 + 1 * (i 2).val; rw [(index12 t).2.2]; omega

/-- The second result array after the run. -/
theorem final12 (c : Dev nD) : (dats m 0 c).arrAt 12 cfg0.N = state m c :=
  (dats m 0 c).arrAt_eq_of_cover 12 (state m c) (flushed12 m c) fun i => by
    have hN : cfg0.N = 33 := N_0
    have h0 : (i 0 : Nat) < 8 := (i 0).isLt
    have h1 : (i 1 : Nat) < 15 := (i 1).isLt
    have h2 : (i 2 : Nat) < 1024 := (i 2).isLt
    have hlt : (if (i 0).val = 7 then 32 else (i 0).val * 4 + 3) < cfg0.N := by split <;> omega
    refine ⟨⟨if (i 0).val = 7 then 32 else (i 0).val * 4 + 3, hlt⟩, flush12 _ (by
      show (((if (i 0).val = 7 then 32 else (i 0).val * 4 + 3) % 4 = 3 ∧ (if (i 0).val = 7 then 32 else (i 0).val * 4 + 3) < 31)
        ∨ (if (i 0).val = 7 then 32 else (i 0).val * 4 + 3) = 32)
      split <;> omega), ?_⟩
    generalize ht : (⟨if (i 0).val = 7 then 32 else (i 0).val * 4 + 3, hlt⟩ : Fin cfg0.N) = t
    have hv : t.val = if (i 0).val = 7 then 32 else (i 0).val * 4 + 3 := by rw [← ht]
    have hs : min t.val 31 / 4 = (i 0).val := by rw [hv]; split <;> omega
    show i ∈ ((View.whole main_v20_1).slice (win0_12.rect t)).set
    rw [View.set_slice_whole, Rect.mem_set_unit]
    intro a
    match a with
    | ⟨0, _⟩ => show win0_12.index t 0 * 1 ≤ (i 0 : Nat) ∧ (i 0 : Nat) < win0_12.index t 0 * 1 + 1
                rw [(index12 t).1]; omega
    | ⟨1, _⟩ => show win0_12.index t 1 * 15 ≤ (i 1 : Nat) ∧ (i 1 : Nat) < win0_12.index t 1 * 15 + 15
                rw [(index12 t).2.1]; omega
    | ⟨2, _⟩ => show win0_12.index t 2 * 1024 ≤ (i 2 : Nat) ∧ (i 2 : Nat) < win0_12.index t 2 * 1024 + 1024
                rw [(index12 t).2.2]; omega

end Cert.MixerValue

end
-- ==== Proof.MixerRow.lean ====
/-
  The reference of the prompt group's mixer layer, element by element over the extended reals: each row is the feed-forward
  block (RowMath.lean) of the row's mixer (MixerPool.lean), the state the last normed rows.
-/
module

public import proofs.«01_k».proof.Proof.MixerReach
public import proofs.«01_k».proof.Proof.Gen.MixerRefIdeal.Read

@[expose] public section

set_option maxRecDepth 16384

noncomputable section

namespace Cert.MixerRow

open Idealize.ShloMosaic Idealize.SL.Sem Cert.MixerRefIdeal Cert.MixerRefIdeal.Gen Idealize.ShloMosaic.TcCoe Cert.Rows Cert.MixerRefIdeal.Read

variable (x0 : FVec Ideal S8x2048x1024 .f32) (x1 : FVec Ideal S1x4x256x256 .f32) (x2 : FVec Ideal S1x1024 .f32)
  (x3 x4 x5 x6 : FVec Ideal S2x1024 .f32) (x7 x8 : FVec Ideal S2x1024x2816 .f32) (x9 : FVec Ideal S2x2816x1024 .f32)

/-- The normed row the mixer reads. -/
theorem v15_apply (b : Fin 8) (t : Fin 2048) (c : Fin 1024) :
    val_main_v15 (F := Ideal) x0 x3 (ix3 b t c) = rmsn (fun k => x0 (ix3 b t k)) (fun k => x3 (ix2 0 k)) c := by
  pointwise [val_main_v15, val_main_v14, val_main_v13, val_main_v12, val_main_v11, val_main_v10, val_main_v9, val_main_v8, val_main_cst_2, val_main_v7, val_main_v6, val_main_cst_1, val_main_v5, val_main_v4, val_main_cst_0, val_main_v3, val_main_v2, val_main_v1]
  rfl

/-- Fifteen zero rows and then the sequence's. -/
theorem v18_apply (b : Fin 8) (t : Fin 2048) (k : ℕ) (hk : k ≤ 15) (c : Fin 1024) :
    val_main_v18 (F := Ideal) x0 x3 (ix3 b ⟨15 - k + t.val, by omega⟩ c)
      = before (fun t c => val_main_v15 (F := Ideal) x0 x3 (ix3 b t c)) t k c := by
  unfold val_main_v18 before
  generalize val_main_v15 (F := Ideal) x0 x3 = y
  pointwise [val_main_v0, val_main_cst]
  by_cases h : k ≤ t.val
  · rw [if_pos h]
    split
    · omega
    · refine congrArg (fun q => y (ix3 b q c)) (Fin.ext ?_)
      show 15 - k + t.val - 15 = t.val - k
      omega
  · rw [if_neg h]
    split
    · rfl
    · omega

/-- The position of a row. -/
theorem v21_apply (t : Fin 2048) : val_main_v21 (F := Ideal) (ix1 t) = BitVec.ofNat 32 t.val := by
  pointwise [val_main_v21, val_main_v20, val_main_c, val_main_v19]
  exact BitVec.zero_add _

/-- The windowed mean of group 0. -/
theorem v32_apply (b : Fin 8) (t : Fin 2048) (k : Fin 256) :
    val_main_v32 (F := Ideal) x0 x3 (ix3 b t k)
      = Ideal.div (back (fun n => val_main_v18 (F := Ideal) x0 x3 (ix3 b ⟨15 - n + t.val, by omega⟩ (gcol 0 k))) 1)
          (count 2#32 (val_main_v21 (F := Ideal) (ix1 t))) := by
  unfold val_main_v32 val_main_v31 val_main_v30 val_main_v29 val_main_v28 val_main_v27 val_main_v26 val_main_v25 val_main_v24 val_main_v23 val_main_v22 val_main_c_3 val_main_c_4
  generalize val_main_v18 (F := Ideal) x0 x3 = y
  generalize val_main_v21 (F := Ideal) = q
  pointwise
  have e : (⟨k.val, by omega⟩ : Fin 1024) = gcol 0 k := Fin.ext (by show k.val = 0 * 256 + k.val; omega)
  rw [e]
  rfl

/-- The windowed mean of group 1. -/
theorem v47_apply (b : Fin 8) (t : Fin 2048) (k : Fin 256) :
    val_main_v47 (F := Ideal) x0 x3 (ix3 b t k)
      = Ideal.div (back (fun n => val_main_v18 (F := Ideal) x0 x3 (ix3 b ⟨15 - n + t.val, by omega⟩ (gcol 1 k))) 3)
          (count 4#32 (val_main_v21 (F := Ideal) (ix1 t))) := by
  unfold val_main_v47 val_main_v46 val_main_v45 val_main_v44 val_main_v43 val_main_v42 val_main_v41 val_main_v40 val_main_v39 val_main_v38 val_main_v37 val_main_v36 val_main_v35 val_main_v34 val_main_v33 val_main_c_5 val_main_c_6
  generalize val_main_v18 (F := Ideal) x0 x3 = y
  generalize val_main_v21 (F := Ideal) = q
  pointwise
  rfl

/-- The windowed mean of group 2. -/
theorem v70_apply (b : Fin 8) (t : Fin 2048) (k : Fin 256) :
    val_main_v70 (F := Ideal) x0 x3 (ix3 b t k)
      = Ideal.div (back (fun n => val_main_v18 (F := Ideal) x0 x3 (ix3 b ⟨15 - n + t.val, by omega⟩ (gcol 2 k))) 7)
          (count 8#32 (val_main_v21 (F := Ideal) (ix1 t))) := by
  unfold val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_c_7 val_main_c_8
  generalize val_main_v18 (F := Ideal) x0 x3 = y
  generalize val_main_v21 (F := Ideal) = q
  pointwise
  rfl

/-- The windowed mean of group 3. -/
theorem v109_apply (b : Fin 8) (t : Fin 2048) (k : Fin 256) :
    val_main_v109 (F := Ideal) x0 x3 (ix3 b t k)
      = Ideal.div (back (fun n => val_main_v18 (F := Ideal) x0 x3 (ix3 b ⟨15 - n + t.val, by omega⟩ (gcol 3 k))) 15)
          (count 16#32 (val_main_v21 (F := Ideal) (ix1 t))) := by
  unfold val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_c_9 val_main_c_10
  generalize val_main_v18 (F := Ideal) x0 x3 = y
  generalize val_main_v21 (F := Ideal) = q
  pointwise
  have e : (⟨t.val, by omega⟩ : Fin 2063) = ⟨15 - 15 + t.val, by omega⟩ := Fin.ext (by show t.val = 15 - 15 + t.val; omega)
  rw [e]
  rfl

/-- The four groups, one after the other. -/
theorem v114_apply (b : Fin 8) (t : Fin 2048) (g : Fin 4) (k : Fin 256) :
    val_main_v114 (F := Ideal) x0 x3 (ix4 b t g k)
      = Ideal.div (back (fun n => before (fun t c => val_main_v15 (F := Ideal) x0 x3 (ix3 b t c)) t n (gcol g k)) (reach g))
          (count (window g) (BitVec.ofNat 32 t.val)) := by
  have e : back (fun n => before (fun t c => val_main_v15 (F := Ideal) x0 x3 (ix3 b t c)) t n (gcol g k)) (reach g)
      = back (fun n => val_main_v18 (F := Ideal) x0 x3 (ix3 b ⟨15 - n + t.val, by omega⟩ (gcol g k))) (reach g) :=
    back_congr _ _ _ fun n hn => (v18_apply x0 x3 b t n (hn.trans (reach_le g)) (gcol g k)).symm
  rw [e, ← v21_apply]
  match g with
  | 0 => refine Eq.trans ?_ (v32_apply x0 x3 b t k)
         unfold val_main_v114
         pointwise [val_main_v110]
  | 1 => refine Eq.trans ?_ (v47_apply x0 x3 b t k)
         unfold val_main_v114
         pointwise [val_main_v111]
  | 2 => refine Eq.trans ?_ (v70_apply x0 x3 b t k)
         unfold val_main_v114
         pointwise [val_main_v112]
  | 3 => refine Eq.trans ?_ (v109_apply x0 x3 b t k)
         unfold val_main_v114
         pointwise [val_main_v113]

/-- The windowed mean less the row's own entry. -/
theorem v116_apply (b : Fin 8) (t : Fin 2048) (g : Fin 4) (k : Fin 256) :
    val_main_v116 (F := Ideal) x0 x3 (ix4 b t g k)
      = pooled (fun n => before (fun t c => val_main_v15 (F := Ideal) x0 x3 (ix3 b t c)) t n (gcol g k)) (reach g) (window g) (BitVec.ofNat 32 t.val) := by
  unfold pooled
  rw [← v114_apply]
  unfold val_main_v116
  generalize val_main_v114 (F := Ideal) x0 x3 = y
  unfold val_main_v115 before
  generalize val_main_v15 (F := Ideal) x0 x3 = z
  pointwise
  rfl

/-- The mixer's products, scaled. -/
theorem v122_apply (b : Fin 8) (t : Fin 2048) (c : Fin 1024) :
    val_main_v122 (F := Ideal) x0 x1 x2 x3 (ix3 b t c)
      = mix (before (fun t c => val_main_v15 (F := Ideal) x0 x3 (ix3 b t c)) t) (BitVec.ofNat 32 t.val) (fun g k j => x1 (ix4 0 g k j)) (fun c => x2 (ix2 0 c)) c := by
  unfold mix mixed
  simp only [← v116_apply]
  unfold val_main_v122 val_main_v119 val_main_v118 val_main_v117
  generalize val_main_v116 (F := Ideal) x0 x3 = y
  pointwise [val_main_v121, val_main_v120, val_main_v17, val_main_v16, dot_S4x256x256_S8x2048x4x256_S4x256x8x2048_1_3_2_01_0_2]
  have e : (c : Fin 1024) = gcol ⟨c.val / 256, by omega⟩ ⟨c.val % 256, by omega⟩ := Fin.ext (by show c.val = c.val / 256 * 256 + c.val % 256; omega)
  exact congrArg₂ (fun a b : EReal => a * b) (Finset.sum_congr rfl fun k _ => mul_comm _ _) (congrArg (fun q => x2 (ix2 0 q)) e)

/-- The mixer's residual. -/
theorem v139_apply (b : Fin 8) (t : Fin 2048) (c : Fin 1024) :
    val_main_v139 (F := Ideal) x0 x1 x2 x3 x4 (ix3 b t c)
      = mixer (fun k => x0 (ix3 b t k)) (fun k => x4 (ix2 0 k)) (before (fun t c => val_main_v15 (F := Ideal) x0 x3 (ix3 b t c)) t)
          (BitVec.ofNat 32 t.val) (fun g k j => x1 (ix4 0 g k j)) (fun c => x2 (ix2 0 c)) c := by
  have e : mix (before (fun t c => val_main_v15 (F := Ideal) x0 x3 (ix3 b t c)) t) (BitVec.ofNat 32 t.val) (fun g k j => x1 (ix4 0 g k j)) (fun c => x2 (ix2 0 c))
      = fun c => val_main_v122 (F := Ideal) x0 x1 x2 x3 (ix3 b t c) := funext fun c => (v122_apply x0 x1 x2 x3 b t c).symm
  unfold mixer
  rw [e]
  unfold val_main_v139 val_main_v138 val_main_v135 val_main_v134 val_main_v133 val_main_v132 val_main_v130 val_main_v128 val_main_v127 val_main_v126
  generalize val_main_v122 (F := Ideal) x0 x1 x2 x3 = y
  pointwise [val_main_v137, val_main_v136, val_main_v131, val_main_v129, val_main_v125, val_main_v124, val_main_cst_11, val_main_cst_12, val_main_cst_13]
  rfl

/-- The normed row the feed-forward block reads. -/
theorem v154_apply (b : Fin 8) (t : Fin 2048) (c : Fin 1024) :
    val_main_v154 (F := Ideal) x0 x1 x2 x3 x4 x5 (ix3 b t c)
      = rmsn (fun k => val_main_v139 (F := Ideal) x0 x1 x2 x3 x4 (ix3 b t k)) (fun k => x5 (ix2 0 k)) c := by
  unfold val_main_v154 val_main_v151 val_main_v150 val_main_v149 val_main_v148 val_main_v146 val_main_v144 val_main_v143 val_main_v142
  generalize val_main_v139 (F := Ideal) x0 x1 x2 x3 x4 = y
  pointwise [val_main_v153, val_main_v152, val_main_v147, val_main_v145, val_main_v141, val_main_v140, val_main_cst_14, val_main_cst_15, val_main_cst_16]
  rfl

/-- The gate's product. -/
theorem v161_apply (b : Fin 8) (t : Fin 2048) (j : Fin 2816) :
    val_main_v161 (F := Ideal) x0 x1 x2 x3 x4 x5 x7 (ix3 b t j)
      = dot (fun k => val_main_v154 (F := Ideal) x0 x1 x2 x3 x4 x5 (ix3 b t k)) (fun k j => x7 (ix3 0 k j)) j := by
  unfold val_main_v161
  generalize val_main_v154 (F := Ideal) x0 x1 x2 x3 x4 x5 = y
  pointwise [val_main_v156, val_main_v155, dot_S8x2048x1024_S1024x2816_S8x2048x2816_2_0_01_1_n_n]
  rfl

/-- The gated activations. -/
theorem v164_apply (b : Fin 8) (t : Fin 2048) (j : Fin 2816) :
    val_main_v164 (F := Ideal) x0 x1 x2 x3 x4 x5 x7 x8 (ix3 b t j)
      = act (fun k => val_main_v154 (F := Ideal) x0 x1 x2 x3 x4 x5 (ix3 b t k)) (fun k j => x7 (ix3 0 k j)) (fun k j => x8 (ix3 0 k j)) j := by
  unfold act
  rw [← v161_apply]
  unfold val_main_v164 val_main_v162 val_main_call0_v5 val_main_call0_v3 val_main_call0_v1 val_main_call0_v0 val_main_v163
  generalize val_main_v161 (F := Ideal) x0 x1 x2 x3 x4 x5 x7 = g
  generalize val_main_v154 (F := Ideal) x0 x1 x2 x3 x4 x5 = y
  pointwise [val_main_call0_v4, val_main_call0_v2, val_main_call0_cst, val_main_call0_cst_0, val_main_v158, val_main_v157, dot_S8x2048x1024_S1024x2816_S8x2048x2816_2_0_01_1_n_n]
  rfl

/-- The layer's result: the feed-forward block of the row's mixer. -/
theorem v181_apply (b : Fin 8) (t : Fin 2048) (c : Fin 1024) :
    val_main_v181 (F := Ideal) x0 x1 x2 x3 x4 x5 x6 x7 x8 x9 (ix3 b t c)
      = ffn (fun k => val_main_v139 (F := Ideal) x0 x1 x2 x3 x4 (ix3 b t k)) (fun k => x5 (ix2 0 k)) (fun k => x6 (ix2 0 k))
          (fun k j => x7 (ix3 0 k j)) (fun k j => x8 (ix3 0 k j)) (fun k j => x9 (ix3 0 k j)) c := by
  unfold ffn
  have e1 : rmsn (fun k => val_main_v139 (F := Ideal) x0 x1 x2 x3 x4 (ix3 b t k)) (fun k => x5 (ix2 0 k))
      = fun k => val_main_v154 (F := Ideal) x0 x1 x2 x3 x4 x5 (ix3 b t k) := funext fun k => (v154_apply x0 x1 x2 x3 x4 x5 b t k).symm
  have e2 : act (fun k => val_main_v154 (F := Ideal) x0 x1 x2 x3 x4 x5 (ix3 b t k)) (fun k j => x7 (ix3 0 k j)) (fun k j => x8 (ix3 0 k j))
      = fun j => val_main_v164 (F := Ideal) x0 x1 x2 x3 x4 x5 x7 x8 (ix3 b t j) := funext fun j => (v164_apply x0 x1 x2 x3 x4 x5 x7 x8 b t j).symm
  rw [e1, e2]
  unfold val_main_v181 val_main_v180 val_main_v177 val_main_v176 val_main_v175 val_main_v174 val_main_v172 val_main_v170 val_main_v169 val_main_v168 val_main_v165
  generalize val_main_v164 (F := Ideal) x0 x1 x2 x3 x4 x5 x7 x8 = a
  generalize val_main_v139 (F := Ideal) x0 x1 x2 x3 x4 = y
  pointwise [val_main_v179, val_main_v178, val_main_v173, val_main_v171, val_main_v167, val_main_v166, val_main_v160, val_main_v159, val_main_cst_17, val_main_cst_18, val_main_cst_19, dot_S8x2048x2816_S2816x1024_S8x2048x1024_2_0_01_1_n_n]
  rfl

/-- The state: the sequence's last fifteen normed rows. -/
theorem v123_apply (b : Fin 8) (r : Fin 15) (c : Fin 1024) :
    val_main_v123 (F := Ideal) x0 x3 (ix3 b r c)
      = rmsn (fun k => x0 (ix3 b ⟨2033 + r.val, by omega⟩ k)) (fun k => x3 (ix2 0 k)) c := by
  rw [← v15_apply]
  have e : val_main_v123 (F := Ideal) x0 x3 (ix3 b r c) = val_main_v18 (F := Ideal) x0 x3 (ix3 b ⟨15 - 0 + (2033 + r.val), by omega⟩ c) := by
    unfold val_main_v123
    generalize val_main_v18 (F := Ideal) x0 x3 = y
    pointwise
    exact congrArg (fun q => y (ix3 b q c)) (Fin.ext (by show 2048 + r.val = 15 - 0 + (2033 + r.val); omega))
  rw [e]
  refine (v18_apply x0 x3 b ⟨2033 + r.val, by omega⟩ 0 (by omega) c).trans ?_
  unfold before
  rw [if_pos (Nat.zero_le _)]
  rfl

end Cert.MixerRow

end
-- ==== Proof.MixerClaims.lean ====
/-
  The claims about the prompt group's mixer call (pooling mixer and first feed-forward block): the frames, and the values.
-/
module

public import proofs.«01_k».proof.Defs
public import proofs.«01_k».proof.Proof.MixerFrame
public import proofs.«01_k».proof.Proof.MixerValue
public import proofs.«01_k».proof.Proof.MixerRow
public import proofs.«01_k».proof.Proof.Gen.MixerRefIdeal.Run
public import Idealize.ShloMosaic.Adequacy
public import Idealize.ShloMosaic.Init

@[expose] public section

set_option maxRecDepth 16384

noncomputable section

namespace Cert.MixerClaims

open Idealize.ShloMosaic Idealize.SL.Sem Idealize.ShloMosaic.TcCoe Cert.Rows

/-- The printed program ends, keeps its arguments and leaves its counters at zero. -/
theorem frame_p : Cert.quiescent_Mixer := fun m g _ => Cert.Mixer.Track.frame m g

/-- So does its reading over the extended reals. -/
theorem frame_pi : Cert.quiescent_MixerIdeal := fun m g _ => Cert.MixerIdeal.Track.frame m g

/-- So does the reference. -/
theorem frame_ri : Cert.quiescent_MixerRefIdeal := fun m g _ =>
  (θ_run Cert.MixerRefIdeal.defs _ _).mono (fun r h => ⟨fun c => (h c).2.2,
      Idealize.ShloMosaic.sem_eq_zero_of_no_sems (by decide) r.2⟩)
    (Cert.MixerRefIdeal.Value.run (F := Ideal) m g)

/-- The reading rewrites nothing. -/
theorem preserves : Cert.preserves_Mixer_MixerIdeal := trivial

variable (m : (ℓ : Loc Cert.MixerIdeal.nD Cert.MixerIdeal.τ Cert.MixerIdeal.sig) → Buf (Elt Ideal) ℓ) (c : Dev Cert.MixerIdeal.nD)

/-- An element of the reference's mixer. -/
theorem mixed_row (b : Fin 8) (p : Fin 2048) (k : Fin 1024) :
    Cert.MixerRefIdeal.Read.val_main_v139 (F := Ideal) (m ((c : Thread Cert.MixerIdeal.nD Cert.MixerIdeal.τ).loc Cert.MixerIdeal.main_arg0)) (m ((c : Thread Cert.MixerIdeal.nD Cert.MixerIdeal.τ).loc Cert.MixerIdeal.main_arg1)) (m ((c : Thread Cert.MixerIdeal.nD Cert.MixerIdeal.τ).loc Cert.MixerIdeal.main_arg2)) (m ((c : Thread Cert.MixerIdeal.nD Cert.MixerIdeal.τ).loc Cert.MixerIdeal.main_arg3)) (m ((c : Thread Cert.MixerIdeal.nD Cert.MixerIdeal.τ).loc Cert.MixerIdeal.main_arg4)) (ix3 b p k) = Cert.MixerStep.mixed0 m c b p k := by
  have h15 : (fun t c' => Cert.MixerRefIdeal.Read.val_main_v15 (F := Ideal) (m ((c : Thread Cert.MixerIdeal.nD Cert.MixerIdeal.τ).loc Cert.MixerIdeal.main_arg0)) (m ((c : Thread Cert.MixerIdeal.nD Cert.MixerIdeal.τ).loc Cert.MixerIdeal.main_arg3)) (ix3 b t c')) = Cert.MixerStep.normed m c b :=
    funext fun t => funext fun c' => Cert.MixerRow.v15_apply _ _ b t c'
  refine (Cert.MixerRow.v139_apply _ _ _ _ _ b p k).trans ?_
  rw [h15]
  rfl

/-- An element of the reference's first result. -/
theorem layer_row (b : Fin 8) (p : Fin 2048) (k : Fin 1024) :
    Cert.MixerRefIdeal.Read.val_main_v181 (F := Ideal) (m ((c : Thread Cert.MixerIdeal.nD Cert.MixerIdeal.τ).loc Cert.MixerIdeal.main_arg0)) (m ((c : Thread Cert.MixerIdeal.nD Cert.MixerIdeal.τ).loc Cert.MixerIdeal.main_arg1)) (m ((c : Thread Cert.MixerIdeal.nD Cert.MixerIdeal.τ).loc Cert.MixerIdeal.main_arg2)) (m ((c : Thread Cert.MixerIdeal.nD Cert.MixerIdeal.τ).loc Cert.MixerIdeal.main_arg3)) (m ((c : Thread Cert.MixerIdeal.nD Cert.MixerIdeal.τ).loc Cert.MixerIdeal.main_arg4)) (m ((c : Thread Cert.MixerIdeal.nD Cert.MixerIdeal.τ).loc Cert.MixerIdeal.main_arg5)) (m ((c : Thread Cert.MixerIdeal.nD Cert.MixerIdeal.τ).loc Cert.MixerIdeal.main_arg6)) (m ((c : Thread Cert.MixerIdeal.nD Cert.MixerIdeal.τ).loc Cert.MixerIdeal.main_arg7)) (m ((c : Thread Cert.MixerIdeal.nD Cert.MixerIdeal.τ).loc Cert.MixerIdeal.main_arg8)) (m ((c : Thread Cert.MixerIdeal.nD Cert.MixerIdeal.τ).loc Cert.MixerIdeal.main_arg9)) (ix3 b p k) = Cert.MixerStep.outRow m c b p k := by
  refine (Cert.MixerRow.v181_apply _ _ _ _ _ _ _ _ _ _ b p k).trans ?_
  rw [show (fun k' => Cert.MixerRefIdeal.Read.val_main_v139 (F := Ideal) (m ((c : Thread Cert.MixerIdeal.nD Cert.MixerIdeal.τ).loc Cert.MixerIdeal.main_arg0)) (m ((c : Thread Cert.MixerIdeal.nD Cert.MixerIdeal.τ).loc Cert.MixerIdeal.main_arg1)) (m ((c : Thread Cert.MixerIdeal.nD Cert.MixerIdeal.τ).loc Cert.MixerIdeal.main_arg2)) (m ((c : Thread Cert.MixerIdeal.nD Cert.MixerIdeal.τ).loc Cert.MixerIdeal.main_arg3)) (m ((c : Thread Cert.MixerIdeal.nD Cert.MixerIdeal.τ).loc Cert.MixerIdeal.main_arg4)) (ix3 b p k')) = Cert.MixerStep.mixed0 m c b p from
    funext fun k' => mixed_row m c b p k']
  rfl

/-- The reference's first result is the array the kernel's run leaves. -/
theorem value0 : Cert.MixerRefIdeal.Read.val_main_v181 (F := Ideal) (m ((c : Thread Cert.MixerIdeal.nD Cert.MixerIdeal.τ).loc Cert.MixerIdeal.main_arg0)) (m ((c : Thread Cert.MixerIdeal.nD Cert.MixerIdeal.τ).loc Cert.MixerIdeal.main_arg1)) (m ((c : Thread Cert.MixerIdeal.nD Cert.MixerIdeal.τ).loc Cert.MixerIdeal.main_arg2)) (m ((c : Thread Cert.MixerIdeal.nD Cert.MixerIdeal.τ).loc Cert.MixerIdeal.main_arg3)) (m ((c : Thread Cert.MixerIdeal.nD Cert.MixerIdeal.τ).loc Cert.MixerIdeal.main_arg4)) (m ((c : Thread Cert.MixerIdeal.nD Cert.MixerIdeal.τ).loc Cert.MixerIdeal.main_arg5)) (m ((c : Thread Cert.MixerIdeal.nD Cert.MixerIdeal.τ).loc Cert.MixerIdeal.main_arg6)) (m ((c : Thread Cert.MixerIdeal.nD Cert.MixerIdeal.τ).loc Cert.MixerIdeal.main_arg7)) (m ((c : Thread Cert.MixerIdeal.nD Cert.MixerIdeal.τ).loc Cert.MixerIdeal.main_arg8)) (m ((c : Thread Cert.MixerIdeal.nD Cert.MixerIdeal.τ).loc Cert.MixerIdeal.main_arg9)) = Cert.MixerValue.result m c := by
  funext i
  have hi : i = ix3 (i 0) (i 1) (i 2) := by
    funext a
    match a with
    | ⟨0, _⟩ => rfl
    | ⟨1, _⟩ => rfl
    | ⟨2, _⟩ => rfl
  exact (congrArg _ hi).trans (layer_row m c (i 0) (i 1) (i 2))

/-- The reference's state is the array the kernel's run leaves. -/
theorem value1 : Cert.MixerRefIdeal.Read.val_main_v123 (F := Ideal) (m ((c : Thread Cert.MixerIdeal.nD Cert.MixerIdeal.τ).loc Cert.MixerIdeal.main_arg0)) (m ((c : Thread Cert.MixerIdeal.nD Cert.MixerIdeal.τ).loc Cert.MixerIdeal.main_arg3)) = Cert.MixerValue.state m c := by
  funext i
  have hi : i = ix3 (i 0) (i 1) (i 2) := by
    funext a
    match a with
    | ⟨0, _⟩ => rfl
    | ⟨1, _⟩ => rfl
    | ⟨2, _⟩ => rfl
  exact (congrArg _ hi).trans (Cert.MixerRow.v123_apply _ _ (i 0) (i 1) (i 2))

/-- The kernel's results are the reference's, element by element over the extended reals. -/
theorem algebraic : Cert.algebraic_MixerIdeal_MixerRefIdeal := by
  intro m g m' g' _ hagree
  refine ⟨fun c => Cert.MixerValue.result m c, fun c => Cert.MixerValue.state m c,
    (θ_run Cert.MixerIdeal.defs _ _).mono (fun r h c => ?_) (Cert.MixerIdeal.Track.run_blocks m g),
    (θ_run Cert.MixerRefIdeal.defs _ _).mono (fun r h c => ?_) (Cert.MixerRefIdeal.Value.run (F := Ideal) m' g')⟩
  · exact ⟨(h.1 c).1.trans (Cert.MixerValue.final11 m c), (h.1 c).2.trans (Cert.MixerValue.final12 m c), h.2 c⟩
  · obtain ⟨e0, e1, hk⟩ := h c
    obtain ⟨h0, h1, h2, h3, h4, h5, h6, h7, h8, h9⟩ := hagree c
    refine ⟨e0.trans ?_, e1.trans ?_, hk⟩
    · refine (Cert.MixerRefIdeal.Read.val_main_v181_eq _).trans ?_
      show Cert.MixerRefIdeal.Read.val_main_v181 (F := Ideal) (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg1)) (m' ((c.tc : Thread Cert.MixerRefIdeal.nD Cert.MixerRefIdeal.τ).loc Cert.MixerRefIdeal.main_arg2)) (m' ((c.tc : Thread Cert.MixerRefIdeal.nD Cert.MixerRefIdeal.τ).loc Cert.MixerRefIdeal.main_arg3)) (m' ((c.tc : Thread Cert.MixerRefIdeal.nD Cert.MixerRefIdeal.τ).loc Cert.MixerRefIdeal.main_arg4)) (m' ((c.tc : Thread Cert.MixerRefIdeal.nD Cert.MixerRefIdeal.τ).loc Cert.MixerRefIdeal.main_arg5)) (m' ((c.tc : Thread Cert.MixerRefIdeal.nD Cert.MixerRefIdeal.τ).loc Cert.MixerRefIdeal.main_arg6)) (m' ((c.tc : Thread Cert.MixerRefIdeal.nD Cert.MixerRefIdeal.τ).loc Cert.MixerRefIdeal.main_arg7)) (m' ((c.tc : Thread Cert.MixerRefIdeal.nD Cert.MixerRefIdeal.τ).loc Cert.MixerRefIdeal.main_arg8)) (m' ((c.tc : Thread Cert.MixerRefIdeal.nD Cert.MixerRefIdeal.τ).loc Cert.MixerRefIdeal.main_arg9)) = _
      rw [h0, h1, h2, h3, h4, h5, h6, h7, h8, h9]
      exact value0 m c
    · refine (Cert.MixerRefIdeal.Read.val_main_v123_eq _).trans ?_
      show Cert.MixerRefIdeal.Read.val_main_v123 (F := Ideal) (m' ((c.tc : Thread Cert.MixerRefIdeal.nD Cert.MixerRefIdeal.τ).loc Cert.MixerRefIdeal.main_arg0)) (m' ((c.tc : Thread Cert.MixerRefIdeal.nD Cert.MixerRefIdeal.τ).loc Cert.MixerRefIdeal.main_arg3)) = _
      rw [h0, h3]
      exact value1 m c

end Cert.MixerClaims

end
-- ==== Proof.MixerSRead.lean ====
/-
  Reading the sample group's extended rows: a sequence's rows are the fifteen rows of its state before followed by its four normed
  rows, and the rows kept for the next step are the last fifteen of these.
-/
module

public import proofs.«01_k».proof.Proof.RowMath
public import proofs.«01_k».proof.Proof.Gen.MixerSIdeal.Value
public import Idealize.ShloMosaic.PureOps.Ideal

@[expose] public section

set_option maxRecDepth 16384

noncomputable section

namespace Cert.MixerSRead

open Idealize.ShloMosaic Idealize.SL.Sem Cert.MixerSIdeal Cert.MixerSIdeal.Gen Idealize.ShloMosaic.TcCoe Cert.Rows

/-- The last fifteen rows of a sequence's old state and its normed rows. -/
def kept (p : Fin 15 → Fin 1024 → EReal) (h : Fin 4 → Fin 1024 → EReal) (r : Fin 15) (k : Fin 1024) : EReal :=
  if hr : r.val < 11 then p ⟨r.val + 4, by omega⟩ k else h ⟨r.val - 11, by omega⟩ k

section Rows

variable (J : ℕ) (inb0 : ∀ a, (![J, 0, 0] : Fin 3 → ℕ) a + S1x20x1024.size a ≤ S8x20x1024.size a)

/-- The rows a sequence's normed rows are stored to. -/
def fresh : Rect S8x20x1024 :=
  (Rect.unit (s := S8x20x1024) ![J, 0, 0] S1x20x1024.size inb0).within
    ((Rect.unit (s := S20x1024) ![16, 0] S4x1024.size inb_S20x1024_S4x1024_16_0).consLift ![1, 20, 1024] rfl (fun _ => rfl)) (fun _ => rfl)

/-- The rows its old state is stored to. -/
def old : Rect S8x20x1024 :=
  (Rect.unit (s := S8x20x1024) ![J, 0, 0] S1x20x1024.size inb0).within
    ((Rect.unit (s := S20x1024) ![1, 0] S15x1024.size inb_S20x1024_S15x1024_1_0).consLift ![1, 20, 1024] rfl (fun _ => rfl)) (fun _ => rfl)

/-- The rows its new state is read from. -/
def last : LoadRect S8x20x1024 :=
  (Rect.unit (s := S8x20x1024) ![J, 0, 0] S1x20x1024.size inb0).withinL
    ((Rect.unit (s := S20x1024) ![5, 0] S15x1024.size inb_S20x1024_S15x1024_5_0).toLoadRect.consLift ![1, 20, 1024] rfl (fun _ => rfl)) (fun _ => rfl)

theorem last_idx (hJ : J < 8) (hV : S15x1024.numel = (last J inb0).shape.numel) (r : Fin 15) (k : Fin 1024) :
    (last J inb0).idx (Shape.reshapeEquiv hV (ix2 r k)) = (ix3 ⟨J, hJ⟩ ⟨5 + r.val, by omega⟩ k : S8x20x1024.Idx) := by
  have hx : Shape.reshapeEquiv hV (ix2 r k : S15x1024.Idx) = (Fin.cons ⟨0, Nat.one_pos⟩ (ix2 r k : S15x1024.Idx) : (last J inb0).shape.Idx) :=
    Shape.reshapeEquiv_cons_one (d := S15x1024.size) hV _
  rw [hx]
  funext a
  apply Fin.ext
  match a with
  | ⟨0, _⟩ => show J + 0 + 1 * 0 = J; omega
  | ⟨1, _⟩ => show 0 + 5 + 1 * r.val = 5 + r.val; omega
  | ⟨2, _⟩ => show 0 + 0 + 1 * k.val = k.val; omega

theorem fresh_emb (hJ : J < 8) (q : Fin 4) (k : Fin 1024) :
    (ix3 ⟨J, hJ⟩ ⟨16 + q.val, by omega⟩ k : S8x20x1024.Idx)
      = (fresh J inb0).emb (Fin.cons ⟨0, Nat.one_pos⟩ (ix2 q k : S4x1024.Idx) : (fresh J inb0).shape.Idx) := by
  funext a
  apply Fin.ext
  match a with
  | ⟨0, _⟩ => show J = J + 0 + 1 * 0; omega
  | ⟨1, _⟩ => show 16 + q.val = 0 + 16 + 1 * q.val; omega
  | ⟨2, _⟩ => show k.val = 0 + 0 + 1 * k.val; omega

theorem old_emb (hJ : J < 8) (q : Fin 15) (k : Fin 1024) :
    (ix3 ⟨J, hJ⟩ ⟨1 + q.val, by omega⟩ k : S8x20x1024.Idx)
      = (old J inb0).emb (Fin.cons ⟨0, Nat.one_pos⟩ (ix2 q k : S15x1024.Idx) : (old J inb0).shape.Idx) := by
  funext a
  apply Fin.ext
  match a with
  | ⟨0, _⟩ => show J = J + 0 + 1 * 0; omega
  | ⟨1, _⟩ => show 1 + q.val = 0 + 1 + 1 * q.val; omega
  | ⟨2, _⟩ => show k.val = 0 + 0 + 1 * k.val; omega

theorem not_fresh (hJ : J < 8) (o : ℕ) (ho : o < 16) (k : Fin 1024) :
    (ix3 ⟨J, hJ⟩ ⟨o, by omega⟩ k : S8x20x1024.Idx) ∉ (fresh J inb0).set := by
  intro h
  obtain ⟨j, hj, e⟩ := (LoadRect.mem_set (fresh J inb0).toLoadRect).mp h 1
  have e' : o = 0 + 16 + 1 * j := e
  omega

/-- The new state, from the two last stores. -/
theorem last_read {κ : Kind} {sp : Space} (hJ : J < 8) (v : View sig κ sp S8x20x1024 .f32)
    (hF : (fresh J inb0).shape.numel = S4x1024.numel) (hO : (old J inb0).shape.numel = S15x1024.numel)
    (hV : S15x1024.numel = (last J inb0).shape.numel)
    (h : Vec Ideal S4x1024 .f32) (p : Vec Ideal S15x1024 .f32) (L : List (View.Piece (Elt Ideal) S8x20x1024 .f32)) (r : Fin 15) (k : Fin 1024) :
    (v.readCov ((⟨fresh J inb0, fun y => h (Shape.reshapeEquiv hF y)⟩ : View.Piece (Elt Ideal) S8x20x1024 .f32)
          :: (⟨old J inb0, fun y => p (Shape.reshapeEquiv hO y)⟩ : View.Piece (Elt Ideal) S8x20x1024 .f32) :: L) (last J inb0))
        (Shape.reshapeEquiv hV (ix2 r k))
      = kept (fun q k => p (ix2 q k)) (fun q k => h (ix2 q k)) r k := by
  rw [View.readCov_eq_canon']
  dsimp only
  rw [last_idx J inb0 hJ hV r k]
  unfold kept
  split
  · rename_i hr
    have hn : (ix3 ⟨J, hJ⟩ ⟨5 + r.val, by omega⟩ k : S8x20x1024.Idx) ∉ (fresh J inb0).set := not_fresh J inb0 hJ (5 + r.val) (by omega) k
    rw [View.canon_cons_of_not_mem (⟨fresh J inb0, fun y => h (Shape.reshapeEquiv hF y)⟩ : View.Piece (Elt Ideal) S8x20x1024 .f32) _ hn]
    have e : (ix3 ⟨J, hJ⟩ ⟨5 + r.val, by omega⟩ k : S8x20x1024.Idx) = ix3 ⟨J, hJ⟩ ⟨1 + (r.val + 4), by omega⟩ k :=
      congrArg (fun q => (ix3 ⟨J, hJ⟩ q k : S8x20x1024.Idx)) (Fin.ext (by show 5 + r.val = 1 + (r.val + 4); omega))
    rw [e, old_emb J inb0 hJ ⟨r.val + 4, by omega⟩ k, View.canon_cons_emb]
    refine congrArg p ?_
    have := Shape.reshapeEquiv_cons_one (d := S15x1024.size) hO.symm (ix2 ⟨r.val + 4, by omega⟩ k : S15x1024.Idx)
    rw [← Shape.reshapeEquiv_symm] at this
    exact ((Equiv.symm_apply_eq _).mp this).symm
  · rename_i hr
    have e : (ix3 ⟨J, hJ⟩ ⟨5 + r.val, by omega⟩ k : S8x20x1024.Idx) = ix3 ⟨J, hJ⟩ ⟨16 + (r.val - 11), by omega⟩ k :=
      congrArg (fun q => (ix3 ⟨J, hJ⟩ q k : S8x20x1024.Idx)) (Fin.ext (by show 5 + r.val = 16 + (r.val - 11); omega))
    rw [e, fresh_emb J inb0 hJ ⟨r.val - 11, by omega⟩ k, View.canon_cons_emb]
    refine congrArg h ?_
    have := Shape.reshapeEquiv_cons_one (d := S4x1024.size) hF.symm (ix2 ⟨r.val - 11, by omega⟩ k : S4x1024.Idx)
    rw [← Shape.reshapeEquiv_symm] at this
    exact ((Equiv.symm_apply_eq _).mp this).symm

end Rows

/-! ## The state's buffer -/

/-- A sequence's rows in the state's buffer, just stored. -/
theorem state_here (j : ℕ) (hj : j < 8) (inb : ∀ a, (![j, 0, 0] : Fin 3 → ℕ) a + (![1, 15, 1024] : Fin 3 → ℕ) a ≤ S8x15x1024.size a)
    (w : Vec Ideal S1x15x1024 .f32) (L : List (View.Piece (Elt Ideal) S8x15x1024 .f32)) (r : Fin 15) (k : Fin 1024) :
    View.canon ((⟨Rect.unit (s := S8x15x1024) ![j, 0, 0] ![1, 15, 1024] inb, w⟩ : View.Piece (Elt Ideal) S8x15x1024 .f32) :: L) (ix3 ⟨j, hj⟩ r k)
      = w (ix3 0 r k) := by
  have e : (ix3 ⟨j, hj⟩ r k : S8x15x1024.Idx) = (Rect.unit (s := S8x15x1024) ![j, 0, 0] ![1, 15, 1024] inb).emb (ix3 0 r k) := by
    funext a
    apply Fin.ext
    match a with
    | ⟨0, _⟩ => show j = j + 1 * 0; omega
    | ⟨1, _⟩ => show r.val = 0 + 1 * r.val; omega
    | ⟨2, _⟩ => show k.val = 0 + 1 * k.val; omega
  rw [e, View.canon_cons_emb]

/-- Another sequence's store leaves it. -/
theorem state_skip (j : ℕ) (b : Fin 8) (hb : b.val ≠ j) (inb : ∀ a, (![j, 0, 0] : Fin 3 → ℕ) a + (![1, 15, 1024] : Fin 3 → ℕ) a ≤ S8x15x1024.size a)
    (w : Vec Ideal S1x15x1024 .f32) (L : List (View.Piece (Elt Ideal) S8x15x1024 .f32)) (r : Fin 15) (k : Fin 1024) :
    View.canon ((⟨Rect.unit (s := S8x15x1024) ![j, 0, 0] ![1, 15, 1024] inb, w⟩ : View.Piece (Elt Ideal) S8x15x1024 .f32) :: L) (ix3 b r k)
      = View.canon L (ix3 b r k) :=
  View.canon_cons_of_not_mem _ _ fun h => by
    have h1 : j ≤ b.val ∧ b.val < j + 1 := (Rect.mem_set_unit (s := S8x15x1024) (inb := inb)).mp h 0
    omega

/-! ## What is stored -/

variable (x : Vec Ideal S1x4x1024 .f32) (g : Vec Ideal S1x1024 .f32) (p : Vec Ideal S1x15x1024 .f32) (w : Vec Ideal S15x1024 .f32)

theorem norm_apply (q : Fin 4) (k : Fin 1024) : k0_pay8 x g (ix2 q k) = rmsn (fun k => x (ix3 0 q k)) (fun k => g (ix2 0 k)) k := by
  pointwise [k0_pay8, k0_pay7, k0_pay6]
  rfl

theorem old_apply (q : Fin 15) (k : Fin 1024) : k0_pay5 p (ix2 q k) = p (ix3 0 q k) := by
  pointwise [k0_pay5]

theorem row_apply (r : Fin 15) (k : Fin 1024) : k0_pay2 w (ix3 0 r k) = w (ix2 r k) := by
  pointwise [k0_pay2]

end Cert.MixerSRead

end
-- ==== Proof.MixerSValue.lean ====
/-
  The state the sample group's pooling mixer leaves, element by element over the extended reals: for every sequence the last
  fifteen of its rows before and its four normed rows.
-/
module

public import proofs.«01_k».proof.Proof.MixerSRead

@[expose] public section

set_option maxRecDepth 16384

noncomputable section

namespace Cert.MixerSValue

open Idealize.ShloMosaic Idealize.SL.Sem Cert.MixerSIdeal Cert.MixerSIdeal.Gen Idealize.ShloMosaic.TcCoe Cert.Rows Cert.MixerSRead
open Idealize.ShloMosaic.Pipeline (Dat Cfg Window)

variable (m : (ℓ : Loc nD τ sig) → Buf (Elt Ideal) ℓ)

/-! ## What a grid point leaves in the state's buffer -/

/-- The rows of sequence `j` in the block of normed rows' inputs. -/
theorem read_x (t : Fin cfg0.N) (X : Vec Ideal S8x4x1024 .f32) (j : ℕ) (hj : j < 8)
    (inb : ∀ a, (![j, 0, 0] : Fin 3 → ℕ) a + S1x4x1024.size a ≤ S8x4x1024.size a) (q : Fin 4) (k : Fin 1024) :
    View.readAt (Elt Ideal) (ms0_0 t).view (Rect.unit (s := S8x4x1024) ![j, 0, 0] S1x4x1024.size inb).toLoadRect ((hs0_0 t).unread X) (ix3 0 q k)
      = X (ix3 ⟨j, hj⟩ q k) := by
  refine (congrFun ((hs0_0 t).read_unread X) _).trans (congrArg X (funext fun a => Fin.ext ?_))
  match a with
  | ⟨0, _⟩ => show j + 1 * 0 = j; omega
  | ⟨1, _⟩ => show 0 + 1 * q.val = q.val; omega
  | ⟨2, _⟩ => show 0 + 1 * k.val = k.val; omega

/-- The rows of sequence `j` in the block of old states. -/
theorem read_p (t : Fin cfg0.N) (X : Vec Ideal S8x15x1024 .f32) (j : ℕ) (hj : j < 8)
    (inb : ∀ a, (![j, 0, 0] : Fin 3 → ℕ) a + S1x15x1024.size a ≤ S8x15x1024.size a) (q : Fin 15) (k : Fin 1024) :
    View.readAt (Elt Ideal) (ms0_1 t).view (Rect.unit (s := S8x15x1024) ![j, 0, 0] S1x15x1024.size inb).toLoadRect ((hs0_1 t).unread X) (ix3 0 q k)
      = X (ix3 ⟨j, hj⟩ q k) := by
  refine (congrFun ((hs0_1 t).read_unread X) _).trans (congrArg X (funext fun a => Fin.ext ?_))
  match a with
  | ⟨0, _⟩ => show j + 1 * 0 = j; omega
  | ⟨1, _⟩ => show 0 + 1 * q.val = q.val; omega
  | ⟨2, _⟩ => show 0 + 1 * k.val = k.val; omega

/-- The gains. -/
theorem read_g (t : Fin cfg0.N) (X : Vec Ideal S1x1024 .f32)
    (inb : ∀ a, (![0, 0] : Fin 2 → ℕ) a + S1x1024.size a ≤ S1x1024.size a) (k : Fin 1024) :
    View.readAt (Elt Ideal) (ms0_4 t).view (Rect.unit (s := S1x1024) ![0, 0] S1x1024.size inb).toLoadRect ((hs0_4 t).unread X) (ix2 0 k)
      = X (ix2 0 k) := by
  refine (congrFun ((hs0_4 t).read_unread X) _).trans (congrArg X (funext fun a => Fin.ext ?_))
  match a with
  | ⟨0, _⟩ => rfl
  | ⟨1, _⟩ => show 0 + 1 * k.val = k.val; omega

theorem kept_congr {p p' : Fin 15 → Fin 1024 → EReal} {h h' : Fin 4 → Fin 1024 → EReal} (hp : ∀ q k, p q k = p' q k) (hh : ∀ q k, h q k = h' q k)
    (r : Fin 15) (k : Fin 1024) : kept p h r k = kept p' h' r k := by
  rw [funext fun q => funext (hp q), funext fun q => funext (hh q)]

/-- The new state of the block's sequence 0. -/
theorem row0 (c : Dev nD) (t : Fin cfg0.N) (r : Fin 15) (k : Fin 1024) :
    ((outsAt0 m c t).2 : Vec Ideal S8x15x1024 .f32) (ix3 0 r k)
      = kept (fun q k => (iblk m c 1 t : Vec Ideal S8x15x1024 .f32) (ix3 0 q k))
          (fun q k => rmsn (fun k => (iblk m c 0 t : Vec Ideal S8x4x1024 .f32) (ix3 0 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_skip 7 0 (by decide) _ _ _ r k).trans ?_
  refine (state_skip 6 0 (by decide) _ _ _ r k).trans ?_
  refine (state_skip 5 0 (by decide) _ _ _ r k).trans ?_
  refine (state_skip 4 0 (by decide) _ _ _ r k).trans ?_
  refine (state_skip 3 0 (by decide) _ _ _ r k).trans ?_
  refine (state_skip 2 0 (by decide) _ _ _ r k).trans ?_
  refine (state_skip 1 0 (by decide) _ _ _ r k).trans ?_
  refine (state_here 0 (by omega) _ _ _ r k).trans ?_
  refine (row_apply _ r k).trans ?_
  sl_unfold_words
  refine (last_read 0 _ (by omega) scM0_0.view _ _ _ _ _ _ r k).trans ?_
  refine kept_congr (fun q k => ?_) (fun q k => ?_) r k
  · exact (old_apply _ q k).trans (read_p t _ 0 (by omega) _ q k)
  · refine (norm_apply _ _ q k).trans ?_
    exact congrArg₂ (fun a b => rmsn a b k) (funext fun k => read_x t _ 0 (by omega) _ q k) (funext fun k => read_g t _ _ k)

/-- The new state of the block's sequence 1. -/
theorem row1 (c : Dev nD) (t : Fin cfg0.N) (r : Fin 15) (k : Fin 1024) :
    ((outsAt0 m c t).2 : Vec Ideal S8x15x1024 .f32) (ix3 1 r k)
      = kept (fun q k => (iblk m c 1 t : Vec Ideal S8x15x1024 .f32) (ix3 1 q k))
          (fun q k => rmsn (fun k => (iblk m c 0 t : Vec Ideal S8x4x1024 .f32) (ix3 1 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_skip 7 1 (by decide) _ _ _ r k).trans ?_
  refine (state_skip 6 1 (by decide) _ _ _ r k).trans ?_
  refine (state_skip 5 1 (by decide) _ _ _ r k).trans ?_
  refine (state_skip 4 1 (by decide) _ _ _ r k).trans ?_
  refine (state_skip 3 1 (by decide) _ _ _ r k).trans ?_
  refine (state_skip 2 1 (by decide) _ _ _ r k).trans ?_
  refine (state_here 1 (by omega) _ _ _ r k).trans ?_
  refine (row_apply _ r k).trans ?_
  sl_unfold_words
  refine (last_read 1 _ (by omega) scM0_0.view _ _ _ _ _ _ r k).trans ?_
  refine kept_congr (fun q k => ?_) (fun q k => ?_) r k
  · exact (old_apply _ q k).trans (read_p t _ 1 (by omega) _ q k)
  · refine (norm_apply _ _ q k).trans ?_
    exact congrArg₂ (fun a b => rmsn a b k) (funext fun k => read_x t _ 1 (by omega) _ q k) (funext fun k => read_g t _ _ k)

/-- The new state of the block's sequence 2. -/
theorem row2 (c : Dev nD) (t : Fin cfg0.N) (r : Fin 15) (k : Fin 1024) :
    ((outsAt0 m c t).2 : Vec Ideal S8x15x1024 .f32) (ix3 2 r k)
      = kept (fun q k => (iblk m c 1 t : Vec Ideal S8x15x1024 .f32) (ix3 2 q k))
          (fun q k => rmsn (fun k => (iblk m c 0 t : Vec Ideal S8x4x1024 .f32) (ix3 2 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_skip 7 2 (by decide) _ _ _ r k).trans ?_
  refine (state_skip 6 2 (by decide) _ _ _ r k).trans ?_
  refine (state_skip 5 2 (by decide) _ _ _ r k).trans ?_
  refine (state_skip 4 2 (by decide) _ _ _ r k).trans ?_
  refine (state_skip 3 2 (by decide) _ _ _ r k).trans ?_
  refine (state_here 2 (by omega) _ _ _ r k).trans ?_
  refine (row_apply _ r k).trans ?_
  sl_unfold_words
  refine (last_read 2 _ (by omega) scM0_0.view _ _ _ _ _ _ r k).trans ?_
  refine kept_congr (fun q k => ?_) (fun q k => ?_) r k
  · exact (old_apply _ q k).trans (read_p t _ 2 (by omega) _ q k)
  · refine (norm_apply _ _ q k).trans ?_
    exact congrArg₂ (fun a b => rmsn a b k) (funext fun k => read_x t _ 2 (by omega) _ q k) (funext fun k => read_g t _ _ k)

/-- The new state of the block's sequence 3. -/
theorem row3 (c : Dev nD) (t : Fin cfg0.N) (r : Fin 15) (k : Fin 1024) :
    ((outsAt0 m c t).2 : Vec Ideal S8x15x1024 .f32) (ix3 3 r k)
      = kept (fun q k => (iblk m c 1 t : Vec Ideal S8x15x1024 .f32) (ix3 3 q k))
          (fun q k => rmsn (fun k => (iblk m c 0 t : Vec Ideal S8x4x1024 .f32) (ix3 3 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_skip 7 3 (by decide) _ _ _ r k).trans ?_
  refine (state_skip 6 3 (by decide) _ _ _ r k).trans ?_
  refine (state_skip 5 3 (by decide) _ _ _ r k).trans ?_
  refine (state_skip 4 3 (by decide) _ _ _ r k).trans ?_
  refine (state_here 3 (by omega) _ _ _ r k).trans ?_
  refine (row_apply _ r k).trans ?_
  sl_unfold_words
  refine (last_read 3 _ (by omega) scM0_0.view _ _ _ _ _ _ r k).trans ?_
  refine kept_congr (fun q k => ?_) (fun q k => ?_) r k
  · exact (old_apply _ q k).trans (read_p t _ 3 (by omega) _ q k)
  · refine (norm_apply _ _ q k).trans ?_
    exact congrArg₂ (fun a b => rmsn a b k) (funext fun k => read_x t _ 3 (by omega) _ q k) (funext fun k => read_g t _ _ k)

/-- The new state of the block's sequence 4. -/
theorem row4 (c : Dev nD) (t : Fin cfg0.N) (r : Fin 15) (k : Fin 1024) :
    ((outsAt0 m c t).2 : Vec Ideal S8x15x1024 .f32) (ix3 4 r k)
      = kept (fun q k => (iblk m c 1 t : Vec Ideal S8x15x1024 .f32) (ix3 4 q k))
          (fun q k => rmsn (fun k => (iblk m c 0 t : Vec Ideal S8x4x1024 .f32) (ix3 4 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_skip 7 4 (by decide) _ _ _ r k).trans ?_
  refine (state_skip 6 4 (by decide) _ _ _ r k).trans ?_
  refine (state_skip 5 4 (by decide) _ _ _ r k).trans ?_
  refine (state_here 4 (by omega) _ _ _ r k).trans ?_
  refine (row_apply _ r k).trans ?_
  sl_unfold_words
  refine (last_read 4 _ (by omega) scM0_0.view _ _ _ _ _ _ r k).trans ?_
  refine kept_congr (fun q k => ?_) (fun q k => ?_) r k
  · exact (old_apply _ q k).trans (read_p t _ 4 (by omega) _ q k)
  · refine (norm_apply _ _ q k).trans ?_
    exact congrArg₂ (fun a b => rmsn a b k) (funext fun k => read_x t _ 4 (by omega) _ q k) (funext fun k => read_g t _ _ k)

/-- The new state of the block's sequence 5. -/
theorem row5 (c : Dev nD) (t : Fin cfg0.N) (r : Fin 15) (k : Fin 1024) :
    ((outsAt0 m c t).2 : Vec Ideal S8x15x1024 .f32) (ix3 5 r k)
      = kept (fun q k => (iblk m c 1 t : Vec Ideal S8x15x1024 .f32) (ix3 5 q k))
          (fun q k => rmsn (fun k => (iblk m c 0 t : Vec Ideal S8x4x1024 .f32) (ix3 5 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_skip 7 5 (by decide) _ _ _ r k).trans ?_
  refine (state_skip 6 5 (by decide) _ _ _ r k).trans ?_
  refine (state_here 5 (by omega) _ _ _ r k).trans ?_
  refine (row_apply _ r k).trans ?_
  sl_unfold_words
  refine (last_read 5 _ (by omega) scM0_0.view _ _ _ _ _ _ r k).trans ?_
  refine kept_congr (fun q k => ?_) (fun q k => ?_) r k
  · exact (old_apply _ q k).trans (read_p t _ 5 (by omega) _ q k)
  · refine (norm_apply _ _ q k).trans ?_
    exact congrArg₂ (fun a b => rmsn a b k) (funext fun k => read_x t _ 5 (by omega) _ q k) (funext fun k => read_g t _ _ k)

/-- The new state of the block's sequence 6. -/
theorem row6 (c : Dev nD) (t : Fin cfg0.N) (r : Fin 15) (k : Fin 1024) :
    ((outsAt0 m c t).2 : Vec Ideal S8x15x1024 .f32) (ix3 6 r k)
      = kept (fun q k => (iblk m c 1 t : Vec Ideal S8x15x1024 .f32) (ix3 6 q k))
          (fun q k => rmsn (fun k => (iblk m c 0 t : Vec Ideal S8x4x1024 .f32) (ix3 6 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_skip 7 6 (by decide) _ _ _ r k).trans ?_
  refine (state_here 6 (by omega) _ _ _ r k).trans ?_
  refine (row_apply _ r k).trans ?_
  sl_unfold_words
  refine (last_read 6 _ (by omega) scM0_0.view _ _ _ _ _ _ r k).trans ?_
  refine kept_congr (fun q k => ?_) (fun q k => ?_) r k
  · exact (old_apply _ q k).trans (read_p t _ 6 (by omega) _ q k)
  · refine (norm_apply _ _ q k).trans ?_
    exact congrArg₂ (fun a b => rmsn a b k) (funext fun k => read_x t _ 6 (by omega) _ q k) (funext fun k => read_g t _ _ k)

/-- The new state of the block's sequence 7. -/
theorem row7 (c : Dev nD) (t : Fin cfg0.N) (r : Fin 15) (k : Fin 1024) :
    ((outsAt0 m c t).2 : Vec Ideal S8x15x1024 .f32) (ix3 7 r k)
      = kept (fun q k => (iblk m c 1 t : Vec Ideal S8x15x1024 .f32) (ix3 7 q k))
          (fun q k => rmsn (fun k => (iblk m c 0 t : Vec Ideal S8x4x1024 .f32) (ix3 7 q k)) (fun k => (iblk m c 4 t : Vec Ideal S1x1024 .f32) (ix2 0 k)) k) r k := by
  unfold outsAt0 out0_A_7
  dsimp only
  rw [View.read_writes_eq_canon _ _ _ (cover0_A_7 c _ _ _ _ _ _ _ _ _ _ _ _ _ _ _ _ _ _ _ _ _ _ _ _ _ _ _ _ _ _ _ _ _ _ _ _ _ _ _ _ _ _ _)]
  unfold kernelRun0_A
  dsimp only
  refine (state_here 7 (by omega) _ _ _ r k).trans ?_
  refine (row_apply _ r k).trans ?_
  sl_unfold_words
  refine (last_read 7 _ (by omega) scM0_0.view _ _ _ _ _ _ r k).trans ?_
  refine kept_congr (fun q k => ?_) (fun q k => ?_) r k
  · exact (old_apply _ q k).trans (read_p t _ 7 (by omega) _ q k)
  · refine (norm_apply _ _ q k).trans ?_
    exact congrArg₂ (fun a b => rmsn a b k) (funext fun k => read_x t _ 7 (by omega) _ q k) (funext fun k => read_g t _ _ k)

/-- The new state of every sequence of the block. -/
theorem outs_apply (c : Dev nD) (t : Fin cfg0.N) (j : Fin 8) (r : Fin 15) (k : Fin 1024) :
    ((outsAt0 m c t).2 : Vec Ideal S8x15x1024 .f32) (ix3 j r k)
      = kept (fun q k => (iblk m c 1 t : Vec Ideal S8x15x1024 .f32) (ix3 j q k))
          (fun q k => rmsn (fun k => (iblk m c 0 t : Vec Ideal S8x4x1024 .f32) (ix3 j q k)) (fun k => (iblk m c 4 t : Vec Ideal S1x1024 .f32) (ix2 0 k)) k) r k :=
  match j with
  | ⟨0, _⟩ => row0 m c t r k
  | ⟨1, _⟩ => row1 m c t r k
  | ⟨2, _⟩ => row2 m c t r k
  | ⟨3, _⟩ => row3 m c t r k
  | ⟨4, _⟩ => row4 m c t r k
  | ⟨5, _⟩ => row5 m c t r k
  | ⟨6, _⟩ => row6 m c t r k
  | ⟨7, _⟩ => row7 m c t r k

/-! ## The blocks as parts of the arguments -/

/-- The sequence that block `t` holds as its sequence `j`. -/
def seq (t : Fin cfg0.N) (j : Fin 8) : Fin 32 := ⟨t.val * 8 + j.val, by have : cfg0.N = 4 := N_0; have := t.isLt; omega⟩

/-- The first of two stacked gains, as a row. -/
theorem gain_apply (x : FVec Ideal S2x1024 .f32) (k : Fin 1024) :
    shapeCast S1x1024 (shapeCast S1024 (extractStridedSlice S1x1024 ![0, 0] x slices_S2x1024_S1x1024_0_0) shapeCasts_S1x1024_S1024) shapeCasts_S1024_S1x1024 (ix2 0 k)
      = x (ix2 0 k) := by
  pointwise

/-- The old states with their leading axis dropped. -/
theorem states_apply (x : FVec Ideal S1x32x15x1024 .f32) (b : Fin 32) (q : Fin 15) (k : Fin 1024) :
    shapeCast S32x15x1024 x shapeCasts_S1x32x15x1024_S32x15x1024 (ix3 b q k) = x (ix4 0 b q k) := by
  pointwise

/-- The old states the region finds. -/
theorem V_states (c : Dev nD) (b : Fin 32) (q : Fin 15) (k : Fin 1024) :
    (V m c main_v0 : Vec Ideal S32x15x1024 .f32) (ix3 b q k) = (m ((c : Thread nD τ).loc main_arg1) : FVec Ideal S1x32x15x1024 .f32) (ix4 0 b q k) := by
  have e : @Eq (FVec Ideal S32x15x1024 .f32) (V m c main_v0) (shapeCast S32x15x1024 (m ((c : Thread nD τ).loc main_arg1) : FVec Ideal S1x32x15x1024 .f32) shapeCasts_S1x32x15x1024_S32x15x1024) := by
    unfold V
    after_results <;> rfl
  rw [e]
  exact states_apply _ b q k

/-- The gain row the region finds. -/
theorem V_gain (c : Dev nD) (k : Fin 1024) :
    (V m c main_v7 : Vec Ideal S1x1024 .f32) (ix2 0 k) = (m ((c : Thread nD τ).loc main_arg4) : FVec Ideal S2x1024 .f32) (ix2 0 k) := by
  have e : @Eq (FVec Ideal S1x1024 .f32) (V m c main_v7) (shapeCast S1x1024 (shapeCast S1024 (extractStridedSlice S1x1024 ![0, 0] (m ((c : Thread nD τ).loc main_arg4) : FVec Ideal S2x1024 .f32) slices_S2x1024_S1x1024_0_0) shapeCasts_S1x1024_S1024) shapeCasts_S1024_S1x1024) := by
    unfold V
    after_results <;> rfl
  rw [e]
  exact gain_apply _ k

/-- The block index of window 0 at each grid point. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The block index of window 1 at each grid point. -/
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)

/-- The block index of window 4 at each grid point. -/
theorem index4 : ∀ t : Fin cfg0.N, win0_4.index t 0 = 0 ∧ win0_4.index t 1 = 0 :=
  (by decide +kernel : ∀ t : Fin grid0.N, win0_4.index t 0 = 0 ∧ win0_4.index t 1 = 0)

/-- The block index of window 7 at each grid point. -/
theorem index7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

theorem flush7 : ∀ t : Fin cfg0.N, (cfg0.win 7).flush t = true :=
  (by decide +kernel : ∀ t : Fin grid0.N, win0_7.flush t = true)

/-- The new rows of the block's sequences. -/
theorem blk0 (c : Dev nD) (t : Fin cfg0.N) (j : Fin 8) (q : Fin 4) (k : Fin 1024) :
    (iblk m c 0 t : Vec Ideal S8x4x1024 .f32) (ix3 j q k)
      = (m ((c : Thread nD τ).loc main_arg0) : FVec Ideal S32x4x1024 .f32) (ix3 (seq t j) q k) := by
  refine Eq.trans ?_ (congrFun (V_main_arg0 m c) _)
  unfold iblk
  rw [View.read_apply]
  show V m c main_arg0 _ = _
  refine congrArg (V m c main_arg0) (funext fun a => Fin.ext ?_)
  match a with
  | ⟨0, _⟩ => show win0_0.index t 0 * 8 + 1 * j.val = t.val * 8 + j.val; rw [(index0 t).1]; omega
  | ⟨1, _⟩ => show win0_0.index t 1 * 4 + 1 * q.val = q.val; rw [(index0 t).2.1]; omega
  | ⟨2, _⟩ => show win0_0.index t 2 * 1024 + 1 * k.val = k.val; rw [(index0 t).2.2]; omega

/-- The old states of the block's sequences. -/
theorem blk1 (c : Dev nD) (t : Fin cfg0.N) (j : Fin 8) (q : Fin 15) (k : Fin 1024) :
    (iblk m c 1 t : Vec Ideal S8x15x1024 .f32) (ix3 j q k)
      = (m ((c : Thread nD τ).loc main_arg1) : FVec Ideal S1x32x15x1024 .f32) (ix4 0 (seq t j) q k) := by
  refine Eq.trans ?_ (V_states m c (seq t j) q k)
  unfold iblk
  rw [View.read_apply]
  show V m c main_v0 _ = _
  refine congrArg (V m c main_v0) (funext fun a => Fin.ext ?_)
  match a with
  | ⟨0, _⟩ => show win0_1.index t 0 * 8 + 1 * j.val = t.val * 8 + j.val; rw [(index1 t).1]; omega
  | ⟨1, _⟩ => show win0_1.index t 1 * 15 + 1 * q.val = q.val; rw [(index1 t).2.1]; omega
  | ⟨2, _⟩ => show win0_1.index t 2 * 1024 + 1 * k.val = k.val; rw [(index1 t).2.2]; omega

/-- The gains of the first layer. -/
theorem blk4 (c : Dev nD) (t : Fin cfg0.N) (k : Fin 1024) :
    (iblk m c 4 t : Vec Ideal S1x1024 .f32) (ix2 0 k) = (m ((c : Thread nD τ).loc main_arg4) : FVec Ideal S2x1024 .f32) (ix2 0 k) := by
  refine Eq.trans ?_ (V_gain m c k)
  unfold iblk
  rw [View.read_apply]
  show V m c main_v7 _ = _
  refine congrArg (V m c main_v7) (funext fun a => Fin.ext ?_)
  match a with
  | ⟨0, _⟩ => show win0_4.index t 0 * 1 + 1 * 0 = 0; rw [(index4 t).1]
  | ⟨1, _⟩ => show win0_4.index t 1 * 1024 + 1 * k.val = k.val; rw [(index4 t).2]; omega

/-! ## The array -/

/-- An element of the new state. -/
def elem (x : FVec Ideal S32x4x1024 .f32) (p : FVec Ideal S1x32x15x1024 .f32) (g : FVec Ideal S2x1024 .f32) (b : Fin 32) (r : Fin 15) (k : Fin 1024) : EReal :=
  kept (fun q k => p (ix4 0 b q k)) (fun q k => rmsn (fun k => x (ix3 b q k)) (fun k => g (ix2 0 k)) k) r k

/-- The new state, of the arguments. -/
def stateOf (x : FVec Ideal S32x4x1024 .f32) (p : FVec Ideal S1x32x15x1024 .f32) (g : FVec Ideal S2x1024 .f32) : FVec Ideal S32x15x1024 .f32 :=
  fun i => elem x p g (i 0) (i 1) (i 2)

/-- The new state. -/
def state (c : Dev nD) : FVec Ideal S32x15x1024 .f32 :=
  stateOf (m ((c : Thread nD τ).loc main_arg0)) (m ((c : Thread nD τ).loc main_arg1)) (m ((c : Thread nD τ).loc main_arg4))

theorem outs_state (c : Dev nD) (t : Fin cfg0.N) (j : Fin 8) (r : Fin 15) (k : Fin 1024) :
    ((outsAt0 m c t).2 : Vec Ideal S8x15x1024 .f32) (ix3 j r k) = state m c (ix3 (seq t j) r k) := by
  refine (outs_apply m c t j r k).trans ?_
  show _ = elem _ _ _ (seq t j) r k
  unfold elem
  refine kept_congr (fun q k => blk1 m c t j q k) (fun q k => ?_) r k
  exact congrArg₂ (fun a b => rmsn a b k) (funext fun k => blk0 m c t j q k) (funext fun k => blk4 m c t k)

/-- What a point writes back of the state is its block. -/
theorem written (c : Dev nD) (t : Fin cfg0.N) :
    (dats m 0 c).flushed 7 t = ((cfg0.win 7).blk t).view.read (Elt Ideal) (state m c) := by
  rw [Cert.MixerSIdeal.Value.flushed7]
  funext i
  rw [View.read_apply]
  have hi : i = (ix3 (i 0) (i 1) (i 2) : S8x15x1024.Idx) := by
    funext a
    match a with
    | ⟨0, _⟩ => rfl
    | ⟨1, _⟩ => rfl
    | ⟨2, _⟩ => rfl
  show ((outsAt0 m c t).2 : Vec Ideal S8x15x1024 .f32) i = state m c _
  refine (congrArg ((outsAt0 m c t).2 : Vec Ideal S8x15x1024 .f32) hi).trans ((outs_state m c t (i 0) (i 1) (i 2)).trans ?_)
  refine congrArg (state m c) (funext fun a => Fin.ext ?_)
  match a with
  | ⟨0, _⟩ => show t.val * 8 + (i 0).val = win0_7.index t 0 * 8 + 1 * (i 0).val; rw [(index7 t).1]; omega
  | ⟨1, _⟩ => show (i 1).val = win0_7.index t 1 * 15 + 1 * (i 1).val; rw [(index7 t).2.1]; omega
  | ⟨2, _⟩ => show (i 2).val = win0_7.index t 2 * 1024 + 1 * (i 2).val; rw [(index7 t).2.2]; omega

/-- The state's array after the run. -/
theorem final (c : Dev nD) : (dats m 0 c).arrAt 7 cfg0.N = state m c :=
  (dats m 0 c).arrAt_eq_of_cover 7 (state m c) (fun t _ => written m c t) fun i => by
    have hN : cfg0.N = 4 := N_0
    have h0 : (i 0 : Nat) < 32 := (i 0).isLt
    have h1 : (i 1 : Nat) < 15 := (i 1).isLt
    have h2 : (i 2 : Nat) < 1024 := (i 2).isLt
    refine ⟨⟨(i 0).val / 8, by omega⟩, flush7 _, ?_⟩
    generalize ht : (⟨(i 0).val / 8, by omega⟩ : Fin cfg0.N) = t
    have hv : t.val = (i 0).val / 8 := by rw [← ht]
    show i ∈ ((View.whole main_v11_1).slice (win0_7.rect t)).set
    rw [View.set_slice_whole, Rect.mem_set_unit]
    intro a
    match a with
    | ⟨0, _⟩ => show win0_7.index t 0 * 8 ≤ (i 0 : Nat) ∧ (i 0 : Nat) < win0_7.index t 0 * 8 + 8
                rw [(index7 t).1]; omega
    | ⟨1, _⟩ => show win0_7.index t 1 * 15 ≤ (i 1 : Nat) ∧ (i 1 : Nat) < win0_7.index t 1 * 15 + 15
                rw [(index7 t).2.1]; omega
    | ⟨2, _⟩ => show win0_7.index t 2 * 1024 ≤ (i 2 : Nat) ∧ (i 2 : Nat) < win0_7.index t 2 * 1024 + 1024
                rw [(index7 t).2.2]; omega

end Cert.MixerSValue

end
-- ==== Proof.MixerSClaims.lean ====
/-
  The claims about the sample group's mixer call, its state: the frames, and the value.
-/
module

public import proofs.«01_k».proof.Defs
public import proofs.«01_k».proof.Proof.Gen.MixerS.Frame
public import proofs.«01_k».proof.Proof.MixerSValue
public import proofs.«01_k».proof.Proof.Gen.MixerSRefIdeal.Run
public import Idealize.ShloMosaic.Adequacy
public import Idealize.ShloMosaic.Init

@[expose] public section

set_option maxRecDepth 16384

noncomputable section

namespace Cert.MixerSRow

open Idealize.ShloMosaic Idealize.SL.Sem Cert.MixerSRefIdeal Cert.MixerSRefIdeal.Gen Idealize.ShloMosaic.TcCoe Cert.Rows Cert.MixerSRead

variable (x : FVec Ideal S32x4x1024 .f32) (p : FVec Ideal S1x32x15x1024 .f32) (g : FVec Ideal S2x1024 .f32)

/-- The reference's normed rows. -/
def normed : FVec Ideal S32x4x1024 .f32 := (mulf (mulf x (broadcastInDim S32x4x1024 ![0, 1, 2] bcast_S32x4x1_S32x4x1024_0_1_2 (Host.rsqrt (addf (Host.divf (broadcastInDim S32x4x1 ![0, 1] bcast_S32x4_S32x4x1_0_1 (Host.reduceAdd (mulf x x) (constant S_ .f32 0x00000000#32) reducesTo_S32x4x1024_S32x4_d2 h_S_)) (broadcastInDim S32x4x1 ![] bcast_S_S32x4x1 (constant S_ .f32 0x44800000#32))) (broadcastInDim S32x4x1 ![] bcast_S_S32x4x1 (constant S_ .f32 0x358637BD#32)))))) (broadcastInDim S32x4x1024 ![0, 1, 2] bcast_S1x1x1024_S32x4x1024_0_1_2 (broadcastInDim S1x1x1024 ![2] bcast_S1024_S1x1x1024_2 (shapeCast _ (extractStridedSlice S1x1024 ![0, 0] g slices_S2x1024_S1x1024_0_0) shapeCasts_S1x1024_S1024))))

/-- The reference's state. -/
def value : FVec Ideal S32x15x1024 .f32 := extractStridedSlice S32x15x1024 ![0, 4, 0] (concatenate S32x19x1024 1 [⟨S32x15x1024, (shapeCast _ p shapeCasts_S1x32x15x1024_S32x15x1024)⟩, ⟨S32x4x1024, normed x g⟩] concatenates_S32x15x1024_S32x4x1024_S32x19x1024_d1) slices_S32x19x1024_S32x15x1024_0_4_0

theorem normed_apply (b : Fin 32) (q : Fin 4) (k : Fin 1024) :
    normed x g (ix3 b q k) = rmsn (fun k => x (ix3 b q k)) (fun k => g (ix2 0 k)) k := by
  pointwise [normed]
  rfl

/-- An element of the reference's state. -/
theorem value_apply (b : Fin 32) (r : Fin 15) (k : Fin 1024) : value x p g (ix3 b r k) = Cert.MixerSValue.elem x p g b r k := by
  unfold Cert.MixerSValue.elem kept value
  simp only [← normed_apply]
  generalize normed x g = y
  pointwise
  by_cases h : r.val < 11
  · rw [dif_pos h]
    split
    · exact congrArg (fun q => p (ix4 0 b q k)) (Fin.ext (by show 4 + r.val = r.val + 4; omega))
    · omega
  · rw [dif_neg h]
    split
    · omega
    · exact congrArg (fun q => y (ix3 b q k)) (Fin.ext (by show 4 + r.val - 15 = r.val - 11; omega))

/-- The reference's state is the function the kernel's state is stated with. -/
theorem value_eq : value x p g = Cert.MixerSValue.stateOf x p g := by
  funext i
  have hi : i = ix3 (i 0) (i 1) (i 2) := by
    funext a
    match a with
    | ⟨0, _⟩ => rfl
    | ⟨1, _⟩ => rfl
    | ⟨2, _⟩ => rfl
  exact (congrArg _ hi).trans (value_apply x p g (i 0) (i 1) (i 2))

end Cert.MixerSRow

namespace Cert.MixerSClaims

open Idealize.ShloMosaic Idealize.SL.Sem Idealize.ShloMosaic.TcCoe

/-- The printed program ends, keeps its arguments and leaves its counters at zero. -/
theorem frame_p : Cert.quiescent_MixerS := fun m g _ => Cert.MixerS.Gen.frame m g

/-- So does its reading over the extended reals. -/
theorem frame_pi : Cert.quiescent_MixerSIdeal := fun m g _ => Cert.MixerSIdeal.Gen.frame m g

/-- So does the reference. -/
theorem frame_ri : Cert.quiescent_MixerSRefIdeal := fun m g _ =>
  (θ_run Cert.MixerSRefIdeal.defs _ _).mono (fun r h => ⟨fun c => (h c).2,
      Idealize.ShloMosaic.sem_eq_zero_of_no_sems (by decide) r.2⟩)
    (Cert.MixerSRefIdeal.Value.run (F := Ideal) m g)

/-- The reading rewrites nothing. -/
theorem preserves : Cert.preserves_MixerS_MixerSIdeal := trivial

/-- The kernel's state is the reference's, element by element over the extended reals. -/
theorem algebraic : Cert.algebraic_MixerSIdeal_MixerSRefIdeal := by
  intro m g m' g' _ hagree
  refine ⟨fun c => Cert.MixerSValue.state m c,
    (θ_run Cert.MixerSIdeal.defs _ _).mono (fun r h c => ?_) (Cert.MixerSIdeal.Value.run_blocks (F := Ideal) m g),
    (θ_run Cert.MixerSRefIdeal.defs _ _).mono (fun r h c => ?_) (Cert.MixerSRefIdeal.Value.run (F := Ideal) m' g')⟩
  · obtain ⟨_, e1, hk⟩ := h c
    exact ⟨e1.trans (Cert.MixerSValue.final m c), hk⟩
  · obtain ⟨e0, hk⟩ := h c
    obtain ⟨h0, h1, h2, h3, h4, h5⟩ := hagree c
    refine ⟨e0.trans ?_, hk⟩
    show Cert.MixerSRow.value (m' ((c.tc : Thread Cert.MixerSRefIdeal.nD Cert.MixerSRefIdeal.τ).loc Cert.MixerSRefIdeal.main_arg0)) (m' ((c.tc : Thread Cert.MixerSRefIdeal.nD Cert.MixerSRefIdeal.τ).loc Cert.MixerSRefIdeal.main_arg1)) (m' ((c.tc : Thread Cert.MixerSRefIdeal.nD Cert.MixerSRefIdeal.τ).loc Cert.MixerSRefIdeal.main_arg4)) = _
    rw [h0, h1, h4]
    exact Cert.MixerSRow.value_eq _ _ _

end Cert.MixerSClaims

end
-- ==== Proof.lean ====
/-
  The proof of this directory's certificate (Defs.lean): the frames and the values of the kernel calls taken from the layer
  stack, each proved in a module of its own (Proof/*Claims.lean) and only put together here.
-/
module

public import proofs.«01_k».proof.Defs
public import proofs.«01_k».proof.Proof.TailClaims
public import proofs.«01_k».proof.Proof.ProjClaims
public import proofs.«01_k».proof.Proof.TailSClaims
public import proofs.«01_k».proof.Proof.ProjSClaims
public import proofs.«01_k».proof.Proof.FfnSClaims
public import proofs.«01_k».proof.Proof.MixerClaims
public import proofs.«01_k».proof.Proof.MixerSClaims

@[expose] public section

noncomputable section

namespace Cert.Proof

open Idealize.ShloMosaic Idealize.SL.Sem

/-- The certificate's claim: for each call the three frames, the reading, and the equality with its reference. -/
theorem claim : Cert.Claim := ⟨Cert.Tail.Gen.facts, Cert.TailIdeal.Gen.facts, Cert.TailRefIdeal.Gen.facts,
  Cert.Proj.Gen.facts, Cert.ProjIdeal.Gen.facts, Cert.ProjRefIdeal.Gen.facts,
  Cert.TailS.Gen.facts, Cert.TailSIdeal.Gen.facts, Cert.TailSRefIdeal.Gen.facts,
  Cert.ProjS.Gen.facts, Cert.ProjSIdeal.Gen.facts, Cert.ProjSRefIdeal.Gen.facts,
  Cert.FfnS.Gen.facts, Cert.FfnSIdeal.Gen.facts, Cert.FfnSRefIdeal.Gen.facts,
  Cert.Mixer.Gen.facts, Cert.MixerIdeal.Gen.facts, Cert.MixerRefIdeal.Gen.facts,
  Cert.MixerS.Gen.facts, Cert.MixerSIdeal.Gen.facts, Cert.MixerSRefIdeal.Gen.facts,
  TailClaims.frame_p, TailClaims.frame_pi, TailClaims.frame_ri,
  ProjClaims.frame_p, ProjClaims.frame_pi, ProjClaims.frame_ri,
  TailSClaims.frame_p, TailSClaims.frame_pi, TailSClaims.frame_ri,
  ProjSClaims.frame_p, ProjSClaims.frame_pi, ProjSClaims.frame_ri,
  FfnSClaims.frame_p, FfnSClaims.frame_pi, FfnSClaims.frame_ri,
  MixerClaims.frame_p, MixerClaims.frame_pi, MixerClaims.frame_ri,
  MixerSClaims.frame_p, MixerSClaims.frame_pi, MixerSClaims.frame_ri,
  TailClaims.preserves, TailClaims.algebraic,
  ProjClaims.preserves, ProjClaims.algebraic,
  TailSClaims.preserves, TailSClaims.algebraic,
  ProjSClaims.preserves, ProjSClaims.algebraic,
  FfnSClaims.preserves, FfnSClaims.algebraic,
  MixerClaims.preserves, MixerClaims.algebraic,
  MixerSClaims.preserves, MixerSClaims.algebraic⟩

end Cert.Proof

end
